-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S512x128 : Shape := ⟨2, ![512, 128]⟩
abbrev S512 : Shape := ⟨1, ![512]⟩
abbrev S65536x1 : Shape := ⟨2, ![65536, 1]⟩
abbrev S50000x100 : Shape := ⟨2, ![50000, 100]⟩
abbrev S1024x100 : Shape := ⟨2, ![1024, 100]⟩
abbrev S1024x256 : Shape := ⟨2, ![1024, 256]⟩
abbrev S1024 : Shape := ⟨1, ![1024]⟩
abbrev S256x100 : Shape := ⟨2, ![256, 100]⟩
abbrev S100x256 : Shape := ⟨2, ![100, 256]⟩
abbrev S20x512 : Shape := ⟨2, ![20, 512]⟩
abbrev S20 : Shape := ⟨1, ![20]⟩
abbrev S_ : Shape := ⟨0, ![]⟩

class Facts : Prop where
  bcast_S_S512x128 : S_.BroadcastsInDim S512x128 (![] : Fin 0 → Fin S512x128.rank)

variable [Facts]

def fn {F : FTy → Type} [FloatOps F] (main_arg0 : IVec S512x128 32) (main_arg1 : IVec S512 32) (main_arg2 : IVec S65536x1 32) (main_arg3 : IVec S512x128 32) (main_arg4 : IVec S512x128 1) (main_arg5 : FVec F S50000x100 .f32) (main_arg6 : FVec F S1024x100 .f32) (main_arg7 : FVec F S1024x256 .f32) (main_arg8 : FVec F S1024 .f32) (main_arg9 : FVec F S1024 .f32) (main_arg10 : FVec F S256x100 .f32) (main_arg11 : FVec F S100x256 .f32) (main_arg12 : FVec F S1024x100 .f32) (main_arg13 : FVec F S1024x256 .f32) (main_arg14 : FVec F S1024 .f32) (main_arg15 : FVec F S1024 .f32) (main_arg16 : FVec F S256x100 .f32) (main_arg17 : FVec F S100x256 .f32) (main_arg18 : FVec F S20x512 .f32) (main_arg19 : FVec F S20 .f32) : IVec S512x128 1 :=
  let main_c : IVec S_ 32 := constantI S_ 32 0#32
  let main_v0 : IVec S512x128 32 := broadcastInDim S512x128 ![] bcast_S_S512x128 main_c
  let main_v1 : IVec S512x128 1 := cmpi .sge main_arg0 main_v0
  let main_c_0 : IVec S_ 32 := constantI S_ 32 50000#32
  let main_v2 : IVec S512x128 32 := broadcastInDim S512x128 ![] bcast_S_S512x128 main_c_0
  let main_v3 : IVec S512x128 1 := cmpi .slt main_arg0 main_v2
  let main_v4 : IVec S512x128 1 := andi main_v1 main_v3
  main_v4
-- ==== Kernel.lean ====
abbrev S512x128 : Shape := ⟨2, ![512, 128]⟩
abbrev S512 : Shape := ⟨1, ![512]⟩
abbrev S65536x1 : Shape := ⟨2, ![65536, 1]⟩
abbrev S50000x100 : Shape := ⟨2, ![50000, 100]⟩
abbrev S1024x100 : Shape := ⟨2, ![1024, 100]⟩
abbrev S1024x256 : Shape := ⟨2, ![1024, 256]⟩
abbrev S1024 : Shape := ⟨1, ![1024]⟩
abbrev S256x100 : Shape := ⟨2, ![256, 100]⟩
abbrev S100x256 : Shape := ⟨2, ![100, 256]⟩
abbrev S20x512 : Shape := ⟨2, ![20, 512]⟩
abbrev S20 : Shape := ⟨1, ![20]⟩
abbrev S50000x1x100 : Shape := ⟨3, ![50000, 1, 100]⟩
abbrev S100x1024 : Shape := ⟨2, ![100, 1024]⟩
abbrev S_ : Shape := ⟨0, ![]⟩
abbrev S256x1024 : Shape := ⟨2, ![256, 1024]⟩
abbrev S1x1024 : Shape := ⟨2, ![1, 1024]⟩
abbrev S20x256 : Shape := ⟨2, ![20, 256]⟩
abbrev S256x20 : Shape := ⟨2, ![256, 20]⟩
abbrev S1x20 : Shape := ⟨2, ![1, 20]⟩
abbrev S256x128 : Shape := ⟨2, ![256, 128]⟩
abbrev S128x256x100 : Shape := ⟨3, ![128, 256, 100]⟩
abbrev S256x256 : Shape := ⟨2, ![256, 256]⟩
abbrev S1x1 : Shape := ⟨2, ![1, 1]⟩
abbrev S1x1x100 : Shape := ⟨3, ![1, 1, 100]⟩
abbrev S1x100 : Shape := ⟨2, ![1, 100]⟩
abbrev S8x100 : Shape := ⟨2, ![8, 100]⟩
abbrev S1x8x100 : Shape := ⟨3, ![1, 8, 100]⟩
abbrev S128x256x20 : Shape := ⟨3, ![128, 256, 20]⟩
abbrev S1x256x100 : Shape := ⟨3, ![1, 256, 100]⟩
abbrev S1x256x20 : Shape := ⟨3, ![1, 256, 20]⟩
abbrev S256 : Shape := ⟨1, ![256]⟩
abbrev S256x1 : Shape := ⟨2, ![256, 1]⟩

abbrev nBuf : Space → Nat
  | .hbm => 54
  | .vmem => 26
  | .smem => 1
  | _ => 0

abbrev bufTy : (tb : Table) → Fin (tcTables nBuf tb) → BufTy
  | .hbm, ⟨0, _⟩ => ⟨S512x128, .i32⟩
  | .hbm, ⟨1, _⟩ => ⟨S512, .i32⟩
  | .hbm, ⟨2, _⟩ => ⟨S65536x1, .i32⟩
  | .hbm, ⟨3, _⟩ => ⟨S512x128, .i32⟩
  | .hbm, ⟨4, _⟩ => ⟨S512x128, .i1⟩
  | .hbm, ⟨5, _⟩ => ⟨S50000x100, .f32⟩
  | .hbm, ⟨6, _⟩ => ⟨S1024x100, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S256x100, .f32⟩
  | .hbm, ⟨11, _⟩ => ⟨S100x256, .f32⟩
  | .hbm, ⟨12, _⟩ => ⟨S1024x100, .f32⟩
  | .hbm, ⟨13, _⟩ => ⟨S1024x256, .f32⟩
  | .hbm, ⟨14, _⟩ => ⟨S1024, .f32⟩
  | .hbm, ⟨15, _⟩ => ⟨S1024, .f32⟩
  | .hbm, ⟨16, _⟩ => ⟨S256x100, .f32⟩
  | .hbm, ⟨17, _⟩ => ⟨S100x256, .f32⟩
  | .hbm, ⟨18, _⟩ => ⟨S20x512, .f32⟩
  | .hbm, ⟨19, _⟩ => ⟨S20, .f32⟩
  | .hbm, ⟨20, _⟩ => ⟨S512x128, .i32⟩
  | .hbm, ⟨21, _⟩ => ⟨S50000x1x100, .f32⟩
  | .hbm, ⟨22, _⟩ => ⟨S100x1024, .f32⟩
  | .hbm, ⟨23, _⟩ => ⟨S_, .f32⟩
  | .hbm, ⟨24, _⟩ => ⟨S100x1024, .f32⟩
  | .hbm, ⟨25, _⟩ => ⟨S100x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S100x1024, .f32⟩
  | .hbm, ⟨31, _⟩ => ⟨S_, .f32⟩
  | .hbm, ⟨32, _⟩ => ⟨S100x1024, .f32⟩
  | .hbm, ⟨33, _⟩ => ⟨S100x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S100x256, .f32⟩
  | .hbm, ⟨40, _⟩ => ⟨S100x256, .f32⟩
  | .hbm, ⟨41, _⟩ => ⟨S_, .f32⟩
  | .hbm, ⟨42, _⟩ => ⟨S100x256, .f32⟩
  | .hbm, ⟨43, _⟩ => ⟨S100x256, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S20x256, .f32⟩
  | .hbm, ⟨49, _⟩ => ⟨S256x20, .f32⟩
  | .hbm, ⟨50, _⟩ => ⟨S20x256, .f32⟩
  | .hbm, ⟨51, _⟩ => ⟨S256x20, .f32⟩
  | .hbm, ⟨52, _⟩ => ⟨S1x20, .f32⟩
  | .hbm, ⟨53, _⟩ => ⟨S512x128, .i32⟩
  | .local _ .vmem, ⟨0, _⟩ => ⟨S256x128, .i32⟩
  | .local _ .vmem, ⟨1, _⟩ => ⟨S256x128, .i32⟩
  | .local _ .vmem, ⟨2, _⟩ => ⟨S256x100, .f32⟩
  | .local _ .vmem, ⟨3, _⟩ => ⟨S100x256, .f32⟩
  | .local _ .vmem, ⟨4, _⟩ => ⟨S100x1024, .f32⟩
  | .local _ .vmem, ⟨5, _⟩ => ⟨S256x1024, .f32⟩
  | .local _ .vmem, ⟨6, _⟩ => ⟨S1x1024, .f32⟩
  | .local _ .vmem, ⟨7, _⟩ => ⟨S256x100, .f32⟩
  | .local _ .vmem, ⟨8, _⟩ => ⟨S100x256, .f32⟩
  | .local _ .vmem, ⟨9, _⟩ => ⟨S100x1024, .f32⟩
  | .local _ .vmem, ⟨10, _⟩ => ⟨S256x1024, .f32⟩
  | .local _ .vmem, ⟨11, _⟩ => ⟨S1x1024, .f32⟩
  | .local _ .vmem, ⟨12, _⟩ => ⟨S256x20, .f32⟩
  | .local _ .vmem, ⟨13, _⟩ => ⟨S256x20, .f32⟩
  | .local _ .vmem, ⟨14, _⟩ => ⟨S1x20, .f32⟩
  | .local _ .vmem, ⟨15, _⟩ => ⟨S256x128, .i32⟩
  | .local _ .vmem, ⟨16, _⟩ => ⟨S256x128, .i32⟩
  | .local _ .vmem, ⟨17, _⟩ => ⟨S128x256x100, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x128, .i32⟩
  | .local _ .vmem, ⟨23, _⟩ => ⟨S50000x1x100, .f32⟩
  | .local _ .vmem, ⟨24, _⟩ => ⟨S128x256x20, .f32⟩
  | .local _ .vmem, ⟨25, _⟩ => ⟨S128x256x20, .f32⟩
  | .local _ .smem, ⟨0, _⟩ => ⟨S512x128, .i32⟩
  | _, _ => ⟨S512x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_1 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_2 : Ref sig .tc := ⟨.hbm, 35, rfl⟩
abbrev main_v12 : Ref sig .tc := ⟨.hbm, 36, rfl⟩
abbrev main_v13 : Ref sig .tc := ⟨.hbm, 37, rfl⟩
abbrev main_cst_3 : Ref sig .tc := ⟨.hbm, 38, rfl⟩
abbrev main_v14 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg15_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scoped0 : Ref sig .tc := ⟨.vmem, 23, rfl⟩
abbrev cc0_scoped1 : Ref sig .tc := ⟨.vmem, 24, rfl⟩
abbrev cc0_scoped2 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_0_r0 : BitVec 32 := 0#32
  let c128_i32_r0 : BitVec 32 := 128#32
  let v1_r0 : BitVec 32 := Scalar.addi c0_i32_0_r0 c128_i32_r0
  let c1_i32_r0 : BitVec 32 := 1#32
  ⟨c0_i32_0_r0, v1_r0, c1_i32_r0⟩
def k0_off1 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_2_r0 : BitVec 32 := 0#32
  let v2_r0 : BitVec 32 := Scalar.addi v0 c0_i32_2_r0
  let c0_i32_3_r0 : BitVec 32 := 0#32
  let v3_r0 : BitVec 32 := Scalar.addi v2_r0 c0_i32_3_r0
  let v4_r0 : Index := Scalar.indexCast v3_r0
  let c0_i32_0_r0 : BitVec 32 := 0#32
  let c1_i32_r0 : BitVec 32 := 1#32
  let arg25_r0 : BitVec 32 := Scf.iv c0_i32_0_r0 c1_i32_r0 k0_t1
  let v5_r0 : Index := Scalar.indexCast arg25_r0
  ![v4_r0.toNat, v5_r0.toNat]
def k0_off2 (v6_r0 : BitVec 32) : Fin 3 → Nat :=
  let v7_r0 : Index := Scalar.indexCast v6_r0
  let c0_r0 : Index := 0#32
  let c0_4_r0 : Index := 0#32
  ![v7_r0.toNat, 0, 0]

def k0_chk1 (v6_r0 : BitVec 32) : Prop :=
  (∀ a, (k0_off2 v6_r0) a + S1x1x100.size a ≤ S50000x1x100.size a)
theorem k0_off2_inb : ∀ (v6_r0 : BitVec 32) (k0_hw1 : k0_chk1 v6_r0), ∀ a, (k0_off2 v6_r0) a + S1x1x100.size a ≤ S50000x1x100.size a := fun v6_r0 k0_hw1 => k0_hw1

def k0_off3 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_5_r0 : BitVec 32 := 0#32
  let v10_r0 : BitVec 32 := Scalar.addi v0 c0_i32_5_r0
  let c1_i32_6_r0 : BitVec 32 := 1#32
  let v11_r0 : BitVec 32 := Scalar.addi v10_r0 c1_i32_6_r0
  let v12_r0 : Index := Scalar.indexCast v11_r0
  let c0_i32_0_r0 : BitVec 32 := 0#32
  let c1_i32_r0 : BitVec 32 := 1#32
  let arg25_r0 : BitVec 32 := Scf.iv c0_i32_0_r0 c1_i32_r0 k0_t1
  let v13_r0 : Index := Scalar.indexCast arg25_r0
  ![v12_r0.toNat, v13_r0.toNat]
def k0_off4 (v14_r0 : BitVec 32) : Fin 3 → Nat :=
  let v15_r0 : Index := Scalar.indexCast v14_r0
  let c0_7_r0 : Index := 0#32
  let c0_8_r0 : Index := 0#32
  ![v15_r0.toNat, 0, 0]

def k0_chk2 (v14_r0 : BitVec 32) : Prop :=
  (∀ a, (k0_off4 v14_r0) a + S1x1x100.size a ≤ S50000x1x100.size a)
theorem k0_off4_inb : ∀ (v14_r0 : BitVec 32) (k0_hw2 : k0_chk2 v14_r0), ∀ a, (k0_off4 v14_r0) a + S1x1x100.size a ≤ S50000x1x100.size a := fun v14_r0 k0_hw2 => k0_hw2

def k0_off5 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_9_r0 : BitVec 32 := 0#32
  let v18_r0 : BitVec 32 := Scalar.addi v0 c0_i32_9_r0
  let c2_i32_r0 : BitVec 32 := 2#32
  let v19_r0 : BitVec 32 := Scalar.addi v18_r0 c2_i32_r0
  let v20_r0 : Index := Scalar.indexCast v19_r0
  let c0_i32_0_r0 : BitVec 32 := 0#32
  let c1_i32_r0 : BitVec 32 := 1#32
  let arg25_r0 : BitVec 32 := Scf.iv c0_i32_0_r0 c1_i32_r0 k0_t1
  let v21_r0 : Index := Scalar.indexCast arg25_r0
  ![v20_r0.toNat, v21_r0.toNat]
def k0_off6 (v22_r0 : BitVec 32) : Fin 3 → Nat :=
  let v23_r0 : Index := Scalar.indexCast v22_r0
  let c0_10_r0 : Index := 0#32
  let c0_11_r0 : Index := 0#32
  ![v23_r0.toNat, 0, 0]

def k0_chk3 (v22_r0 : BitVec 32) : Prop :=
  (∀ a, (k0_off6 v22_r0) a + S1x1x100.size a ≤ S50000x1x100.size a)
theorem k0_off6_inb : ∀ (v22_r0 : BitVec 32) (k0_hw3 : k0_chk3 v22_r0), ∀ a, (k0_off6 v22_r0) a + S1x1x100.size a ≤ S50000x1x100.size a := fun v22_r0 k0_hw3 => k0_hw3

def k0_off7 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_12_r0 : BitVec 32 := 0#32
  let v26_r0 : BitVec 32 := Scalar.addi v0 c0_i32_12_r0
  let c3_i32_r0 : BitVec 32 := 3#32
  let v27_r0 : BitVec 32 := Scalar.addi v26_r0 c3_i32_r0
  let v28_r0 : Index := Scalar.indexCast v27_r0
  let c0_i32_0_r0 : BitVec 32 := 0#32
  let c1_i32_r0 : BitVec 32 := 1#32
  let arg25_r0 : BitVec 32 := Scf.iv c0_i32_0_r0 c1_i32_r0 k0_t1
  let v29_r0 : Index := Scalar.indexCast arg25_r0
  ![v28_r0.toNat, v29_r0.toNat]
def k0_off8 (v30_r0 : BitVec 32) : Fin 3 → Nat :=
  let v31_r0 : Index := Scalar.indexCast v30_r0
  let c0_13_r0 : Index := 0#32
  let c0_14_r0 : Index := 0#32
  ![v31_r0.toNat, 0, 0]

def k0_chk4 (v30_r0 : BitVec 32) : Prop :=
  (∀ a, (k0_off8 v30_r0) a + S1x1x100.size a ≤ S50000x1x100.size a)
theorem k0_off8_inb : ∀ (v30_r0 : BitVec 32) (k0_hw4 : k0_chk4 v30_r0), ∀ a, (k0_off8 v30_r0) a + S1x1x100.size a ≤ S50000x1x100.size a := fun v30_r0 k0_hw4 => k0_hw4

def k0_off9 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_15_r0 : BitVec 32 := 0#32
  let v34_r0 : BitVec 32 := Scalar.addi v0 c0_i32_15_r0
  let c4_i32_r0 : BitVec 32 := 4#32
  let v35_r0 : BitVec 32 := Scalar.addi v34_r0 c4_i32_r0
  let v36_r0 : Index := Scalar.indexCast v35_r0
  let c0_i32_0_r0 : BitVec 32 := 0#32
  let c1_i32_r0 : BitVec 32 := 1#32
  let arg25_r0 : BitVec 32 := Scf.iv c0_i32_0_r0 c1_i32_r0 k0_t1
  let v37_r0 : Index := Scalar.indexCast arg25_r0
  ![v36_r0.toNat, v37_r0.toNat]
def k0_off10 (v38_r0 : BitVec 32) : Fin 3 → Nat :=
  let v39_r0 : Index := Scalar.indexCast v38_r0
  let c0_16_r0 : Index := 0#32
  let c0_17_r0 : Index := 0#32
  ![v39_r0.toNat, 0, 0]

def k0_chk5 (v38_r0 : BitVec 32) : Prop :=
  (∀ a, (k0_off10 v38_r0) a + S1x1x100.size a ≤ S50000x1x100.size a)
theorem k0_off10_inb : ∀ (v38_r0 : BitVec 32) (k0_hw5 : k0_chk5 v38_r0), ∀ a, (k0_off10 v38_r0) a + S1x1x100.size a ≤ S50000x1x100.size a := fun v38_r0 k0_hw5 => k0_hw5

def k0_off11 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_18_r0 : BitVec 32 := 0#32
  let v42_r0 : BitVec 32 := Scalar.addi v0 c0_i32_18_r0
  let c5_i32_r0 : BitVec 32 := 5#32
  let v43_r0 : BitVec 32 := Scalar.addi v42_r0 c5_i32_r0
  let v44_r0 : Index := Scalar.indexCast v43_r0
  let c0_i32_0_r0 : BitVec 32 := 0#32
  let c1_i32_r0 : BitVec 32 := 1#32
  let arg25_r0 : BitVec 32 := Scf.iv c0_i32_0_r0 c1_i32_r0 k0_t1
  let v45_r0 : Index := Scalar.indexCast arg25_r0
  ![v44_r0.toNat, v45_r0.toNat]
def k0_off12 (v46_r0 : BitVec 32) : Fin 3 → Nat :=
  let v47_r0 : Index := Scalar.indexCast v46_r0
  let c0_19_r0 : Index := 0#32
  let c0_20_r0 : Index := 0#32
  ![v47_r0.toNat, 0, 0]

def k0_chk6 (v46_r0 : BitVec 32) : Prop :=
  (∀ a, (k0_off12 v46_r0) a + S1x1x100.size a ≤ S50000x1x100.size a)
theorem k0_off12_inb : ∀ (v46_r0 : BitVec 32) (k0_hw6 : k0_chk6 v46_r0), ∀ a, (k0_off12 v46_r0) a + S1x1x100.size a ≤ S50000x1x100.size a := fun v46_r0 k0_hw6 => k0_hw6

def k0_off13 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_21_r0 : BitVec 32 := 0#32
  let v50_r0 : BitVec 32 := Scalar.addi v0 c0_i32_21_r0
  let c6_i32_r0 : BitVec 32 := 6#32
  let v51_r0 : BitVec 32 := Scalar.addi v50_r0 c6_i32_r0
  let v52_r0 : Index := Scalar.indexCast v51_r0
  let c0_i32_0_r0 : BitVec 32 := 0#32
  let c1_i32_r0 : BitVec 32 := 1#32
  let arg25_r0 : BitVec 32 := Scf.iv c0_i32_0_r0 c1_i32_r0 k0_t1
  let v53_r0 : Index := Scalar.indexCast arg25_r0
  ![v52_r0.toNat, v53_r0.toNat]
def k0_off14 (v54_r0 : BitVec 32) : Fin 3 → Nat :=
  let v55_r0 : Index := Scalar.indexCast v54_r0
  let c0_22_r0 : Index := 0#32
  let c0_23_r0 : Index := 0#32
  ![v55_r0.toNat, 0, 0]

def k0_chk7 (v54_r0 : BitVec 32) : Prop :=
  (∀ a, (k0_off14 v54_r0) a + S1x1x100.size a ≤ S50000x1x100.size a)
theorem k0_off14_inb : ∀ (v54_r0 : BitVec 32) (k0_hw7 : k0_chk7 v54_r0), ∀ a, (k0_off14 v54_r0) a + S1x1x100.size a ≤ S50000x1x100.size a := fun v54_r0 k0_hw7 => k0_hw7

def k0_off15 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c0_i32_24_r0 : BitVec 32 := 0#32
  let v58_r0 : BitVec 32 := Scalar.addi v0 c0_i32_24_r0
  let c7_i32_r0 : BitVec 32 := 7#32
  let v59_r0 : BitVec 32 := Scalar.addi v58_r0 c7_i32_r0
  let v60_r0 : Index := Scalar.indexCast v59_r0
  let c0_i32_0_r0 : BitVec 32 := 0#32
  let c1_i32_r0 : BitVec 32 := 1#32
  let arg25_r0 : BitVec 32 := Scf.iv c0_i32_0_r0 c1_i32_r0 k0_t1
  let v61_r0 : Index := Scalar.indexCast arg25_r0
  ![v60_r0.toNat, v61_r0.toNat]
def k0_off16 (v62_r0 : BitVec 32) : Fin 3 → Nat :=
  let v63_r0 : Index := Scalar.indexCast v62_r0
  let c0_25_r0 : Index := 0#32
  let c0_26_r0 : Index := 0#32
  ![v63_r0.toNat, 0, 0]

def k0_chk8 (v62_r0 : BitVec 32) : Prop :=
  (∀ a, (k0_off16 v62_r0) a + S1x1x100.size a ≤ S50000x1x100.size a)
theorem k0_off16_inb : ∀ (v62_r0 : BitVec 32) (k0_hw8 : k0_chk8 v62_r0), ∀ a, (k0_off16 v62_r0) a + S1x1x100.size a ≤ S50000x1x100.size a := fun v62_r0 k0_hw8 => k0_hw8

def k0_off17 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v67_r0 : Index := Scalar.indexCast arg25_r0
  let c0_27_r0 : Index := 0#32
  let c0_28_r0 : Index := 0#32
  ![v67_r0.toNat, 0, 0]
def k0_off18 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_r0 : BitVec 32 := 8#32
  let v71_r0 : BitVec 32 := Scalar.addi v0 c8_i32_r0
  let c0_i32_29_r0 : BitVec 32 := 0#32
  let v72_r0 : BitVec 32 := Scalar.addi v71_r0 c0_i32_29_r0
  let v73_r0 : Index := Scalar.indexCast v72_r0
  let c0_i32_0_r0 : BitVec 32 := 0#32
  let c1_i32_r0 : BitVec 32 := 1#32
  let arg25_r0 : BitVec 32 := Scf.iv c0_i32_0_r0 c1_i32_r0 k0_t1
  let v74_r0 : Index := Scalar.indexCast arg25_r0
  ![v73_r0.toNat, v74_r0.toNat]
def k0_off19 (v75_r0 : BitVec 32) : Fin 3 → Nat :=
  let v76_r0 : Index := Scalar.indexCast v75_r0
  let c0_30_r0 : Index := 0#32
  let c0_31_r0 : Index := 0#32
  ![v76_r0.toNat, 0, 0]

def k0_chk9 (v75_r0 : BitVec 32) : Prop :=
  (∀ a, (k0_off19 v75_r0) a + S1x1x100.size a ≤ S50000x1x100.size a)
theorem k0_off19_inb : ∀ (v75_r0 : BitVec 32) (k0_hw9 : k0_chk9 v75_r0), ∀ a, (k0_off19 v75_r0) a + S1x1x100.size a ≤ S50000x1x100.size a := fun v75_r0 k0_hw9 => k0_hw9

def k0_off20 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_32_r0 : BitVec 32 := 8#32
  let v79_r0 : BitVec 32 := Scalar.addi v0 c8_i32_32_r0
  let c1_i32_33_r0 : BitVec 32 := 1#32
  let v80_r0 : BitVec 32 := Scalar.addi v79_r0 c1_i32_33_r0
  let v81_r0 : Index := Scalar.indexCast v80_r0
  let c0_i32_0_r0 : BitVec 32 := 0#32
  let c1_i32_r0 : BitVec 32 := 1#32
  let arg25_r0 : BitVec 32 := Scf.iv c0_i32_0_r0 c1_i32_r0 k0_t1
  let v82_r0 : Index := Scalar.indexCast arg25_r0
  ![v81_r0.toNat, v82_r0.toNat]
def k0_off21 (v83_r0 : BitVec 32) : Fin 3 → Nat :=
  let v84_r0 : Index := Scalar.indexCast v83_r0
  let c0_34_r0 : Index := 0#32
  let c0_35_r0 : Index := 0#32
  ![v84_r0.toNat, 0, 0]

def k0_chk10 (v83_r0 : BitVec 32) : Prop :=
  (∀ a, (k0_off21 v83_r0) a + S1x1x100.size a ≤ S50000x1x100.size a)
theorem k0_off21_inb : ∀ (v83_r0 : BitVec 32) (k0_hw10 : k0_chk10 v83_r0), ∀ a, (k0_off21 v83_r0) a + S1x1x100.size a ≤ S50000x1x100.size a := fun v83_r0 k0_hw10 => k0_hw10

def k0_off22 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_36_r0 : BitVec 32 := 8#32
  let v87_r0 : BitVec 32 := Scalar.addi v0 c8_i32_36_r0
  let c2_i32_37_r0 : BitVec 32 := 2#32
  let v88_r0 : BitVec 32 := Scalar.addi v87_r0 c2_i32_37_r0
  let v89_r0 : Index := Scalar.indexCast v88_r0
  let c0_i32_0_r0 : BitVec 32 := 0#32
  let c1_i32_r0 : BitVec 32 := 1#32
  let arg25_r0 : BitVec 32 := Scf.iv c0_i32_0_r0 c1_i32_r0 k0_t1
  let v90_r0 : Index := Scalar.indexCast arg25_r0
  ![v89_r0.toNat, v90_r0.toNat]
def k0_off23 (v91_r0 : BitVec 32) : Fin 3 → Nat :=
  let v92_r0 : Index := Scalar.indexCast v91_r0
  let c0_38_r0 : Index := 0#32
  let c0_39_r0 : Index := 0#32
  ![v92_r0.toNat, 0, 0]

def k0_chk11 (v91_r0 : BitVec 32) : Prop :=
  (∀ a, (k0_off23 v91_r0) a + S1x1x100.size a ≤ S50000x1x100.size a)
theorem k0_off23_inb : ∀ (v91_r0 : BitVec 32) (k0_hw11 : k0_chk11 v91_r0), ∀ a, (k0_off23 v91_r0) a + S1x1x100.size a ≤ S50000x1x100.size a := fun v91_r0 k0_hw11 => k0_hw11

def k0_off24 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_40_r0 : BitVec 32 := 8#32
  let v95_r0 : BitVec 32 := Scalar.addi v0 c8_i32_40_r0
  let c3_i32_41_r0 : BitVec 32 := 3#32
  let v96_r0 : BitVec 32 := Scalar.addi v95_r0 c3_i32_41_r0
  let v97_r0 : Index := Scalar.indexCast v96_r0
  let c0_i32_0_r0 : BitVec 32 := 0#32
  let c1_i32_r0 : BitVec 32 := 1#32
  let arg25_r0 : BitVec 32 := Scf.iv c0_i32_0_r0 c1_i32_r0 k0_t1
  let v98_r0 : Index := Scalar.indexCast arg25_r0
  ![v97_r0.toNat, v98_r0.toNat]
def k0_off25 (v99_r0 : BitVec 32) : Fin 3 → Nat :=
  let v100_r0 : Index := Scalar.indexCast v99_r0
  let c0_42_r0 : Index := 0#32
  let c0_43_r0 : Index := 0#32
  ![v100_r0.toNat, 0, 0]

def k0_chk12 (v99_r0 : BitVec 32) : Prop :=
  (∀ a, (k0_off25 v99_r0) a + S1x1x100.size a ≤ S50000x1x100.size a)
theorem k0_off25_inb : ∀ (v99_r0 : BitVec 32) (k0_hw12 : k0_chk12 v99_r0), ∀ a, (k0_off25 v99_r0) a + S1x1x100.size a ≤ S50000x1x100.size a := fun v99_r0 k0_hw12 => k0_hw12

def k0_off26 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_44_r0 : BitVec 32 := 8#32
  let v103_r0 : BitVec 32 := Scalar.addi v0 c8_i32_44_r0
  let c4_i32_45_r0 : BitVec 32 := 4#32
  let v104_r0 : BitVec 32 := Scalar.addi v103_r0 c4_i32_45_r0
  let v105_r0 : Index := Scalar.indexCast v104_r0
  let c0_i32_0_r0 : BitVec 32 := 0#32
  let c1_i32_r0 : BitVec 32 := 1#32
  let arg25_r0 : BitVec 32 := Scf.iv c0_i32_0_r0 c1_i32_r0 k0_t1
  let v106_r0 : Index := Scalar.indexCast arg25_r0
  ![v105_r0.toNat, v106_r0.toNat]
def k0_off27 (v107_r0 : BitVec 32) : Fin 3 → Nat :=
  let v108_r0 : Index := Scalar.indexCast v107_r0
  let c0_46_r0 : Index := 0#32
  let c0_47_r0 : Index := 0#32
  ![v108_r0.toNat, 0, 0]

def k0_chk13 (v107_r0 : BitVec 32) : Prop :=
  (∀ a, (k0_off27 v107_r0) a + S1x1x100.size a ≤ S50000x1x100.size a)
theorem k0_off27_inb : ∀ (v107_r0 : BitVec 32) (k0_hw13 : k0_chk13 v107_r0), ∀ a, (k0_off27 v107_r0) a + S1x1x100.size a ≤ S50000x1x100.size a := fun v107_r0 k0_hw13 => k0_hw13

def k0_off28 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_48_r0 : BitVec 32 := 8#32
  let v111_r0 : BitVec 32 := Scalar.addi v0 c8_i32_48_r0
  let c5_i32_49_r0 : BitVec 32 := 5#32
  let v112_r0 : BitVec 32 := Scalar.addi v111_r0 c5_i32_49_r0
  let v113_r0 : Index := Scalar.indexCast v112_r0
  let c0_i32_0_r0 : BitVec 32 := 0#32
  let c1_i32_r0 : BitVec 32 := 1#32
  let arg25_r0 : BitVec 32 := Scf.iv c0_i32_0_r0 c1_i32_r0 k0_t1
  let v114_r0 : Index := Scalar.indexCast arg25_r0
  ![v113_r0.toNat, v114_r0.toNat]
def k0_off29 (v115_r0 : BitVec 32) : Fin 3 → Nat :=
  let v116_r0 : Index := Scalar.indexCast v115_r0
  let c0_50_r0 : Index := 0#32
  let c0_51_r0 : Index := 0#32
  ![v116_r0.toNat, 0, 0]

def k0_chk14 (v115_r0 : BitVec 32) : Prop :=
  (∀ a, (k0_off29 v115_r0) a + S1x1x100.size a ≤ S50000x1x100.size a)
theorem k0_off29_inb : ∀ (v115_r0 : BitVec 32) (k0_hw14 : k0_chk14 v115_r0), ∀ a, (k0_off29 v115_r0) a + S1x1x100.size a ≤ S50000x1x100.size a := fun v115_r0 k0_hw14 => k0_hw14

def k0_off30 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_52_r0 : BitVec 32 := 8#32
  let v119_r0 : BitVec 32 := Scalar.addi v0 c8_i32_52_r0
  let c6_i32_53_r0 : BitVec 32 := 6#32
  let v120_r0 : BitVec 32 := Scalar.addi v119_r0 c6_i32_53_r0
  let v121_r0 : Index := Scalar.indexCast v120_r0
  let c0_i32_0_r0 : BitVec 32 := 0#32
  let c1_i32_r0 : BitVec 32 := 1#32
  let arg25_r0 : BitVec 32 := Scf.iv c0_i32_0_r0 c1_i32_r0 k0_t1
  let v122_r0 : Index := Scalar.indexCast arg25_r0
  ![v121_r0.toNat, v122_r0.toNat]
def k0_off31 (v123_r0 : BitVec 32) : Fin 3 → Nat :=
  let v124_r0 : Index := Scalar.indexCast v123_r0
  let c0_54_r0 : Index := 0#32
  let c0_55_r0 : Index := 0#32
  ![v124_r0.toNat, 0, 0]

def k0_chk15 (v123_r0 : BitVec 32) : Prop :=
  (∀ a, (k0_off31 v123_r0) a + S1x1x100.size a ≤ S50000x1x100.size a)
theorem k0_off31_inb : ∀ (v123_r0 : BitVec 32) (k0_hw15 : k0_chk15 v123_r0), ∀ a, (k0_off31 v123_r0) a + S1x1x100.size a ≤ S50000x1x100.size a := fun v123_r0 k0_hw15 => k0_hw15

def k0_off32 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c8_i32_56_r0 : BitVec 32 := 8#32
  let v127_r0 : BitVec 32 := Scalar.addi v0 c8_i32_56_r0
  let c7_i32_57_r0 : BitVec 32 := 7#32
  let v128_r0 : BitVec 32 := Scalar.addi v127_r0 c7_i32_57_r0
  let v129_r0 : Index := Scalar.indexCast v128_r0
  let c0_i32_0_r0 : BitVec 32 := 0#32
  let c1_i32_r0 : BitVec 32 := 1#32
  let arg25_r0 : BitVec 32 := Scf.iv c0_i32_0_r0 c1_i32_r0 k0_t1
  let v130_r0 : Index := Scalar.indexCast arg25_r0
  ![v129_r0.toNat, v130_r0.toNat]
def k0_off33 (v131_r0 : BitVec 32) : Fin 3 → Nat :=
  let v132_r0 : Index := Scalar.indexCast v131_r0
  let c0_58_r0 : Index := 0#32
  let c0_59_r0 : Index := 0#32
  ![v132_r0.toNat, 0, 0]

def k0_chk16 (v131_r0 : BitVec 32) : Prop :=
  (∀ a, (k0_off33 v131_r0) a + S1x1x100.size a ≤ S50000x1x100.size a)
theorem k0_off33_inb : ∀ (v131_r0 : BitVec 32) (k0_hw16 : k0_chk16 v131_r0), ∀ a, (k0_off33 v131_r0) a + S1x1x100.size a ≤ S50000x1x100.size a := fun v131_r0 k0_hw16 => k0_hw16

def k0_off34 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v136_r0 : Index := Scalar.indexCast arg25_r0
  let c8_r0 : Index := 8#32
  let c0_60_r0 : Index := 0#32
  ![v136_r0.toNat, 8, 0]
def k0_off35 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_r0 : BitVec 32 := 16#32
  let v140_r0 : BitVec 32 := Scalar.addi v0 c16_i32_r0
  let c0_i32_61_r0 : BitVec 32 := 0#32
  let v141_r0 : BitVec 32 := Scalar.addi v140_r0 c0_i32_61_r0
  let v142_r0 : Index := Scalar.indexCast v141_r0
  let c0_i32_0_r0 : BitVec 32 := 0#32
  let c1_i32_r0 : BitVec 32 := 1#32
  let arg25_r0 : BitVec 32 := Scf.iv c0_i32_0_r0 c1_i32_r0 k0_t1
  let v143_r0 : Index := Scalar.indexCast arg25_r0
  ![v142_r0.toNat, v143_r0.toNat]
def k0_off36 (v144_r0 : BitVec 32) : Fin 3 → Nat :=
  let v145_r0 : Index := Scalar.indexCast v144_r0
  let c0_62_r0 : Index := 0#32
  let c0_63_r0 : Index := 0#32
  ![v145_r0.toNat, 0, 0]

def k0_chk17 (v144_r0 : BitVec 32) : Prop :=
  (∀ a, (k0_off36 v144_r0) a + S1x1x100.size a ≤ S50000x1x100.size a)
theorem k0_off36_inb : ∀ (v144_r0 : BitVec 32) (k0_hw17 : k0_chk17 v144_r0), ∀ a, (k0_off36 v144_r0) a + S1x1x100.size a ≤ S50000x1x100.size a := fun v144_r0 k0_hw17 => k0_hw17

def k0_off37 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_64_r0 : BitVec 32 := 16#32
  let v148_r0 : BitVec 32 := Scalar.addi v0 c16_i32_64_r0
  let c1_i32_65_r0 : BitVec 32 := 1#32
  let v149_r0 : BitVec 32 := Scalar.addi v148_r0 c1_i32_65_r0
  let v150_r0 : Index := Scalar.indexCast v149_r0
  let c0_i32_0_r0 : BitVec 32 := 0#32
  let c1_i32_r0 : BitVec 32 := 1#32
  let arg25_r0 : BitVec 32 := Scf.iv c0_i32_0_r0 c1_i32_r0 k0_t1
  let v151_r0 : Index := Scalar.indexCast arg25_r0
  ![v150_r0.toNat, v151_r0.toNat]
def k0_off38 (v152_r0 : BitVec 32) : Fin 3 → Nat :=
  let v153_r0 : Index := Scalar.indexCast v152_r0
  let c0_66_r0 : Index := 0#32
  let c0_67_r0 : Index := 0#32
  ![v153_r0.toNat, 0, 0]

def k0_chk18 (v152_r0 : BitVec 32) : Prop :=
  (∀ a, (k0_off38 v152_r0) a + S1x1x100.size a ≤ S50000x1x100.size a)
theorem k0_off38_inb : ∀ (v152_r0 : BitVec 32) (k0_hw18 : k0_chk18 v152_r0), ∀ a, (k0_off38 v152_r0) a + S1x1x100.size a ≤ S50000x1x100.size a := fun v152_r0 k0_hw18 => k0_hw18

def k0_off39 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_68_r0 : BitVec 32 := 16#32
  let v156_r0 : BitVec 32 := Scalar.addi v0 c16_i32_68_r0
  let c2_i32_69_r0 : BitVec 32 := 2#32
  let v157_r0 : BitVec 32 := Scalar.addi v156_r0 c2_i32_69_r0
  let v158_r0 : Index := Scalar.indexCast v157_r0
  let c0_i32_0_r0 : BitVec 32 := 0#32
  let c1_i32_r0 : BitVec 32 := 1#32
  let arg25_r0 : BitVec 32 := Scf.iv c0_i32_0_r0 c1_i32_r0 k0_t1
  let v159_r0 : Index := Scalar.indexCast arg25_r0
  ![v158_r0.toNat, v159_r0.toNat]
def k0_off40 (v160_r0 : BitVec 32) : Fin 3 → Nat :=
  let v161_r0 : Index := Scalar.indexCast v160_r0
  let c0_70_r0 : Index := 0#32
  let c0_71_r0 : Index := 0#32
  ![v161_r0.toNat, 0, 0]

def k0_chk19 (v160_r0 : BitVec 32) : Prop :=
  (∀ a, (k0_off40 v160_r0) a + S1x1x100.size a ≤ S50000x1x100.size a)
theorem k0_off40_inb : ∀ (v160_r0 : BitVec 32) (k0_hw19 : k0_chk19 v160_r0), ∀ a, (k0_off40 v160_r0) a + S1x1x100.size a ≤ S50000x1x100.size a := fun v160_r0 k0_hw19 => k0_hw19

def k0_off41 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_72_r0 : BitVec 32 := 16#32
  let v164_r0 : BitVec 32 := Scalar.addi v0 c16_i32_72_r0
  let c3_i32_73_r0 : BitVec 32 := 3#32
  let v165_r0 : BitVec 32 := Scalar.addi v164_r0 c3_i32_73_r0
  let v166_r0 : Index := Scalar.indexCast v165_r0
  let c0_i32_0_r0 : BitVec 32 := 0#32
  let c1_i32_r0 : BitVec 32 := 1#32
  let arg25_r0 : BitVec 32 := Scf.iv c0_i32_0_r0 c1_i32_r0 k0_t1
  let v167_r0 : Index := Scalar.indexCast arg25_r0
  ![v166_r0.toNat, v167_r0.toNat]
def k0_off42 (v168_r0 : BitVec 32) : Fin 3 → Nat :=
  let v169_r0 : Index := Scalar.indexCast v168_r0
  let c0_74_r0 : Index := 0#32
  let c0_75_r0 : Index := 0#32
  ![v169_r0.toNat, 0, 0]

def k0_chk20 (v168_r0 : BitVec 32) : Prop :=
  (∀ a, (k0_off42 v168_r0) a + S1x1x100.size a ≤ S50000x1x100.size a)
theorem k0_off42_inb : ∀ (v168_r0 : BitVec 32) (k0_hw20 : k0_chk20 v168_r0), ∀ a, (k0_off42 v168_r0) a + S1x1x100.size a ≤ S50000x1x100.size a := fun v168_r0 k0_hw20 => k0_hw20

def k0_off43 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_76_r0 : BitVec 32 := 16#32
  let v172_r0 : BitVec 32 := Scalar.addi v0 c16_i32_76_r0
  let c4_i32_77_r0 : BitVec 32 := 4#32
  let v173_r0 : BitVec 32 := Scalar.addi v172_r0 c4_i32_77_r0
  let v174_r0 : Index := Scalar.indexCast v173_r0
  let c0_i32_0_r0 : BitVec 32 := 0#32
  let c1_i32_r0 : BitVec 32 := 1#32
  let arg25_r0 : BitVec 32 := Scf.iv c0_i32_0_r0 c1_i32_r0 k0_t1
  let v175_r0 : Index := Scalar.indexCast arg25_r0
  ![v174_r0.toNat, v175_r0.toNat]
def k0_off44 (v176_r0 : BitVec 32) : Fin 3 → Nat :=
  let v177_r0 : Index := Scalar.indexCast v176_r0
  let c0_78_r0 : Index := 0#32
  let c0_79_r0 : Index := 0#32
  ![v177_r0.toNat, 0, 0]

def k0_chk21 (v176_r0 : BitVec 32) : Prop :=
  (∀ a, (k0_off44 v176_r0) a + S1x1x100.size a ≤ S50000x1x100.size a)
theorem k0_off44_inb : ∀ (v176_r0 : BitVec 32) (k0_hw21 : k0_chk21 v176_r0), ∀ a, (k0_off44 v176_r0) a + S1x1x100.size a ≤ S50000x1x100.size a := fun v176_r0 k0_hw21 => k0_hw21

def k0_off45 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_80_r0 : BitVec 32 := 16#32
  let v180_r0 : BitVec 32 := Scalar.addi v0 c16_i32_80_r0
  let c5_i32_81_r0 : BitVec 32 := 5#32
  let v181_r0 : BitVec 32 := Scalar.addi v180_r0 c5_i32_81_r0
  let v182_r0 : Index := Scalar.indexCast v181_r0
  let c0_i32_0_r0 : BitVec 32 := 0#32
  let c1_i32_r0 : BitVec 32 := 1#32
  let arg25_r0 : BitVec 32 := Scf.iv c0_i32_0_r0 c1_i32_r0 k0_t1
  let v183_r0 : Index := Scalar.indexCast arg25_r0
  ![v182_r0.toNat, v183_r0.toNat]
def k0_off46 (v184_r0 : BitVec 32) : Fin 3 → Nat :=
  let v185_r0 : Index := Scalar.indexCast v184_r0
  let c0_82_r0 : Index := 0#32
  let c0_83_r0 : Index := 0#32
  ![v185_r0.toNat, 0, 0]

def k0_chk22 (v184_r0 : BitVec 32) : Prop :=
  (∀ a, (k0_off46 v184_r0) a + S1x1x100.size a ≤ S50000x1x100.size a)
theorem k0_off46_inb : ∀ (v184_r0 : BitVec 32) (k0_hw22 : k0_chk22 v184_r0), ∀ a, (k0_off46 v184_r0) a + S1x1x100.size a ≤ S50000x1x100.size a := fun v184_r0 k0_hw22 => k0_hw22

def k0_off47 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_84_r0 : BitVec 32 := 16#32
  let v188_r0 : BitVec 32 := Scalar.addi v0 c16_i32_84_r0
  let c6_i32_85_r0 : BitVec 32 := 6#32
  let v189_r0 : BitVec 32 := Scalar.addi v188_r0 c6_i32_85_r0
  let v190_r0 : Index := Scalar.indexCast v189_r0
  let c0_i32_0_r0 : BitVec 32 := 0#32
  let c1_i32_r0 : BitVec 32 := 1#32
  let arg25_r0 : BitVec 32 := Scf.iv c0_i32_0_r0 c1_i32_r0 k0_t1
  let v191_r0 : Index := Scalar.indexCast arg25_r0
  ![v190_r0.toNat, v191_r0.toNat]
def k0_off48 (v192_r0 : BitVec 32) : Fin 3 → Nat :=
  let v193_r0 : Index := Scalar.indexCast v192_r0
  let c0_86_r0 : Index := 0#32
  let c0_87_r0 : Index := 0#32
  ![v193_r0.toNat, 0, 0]

def k0_chk23 (v192_r0 : BitVec 32) : Prop :=
  (∀ a, (k0_off48 v192_r0) a + S1x1x100.size a ≤ S50000x1x100.size a)
theorem k0_off48_inb : ∀ (v192_r0 : BitVec 32) (k0_hw23 : k0_chk23 v192_r0), ∀ a, (k0_off48 v192_r0) a + S1x1x100.size a ≤ S50000x1x100.size a := fun v192_r0 k0_hw23 => k0_hw23

def k0_off49 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c16_i32_88_r0 : BitVec 32 := 16#32
  let v196_r0 : BitVec 32 := Scalar.addi v0 c16_i32_88_r0
  let c7_i32_89_r0 : BitVec 32 := 7#32
  let v197_r0 : BitVec 32 := Scalar.addi v196_r0 c7_i32_89_r0
  let v198_r0 : Index := Scalar.indexCast v197_r0
  let c0_i32_0_r0 : BitVec 32 := 0#32
  let c1_i32_r0 : BitVec 32 := 1#32
  let arg25_r0 : BitVec 32 := Scf.iv c0_i32_0_r0 c1_i32_r0 k0_t1
  let v199_r0 : Index := Scalar.indexCast arg25_r0
  ![v198_r0.toNat, v199_r0.toNat]
def k0_off50 (v200_r0 : BitVec 32) : Fin 3 → Nat :=
  let v201_r0 : Index := Scalar.indexCast v200_r0
  let c0_90_r0 : Index := 0#32
  let c0_91_r0 : Index := 0#32
  ![v201_r0.toNat, 0, 0]

def k0_chk24 (v200_r0 : BitVec 32) : Prop :=
  (∀ a, (k0_off50 v200_r0) a + S1x1x100.size a ≤ S50000x1x100.size a)
theorem k0_off50_inb : ∀ (v200_r0 : BitVec 32) (k0_hw24 : k0_chk24 v200_r0), ∀ a, (k0_off50 v200_r0) a + S1x1x100.size a ≤ S50000x1x100.size a := fun v200_r0 k0_hw24 => k0_hw24

def k0_off51 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v205_r0 : Index := Scalar.indexCast arg25_r0
  let c16_r0 : Index := 16#32
  let c0_92_r0 : Index := 0#32
  ![v205_r0.toNat, 16, 0]
def k0_off52 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_r0 : BitVec 32 := 24#32
  let v209_r0 : BitVec 32 := Scalar.addi v0 c24_i32_r0
  let c0_i32_93_r0 : BitVec 32 := 0#32
  let v210_r0 : BitVec 32 := Scalar.addi v209_r0 c0_i32_93_r0
  let v211_r0 : Index := Scalar.indexCast v210_r0
  let c0_i32_0_r0 : BitVec 32 := 0#32
  let c1_i32_r0 : BitVec 32 := 1#32
  let arg25_r0 : BitVec 32 := Scf.iv c0_i32_0_r0 c1_i32_r0 k0_t1
  let v212_r0 : Index := Scalar.indexCast arg25_r0
  ![v211_r0.toNat, v212_r0.toNat]
def k0_off53 (v213_r0 : BitVec 32) : Fin 3 → Nat :=
  let v214_r0 : Index := Scalar.indexCast v213_r0
  let c0_94_r0 : Index := 0#32
  let c0_95_r0 : Index := 0#32
  ![v214_r0.toNat, 0, 0]

def k0_chk25 (v213_r0 : BitVec 32) : Prop :=
  (∀ a, (k0_off53 v213_r0) a + S1x1x100.size a ≤ S50000x1x100.size a)
theorem k0_off53_inb : ∀ (v213_r0 : BitVec 32) (k0_hw25 : k0_chk25 v213_r0), ∀ a, (k0_off53 v213_r0) a + S1x1x100.size a ≤ S50000x1x100.size a := fun v213_r0 k0_hw25 => k0_hw25

def k0_off54 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_96_r0 : BitVec 32 := 24#32
  let v217_r0 : BitVec 32 := Scalar.addi v0 c24_i32_96_r0
  let c1_i32_97_r0 : BitVec 32 := 1#32
  let v218_r0 : BitVec 32 := Scalar.addi v217_r0 c1_i32_97_r0
  let v219_r0 : Index := Scalar.indexCast v218_r0
  let c0_i32_0_r0 : BitVec 32 := 0#32
  let c1_i32_r0 : BitVec 32 := 1#32
  let arg25_r0 : BitVec 32 := Scf.iv c0_i32_0_r0 c1_i32_r0 k0_t1
  let v220_r0 : Index := Scalar.indexCast arg25_r0
  ![v219_r0.toNat, v220_r0.toNat]
def k0_off55 (v221_r0 : BitVec 32) : Fin 3 → Nat :=
  let v222_r0 : Index := Scalar.indexCast v221_r0
  let c0_98_r0 : Index := 0#32
  let c0_99_r0 : Index := 0#32
  ![v222_r0.toNat, 0, 0]

def k0_chk26 (v221_r0 : BitVec 32) : Prop :=
  (∀ a, (k0_off55 v221_r0) a + S1x1x100.size a ≤ S50000x1x100.size a)
theorem k0_off55_inb : ∀ (v221_r0 : BitVec 32) (k0_hw26 : k0_chk26 v221_r0), ∀ a, (k0_off55 v221_r0) a + S1x1x100.size a ≤ S50000x1x100.size a := fun v221_r0 k0_hw26 => k0_hw26

def k0_off56 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_100_r0 : BitVec 32 := 24#32
  let v225_r0 : BitVec 32 := Scalar.addi v0 c24_i32_100_r0
  let c2_i32_101_r0 : BitVec 32 := 2#32
  let v226_r0 : BitVec 32 := Scalar.addi v225_r0 c2_i32_101_r0
  let v227_r0 : Index := Scalar.indexCast v226_r0
  let c0_i32_0_r0 : BitVec 32 := 0#32
  let c1_i32_r0 : BitVec 32 := 1#32
  let arg25_r0 : BitVec 32 := Scf.iv c0_i32_0_r0 c1_i32_r0 k0_t1
  let v228_r0 : Index := Scalar.indexCast arg25_r0
  ![v227_r0.toNat, v228_r0.toNat]
def k0_off57 (v229_r0 : BitVec 32) : Fin 3 → Nat :=
  let v230_r0 : Index := Scalar.indexCast v229_r0
  let c0_102_r0 : Index := 0#32
  let c0_103_r0 : Index := 0#32
  ![v230_r0.toNat, 0, 0]

def k0_chk27 (v229_r0 : BitVec 32) : Prop :=
  (∀ a, (k0_off57 v229_r0) a + S1x1x100.size a ≤ S50000x1x100.size a)
theorem k0_off57_inb : ∀ (v229_r0 : BitVec 32) (k0_hw27 : k0_chk27 v229_r0), ∀ a, (k0_off57 v229_r0) a + S1x1x100.size a ≤ S50000x1x100.size a := fun v229_r0 k0_hw27 => k0_hw27

def k0_off58 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_104_r0 : BitVec 32 := 24#32
  let v233_r0 : BitVec 32 := Scalar.addi v0 c24_i32_104_r0
  let c3_i32_105_r0 : BitVec 32 := 3#32
  let v234_r0 : BitVec 32 := Scalar.addi v233_r0 c3_i32_105_r0
  let v235_r0 : Index := Scalar.indexCast v234_r0
  let c0_i32_0_r0 : BitVec 32 := 0#32
  let c1_i32_r0 : BitVec 32 := 1#32
  let arg25_r0 : BitVec 32 := Scf.iv c0_i32_0_r0 c1_i32_r0 k0_t1
  let v236_r0 : Index := Scalar.indexCast arg25_r0
  ![v235_r0.toNat, v236_r0.toNat]
def k0_off59 (v237_r0 : BitVec 32) : Fin 3 → Nat :=
  let v238_r0 : Index := Scalar.indexCast v237_r0
  let c0_106_r0 : Index := 0#32
  let c0_107_r0 : Index := 0#32
  ![v238_r0.toNat, 0, 0]

def k0_chk28 (v237_r0 : BitVec 32) : Prop :=
  (∀ a, (k0_off59 v237_r0) a + S1x1x100.size a ≤ S50000x1x100.size a)
theorem k0_off59_inb : ∀ (v237_r0 : BitVec 32) (k0_hw28 : k0_chk28 v237_r0), ∀ a, (k0_off59 v237_r0) a + S1x1x100.size a ≤ S50000x1x100.size a := fun v237_r0 k0_hw28 => k0_hw28

def k0_off60 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_108_r0 : BitVec 32 := 24#32
  let v241_r0 : BitVec 32 := Scalar.addi v0 c24_i32_108_r0
  let c4_i32_109_r0 : BitVec 32 := 4#32
  let v242_r0 : BitVec 32 := Scalar.addi v241_r0 c4_i32_109_r0
  let v243_r0 : Index := Scalar.indexCast v242_r0
  let c0_i32_0_r0 : BitVec 32 := 0#32
  let c1_i32_r0 : BitVec 32 := 1#32
  let arg25_r0 : BitVec 32 := Scf.iv c0_i32_0_r0 c1_i32_r0 k0_t1
  let v244_r0 : Index := Scalar.indexCast arg25_r0
  ![v243_r0.toNat, v244_r0.toNat]
def k0_off61 (v245_r0 : BitVec 32) : Fin 3 → Nat :=
  let v246_r0 : Index := Scalar.indexCast v245_r0
  let c0_110_r0 : Index := 0#32
  let c0_111_r0 : Index := 0#32
  ![v246_r0.toNat, 0, 0]

def k0_chk29 (v245_r0 : BitVec 32) : Prop :=
  (∀ a, (k0_off61 v245_r0) a + S1x1x100.size a ≤ S50000x1x100.size a)
theorem k0_off61_inb : ∀ (v245_r0 : BitVec 32) (k0_hw29 : k0_chk29 v245_r0), ∀ a, (k0_off61 v245_r0) a + S1x1x100.size a ≤ S50000x1x100.size a := fun v245_r0 k0_hw29 => k0_hw29

def k0_off62 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_112_r0 : BitVec 32 := 24#32
  let v249_r0 : BitVec 32 := Scalar.addi v0 c24_i32_112_r0
  let c5_i32_113_r0 : BitVec 32 := 5#32
  let v250_r0 : BitVec 32 := Scalar.addi v249_r0 c5_i32_113_r0
  let v251_r0 : Index := Scalar.indexCast v250_r0
  let c0_i32_0_r0 : BitVec 32 := 0#32
  let c1_i32_r0 : BitVec 32 := 1#32
  let arg25_r0 : BitVec 32 := Scf.iv c0_i32_0_r0 c1_i32_r0 k0_t1
  let v252_r0 : Index := Scalar.indexCast arg25_r0
  ![v251_r0.toNat, v252_r0.toNat]
def k0_off63 (v253_r0 : BitVec 32) : Fin 3 → Nat :=
  let v254_r0 : Index := Scalar.indexCast v253_r0
  let c0_114_r0 : Index := 0#32
  let c0_115_r0 : Index := 0#32
  ![v254_r0.toNat, 0, 0]

def k0_chk30 (v253_r0 : BitVec 32) : Prop :=
  (∀ a, (k0_off63 v253_r0) a + S1x1x100.size a ≤ S50000x1x100.size a)
theorem k0_off63_inb : ∀ (v253_r0 : BitVec 32) (k0_hw30 : k0_chk30 v253_r0), ∀ a, (k0_off63 v253_r0) a + S1x1x100.size a ≤ S50000x1x100.size a := fun v253_r0 k0_hw30 => k0_hw30

def k0_off64 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_116_r0 : BitVec 32 := 24#32
  let v257_r0 : BitVec 32 := Scalar.addi v0 c24_i32_116_r0
  let c6_i32_117_r0 : BitVec 32 := 6#32
  let v258_r0 : BitVec 32 := Scalar.addi v257_r0 c6_i32_117_r0
  let v259_r0 : Index := Scalar.indexCast v258_r0
  let c0_i32_0_r0 : BitVec 32 := 0#32
  let c1_i32_r0 : BitVec 32 := 1#32
  let arg25_r0 : BitVec 32 := Scf.iv c0_i32_0_r0 c1_i32_r0 k0_t1
  let v260_r0 : Index := Scalar.indexCast arg25_r0
  ![v259_r0.toNat, v260_r0.toNat]
def k0_off65 (v261_r0 : BitVec 32) : Fin 3 → Nat :=
  let v262_r0 : Index := Scalar.indexCast v261_r0
  let c0_118_r0 : Index := 0#32
  let c0_119_r0 : Index := 0#32
  ![v262_r0.toNat, 0, 0]

def k0_chk31 (v261_r0 : BitVec 32) : Prop :=
  (∀ a, (k0_off65 v261_r0) a + S1x1x100.size a ≤ S50000x1x100.size a)
theorem k0_off65_inb : ∀ (v261_r0 : BitVec 32) (k0_hw31 : k0_chk31 v261_r0), ∀ a, (k0_off65 v261_r0) a + S1x1x100.size a ≤ S50000x1x100.size a := fun v261_r0 k0_hw31 => k0_hw31

def k0_off66 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c24_i32_120_r0 : BitVec 32 := 24#32
  let v265_r0 : BitVec 32 := Scalar.addi v0 c24_i32_120_r0
  let c7_i32_121_r0 : BitVec 32 := 7#32
  let v266_r0 : BitVec 32 := Scalar.addi v265_r0 c7_i32_121_r0
  let v267_r0 : Index := Scalar.indexCast v266_r0
  let c0_i32_0_r0 : BitVec 32 := 0#32
  let c1_i32_r0 : BitVec 32 := 1#32
  let arg25_r0 : BitVec 32 := Scf.iv c0_i32_0_r0 c1_i32_r0 k0_t1
  let v268_r0 : Index := Scalar.indexCast arg25_r0
  ![v267_r0.toNat, v268_r0.toNat]
def k0_off67 (v269_r0 : BitVec 32) : Fin 3 → Nat :=
  let v270_r0 : Index := Scalar.indexCast v269_r0
  let c0_122_r0 : Index := 0#32
  let c0_123_r0 : Index := 0#32
  ![v270_r0.toNat, 0, 0]

def k0_chk32 (v269_r0 : BitVec 32) : Prop :=
  (∀ a, (k0_off67 v269_r0) a + S1x1x100.size a ≤ S50000x1x100.size a)
theorem k0_off67_inb : ∀ (v269_r0 : BitVec 32) (k0_hw32 : k0_chk32 v269_r0), ∀ a, (k0_off67 v269_r0) a + S1x1x100.size a ≤ S50000x1x100.size a := fun v269_r0 k0_hw32 => k0_hw32

def k0_off68 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v274_r0 : Index := Scalar.indexCast arg25_r0
  let c24_r0 : Index := 24#32
  let c0_124_r0 : Index := 0#32
  ![v274_r0.toNat, 24, 0]
def k0_off69 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_r0 : BitVec 32 := 32#32
  let v278_r0 : BitVec 32 := Scalar.addi v0 c32_i32_r0
  let c0_i32_125_r0 : BitVec 32 := 0#32
  let v279_r0 : BitVec 32 := Scalar.addi v278_r0 c0_i32_125_r0
  let v280_r0 : Index := Scalar.indexCast v279_r0
  let c0_i32_0_r0 : BitVec 32 := 0#32
  let c1_i32_r0 : BitVec 32 := 1#32
  let arg25_r0 : BitVec 32 := Scf.iv c0_i32_0_r0 c1_i32_r0 k0_t1
  let v281_r0 : Index := Scalar.indexCast arg25_r0
  ![v280_r0.toNat, v281_r0.toNat]
def k0_off70 (v282_r0 : BitVec 32) : Fin 3 → Nat :=
  let v283_r0 : Index := Scalar.indexCast v282_r0
  let c0_126_r0 : Index := 0#32
  let c0_127_r0 : Index := 0#32
  ![v283_r0.toNat, 0, 0]

def k0_chk33 (v282_r0 : BitVec 32) : Prop :=
  (∀ a, (k0_off70 v282_r0) a + S1x1x100.size a ≤ S50000x1x100.size a)
theorem k0_off70_inb : ∀ (v282_r0 : BitVec 32) (k0_hw33 : k0_chk33 v282_r0), ∀ a, (k0_off70 v282_r0) a + S1x1x100.size a ≤ S50000x1x100.size a := fun v282_r0 k0_hw33 => k0_hw33

def k0_off71 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_128_r0 : BitVec 32 := 32#32
  let v286_r0 : BitVec 32 := Scalar.addi v0 c32_i32_128_r0
  let c1_i32_129_r0 : BitVec 32 := 1#32
  let v287_r0 : BitVec 32 := Scalar.addi v286_r0 c1_i32_129_r0
  let v288_r0 : Index := Scalar.indexCast v287_r0
  let c0_i32_0_r0 : BitVec 32 := 0#32
  let c1_i32_r0 : BitVec 32 := 1#32
  let arg25_r0 : BitVec 32 := Scf.iv c0_i32_0_r0 c1_i32_r0 k0_t1
  let v289_r0 : Index := Scalar.indexCast arg25_r0
  ![v288_r0.toNat, v289_r0.toNat]
def k0_off72 (v290_r0 : BitVec 32) : Fin 3 → Nat :=
  let v291_r0 : Index := Scalar.indexCast v290_r0
  let c0_130_r0 : Index := 0#32
  let c0_131_r0 : Index := 0#32
  ![v291_r0.toNat, 0, 0]

def k0_chk34 (v290_r0 : BitVec 32) : Prop :=
  (∀ a, (k0_off72 v290_r0) a + S1x1x100.size a ≤ S50000x1x100.size a)
theorem k0_off72_inb : ∀ (v290_r0 : BitVec 32) (k0_hw34 : k0_chk34 v290_r0), ∀ a, (k0_off72 v290_r0) a + S1x1x100.size a ≤ S50000x1x100.size a := fun v290_r0 k0_hw34 => k0_hw34

def k0_off73 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_132_r0 : BitVec 32 := 32#32
  let v294_r0 : BitVec 32 := Scalar.addi v0 c32_i32_132_r0
  let c2_i32_133_r0 : BitVec 32 := 2#32
  let v295_r0 : BitVec 32 := Scalar.addi v294_r0 c2_i32_133_r0
  let v296_r0 : Index := Scalar.indexCast v295_r0
  let c0_i32_0_r0 : BitVec 32 := 0#32
  let c1_i32_r0 : BitVec 32 := 1#32
  let arg25_r0 : BitVec 32 := Scf.iv c0_i32_0_r0 c1_i32_r0 k0_t1
  let v297_r0 : Index := Scalar.indexCast arg25_r0
  ![v296_r0.toNat, v297_r0.toNat]
def k0_off74 (v298_r0 : BitVec 32) : Fin 3 → Nat :=
  let v299_r0 : Index := Scalar.indexCast v298_r0
  let c0_134_r0 : Index := 0#32
  let c0_135_r0 : Index := 0#32
  ![v299_r0.toNat, 0, 0]

def k0_chk35 (v298_r0 : BitVec 32) : Prop :=
  (∀ a, (k0_off74 v298_r0) a + S1x1x100.size a ≤ S50000x1x100.size a)
theorem k0_off74_inb : ∀ (v298_r0 : BitVec 32) (k0_hw35 : k0_chk35 v298_r0), ∀ a, (k0_off74 v298_r0) a + S1x1x100.size a ≤ S50000x1x100.size a := fun v298_r0 k0_hw35 => k0_hw35

def k0_off75 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_136_r0 : BitVec 32 := 32#32
  let v302_r0 : BitVec 32 := Scalar.addi v0 c32_i32_136_r0
  let c3_i32_137_r0 : BitVec 32 := 3#32
  let v303_r0 : BitVec 32 := Scalar.addi v302_r0 c3_i32_137_r0
  let v304_r0 : Index := Scalar.indexCast v303_r0
  let c0_i32_0_r0 : BitVec 32 := 0#32
  let c1_i32_r0 : BitVec 32 := 1#32
  let arg25_r0 : BitVec 32 := Scf.iv c0_i32_0_r0 c1_i32_r0 k0_t1
  let v305_r0 : Index := Scalar.indexCast arg25_r0
  ![v304_r0.toNat, v305_r0.toNat]
def k0_off76 (v306_r0 : BitVec 32) : Fin 3 → Nat :=
  let v307_r0 : Index := Scalar.indexCast v306_r0
  let c0_138_r0 : Index := 0#32
  let c0_139_r0 : Index := 0#32
  ![v307_r0.toNat, 0, 0]

def k0_chk36 (v306_r0 : BitVec 32) : Prop :=
  (∀ a, (k0_off76 v306_r0) a + S1x1x100.size a ≤ S50000x1x100.size a)
theorem k0_off76_inb : ∀ (v306_r0 : BitVec 32) (k0_hw36 : k0_chk36 v306_r0), ∀ a, (k0_off76 v306_r0) a + S1x1x100.size a ≤ S50000x1x100.size a := fun v306_r0 k0_hw36 => k0_hw36

def k0_off77 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_140_r0 : BitVec 32 := 32#32
  let v310_r0 : BitVec 32 := Scalar.addi v0 c32_i32_140_r0
  let c4_i32_141_r0 : BitVec 32 := 4#32
  let v311_r0 : BitVec 32 := Scalar.addi v310_r0 c4_i32_141_r0
  let v312_r0 : Index := Scalar.indexCast v311_r0
  let c0_i32_0_r0 : BitVec 32 := 0#32
  let c1_i32_r0 : BitVec 32 := 1#32
  let arg25_r0 : BitVec 32 := Scf.iv c0_i32_0_r0 c1_i32_r0 k0_t1
  let v313_r0 : Index := Scalar.indexCast arg25_r0
  ![v312_r0.toNat, v313_r0.toNat]
def k0_off78 (v314_r0 : BitVec 32) : Fin 3 → Nat :=
  let v315_r0 : Index := Scalar.indexCast v314_r0
  let c0_142_r0 : Index := 0#32
  let c0_143_r0 : Index := 0#32
  ![v315_r0.toNat, 0, 0]

def k0_chk37 (v314_r0 : BitVec 32) : Prop :=
  (∀ a, (k0_off78 v314_r0) a + S1x1x100.size a ≤ S50000x1x100.size a)
theorem k0_off78_inb : ∀ (v314_r0 : BitVec 32) (k0_hw37 : k0_chk37 v314_r0), ∀ a, (k0_off78 v314_r0) a + S1x1x100.size a ≤ S50000x1x100.size a := fun v314_r0 k0_hw37 => k0_hw37

def k0_off79 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_144_r0 : BitVec 32 := 32#32
  let v318_r0 : BitVec 32 := Scalar.addi v0 c32_i32_144_r0
  let c5_i32_145_r0 : BitVec 32 := 5#32
  let v319_r0 : BitVec 32 := Scalar.addi v318_r0 c5_i32_145_r0
  let v320_r0 : Index := Scalar.indexCast v319_r0
  let c0_i32_0_r0 : BitVec 32 := 0#32
  let c1_i32_r0 : BitVec 32 := 1#32
  let arg25_r0 : BitVec 32 := Scf.iv c0_i32_0_r0 c1_i32_r0 k0_t1
  let v321_r0 : Index := Scalar.indexCast arg25_r0
  ![v320_r0.toNat, v321_r0.toNat]
def k0_off80 (v322_r0 : BitVec 32) : Fin 3 → Nat :=
  let v323_r0 : Index := Scalar.indexCast v322_r0
  let c0_146_r0 : Index := 0#32
  let c0_147_r0 : Index := 0#32
  ![v323_r0.toNat, 0, 0]

def k0_chk38 (v322_r0 : BitVec 32) : Prop :=
  (∀ a, (k0_off80 v322_r0) a + S1x1x100.size a ≤ S50000x1x100.size a)
theorem k0_off80_inb : ∀ (v322_r0 : BitVec 32) (k0_hw38 : k0_chk38 v322_r0), ∀ a, (k0_off80 v322_r0) a + S1x1x100.size a ≤ S50000x1x100.size a := fun v322_r0 k0_hw38 => k0_hw38

def k0_off81 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_148_r0 : BitVec 32 := 32#32
  let v326_r0 : BitVec 32 := Scalar.addi v0 c32_i32_148_r0
  let c6_i32_149_r0 : BitVec 32 := 6#32
  let v327_r0 : BitVec 32 := Scalar.addi v326_r0 c6_i32_149_r0
  let v328_r0 : Index := Scalar.indexCast v327_r0
  let c0_i32_0_r0 : BitVec 32 := 0#32
  let c1_i32_r0 : BitVec 32 := 1#32
  let arg25_r0 : BitVec 32 := Scf.iv c0_i32_0_r0 c1_i32_r0 k0_t1
  let v329_r0 : Index := Scalar.indexCast arg25_r0
  ![v328_r0.toNat, v329_r0.toNat]
def k0_off82 (v330_r0 : BitVec 32) : Fin 3 → Nat :=
  let v331_r0 : Index := Scalar.indexCast v330_r0
  let c0_150_r0 : Index := 0#32
  let c0_151_r0 : Index := 0#32
  ![v331_r0.toNat, 0, 0]

def k0_chk39 (v330_r0 : BitVec 32) : Prop :=
  (∀ a, (k0_off82 v330_r0) a + S1x1x100.size a ≤ S50000x1x100.size a)
theorem k0_off82_inb : ∀ (v330_r0 : BitVec 32) (k0_hw39 : k0_chk39 v330_r0), ∀ a, (k0_off82 v330_r0) a + S1x1x100.size a ≤ S50000x1x100.size a := fun v330_r0 k0_hw39 => k0_hw39

def k0_off83 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c32_i32_152_r0 : BitVec 32 := 32#32
  let v334_r0 : BitVec 32 := Scalar.addi v0 c32_i32_152_r0
  let c7_i32_153_r0 : BitVec 32 := 7#32
  let v335_r0 : BitVec 32 := Scalar.addi v334_r0 c7_i32_153_r0
  let v336_r0 : Index := Scalar.indexCast v335_r0
  let c0_i32_0_r0 : BitVec 32 := 0#32
  let c1_i32_r0 : BitVec 32 := 1#32
  let arg25_r0 : BitVec 32 := Scf.iv c0_i32_0_r0 c1_i32_r0 k0_t1
  let v337_r0 : Index := Scalar.indexCast arg25_r0
  ![v336_r0.toNat, v337_r0.toNat]
def k0_off84 (v338_r0 : BitVec 32) : Fin 3 → Nat :=
  let v339_r0 : Index := Scalar.indexCast v338_r0
  let c0_154_r0 : Index := 0#32
  let c0_155_r0 : Index := 0#32
  ![v339_r0.toNat, 0, 0]

def k0_chk40 (v338_r0 : BitVec 32) : Prop :=
  (∀ a, (k0_off84 v338_r0) a + S1x1x100.size a ≤ S50000x1x100.size a)
theorem k0_off84_inb : ∀ (v338_r0 : BitVec 32) (k0_hw40 : k0_chk40 v338_r0), ∀ a, (k0_off84 v338_r0) a + S1x1x100.size a ≤ S50000x1x100.size a := fun v338_r0 k0_hw40 => k0_hw40

def k0_off85 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v343_r0 : Index := Scalar.indexCast arg25_r0
  let c32_r0 : Index := 32#32
  let c0_156_r0 : Index := 0#32
  ![v343_r0.toNat, 32, 0]
def k0_off86 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_r0 : BitVec 32 := 40#32
  let v347_r0 : BitVec 32 := Scalar.addi v0 c40_i32_r0
  let c0_i32_157_r0 : BitVec 32 := 0#32
  let v348_r0 : BitVec 32 := Scalar.addi v347_r0 c0_i32_157_r0
  let v349_r0 : Index := Scalar.indexCast v348_r0
  let c0_i32_0_r0 : BitVec 32 := 0#32
  let c1_i32_r0 : BitVec 32 := 1#32
  let arg25_r0 : BitVec 32 := Scf.iv c0_i32_0_r0 c1_i32_r0 k0_t1
  let v350_r0 : Index := Scalar.indexCast arg25_r0
  ![v349_r0.toNat, v350_r0.toNat]
def k0_off87 (v351_r0 : BitVec 32) : Fin 3 → Nat :=
  let v352_r0 : Index := Scalar.indexCast v351_r0
  let c0_158_r0 : Index := 0#32
  let c0_159_r0 : Index := 0#32
  ![v352_r0.toNat, 0, 0]

def k0_chk41 (v351_r0 : BitVec 32) : Prop :=
  (∀ a, (k0_off87 v351_r0) a + S1x1x100.size a ≤ S50000x1x100.size a)
theorem k0_off87_inb : ∀ (v351_r0 : BitVec 32) (k0_hw41 : k0_chk41 v351_r0), ∀ a, (k0_off87 v351_r0) a + S1x1x100.size a ≤ S50000x1x100.size a := fun v351_r0 k0_hw41 => k0_hw41

def k0_off88 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_160_r0 : BitVec 32 := 40#32
  let v355_r0 : BitVec 32 := Scalar.addi v0 c40_i32_160_r0
  let c1_i32_161_r0 : BitVec 32 := 1#32
  let v356_r0 : BitVec 32 := Scalar.addi v355_r0 c1_i32_161_r0
  let v357_r0 : Index := Scalar.indexCast v356_r0
  let c0_i32_0_r0 : BitVec 32 := 0#32
  let c1_i32_r0 : BitVec 32 := 1#32
  let arg25_r0 : BitVec 32 := Scf.iv c0_i32_0_r0 c1_i32_r0 k0_t1
  let v358_r0 : Index := Scalar.indexCast arg25_r0
  ![v357_r0.toNat, v358_r0.toNat]
def k0_off89 (v359_r0 : BitVec 32) : Fin 3 → Nat :=
  let v360_r0 : Index := Scalar.indexCast v359_r0
  let c0_162_r0 : Index := 0#32
  let c0_163_r0 : Index := 0#32
  ![v360_r0.toNat, 0, 0]

def k0_chk42 (v359_r0 : BitVec 32) : Prop :=
  (∀ a, (k0_off89 v359_r0) a + S1x1x100.size a ≤ S50000x1x100.size a)
theorem k0_off89_inb : ∀ (v359_r0 : BitVec 32) (k0_hw42 : k0_chk42 v359_r0), ∀ a, (k0_off89 v359_r0) a + S1x1x100.size a ≤ S50000x1x100.size a := fun v359_r0 k0_hw42 => k0_hw42

def k0_off90 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_164_r0 : BitVec 32 := 40#32
  let v363_r0 : BitVec 32 := Scalar.addi v0 c40_i32_164_r0
  let c2_i32_165_r0 : BitVec 32 := 2#32
  let v364_r0 : BitVec 32 := Scalar.addi v363_r0 c2_i32_165_r0
  let v365_r0 : Index := Scalar.indexCast v364_r0
  let c0_i32_0_r0 : BitVec 32 := 0#32
  let c1_i32_r0 : BitVec 32 := 1#32
  let arg25_r0 : BitVec 32 := Scf.iv c0_i32_0_r0 c1_i32_r0 k0_t1
  let v366_r0 : Index := Scalar.indexCast arg25_r0
  ![v365_r0.toNat, v366_r0.toNat]
def k0_off91 (v367_r0 : BitVec 32) : Fin 3 → Nat :=
  let v368_r0 : Index := Scalar.indexCast v367_r0
  let c0_166_r0 : Index := 0#32
  let c0_167_r0 : Index := 0#32
  ![v368_r0.toNat, 0, 0]

def k0_chk43 (v367_r0 : BitVec 32) : Prop :=
  (∀ a, (k0_off91 v367_r0) a + S1x1x100.size a ≤ S50000x1x100.size a)
theorem k0_off91_inb : ∀ (v367_r0 : BitVec 32) (k0_hw43 : k0_chk43 v367_r0), ∀ a, (k0_off91 v367_r0) a + S1x1x100.size a ≤ S50000x1x100.size a := fun v367_r0 k0_hw43 => k0_hw43

def k0_off92 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_168_r0 : BitVec 32 := 40#32
  let v371_r0 : BitVec 32 := Scalar.addi v0 c40_i32_168_r0
  let c3_i32_169_r0 : BitVec 32 := 3#32
  let v372_r0 : BitVec 32 := Scalar.addi v371_r0 c3_i32_169_r0
  let v373_r0 : Index := Scalar.indexCast v372_r0
  let c0_i32_0_r0 : BitVec 32 := 0#32
  let c1_i32_r0 : BitVec 32 := 1#32
  let arg25_r0 : BitVec 32 := Scf.iv c0_i32_0_r0 c1_i32_r0 k0_t1
  let v374_r0 : Index := Scalar.indexCast arg25_r0
  ![v373_r0.toNat, v374_r0.toNat]
def k0_off93 (v375_r0 : BitVec 32) : Fin 3 → Nat :=
  let v376_r0 : Index := Scalar.indexCast v375_r0
  let c0_170_r0 : Index := 0#32
  let c0_171_r0 : Index := 0#32
  ![v376_r0.toNat, 0, 0]

def k0_chk44 (v375_r0 : BitVec 32) : Prop :=
  (∀ a, (k0_off93 v375_r0) a + S1x1x100.size a ≤ S50000x1x100.size a)
theorem k0_off93_inb : ∀ (v375_r0 : BitVec 32) (k0_hw44 : k0_chk44 v375_r0), ∀ a, (k0_off93 v375_r0) a + S1x1x100.size a ≤ S50000x1x100.size a := fun v375_r0 k0_hw44 => k0_hw44

def k0_off94 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_172_r0 : BitVec 32 := 40#32
  let v379_r0 : BitVec 32 := Scalar.addi v0 c40_i32_172_r0
  let c4_i32_173_r0 : BitVec 32 := 4#32
  let v380_r0 : BitVec 32 := Scalar.addi v379_r0 c4_i32_173_r0
  let v381_r0 : Index := Scalar.indexCast v380_r0
  let c0_i32_0_r0 : BitVec 32 := 0#32
  let c1_i32_r0 : BitVec 32 := 1#32
  let arg25_r0 : BitVec 32 := Scf.iv c0_i32_0_r0 c1_i32_r0 k0_t1
  let v382_r0 : Index := Scalar.indexCast arg25_r0
  ![v381_r0.toNat, v382_r0.toNat]
def k0_off95 (v383_r0 : BitVec 32) : Fin 3 → Nat :=
  let v384_r0 : Index := Scalar.indexCast v383_r0
  let c0_174_r0 : Index := 0#32
  let c0_175_r0 : Index := 0#32
  ![v384_r0.toNat, 0, 0]

def k0_chk45 (v383_r0 : BitVec 32) : Prop :=
  (∀ a, (k0_off95 v383_r0) a + S1x1x100.size a ≤ S50000x1x100.size a)
theorem k0_off95_inb : ∀ (v383_r0 : BitVec 32) (k0_hw45 : k0_chk45 v383_r0), ∀ a, (k0_off95 v383_r0) a + S1x1x100.size a ≤ S50000x1x100.size a := fun v383_r0 k0_hw45 => k0_hw45

def k0_off96 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_176_r0 : BitVec 32 := 40#32
  let v387_r0 : BitVec 32 := Scalar.addi v0 c40_i32_176_r0
  let c5_i32_177_r0 : BitVec 32 := 5#32
  let v388_r0 : BitVec 32 := Scalar.addi v387_r0 c5_i32_177_r0
  let v389_r0 : Index := Scalar.indexCast v388_r0
  let c0_i32_0_r0 : BitVec 32 := 0#32
  let c1_i32_r0 : BitVec 32 := 1#32
  let arg25_r0 : BitVec 32 := Scf.iv c0_i32_0_r0 c1_i32_r0 k0_t1
  let v390_r0 : Index := Scalar.indexCast arg25_r0
  ![v389_r0.toNat, v390_r0.toNat]
def k0_off97 (v391_r0 : BitVec 32) : Fin 3 → Nat :=
  let v392_r0 : Index := Scalar.indexCast v391_r0
  let c0_178_r0 : Index := 0#32
  let c0_179_r0 : Index := 0#32
  ![v392_r0.toNat, 0, 0]

def k0_chk46 (v391_r0 : BitVec 32) : Prop :=
  (∀ a, (k0_off97 v391_r0) a + S1x1x100.size a ≤ S50000x1x100.size a)
theorem k0_off97_inb : ∀ (v391_r0 : BitVec 32) (k0_hw46 : k0_chk46 v391_r0), ∀ a, (k0_off97 v391_r0) a + S1x1x100.size a ≤ S50000x1x100.size a := fun v391_r0 k0_hw46 => k0_hw46

def k0_off98 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_180_r0 : BitVec 32 := 40#32
  let v395_r0 : BitVec 32 := Scalar.addi v0 c40_i32_180_r0
  let c6_i32_181_r0 : BitVec 32 := 6#32
  let v396_r0 : BitVec 32 := Scalar.addi v395_r0 c6_i32_181_r0
  let v397_r0 : Index := Scalar.indexCast v396_r0
  let c0_i32_0_r0 : BitVec 32 := 0#32
  let c1_i32_r0 : BitVec 32 := 1#32
  let arg25_r0 : BitVec 32 := Scf.iv c0_i32_0_r0 c1_i32_r0 k0_t1
  let v398_r0 : Index := Scalar.indexCast arg25_r0
  ![v397_r0.toNat, v398_r0.toNat]
def k0_off99 (v399_r0 : BitVec 32) : Fin 3 → Nat :=
  let v400_r0 : Index := Scalar.indexCast v399_r0
  let c0_182_r0 : Index := 0#32
  let c0_183_r0 : Index := 0#32
  ![v400_r0.toNat, 0, 0]

def k0_chk47 (v399_r0 : BitVec 32) : Prop :=
  (∀ a, (k0_off99 v399_r0) a + S1x1x100.size a ≤ S50000x1x100.size a)
theorem k0_off99_inb : ∀ (v399_r0 : BitVec 32) (k0_hw47 : k0_chk47 v399_r0), ∀ a, (k0_off99 v399_r0) a + S1x1x100.size a ≤ S50000x1x100.size a := fun v399_r0 k0_hw47 => k0_hw47

def k0_off100 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c40_i32_184_r0 : BitVec 32 := 40#32
  let v403_r0 : BitVec 32 := Scalar.addi v0 c40_i32_184_r0
  let c7_i32_185_r0 : BitVec 32 := 7#32
  let v404_r0 : BitVec 32 := Scalar.addi v403_r0 c7_i32_185_r0
  let v405_r0 : Index := Scalar.indexCast v404_r0
  let c0_i32_0_r0 : BitVec 32 := 0#32
  let c1_i32_r0 : BitVec 32 := 1#32
  let arg25_r0 : BitVec 32 := Scf.iv c0_i32_0_r0 c1_i32_r0 k0_t1
  let v406_r0 : Index := Scalar.indexCast arg25_r0
  ![v405_r0.toNat, v406_r0.toNat]
def k0_off101 (v407_r0 : BitVec 32) : Fin 3 → Nat :=
  let v408_r0 : Index := Scalar.indexCast v407_r0
  let c0_186_r0 : Index := 0#32
  let c0_187_r0 : Index := 0#32
  ![v408_r0.toNat, 0, 0]

def k0_chk48 (v407_r0 : BitVec 32) : Prop :=
  (∀ a, (k0_off101 v407_r0) a + S1x1x100.size a ≤ S50000x1x100.size a)
theorem k0_off101_inb : ∀ (v407_r0 : BitVec 32) (k0_hw48 : k0_chk48 v407_r0), ∀ a, (k0_off101 v407_r0) a + S1x1x100.size a ≤ S50000x1x100.size a := fun v407_r0 k0_hw48 => k0_hw48

def k0_off102 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v412_r0 : Index := Scalar.indexCast arg25_r0
  let c40_r0 : Index := 40#32
  let c0_188_r0 : Index := 0#32
  ![v412_r0.toNat, 40, 0]
def k0_off103 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_r0 : BitVec 32 := 48#32
  let v416_r0 : BitVec 32 := Scalar.addi v0 c48_i32_r0
  let c0_i32_189_r0 : BitVec 32 := 0#32
  let v417_r0 : BitVec 32 := Scalar.addi v416_r0 c0_i32_189_r0
  let v418_r0 : Index := Scalar.indexCast v417_r0
  let c0_i32_0_r0 : BitVec 32 := 0#32
  let c1_i32_r0 : BitVec 32 := 1#32
  let arg25_r0 : BitVec 32 := Scf.iv c0_i32_0_r0 c1_i32_r0 k0_t1
  let v419_r0 : Index := Scalar.indexCast arg25_r0
  ![v418_r0.toNat, v419_r0.toNat]
def k0_off104 (v420_r0 : BitVec 32) : Fin 3 → Nat :=
  let v421_r0 : Index := Scalar.indexCast v420_r0
  let c0_190_r0 : Index := 0#32
  let c0_191_r0 : Index := 0#32
  ![v421_r0.toNat, 0, 0]

def k0_chk49 (v420_r0 : BitVec 32) : Prop :=
  (∀ a, (k0_off104 v420_r0) a + S1x1x100.size a ≤ S50000x1x100.size a)
theorem k0_off104_inb : ∀ (v420_r0 : BitVec 32) (k0_hw49 : k0_chk49 v420_r0), ∀ a, (k0_off104 v420_r0) a + S1x1x100.size a ≤ S50000x1x100.size a := fun v420_r0 k0_hw49 => k0_hw49

def k0_off105 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_192_r0 : BitVec 32 := 48#32
  let v424_r0 : BitVec 32 := Scalar.addi v0 c48_i32_192_r0
  let c1_i32_193_r0 : BitVec 32 := 1#32
  let v425_r0 : BitVec 32 := Scalar.addi v424_r0 c1_i32_193_r0
  let v426_r0 : Index := Scalar.indexCast v425_r0
  let c0_i32_0_r0 : BitVec 32 := 0#32
  let c1_i32_r0 : BitVec 32 := 1#32
  let arg25_r0 : BitVec 32 := Scf.iv c0_i32_0_r0 c1_i32_r0 k0_t1
  let v427_r0 : Index := Scalar.indexCast arg25_r0
  ![v426_r0.toNat, v427_r0.toNat]
def k0_off106 (v428_r0 : BitVec 32) : Fin 3 → Nat :=
  let v429_r0 : Index := Scalar.indexCast v428_r0
  let c0_194_r0 : Index := 0#32
  let c0_195_r0 : Index := 0#32
  ![v429_r0.toNat, 0, 0]

def k0_chk50 (v428_r0 : BitVec 32) : Prop :=
  (∀ a, (k0_off106 v428_r0) a + S1x1x100.size a ≤ S50000x1x100.size a)
theorem k0_off106_inb : ∀ (v428_r0 : BitVec 32) (k0_hw50 : k0_chk50 v428_r0), ∀ a, (k0_off106 v428_r0) a + S1x1x100.size a ≤ S50000x1x100.size a := fun v428_r0 k0_hw50 => k0_hw50

def k0_off107 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_196_r0 : BitVec 32 := 48#32
  let v432_r0 : BitVec 32 := Scalar.addi v0 c48_i32_196_r0
  let c2_i32_197_r0 : BitVec 32 := 2#32
  let v433_r0 : BitVec 32 := Scalar.addi v432_r0 c2_i32_197_r0
  let v434_r0 : Index := Scalar.indexCast v433_r0
  let c0_i32_0_r0 : BitVec 32 := 0#32
  let c1_i32_r0 : BitVec 32 := 1#32
  let arg25_r0 : BitVec 32 := Scf.iv c0_i32_0_r0 c1_i32_r0 k0_t1
  let v435_r0 : Index := Scalar.indexCast arg25_r0
  ![v434_r0.toNat, v435_r0.toNat]
def k0_off108 (v436_r0 : BitVec 32) : Fin 3 → Nat :=
  let v437_r0 : Index := Scalar.indexCast v436_r0
  let c0_198_r0 : Index := 0#32
  let c0_199_r0 : Index := 0#32
  ![v437_r0.toNat, 0, 0]

def k0_chk51 (v436_r0 : BitVec 32) : Prop :=
  (∀ a, (k0_off108 v436_r0) a + S1x1x100.size a ≤ S50000x1x100.size a)
theorem k0_off108_inb : ∀ (v436_r0 : BitVec 32) (k0_hw51 : k0_chk51 v436_r0), ∀ a, (k0_off108 v436_r0) a + S1x1x100.size a ≤ S50000x1x100.size a := fun v436_r0 k0_hw51 => k0_hw51

def k0_off109 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_200_r0 : BitVec 32 := 48#32
  let v440_r0 : BitVec 32 := Scalar.addi v0 c48_i32_200_r0
  let c3_i32_201_r0 : BitVec 32 := 3#32
  let v441_r0 : BitVec 32 := Scalar.addi v440_r0 c3_i32_201_r0
  let v442_r0 : Index := Scalar.indexCast v441_r0
  let c0_i32_0_r0 : BitVec 32 := 0#32
  let c1_i32_r0 : BitVec 32 := 1#32
  let arg25_r0 : BitVec 32 := Scf.iv c0_i32_0_r0 c1_i32_r0 k0_t1
  let v443_r0 : Index := Scalar.indexCast arg25_r0
  ![v442_r0.toNat, v443_r0.toNat]
def k0_off110 (v444_r0 : BitVec 32) : Fin 3 → Nat :=
  let v445_r0 : Index := Scalar.indexCast v444_r0
  let c0_202_r0 : Index := 0#32
  let c0_203_r0 : Index := 0#32
  ![v445_r0.toNat, 0, 0]

def k0_chk52 (v444_r0 : BitVec 32) : Prop :=
  (∀ a, (k0_off110 v444_r0) a + S1x1x100.size a ≤ S50000x1x100.size a)
theorem k0_off110_inb : ∀ (v444_r0 : BitVec 32) (k0_hw52 : k0_chk52 v444_r0), ∀ a, (k0_off110 v444_r0) a + S1x1x100.size a ≤ S50000x1x100.size a := fun v444_r0 k0_hw52 => k0_hw52

def k0_off111 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_204_r0 : BitVec 32 := 48#32
  let v448_r0 : BitVec 32 := Scalar.addi v0 c48_i32_204_r0
  let c4_i32_205_r0 : BitVec 32 := 4#32
  let v449_r0 : BitVec 32 := Scalar.addi v448_r0 c4_i32_205_r0
  let v450_r0 : Index := Scalar.indexCast v449_r0
  let c0_i32_0_r0 : BitVec 32 := 0#32
  let c1_i32_r0 : BitVec 32 := 1#32
  let arg25_r0 : BitVec 32 := Scf.iv c0_i32_0_r0 c1_i32_r0 k0_t1
  let v451_r0 : Index := Scalar.indexCast arg25_r0
  ![v450_r0.toNat, v451_r0.toNat]
def k0_off112 (v452_r0 : BitVec 32) : Fin 3 → Nat :=
  let v453_r0 : Index := Scalar.indexCast v452_r0
  let c0_206_r0 : Index := 0#32
  let c0_207_r0 : Index := 0#32
  ![v453_r0.toNat, 0, 0]

def k0_chk53 (v452_r0 : BitVec 32) : Prop :=
  (∀ a, (k0_off112 v452_r0) a + S1x1x100.size a ≤ S50000x1x100.size a)
theorem k0_off112_inb : ∀ (v452_r0 : BitVec 32) (k0_hw53 : k0_chk53 v452_r0), ∀ a, (k0_off112 v452_r0) a + S1x1x100.size a ≤ S50000x1x100.size a := fun v452_r0 k0_hw53 => k0_hw53

def k0_off113 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_208_r0 : BitVec 32 := 48#32
  let v456_r0 : BitVec 32 := Scalar.addi v0 c48_i32_208_r0
  let c5_i32_209_r0 : BitVec 32 := 5#32
  let v457_r0 : BitVec 32 := Scalar.addi v456_r0 c5_i32_209_r0
  let v458_r0 : Index := Scalar.indexCast v457_r0
  let c0_i32_0_r0 : BitVec 32 := 0#32
  let c1_i32_r0 : BitVec 32 := 1#32
  let arg25_r0 : BitVec 32 := Scf.iv c0_i32_0_r0 c1_i32_r0 k0_t1
  let v459_r0 : Index := Scalar.indexCast arg25_r0
  ![v458_r0.toNat, v459_r0.toNat]
def k0_off114 (v460_r0 : BitVec 32) : Fin 3 → Nat :=
  let v461_r0 : Index := Scalar.indexCast v460_r0
  let c0_210_r0 : Index := 0#32
  let c0_211_r0 : Index := 0#32
  ![v461_r0.toNat, 0, 0]

def k0_chk54 (v460_r0 : BitVec 32) : Prop :=
  (∀ a, (k0_off114 v460_r0) a + S1x1x100.size a ≤ S50000x1x100.size a)
theorem k0_off114_inb : ∀ (v460_r0 : BitVec 32) (k0_hw54 : k0_chk54 v460_r0), ∀ a, (k0_off114 v460_r0) a + S1x1x100.size a ≤ S50000x1x100.size a := fun v460_r0 k0_hw54 => k0_hw54

def k0_off115 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_212_r0 : BitVec 32 := 48#32
  let v464_r0 : BitVec 32 := Scalar.addi v0 c48_i32_212_r0
  let c6_i32_213_r0 : BitVec 32 := 6#32
  let v465_r0 : BitVec 32 := Scalar.addi v464_r0 c6_i32_213_r0
  let v466_r0 : Index := Scalar.indexCast v465_r0
  let c0_i32_0_r0 : BitVec 32 := 0#32
  let c1_i32_r0 : BitVec 32 := 1#32
  let arg25_r0 : BitVec 32 := Scf.iv c0_i32_0_r0 c1_i32_r0 k0_t1
  let v467_r0 : Index := Scalar.indexCast arg25_r0
  ![v466_r0.toNat, v467_r0.toNat]
def k0_off116 (v468_r0 : BitVec 32) : Fin 3 → Nat :=
  let v469_r0 : Index := Scalar.indexCast v468_r0
  let c0_214_r0 : Index := 0#32
  let c0_215_r0 : Index := 0#32
  ![v469_r0.toNat, 0, 0]

def k0_chk55 (v468_r0 : BitVec 32) : Prop :=
  (∀ a, (k0_off116 v468_r0) a + S1x1x100.size a ≤ S50000x1x100.size a)
theorem k0_off116_inb : ∀ (v468_r0 : BitVec 32) (k0_hw55 : k0_chk55 v468_r0), ∀ a, (k0_off116 v468_r0) a + S1x1x100.size a ≤ S50000x1x100.size a := fun v468_r0 k0_hw55 => k0_hw55

def k0_off117 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c48_i32_216_r0 : BitVec 32 := 48#32
  let v472_r0 : BitVec 32 := Scalar.addi v0 c48_i32_216_r0
  let c7_i32_217_r0 : BitVec 32 := 7#32
  let v473_r0 : BitVec 32 := Scalar.addi v472_r0 c7_i32_217_r0
  let v474_r0 : Index := Scalar.indexCast v473_r0
  let c0_i32_0_r0 : BitVec 32 := 0#32
  let c1_i32_r0 : BitVec 32 := 1#32
  let arg25_r0 : BitVec 32 := Scf.iv c0_i32_0_r0 c1_i32_r0 k0_t1
  let v475_r0 : Index := Scalar.indexCast arg25_r0
  ![v474_r0.toNat, v475_r0.toNat]
def k0_off118 (v476_r0 : BitVec 32) : Fin 3 → Nat :=
  let v477_r0 : Index := Scalar.indexCast v476_r0
  let c0_218_r0 : Index := 0#32
  let c0_219_r0 : Index := 0#32
  ![v477_r0.toNat, 0, 0]

def k0_chk56 (v476_r0 : BitVec 32) : Prop :=
  (∀ a, (k0_off118 v476_r0) a + S1x1x100.size a ≤ S50000x1x100.size a)
theorem k0_off118_inb : ∀ (v476_r0 : BitVec 32) (k0_hw56 : k0_chk56 v476_r0), ∀ a, (k0_off118 v476_r0) a + S1x1x100.size a ≤ S50000x1x100.size a := fun v476_r0 k0_hw56 => k0_hw56

def k0_off119 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v481_r0 : Index := Scalar.indexCast arg25_r0
  let c48_r0 : Index := 48#32
  let c0_220_r0 : Index := 0#32
  ![v481_r0.toNat, 48, 0]
def k0_off120 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_r0 : BitVec 32 := 56#32
  let v485_r0 : BitVec 32 := Scalar.addi v0 c56_i32_r0
  let c0_i32_221_r0 : BitVec 32 := 0#32
  let v486_r0 : BitVec 32 := Scalar.addi v485_r0 c0_i32_221_r0
  let v487_r0 : Index := Scalar.indexCast v486_r0
  let c0_i32_0_r0 : BitVec 32 := 0#32
  let c1_i32_r0 : BitVec 32 := 1#32
  let arg25_r0 : BitVec 32 := Scf.iv c0_i32_0_r0 c1_i32_r0 k0_t1
  let v488_r0 : Index := Scalar.indexCast arg25_r0
  ![v487_r0.toNat, v488_r0.toNat]
def k0_off121 (v489_r0 : BitVec 32) : Fin 3 → Nat :=
  let v490_r0 : Index := Scalar.indexCast v489_r0
  let c0_222_r0 : Index := 0#32
  let c0_223_r0 : Index := 0#32
  ![v490_r0.toNat, 0, 0]

def k0_chk57 (v489_r0 : BitVec 32) : Prop :=
  (∀ a, (k0_off121 v489_r0) a + S1x1x100.size a ≤ S50000x1x100.size a)
theorem k0_off121_inb : ∀ (v489_r0 : BitVec 32) (k0_hw57 : k0_chk57 v489_r0), ∀ a, (k0_off121 v489_r0) a + S1x1x100.size a ≤ S50000x1x100.size a := fun v489_r0 k0_hw57 => k0_hw57

def k0_off122 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_224_r0 : BitVec 32 := 56#32
  let v493_r0 : BitVec 32 := Scalar.addi v0 c56_i32_224_r0
  let c1_i32_225_r0 : BitVec 32 := 1#32
  let v494_r0 : BitVec 32 := Scalar.addi v493_r0 c1_i32_225_r0
  let v495_r0 : Index := Scalar.indexCast v494_r0
  let c0_i32_0_r0 : BitVec 32 := 0#32
  let c1_i32_r0 : BitVec 32 := 1#32
  let arg25_r0 : BitVec 32 := Scf.iv c0_i32_0_r0 c1_i32_r0 k0_t1
  let v496_r0 : Index := Scalar.indexCast arg25_r0
  ![v495_r0.toNat, v496_r0.toNat]
def k0_off123 (v497_r0 : BitVec 32) : Fin 3 → Nat :=
  let v498_r0 : Index := Scalar.indexCast v497_r0
  let c0_226_r0 : Index := 0#32
  let c0_227_r0 : Index := 0#32
  ![v498_r0.toNat, 0, 0]

def k0_chk58 (v497_r0 : BitVec 32) : Prop :=
  (∀ a, (k0_off123 v497_r0) a + S1x1x100.size a ≤ S50000x1x100.size a)
theorem k0_off123_inb : ∀ (v497_r0 : BitVec 32) (k0_hw58 : k0_chk58 v497_r0), ∀ a, (k0_off123 v497_r0) a + S1x1x100.size a ≤ S50000x1x100.size a := fun v497_r0 k0_hw58 => k0_hw58

def k0_off124 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_228_r0 : BitVec 32 := 56#32
  let v501_r0 : BitVec 32 := Scalar.addi v0 c56_i32_228_r0
  let c2_i32_229_r0 : BitVec 32 := 2#32
  let v502_r0 : BitVec 32 := Scalar.addi v501_r0 c2_i32_229_r0
  let v503_r0 : Index := Scalar.indexCast v502_r0
  let c0_i32_0_r0 : BitVec 32 := 0#32
  let c1_i32_r0 : BitVec 32 := 1#32
  let arg25_r0 : BitVec 32 := Scf.iv c0_i32_0_r0 c1_i32_r0 k0_t1
  let v504_r0 : Index := Scalar.indexCast arg25_r0
  ![v503_r0.toNat, v504_r0.toNat]
def k0_off125 (v505_r0 : BitVec 32) : Fin 3 → Nat :=
  let v506_r0 : Index := Scalar.indexCast v505_r0
  let c0_230_r0 : Index := 0#32
  let c0_231_r0 : Index := 0#32
  ![v506_r0.toNat, 0, 0]

def k0_chk59 (v505_r0 : BitVec 32) : Prop :=
  (∀ a, (k0_off125 v505_r0) a + S1x1x100.size a ≤ S50000x1x100.size a)
theorem k0_off125_inb : ∀ (v505_r0 : BitVec 32) (k0_hw59 : k0_chk59 v505_r0), ∀ a, (k0_off125 v505_r0) a + S1x1x100.size a ≤ S50000x1x100.size a := fun v505_r0 k0_hw59 => k0_hw59

def k0_off126 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_232_r0 : BitVec 32 := 56#32
  let v509_r0 : BitVec 32 := Scalar.addi v0 c56_i32_232_r0
  let c3_i32_233_r0 : BitVec 32 := 3#32
  let v510_r0 : BitVec 32 := Scalar.addi v509_r0 c3_i32_233_r0
  let v511_r0 : Index := Scalar.indexCast v510_r0
  let c0_i32_0_r0 : BitVec 32 := 0#32
  let c1_i32_r0 : BitVec 32 := 1#32
  let arg25_r0 : BitVec 32 := Scf.iv c0_i32_0_r0 c1_i32_r0 k0_t1
  let v512_r0 : Index := Scalar.indexCast arg25_r0
  ![v511_r0.toNat, v512_r0.toNat]
def k0_off127 (v513_r0 : BitVec 32) : Fin 3 → Nat :=
  let v514_r0 : Index := Scalar.indexCast v513_r0
  let c0_234_r0 : Index := 0#32
  let c0_235_r0 : Index := 0#32
  ![v514_r0.toNat, 0, 0]

def k0_chk60 (v513_r0 : BitVec 32) : Prop :=
  (∀ a, (k0_off127 v513_r0) a + S1x1x100.size a ≤ S50000x1x100.size a)
theorem k0_off127_inb : ∀ (v513_r0 : BitVec 32) (k0_hw60 : k0_chk60 v513_r0), ∀ a, (k0_off127 v513_r0) a + S1x1x100.size a ≤ S50000x1x100.size a := fun v513_r0 k0_hw60 => k0_hw60

def k0_off128 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_236_r0 : BitVec 32 := 56#32
  let v517_r0 : BitVec 32 := Scalar.addi v0 c56_i32_236_r0
  let c4_i32_237_r0 : BitVec 32 := 4#32
  let v518_r0 : BitVec 32 := Scalar.addi v517_r0 c4_i32_237_r0
  let v519_r0 : Index := Scalar.indexCast v518_r0
  let c0_i32_0_r0 : BitVec 32 := 0#32
  let c1_i32_r0 : BitVec 32 := 1#32
  let arg25_r0 : BitVec 32 := Scf.iv c0_i32_0_r0 c1_i32_r0 k0_t1
  let v520_r0 : Index := Scalar.indexCast arg25_r0
  ![v519_r0.toNat, v520_r0.toNat]
def k0_off129 (v521_r0 : BitVec 32) : Fin 3 → Nat :=
  let v522_r0 : Index := Scalar.indexCast v521_r0
  let c0_238_r0 : Index := 0#32
  let c0_239_r0 : Index := 0#32
  ![v522_r0.toNat, 0, 0]

def k0_chk61 (v521_r0 : BitVec 32) : Prop :=
  (∀ a, (k0_off129 v521_r0) a + S1x1x100.size a ≤ S50000x1x100.size a)
theorem k0_off129_inb : ∀ (v521_r0 : BitVec 32) (k0_hw61 : k0_chk61 v521_r0), ∀ a, (k0_off129 v521_r0) a + S1x1x100.size a ≤ S50000x1x100.size a := fun v521_r0 k0_hw61 => k0_hw61

def k0_off130 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_240_r0 : BitVec 32 := 56#32
  let v525_r0 : BitVec 32 := Scalar.addi v0 c56_i32_240_r0
  let c5_i32_241_r0 : BitVec 32 := 5#32
  let v526_r0 : BitVec 32 := Scalar.addi v525_r0 c5_i32_241_r0
  let v527_r0 : Index := Scalar.indexCast v526_r0
  let c0_i32_0_r0 : BitVec 32 := 0#32
  let c1_i32_r0 : BitVec 32 := 1#32
  let arg25_r0 : BitVec 32 := Scf.iv c0_i32_0_r0 c1_i32_r0 k0_t1
  let v528_r0 : Index := Scalar.indexCast arg25_r0
  ![v527_r0.toNat, v528_r0.toNat]
def k0_off131 (v529_r0 : BitVec 32) : Fin 3 → Nat :=
  let v530_r0 : Index := Scalar.indexCast v529_r0
  let c0_242_r0 : Index := 0#32
  let c0_243_r0 : Index := 0#32
  ![v530_r0.toNat, 0, 0]

def k0_chk62 (v529_r0 : BitVec 32) : Prop :=
  (∀ a, (k0_off131 v529_r0) a + S1x1x100.size a ≤ S50000x1x100.size a)
theorem k0_off131_inb : ∀ (v529_r0 : BitVec 32) (k0_hw62 : k0_chk62 v529_r0), ∀ a, (k0_off131 v529_r0) a + S1x1x100.size a ≤ S50000x1x100.size a := fun v529_r0 k0_hw62 => k0_hw62

def k0_off132 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_244_r0 : BitVec 32 := 56#32
  let v533_r0 : BitVec 32 := Scalar.addi v0 c56_i32_244_r0
  let c6_i32_245_r0 : BitVec 32 := 6#32
  let v534_r0 : BitVec 32 := Scalar.addi v533_r0 c6_i32_245_r0
  let v535_r0 : Index := Scalar.indexCast v534_r0
  let c0_i32_0_r0 : BitVec 32 := 0#32
  let c1_i32_r0 : BitVec 32 := 1#32
  let arg25_r0 : BitVec 32 := Scf.iv c0_i32_0_r0 c1_i32_r0 k0_t1
  let v536_r0 : Index := Scalar.indexCast arg25_r0
  ![v535_r0.toNat, v536_r0.toNat]
def k0_off133 (v537_r0 : BitVec 32) : Fin 3 → Nat :=
  let v538_r0 : Index := Scalar.indexCast v537_r0
  let c0_246_r0 : Index := 0#32
  let c0_247_r0 : Index := 0#32
  ![v538_r0.toNat, 0, 0]

def k0_chk63 (v537_r0 : BitVec 32) : Prop :=
  (∀ a, (k0_off133 v537_r0) a + S1x1x100.size a ≤ S50000x1x100.size a)
theorem k0_off133_inb : ∀ (v537_r0 : BitVec 32) (k0_hw63 : k0_chk63 v537_r0), ∀ a, (k0_off133 v537_r0) a + S1x1x100.size a ≤ S50000x1x100.size a := fun v537_r0 k0_hw63 => k0_hw63

def k0_off134 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c56_i32_248_r0 : BitVec 32 := 56#32
  let v541_r0 : BitVec 32 := Scalar.addi v0 c56_i32_248_r0
  let c7_i32_249_r0 : BitVec 32 := 7#32
  let v542_r0 : BitVec 32 := Scalar.addi v541_r0 c7_i32_249_r0
  let v543_r0 : Index := Scalar.indexCast v542_r0
  let c0_i32_0_r0 : BitVec 32 := 0#32
  let c1_i32_r0 : BitVec 32 := 1#32
  let arg25_r0 : BitVec 32 := Scf.iv c0_i32_0_r0 c1_i32_r0 k0_t1
  let v544_r0 : Index := Scalar.indexCast arg25_r0
  ![v543_r0.toNat, v544_r0.toNat]
def k0_off135 (v545_r0 : BitVec 32) : Fin 3 → Nat :=
  let v546_r0 : Index := Scalar.indexCast v545_r0
  let c0_250_r0 : Index := 0#32
  let c0_251_r0 : Index := 0#32
  ![v546_r0.toNat, 0, 0]

def k0_chk64 (v545_r0 : BitVec 32) : Prop :=
  (∀ a, (k0_off135 v545_r0) a + S1x1x100.size a ≤ S50000x1x100.size a)
theorem k0_off135_inb : ∀ (v545_r0 : BitVec 32) (k0_hw64 : k0_chk64 v545_r0), ∀ a, (k0_off135 v545_r0) a + S1x1x100.size a ≤ S50000x1x100.size a := fun v545_r0 k0_hw64 => k0_hw64

def k0_off136 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v550_r0 : Index := Scalar.indexCast arg25_r0
  let c56_r0 : Index := 56#32
  let c0_252_r0 : Index := 0#32
  ![v550_r0.toNat, 56, 0]
def k0_off137 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_r0 : BitVec 32 := 64#32
  let v554_r0 : BitVec 32 := Scalar.addi v0 c64_i32_r0
  let c0_i32_253_r0 : BitVec 32 := 0#32
  let v555_r0 : BitVec 32 := Scalar.addi v554_r0 c0_i32_253_r0
  let v556_r0 : Index := Scalar.indexCast v555_r0
  let c0_i32_0_r0 : BitVec 32 := 0#32
  let c1_i32_r0 : BitVec 32 := 1#32
  let arg25_r0 : BitVec 32 := Scf.iv c0_i32_0_r0 c1_i32_r0 k0_t1
  let v557_r0 : Index := Scalar.indexCast arg25_r0
  ![v556_r0.toNat, v557_r0.toNat]
def k0_off138 (v558_r0 : BitVec 32) : Fin 3 → Nat :=
  let v559_r0 : Index := Scalar.indexCast v558_r0
  let c0_254_r0 : Index := 0#32
  let c0_255_r0 : Index := 0#32
  ![v559_r0.toNat, 0, 0]

def k0_chk65 (v558_r0 : BitVec 32) : Prop :=
  (∀ a, (k0_off138 v558_r0) a + S1x1x100.size a ≤ S50000x1x100.size a)
theorem k0_off138_inb : ∀ (v558_r0 : BitVec 32) (k0_hw65 : k0_chk65 v558_r0), ∀ a, (k0_off138 v558_r0) a + S1x1x100.size a ≤ S50000x1x100.size a := fun v558_r0 k0_hw65 => k0_hw65

def k0_off139 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_256_r0 : BitVec 32 := 64#32
  let v562_r0 : BitVec 32 := Scalar.addi v0 c64_i32_256_r0
  let c1_i32_257_r0 : BitVec 32 := 1#32
  let v563_r0 : BitVec 32 := Scalar.addi v562_r0 c1_i32_257_r0
  let v564_r0 : Index := Scalar.indexCast v563_r0
  let c0_i32_0_r0 : BitVec 32 := 0#32
  let c1_i32_r0 : BitVec 32 := 1#32
  let arg25_r0 : BitVec 32 := Scf.iv c0_i32_0_r0 c1_i32_r0 k0_t1
  let v565_r0 : Index := Scalar.indexCast arg25_r0
  ![v564_r0.toNat, v565_r0.toNat]
def k0_off140 (v566_r0 : BitVec 32) : Fin 3 → Nat :=
  let v567_r0 : Index := Scalar.indexCast v566_r0
  let c0_258_r0 : Index := 0#32
  let c0_259_r0 : Index := 0#32
  ![v567_r0.toNat, 0, 0]

def k0_chk66 (v566_r0 : BitVec 32) : Prop :=
  (∀ a, (k0_off140 v566_r0) a + S1x1x100.size a ≤ S50000x1x100.size a)
theorem k0_off140_inb : ∀ (v566_r0 : BitVec 32) (k0_hw66 : k0_chk66 v566_r0), ∀ a, (k0_off140 v566_r0) a + S1x1x100.size a ≤ S50000x1x100.size a := fun v566_r0 k0_hw66 => k0_hw66

def k0_off141 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_260_r0 : BitVec 32 := 64#32
  let v570_r0 : BitVec 32 := Scalar.addi v0 c64_i32_260_r0
  let c2_i32_261_r0 : BitVec 32 := 2#32
  let v571_r0 : BitVec 32 := Scalar.addi v570_r0 c2_i32_261_r0
  let v572_r0 : Index := Scalar.indexCast v571_r0
  let c0_i32_0_r0 : BitVec 32 := 0#32
  let c1_i32_r0 : BitVec 32 := 1#32
  let arg25_r0 : BitVec 32 := Scf.iv c0_i32_0_r0 c1_i32_r0 k0_t1
  let v573_r0 : Index := Scalar.indexCast arg25_r0
  ![v572_r0.toNat, v573_r0.toNat]
def k0_off142 (v574_r0 : BitVec 32) : Fin 3 → Nat :=
  let v575_r0 : Index := Scalar.indexCast v574_r0
  let c0_262_r0 : Index := 0#32
  let c0_263_r0 : Index := 0#32
  ![v575_r0.toNat, 0, 0]

def k0_chk67 (v574_r0 : BitVec 32) : Prop :=
  (∀ a, (k0_off142 v574_r0) a + S1x1x100.size a ≤ S50000x1x100.size a)
theorem k0_off142_inb : ∀ (v574_r0 : BitVec 32) (k0_hw67 : k0_chk67 v574_r0), ∀ a, (k0_off142 v574_r0) a + S1x1x100.size a ≤ S50000x1x100.size a := fun v574_r0 k0_hw67 => k0_hw67

def k0_off143 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_264_r0 : BitVec 32 := 64#32
  let v578_r0 : BitVec 32 := Scalar.addi v0 c64_i32_264_r0
  let c3_i32_265_r0 : BitVec 32 := 3#32
  let v579_r0 : BitVec 32 := Scalar.addi v578_r0 c3_i32_265_r0
  let v580_r0 : Index := Scalar.indexCast v579_r0
  let c0_i32_0_r0 : BitVec 32 := 0#32
  let c1_i32_r0 : BitVec 32 := 1#32
  let arg25_r0 : BitVec 32 := Scf.iv c0_i32_0_r0 c1_i32_r0 k0_t1
  let v581_r0 : Index := Scalar.indexCast arg25_r0
  ![v580_r0.toNat, v581_r0.toNat]
def k0_off144 (v582_r0 : BitVec 32) : Fin 3 → Nat :=
  let v583_r0 : Index := Scalar.indexCast v582_r0
  let c0_266_r0 : Index := 0#32
  let c0_267_r0 : Index := 0#32
  ![v583_r0.toNat, 0, 0]

def k0_chk68 (v582_r0 : BitVec 32) : Prop :=
  (∀ a, (k0_off144 v582_r0) a + S1x1x100.size a ≤ S50000x1x100.size a)
theorem k0_off144_inb : ∀ (v582_r0 : BitVec 32) (k0_hw68 : k0_chk68 v582_r0), ∀ a, (k0_off144 v582_r0) a + S1x1x100.size a ≤ S50000x1x100.size a := fun v582_r0 k0_hw68 => k0_hw68

def k0_off145 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_268_r0 : BitVec 32 := 64#32
  let v586_r0 : BitVec 32 := Scalar.addi v0 c64_i32_268_r0
  let c4_i32_269_r0 : BitVec 32 := 4#32
  let v587_r0 : BitVec 32 := Scalar.addi v586_r0 c4_i32_269_r0
  let v588_r0 : Index := Scalar.indexCast v587_r0
  let c0_i32_0_r0 : BitVec 32 := 0#32
  let c1_i32_r0 : BitVec 32 := 1#32
  let arg25_r0 : BitVec 32 := Scf.iv c0_i32_0_r0 c1_i32_r0 k0_t1
  let v589_r0 : Index := Scalar.indexCast arg25_r0
  ![v588_r0.toNat, v589_r0.toNat]
def k0_off146 (v590_r0 : BitVec 32) : Fin 3 → Nat :=
  let v591_r0 : Index := Scalar.indexCast v590_r0
  let c0_270_r0 : Index := 0#32
  let c0_271_r0 : Index := 0#32
  ![v591_r0.toNat, 0, 0]

def k0_chk69 (v590_r0 : BitVec 32) : Prop :=
  (∀ a, (k0_off146 v590_r0) a + S1x1x100.size a ≤ S50000x1x100.size a)
theorem k0_off146_inb : ∀ (v590_r0 : BitVec 32) (k0_hw69 : k0_chk69 v590_r0), ∀ a, (k0_off146 v590_r0) a + S1x1x100.size a ≤ S50000x1x100.size a := fun v590_r0 k0_hw69 => k0_hw69

def k0_off147 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_272_r0 : BitVec 32 := 64#32
  let v594_r0 : BitVec 32 := Scalar.addi v0 c64_i32_272_r0
  let c5_i32_273_r0 : BitVec 32 := 5#32
  let v595_r0 : BitVec 32 := Scalar.addi v594_r0 c5_i32_273_r0
  let v596_r0 : Index := Scalar.indexCast v595_r0
  let c0_i32_0_r0 : BitVec 32 := 0#32
  let c1_i32_r0 : BitVec 32 := 1#32
  let arg25_r0 : BitVec 32 := Scf.iv c0_i32_0_r0 c1_i32_r0 k0_t1
  let v597_r0 : Index := Scalar.indexCast arg25_r0
  ![v596_r0.toNat, v597_r0.toNat]
def k0_off148 (v598_r0 : BitVec 32) : Fin 3 → Nat :=
  let v599_r0 : Index := Scalar.indexCast v598_r0
  let c0_274_r0 : Index := 0#32
  let c0_275_r0 : Index := 0#32
  ![v599_r0.toNat, 0, 0]

def k0_chk70 (v598_r0 : BitVec 32) : Prop :=
  (∀ a, (k0_off148 v598_r0) a + S1x1x100.size a ≤ S50000x1x100.size a)
theorem k0_off148_inb : ∀ (v598_r0 : BitVec 32) (k0_hw70 : k0_chk70 v598_r0), ∀ a, (k0_off148 v598_r0) a + S1x1x100.size a ≤ S50000x1x100.size a := fun v598_r0 k0_hw70 => k0_hw70

def k0_off149 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_276_r0 : BitVec 32 := 64#32
  let v602_r0 : BitVec 32 := Scalar.addi v0 c64_i32_276_r0
  let c6_i32_277_r0 : BitVec 32 := 6#32
  let v603_r0 : BitVec 32 := Scalar.addi v602_r0 c6_i32_277_r0
  let v604_r0 : Index := Scalar.indexCast v603_r0
  let c0_i32_0_r0 : BitVec 32 := 0#32
  let c1_i32_r0 : BitVec 32 := 1#32
  let arg25_r0 : BitVec 32 := Scf.iv c0_i32_0_r0 c1_i32_r0 k0_t1
  let v605_r0 : Index := Scalar.indexCast arg25_r0
  ![v604_r0.toNat, v605_r0.toNat]
def k0_off150 (v606_r0 : BitVec 32) : Fin 3 → Nat :=
  let v607_r0 : Index := Scalar.indexCast v606_r0
  let c0_278_r0 : Index := 0#32
  let c0_279_r0 : Index := 0#32
  ![v607_r0.toNat, 0, 0]

def k0_chk71 (v606_r0 : BitVec 32) : Prop :=
  (∀ a, (k0_off150 v606_r0) a + S1x1x100.size a ≤ S50000x1x100.size a)
theorem k0_off150_inb : ∀ (v606_r0 : BitVec 32) (k0_hw71 : k0_chk71 v606_r0), ∀ a, (k0_off150 v606_r0) a + S1x1x100.size a ≤ S50000x1x100.size a := fun v606_r0 k0_hw71 => k0_hw71

def k0_off151 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c64_i32_280_r0 : BitVec 32 := 64#32
  let v610_r0 : BitVec 32 := Scalar.addi v0 c64_i32_280_r0
  let c7_i32_281_r0 : BitVec 32 := 7#32
  let v611_r0 : BitVec 32 := Scalar.addi v610_r0 c7_i32_281_r0
  let v612_r0 : Index := Scalar.indexCast v611_r0
  let c0_i32_0_r0 : BitVec 32 := 0#32
  let c1_i32_r0 : BitVec 32 := 1#32
  let arg25_r0 : BitVec 32 := Scf.iv c0_i32_0_r0 c1_i32_r0 k0_t1
  let v613_r0 : Index := Scalar.indexCast arg25_r0
  ![v612_r0.toNat, v613_r0.toNat]
def k0_off152 (v614_r0 : BitVec 32) : Fin 3 → Nat :=
  let v615_r0 : Index := Scalar.indexCast v614_r0
  let c0_282_r0 : Index := 0#32
  let c0_283_r0 : Index := 0#32
  ![v615_r0.toNat, 0, 0]

def k0_chk72 (v614_r0 : BitVec 32) : Prop :=
  (∀ a, (k0_off152 v614_r0) a + S1x1x100.size a ≤ S50000x1x100.size a)
theorem k0_off152_inb : ∀ (v614_r0 : BitVec 32) (k0_hw72 : k0_chk72 v614_r0), ∀ a, (k0_off152 v614_r0) a + S1x1x100.size a ≤ S50000x1x100.size a := fun v614_r0 k0_hw72 => k0_hw72

def k0_off153 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v619_r0 : Index := Scalar.indexCast arg25_r0
  let c64_r0 : Index := 64#32
  let c0_284_r0 : Index := 0#32
  ![v619_r0.toNat, 64, 0]
def k0_off154 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_r0 : BitVec 32 := 72#32
  let v623_r0 : BitVec 32 := Scalar.addi v0 c72_i32_r0
  let c0_i32_285_r0 : BitVec 32 := 0#32
  let v624_r0 : BitVec 32 := Scalar.addi v623_r0 c0_i32_285_r0
  let v625_r0 : Index := Scalar.indexCast v624_r0
  let c0_i32_0_r0 : BitVec 32 := 0#32
  let c1_i32_r0 : BitVec 32 := 1#32
  let arg25_r0 : BitVec 32 := Scf.iv c0_i32_0_r0 c1_i32_r0 k0_t1
  let v626_r0 : Index := Scalar.indexCast arg25_r0
  ![v625_r0.toNat, v626_r0.toNat]
def k0_off155 (v627_r0 : BitVec 32) : Fin 3 → Nat :=
  let v628_r0 : Index := Scalar.indexCast v627_r0
  let c0_286_r0 : Index := 0#32
  let c0_287_r0 : Index := 0#32
  ![v628_r0.toNat, 0, 0]

def k0_chk73 (v627_r0 : BitVec 32) : Prop :=
  (∀ a, (k0_off155 v627_r0) a + S1x1x100.size a ≤ S50000x1x100.size a)
theorem k0_off155_inb : ∀ (v627_r0 : BitVec 32) (k0_hw73 : k0_chk73 v627_r0), ∀ a, (k0_off155 v627_r0) a + S1x1x100.size a ≤ S50000x1x100.size a := fun v627_r0 k0_hw73 => k0_hw73

def k0_off156 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_288_r0 : BitVec 32 := 72#32
  let v631_r0 : BitVec 32 := Scalar.addi v0 c72_i32_288_r0
  let c1_i32_289_r0 : BitVec 32 := 1#32
  let v632_r0 : BitVec 32 := Scalar.addi v631_r0 c1_i32_289_r0
  let v633_r0 : Index := Scalar.indexCast v632_r0
  let c0_i32_0_r0 : BitVec 32 := 0#32
  let c1_i32_r0 : BitVec 32 := 1#32
  let arg25_r0 : BitVec 32 := Scf.iv c0_i32_0_r0 c1_i32_r0 k0_t1
  let v634_r0 : Index := Scalar.indexCast arg25_r0
  ![v633_r0.toNat, v634_r0.toNat]
def k0_off157 (v635_r0 : BitVec 32) : Fin 3 → Nat :=
  let v636_r0 : Index := Scalar.indexCast v635_r0
  let c0_290_r0 : Index := 0#32
  let c0_291_r0 : Index := 0#32
  ![v636_r0.toNat, 0, 0]

def k0_chk74 (v635_r0 : BitVec 32) : Prop :=
  (∀ a, (k0_off157 v635_r0) a + S1x1x100.size a ≤ S50000x1x100.size a)
theorem k0_off157_inb : ∀ (v635_r0 : BitVec 32) (k0_hw74 : k0_chk74 v635_r0), ∀ a, (k0_off157 v635_r0) a + S1x1x100.size a ≤ S50000x1x100.size a := fun v635_r0 k0_hw74 => k0_hw74

def k0_off158 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_292_r0 : BitVec 32 := 72#32
  let v639_r0 : BitVec 32 := Scalar.addi v0 c72_i32_292_r0
  let c2_i32_293_r0 : BitVec 32 := 2#32
  let v640_r0 : BitVec 32 := Scalar.addi v639_r0 c2_i32_293_r0
  let v641_r0 : Index := Scalar.indexCast v640_r0
  let c0_i32_0_r0 : BitVec 32 := 0#32
  let c1_i32_r0 : BitVec 32 := 1#32
  let arg25_r0 : BitVec 32 := Scf.iv c0_i32_0_r0 c1_i32_r0 k0_t1
  let v642_r0 : Index := Scalar.indexCast arg25_r0
  ![v641_r0.toNat, v642_r0.toNat]
def k0_off159 (v643_r0 : BitVec 32) : Fin 3 → Nat :=
  let v644_r0 : Index := Scalar.indexCast v643_r0
  let c0_294_r0 : Index := 0#32
  let c0_295_r0 : Index := 0#32
  ![v644_r0.toNat, 0, 0]

def k0_chk75 (v643_r0 : BitVec 32) : Prop :=
  (∀ a, (k0_off159 v643_r0) a + S1x1x100.size a ≤ S50000x1x100.size a)
theorem k0_off159_inb : ∀ (v643_r0 : BitVec 32) (k0_hw75 : k0_chk75 v643_r0), ∀ a, (k0_off159 v643_r0) a + S1x1x100.size a ≤ S50000x1x100.size a := fun v643_r0 k0_hw75 => k0_hw75

def k0_off160 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_296_r0 : BitVec 32 := 72#32
  let v647_r0 : BitVec 32 := Scalar.addi v0 c72_i32_296_r0
  let c3_i32_297_r0 : BitVec 32 := 3#32
  let v648_r0 : BitVec 32 := Scalar.addi v647_r0 c3_i32_297_r0
  let v649_r0 : Index := Scalar.indexCast v648_r0
  let c0_i32_0_r0 : BitVec 32 := 0#32
  let c1_i32_r0 : BitVec 32 := 1#32
  let arg25_r0 : BitVec 32 := Scf.iv c0_i32_0_r0 c1_i32_r0 k0_t1
  let v650_r0 : Index := Scalar.indexCast arg25_r0
  ![v649_r0.toNat, v650_r0.toNat]
def k0_off161 (v651_r0 : BitVec 32) : Fin 3 → Nat :=
  let v652_r0 : Index := Scalar.indexCast v651_r0
  let c0_298_r0 : Index := 0#32
  let c0_299_r0 : Index := 0#32
  ![v652_r0.toNat, 0, 0]

def k0_chk76 (v651_r0 : BitVec 32) : Prop :=
  (∀ a, (k0_off161 v651_r0) a + S1x1x100.size a ≤ S50000x1x100.size a)
theorem k0_off161_inb : ∀ (v651_r0 : BitVec 32) (k0_hw76 : k0_chk76 v651_r0), ∀ a, (k0_off161 v651_r0) a + S1x1x100.size a ≤ S50000x1x100.size a := fun v651_r0 k0_hw76 => k0_hw76

def k0_off162 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_300_r0 : BitVec 32 := 72#32
  let v655_r0 : BitVec 32 := Scalar.addi v0 c72_i32_300_r0
  let c4_i32_301_r0 : BitVec 32 := 4#32
  let v656_r0 : BitVec 32 := Scalar.addi v655_r0 c4_i32_301_r0
  let v657_r0 : Index := Scalar.indexCast v656_r0
  let c0_i32_0_r0 : BitVec 32 := 0#32
  let c1_i32_r0 : BitVec 32 := 1#32
  let arg25_r0 : BitVec 32 := Scf.iv c0_i32_0_r0 c1_i32_r0 k0_t1
  let v658_r0 : Index := Scalar.indexCast arg25_r0
  ![v657_r0.toNat, v658_r0.toNat]
def k0_off163 (v659_r0 : BitVec 32) : Fin 3 → Nat :=
  let v660_r0 : Index := Scalar.indexCast v659_r0
  let c0_302_r0 : Index := 0#32
  let c0_303_r0 : Index := 0#32
  ![v660_r0.toNat, 0, 0]

def k0_chk77 (v659_r0 : BitVec 32) : Prop :=
  (∀ a, (k0_off163 v659_r0) a + S1x1x100.size a ≤ S50000x1x100.size a)
theorem k0_off163_inb : ∀ (v659_r0 : BitVec 32) (k0_hw77 : k0_chk77 v659_r0), ∀ a, (k0_off163 v659_r0) a + S1x1x100.size a ≤ S50000x1x100.size a := fun v659_r0 k0_hw77 => k0_hw77

def k0_off164 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_304_r0 : BitVec 32 := 72#32
  let v663_r0 : BitVec 32 := Scalar.addi v0 c72_i32_304_r0
  let c5_i32_305_r0 : BitVec 32 := 5#32
  let v664_r0 : BitVec 32 := Scalar.addi v663_r0 c5_i32_305_r0
  let v665_r0 : Index := Scalar.indexCast v664_r0
  let c0_i32_0_r0 : BitVec 32 := 0#32
  let c1_i32_r0 : BitVec 32 := 1#32
  let arg25_r0 : BitVec 32 := Scf.iv c0_i32_0_r0 c1_i32_r0 k0_t1
  let v666_r0 : Index := Scalar.indexCast arg25_r0
  ![v665_r0.toNat, v666_r0.toNat]
def k0_off165 (v667_r0 : BitVec 32) : Fin 3 → Nat :=
  let v668_r0 : Index := Scalar.indexCast v667_r0
  let c0_306_r0 : Index := 0#32
  let c0_307_r0 : Index := 0#32
  ![v668_r0.toNat, 0, 0]

def k0_chk78 (v667_r0 : BitVec 32) : Prop :=
  (∀ a, (k0_off165 v667_r0) a + S1x1x100.size a ≤ S50000x1x100.size a)
theorem k0_off165_inb : ∀ (v667_r0 : BitVec 32) (k0_hw78 : k0_chk78 v667_r0), ∀ a, (k0_off165 v667_r0) a + S1x1x100.size a ≤ S50000x1x100.size a := fun v667_r0 k0_hw78 => k0_hw78

def k0_off166 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_308_r0 : BitVec 32 := 72#32
  let v671_r0 : BitVec 32 := Scalar.addi v0 c72_i32_308_r0
  let c6_i32_309_r0 : BitVec 32 := 6#32
  let v672_r0 : BitVec 32 := Scalar.addi v671_r0 c6_i32_309_r0
  let v673_r0 : Index := Scalar.indexCast v672_r0
  let c0_i32_0_r0 : BitVec 32 := 0#32
  let c1_i32_r0 : BitVec 32 := 1#32
  let arg25_r0 : BitVec 32 := Scf.iv c0_i32_0_r0 c1_i32_r0 k0_t1
  let v674_r0 : Index := Scalar.indexCast arg25_r0
  ![v673_r0.toNat, v674_r0.toNat]
def k0_off167 (v675_r0 : BitVec 32) : Fin 3 → Nat :=
  let v676_r0 : Index := Scalar.indexCast v675_r0
  let c0_310_r0 : Index := 0#32
  let c0_311_r0 : Index := 0#32
  ![v676_r0.toNat, 0, 0]

def k0_chk79 (v675_r0 : BitVec 32) : Prop :=
  (∀ a, (k0_off167 v675_r0) a + S1x1x100.size a ≤ S50000x1x100.size a)
theorem k0_off167_inb : ∀ (v675_r0 : BitVec 32) (k0_hw79 : k0_chk79 v675_r0), ∀ a, (k0_off167 v675_r0) a + S1x1x100.size a ≤ S50000x1x100.size a := fun v675_r0 k0_hw79 => k0_hw79

def k0_off168 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c72_i32_312_r0 : BitVec 32 := 72#32
  let v679_r0 : BitVec 32 := Scalar.addi v0 c72_i32_312_r0
  let c7_i32_313_r0 : BitVec 32 := 7#32
  let v680_r0 : BitVec 32 := Scalar.addi v679_r0 c7_i32_313_r0
  let v681_r0 : Index := Scalar.indexCast v680_r0
  let c0_i32_0_r0 : BitVec 32 := 0#32
  let c1_i32_r0 : BitVec 32 := 1#32
  let arg25_r0 : BitVec 32 := Scf.iv c0_i32_0_r0 c1_i32_r0 k0_t1
  let v682_r0 : Index := Scalar.indexCast arg25_r0
  ![v681_r0.toNat, v682_r0.toNat]
def k0_off169 (v683_r0 : BitVec 32) : Fin 3 → Nat :=
  let v684_r0 : Index := Scalar.indexCast v683_r0
  let c0_314_r0 : Index := 0#32
  let c0_315_r0 : Index := 0#32
  ![v684_r0.toNat, 0, 0]

def k0_chk80 (v683_r0 : BitVec 32) : Prop :=
  (∀ a, (k0_off169 v683_r0) a + S1x1x100.size a ≤ S50000x1x100.size a)
theorem k0_off169_inb : ∀ (v683_r0 : BitVec 32) (k0_hw80 : k0_chk80 v683_r0), ∀ a, (k0_off169 v683_r0) a + S1x1x100.size a ≤ S50000x1x100.size a := fun v683_r0 k0_hw80 => k0_hw80

def k0_off170 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v688_r0 : Index := Scalar.indexCast arg25_r0
  let c72_r0 : Index := 72#32
  let c0_316_r0 : Index := 0#32
  ![v688_r0.toNat, 72, 0]
def k0_off171 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_r0 : BitVec 32 := 80#32
  let v692_r0 : BitVec 32 := Scalar.addi v0 c80_i32_r0
  let c0_i32_317_r0 : BitVec 32 := 0#32
  let v693_r0 : BitVec 32 := Scalar.addi v692_r0 c0_i32_317_r0
  let v694_r0 : Index := Scalar.indexCast v693_r0
  let c0_i32_0_r0 : BitVec 32 := 0#32
  let c1_i32_r0 : BitVec 32 := 1#32
  let arg25_r0 : BitVec 32 := Scf.iv c0_i32_0_r0 c1_i32_r0 k0_t1
  let v695_r0 : Index := Scalar.indexCast arg25_r0
  ![v694_r0.toNat, v695_r0.toNat]
def k0_off172 (v696_r0 : BitVec 32) : Fin 3 → Nat :=
  let v697_r0 : Index := Scalar.indexCast v696_r0
  let c0_318_r0 : Index := 0#32
  let c0_319_r0 : Index := 0#32
  ![v697_r0.toNat, 0, 0]

def k0_chk81 (v696_r0 : BitVec 32) : Prop :=
  (∀ a, (k0_off172 v696_r0) a + S1x1x100.size a ≤ S50000x1x100.size a)
theorem k0_off172_inb : ∀ (v696_r0 : BitVec 32) (k0_hw81 : k0_chk81 v696_r0), ∀ a, (k0_off172 v696_r0) a + S1x1x100.size a ≤ S50000x1x100.size a := fun v696_r0 k0_hw81 => k0_hw81

def k0_off173 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_320_r0 : BitVec 32 := 80#32
  let v700_r0 : BitVec 32 := Scalar.addi v0 c80_i32_320_r0
  let c1_i32_321_r0 : BitVec 32 := 1#32
  let v701_r0 : BitVec 32 := Scalar.addi v700_r0 c1_i32_321_r0
  let v702_r0 : Index := Scalar.indexCast v701_r0
  let c0_i32_0_r0 : BitVec 32 := 0#32
  let c1_i32_r0 : BitVec 32 := 1#32
  let arg25_r0 : BitVec 32 := Scf.iv c0_i32_0_r0 c1_i32_r0 k0_t1
  let v703_r0 : Index := Scalar.indexCast arg25_r0
  ![v702_r0.toNat, v703_r0.toNat]
def k0_off174 (v704_r0 : BitVec 32) : Fin 3 → Nat :=
  let v705_r0 : Index := Scalar.indexCast v704_r0
  let c0_322_r0 : Index := 0#32
  let c0_323_r0 : Index := 0#32
  ![v705_r0.toNat, 0, 0]

def k0_chk82 (v704_r0 : BitVec 32) : Prop :=
  (∀ a, (k0_off174 v704_r0) a + S1x1x100.size a ≤ S50000x1x100.size a)
theorem k0_off174_inb : ∀ (v704_r0 : BitVec 32) (k0_hw82 : k0_chk82 v704_r0), ∀ a, (k0_off174 v704_r0) a + S1x1x100.size a ≤ S50000x1x100.size a := fun v704_r0 k0_hw82 => k0_hw82

def k0_off175 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_324_r0 : BitVec 32 := 80#32
  let v708_r0 : BitVec 32 := Scalar.addi v0 c80_i32_324_r0
  let c2_i32_325_r0 : BitVec 32 := 2#32
  let v709_r0 : BitVec 32 := Scalar.addi v708_r0 c2_i32_325_r0
  let v710_r0 : Index := Scalar.indexCast v709_r0
  let c0_i32_0_r0 : BitVec 32 := 0#32
  let c1_i32_r0 : BitVec 32 := 1#32
  let arg25_r0 : BitVec 32 := Scf.iv c0_i32_0_r0 c1_i32_r0 k0_t1
  let v711_r0 : Index := Scalar.indexCast arg25_r0
  ![v710_r0.toNat, v711_r0.toNat]
def k0_off176 (v712_r0 : BitVec 32) : Fin 3 → Nat :=
  let v713_r0 : Index := Scalar.indexCast v712_r0
  let c0_326_r0 : Index := 0#32
  let c0_327_r0 : Index := 0#32
  ![v713_r0.toNat, 0, 0]

def k0_chk83 (v712_r0 : BitVec 32) : Prop :=
  (∀ a, (k0_off176 v712_r0) a + S1x1x100.size a ≤ S50000x1x100.size a)
theorem k0_off176_inb : ∀ (v712_r0 : BitVec 32) (k0_hw83 : k0_chk83 v712_r0), ∀ a, (k0_off176 v712_r0) a + S1x1x100.size a ≤ S50000x1x100.size a := fun v712_r0 k0_hw83 => k0_hw83

def k0_off177 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_328_r0 : BitVec 32 := 80#32
  let v716_r0 : BitVec 32 := Scalar.addi v0 c80_i32_328_r0
  let c3_i32_329_r0 : BitVec 32 := 3#32
  let v717_r0 : BitVec 32 := Scalar.addi v716_r0 c3_i32_329_r0
  let v718_r0 : Index := Scalar.indexCast v717_r0
  let c0_i32_0_r0 : BitVec 32 := 0#32
  let c1_i32_r0 : BitVec 32 := 1#32
  let arg25_r0 : BitVec 32 := Scf.iv c0_i32_0_r0 c1_i32_r0 k0_t1
  let v719_r0 : Index := Scalar.indexCast arg25_r0
  ![v718_r0.toNat, v719_r0.toNat]
def k0_off178 (v720_r0 : BitVec 32) : Fin 3 → Nat :=
  let v721_r0 : Index := Scalar.indexCast v720_r0
  let c0_330_r0 : Index := 0#32
  let c0_331_r0 : Index := 0#32
  ![v721_r0.toNat, 0, 0]

def k0_chk84 (v720_r0 : BitVec 32) : Prop :=
  (∀ a, (k0_off178 v720_r0) a + S1x1x100.size a ≤ S50000x1x100.size a)
theorem k0_off178_inb : ∀ (v720_r0 : BitVec 32) (k0_hw84 : k0_chk84 v720_r0), ∀ a, (k0_off178 v720_r0) a + S1x1x100.size a ≤ S50000x1x100.size a := fun v720_r0 k0_hw84 => k0_hw84

def k0_off179 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_332_r0 : BitVec 32 := 80#32
  let v724_r0 : BitVec 32 := Scalar.addi v0 c80_i32_332_r0
  let c4_i32_333_r0 : BitVec 32 := 4#32
  let v725_r0 : BitVec 32 := Scalar.addi v724_r0 c4_i32_333_r0
  let v726_r0 : Index := Scalar.indexCast v725_r0
  let c0_i32_0_r0 : BitVec 32 := 0#32
  let c1_i32_r0 : BitVec 32 := 1#32
  let arg25_r0 : BitVec 32 := Scf.iv c0_i32_0_r0 c1_i32_r0 k0_t1
  let v727_r0 : Index := Scalar.indexCast arg25_r0
  ![v726_r0.toNat, v727_r0.toNat]
def k0_off180 (v728_r0 : BitVec 32) : Fin 3 → Nat :=
  let v729_r0 : Index := Scalar.indexCast v728_r0
  let c0_334_r0 : Index := 0#32
  let c0_335_r0 : Index := 0#32
  ![v729_r0.toNat, 0, 0]

def k0_chk85 (v728_r0 : BitVec 32) : Prop :=
  (∀ a, (k0_off180 v728_r0) a + S1x1x100.size a ≤ S50000x1x100.size a)
theorem k0_off180_inb : ∀ (v728_r0 : BitVec 32) (k0_hw85 : k0_chk85 v728_r0), ∀ a, (k0_off180 v728_r0) a + S1x1x100.size a ≤ S50000x1x100.size a := fun v728_r0 k0_hw85 => k0_hw85

def k0_off181 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_336_r0 : BitVec 32 := 80#32
  let v732_r0 : BitVec 32 := Scalar.addi v0 c80_i32_336_r0
  let c5_i32_337_r0 : BitVec 32 := 5#32
  let v733_r0 : BitVec 32 := Scalar.addi v732_r0 c5_i32_337_r0
  let v734_r0 : Index := Scalar.indexCast v733_r0
  let c0_i32_0_r0 : BitVec 32 := 0#32
  let c1_i32_r0 : BitVec 32 := 1#32
  let arg25_r0 : BitVec 32 := Scf.iv c0_i32_0_r0 c1_i32_r0 k0_t1
  let v735_r0 : Index := Scalar.indexCast arg25_r0
  ![v734_r0.toNat, v735_r0.toNat]
def k0_off182 (v736_r0 : BitVec 32) : Fin 3 → Nat :=
  let v737_r0 : Index := Scalar.indexCast v736_r0
  let c0_338_r0 : Index := 0#32
  let c0_339_r0 : Index := 0#32
  ![v737_r0.toNat, 0, 0]

def k0_chk86 (v736_r0 : BitVec 32) : Prop :=
  (∀ a, (k0_off182 v736_r0) a + S1x1x100.size a ≤ S50000x1x100.size a)
theorem k0_off182_inb : ∀ (v736_r0 : BitVec 32) (k0_hw86 : k0_chk86 v736_r0), ∀ a, (k0_off182 v736_r0) a + S1x1x100.size a ≤ S50000x1x100.size a := fun v736_r0 k0_hw86 => k0_hw86

def k0_off183 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_340_r0 : BitVec 32 := 80#32
  let v740_r0 : BitVec 32 := Scalar.addi v0 c80_i32_340_r0
  let c6_i32_341_r0 : BitVec 32 := 6#32
  let v741_r0 : BitVec 32 := Scalar.addi v740_r0 c6_i32_341_r0
  let v742_r0 : Index := Scalar.indexCast v741_r0
  let c0_i32_0_r0 : BitVec 32 := 0#32
  let c1_i32_r0 : BitVec 32 := 1#32
  let arg25_r0 : BitVec 32 := Scf.iv c0_i32_0_r0 c1_i32_r0 k0_t1
  let v743_r0 : Index := Scalar.indexCast arg25_r0
  ![v742_r0.toNat, v743_r0.toNat]
def k0_off184 (v744_r0 : BitVec 32) : Fin 3 → Nat :=
  let v745_r0 : Index := Scalar.indexCast v744_r0
  let c0_342_r0 : Index := 0#32
  let c0_343_r0 : Index := 0#32
  ![v745_r0.toNat, 0, 0]

def k0_chk87 (v744_r0 : BitVec 32) : Prop :=
  (∀ a, (k0_off184 v744_r0) a + S1x1x100.size a ≤ S50000x1x100.size a)
theorem k0_off184_inb : ∀ (v744_r0 : BitVec 32) (k0_hw87 : k0_chk87 v744_r0), ∀ a, (k0_off184 v744_r0) a + S1x1x100.size a ≤ S50000x1x100.size a := fun v744_r0 k0_hw87 => k0_hw87

def k0_off185 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c80_i32_344_r0 : BitVec 32 := 80#32
  let v748_r0 : BitVec 32 := Scalar.addi v0 c80_i32_344_r0
  let c7_i32_345_r0 : BitVec 32 := 7#32
  let v749_r0 : BitVec 32 := Scalar.addi v748_r0 c7_i32_345_r0
  let v750_r0 : Index := Scalar.indexCast v749_r0
  let c0_i32_0_r0 : BitVec 32 := 0#32
  let c1_i32_r0 : BitVec 32 := 1#32
  let arg25_r0 : BitVec 32 := Scf.iv c0_i32_0_r0 c1_i32_r0 k0_t1
  let v751_r0 : Index := Scalar.indexCast arg25_r0
  ![v750_r0.toNat, v751_r0.toNat]
def k0_off186 (v752_r0 : BitVec 32) : Fin 3 → Nat :=
  let v753_r0 : Index := Scalar.indexCast v752_r0
  let c0_346_r0 : Index := 0#32
  let c0_347_r0 : Index := 0#32
  ![v753_r0.toNat, 0, 0]

def k0_chk88 (v752_r0 : BitVec 32) : Prop :=
  (∀ a, (k0_off186 v752_r0) a + S1x1x100.size a ≤ S50000x1x100.size a)
theorem k0_off186_inb : ∀ (v752_r0 : BitVec 32) (k0_hw88 : k0_chk88 v752_r0), ∀ a, (k0_off186 v752_r0) a + S1x1x100.size a ≤ S50000x1x100.size a := fun v752_r0 k0_hw88 => k0_hw88

def k0_off187 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v757_r0 : Index := Scalar.indexCast arg25_r0
  let c80_r0 : Index := 80#32
  let c0_348_r0 : Index := 0#32
  ![v757_r0.toNat, 80, 0]
def k0_off188 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_r0 : BitVec 32 := 88#32
  let v761_r0 : BitVec 32 := Scalar.addi v0 c88_i32_r0
  let c0_i32_349_r0 : BitVec 32 := 0#32
  let v762_r0 : BitVec 32 := Scalar.addi v761_r0 c0_i32_349_r0
  let v763_r0 : Index := Scalar.indexCast v762_r0
  let c0_i32_0_r0 : BitVec 32 := 0#32
  let c1_i32_r0 : BitVec 32 := 1#32
  let arg25_r0 : BitVec 32 := Scf.iv c0_i32_0_r0 c1_i32_r0 k0_t1
  let v764_r0 : Index := Scalar.indexCast arg25_r0
  ![v763_r0.toNat, v764_r0.toNat]
def k0_off189 (v765_r0 : BitVec 32) : Fin 3 → Nat :=
  let v766_r0 : Index := Scalar.indexCast v765_r0
  let c0_350_r0 : Index := 0#32
  let c0_351_r0 : Index := 0#32
  ![v766_r0.toNat, 0, 0]

def k0_chk89 (v765_r0 : BitVec 32) : Prop :=
  (∀ a, (k0_off189 v765_r0) a + S1x1x100.size a ≤ S50000x1x100.size a)
theorem k0_off189_inb : ∀ (v765_r0 : BitVec 32) (k0_hw89 : k0_chk89 v765_r0), ∀ a, (k0_off189 v765_r0) a + S1x1x100.size a ≤ S50000x1x100.size a := fun v765_r0 k0_hw89 => k0_hw89

def k0_off190 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_352_r0 : BitVec 32 := 88#32
  let v769_r0 : BitVec 32 := Scalar.addi v0 c88_i32_352_r0
  let c1_i32_353_r0 : BitVec 32 := 1#32
  let v770_r0 : BitVec 32 := Scalar.addi v769_r0 c1_i32_353_r0
  let v771_r0 : Index := Scalar.indexCast v770_r0
  let c0_i32_0_r0 : BitVec 32 := 0#32
  let c1_i32_r0 : BitVec 32 := 1#32
  let arg25_r0 : BitVec 32 := Scf.iv c0_i32_0_r0 c1_i32_r0 k0_t1
  let v772_r0 : Index := Scalar.indexCast arg25_r0
  ![v771_r0.toNat, v772_r0.toNat]
def k0_off191 (v773_r0 : BitVec 32) : Fin 3 → Nat :=
  let v774_r0 : Index := Scalar.indexCast v773_r0
  let c0_354_r0 : Index := 0#32
  let c0_355_r0 : Index := 0#32
  ![v774_r0.toNat, 0, 0]

def k0_chk90 (v773_r0 : BitVec 32) : Prop :=
  (∀ a, (k0_off191 v773_r0) a + S1x1x100.size a ≤ S50000x1x100.size a)
theorem k0_off191_inb : ∀ (v773_r0 : BitVec 32) (k0_hw90 : k0_chk90 v773_r0), ∀ a, (k0_off191 v773_r0) a + S1x1x100.size a ≤ S50000x1x100.size a := fun v773_r0 k0_hw90 => k0_hw90

def k0_off192 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_356_r0 : BitVec 32 := 88#32
  let v777_r0 : BitVec 32 := Scalar.addi v0 c88_i32_356_r0
  let c2_i32_357_r0 : BitVec 32 := 2#32
  let v778_r0 : BitVec 32 := Scalar.addi v777_r0 c2_i32_357_r0
  let v779_r0 : Index := Scalar.indexCast v778_r0
  let c0_i32_0_r0 : BitVec 32 := 0#32
  let c1_i32_r0 : BitVec 32 := 1#32
  let arg25_r0 : BitVec 32 := Scf.iv c0_i32_0_r0 c1_i32_r0 k0_t1
  let v780_r0 : Index := Scalar.indexCast arg25_r0
  ![v779_r0.toNat, v780_r0.toNat]
def k0_off193 (v781_r0 : BitVec 32) : Fin 3 → Nat :=
  let v782_r0 : Index := Scalar.indexCast v781_r0
  let c0_358_r0 : Index := 0#32
  let c0_359_r0 : Index := 0#32
  ![v782_r0.toNat, 0, 0]

def k0_chk91 (v781_r0 : BitVec 32) : Prop :=
  (∀ a, (k0_off193 v781_r0) a + S1x1x100.size a ≤ S50000x1x100.size a)
theorem k0_off193_inb : ∀ (v781_r0 : BitVec 32) (k0_hw91 : k0_chk91 v781_r0), ∀ a, (k0_off193 v781_r0) a + S1x1x100.size a ≤ S50000x1x100.size a := fun v781_r0 k0_hw91 => k0_hw91

def k0_off194 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_360_r0 : BitVec 32 := 88#32
  let v785_r0 : BitVec 32 := Scalar.addi v0 c88_i32_360_r0
  let c3_i32_361_r0 : BitVec 32 := 3#32
  let v786_r0 : BitVec 32 := Scalar.addi v785_r0 c3_i32_361_r0
  let v787_r0 : Index := Scalar.indexCast v786_r0
  let c0_i32_0_r0 : BitVec 32 := 0#32
  let c1_i32_r0 : BitVec 32 := 1#32
  let arg25_r0 : BitVec 32 := Scf.iv c0_i32_0_r0 c1_i32_r0 k0_t1
  let v788_r0 : Index := Scalar.indexCast arg25_r0
  ![v787_r0.toNat, v788_r0.toNat]
def k0_off195 (v789_r0 : BitVec 32) : Fin 3 → Nat :=
  let v790_r0 : Index := Scalar.indexCast v789_r0
  let c0_362_r0 : Index := 0#32
  let c0_363_r0 : Index := 0#32
  ![v790_r0.toNat, 0, 0]

def k0_chk92 (v789_r0 : BitVec 32) : Prop :=
  (∀ a, (k0_off195 v789_r0) a + S1x1x100.size a ≤ S50000x1x100.size a)
theorem k0_off195_inb : ∀ (v789_r0 : BitVec 32) (k0_hw92 : k0_chk92 v789_r0), ∀ a, (k0_off195 v789_r0) a + S1x1x100.size a ≤ S50000x1x100.size a := fun v789_r0 k0_hw92 => k0_hw92

def k0_off196 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_364_r0 : BitVec 32 := 88#32
  let v793_r0 : BitVec 32 := Scalar.addi v0 c88_i32_364_r0
  let c4_i32_365_r0 : BitVec 32 := 4#32
  let v794_r0 : BitVec 32 := Scalar.addi v793_r0 c4_i32_365_r0
  let v795_r0 : Index := Scalar.indexCast v794_r0
  let c0_i32_0_r0 : BitVec 32 := 0#32
  let c1_i32_r0 : BitVec 32 := 1#32
  let arg25_r0 : BitVec 32 := Scf.iv c0_i32_0_r0 c1_i32_r0 k0_t1
  let v796_r0 : Index := Scalar.indexCast arg25_r0
  ![v795_r0.toNat, v796_r0.toNat]
def k0_off197 (v797_r0 : BitVec 32) : Fin 3 → Nat :=
  let v798_r0 : Index := Scalar.indexCast v797_r0
  let c0_366_r0 : Index := 0#32
  let c0_367_r0 : Index := 0#32
  ![v798_r0.toNat, 0, 0]

def k0_chk93 (v797_r0 : BitVec 32) : Prop :=
  (∀ a, (k0_off197 v797_r0) a + S1x1x100.size a ≤ S50000x1x100.size a)
theorem k0_off197_inb : ∀ (v797_r0 : BitVec 32) (k0_hw93 : k0_chk93 v797_r0), ∀ a, (k0_off197 v797_r0) a + S1x1x100.size a ≤ S50000x1x100.size a := fun v797_r0 k0_hw93 => k0_hw93

def k0_off198 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_368_r0 : BitVec 32 := 88#32
  let v801_r0 : BitVec 32 := Scalar.addi v0 c88_i32_368_r0
  let c5_i32_369_r0 : BitVec 32 := 5#32
  let v802_r0 : BitVec 32 := Scalar.addi v801_r0 c5_i32_369_r0
  let v803_r0 : Index := Scalar.indexCast v802_r0
  let c0_i32_0_r0 : BitVec 32 := 0#32
  let c1_i32_r0 : BitVec 32 := 1#32
  let arg25_r0 : BitVec 32 := Scf.iv c0_i32_0_r0 c1_i32_r0 k0_t1
  let v804_r0 : Index := Scalar.indexCast arg25_r0
  ![v803_r0.toNat, v804_r0.toNat]
def k0_off199 (v805_r0 : BitVec 32) : Fin 3 → Nat :=
  let v806_r0 : Index := Scalar.indexCast v805_r0
  let c0_370_r0 : Index := 0#32
  let c0_371_r0 : Index := 0#32
  ![v806_r0.toNat, 0, 0]

def k0_chk94 (v805_r0 : BitVec 32) : Prop :=
  (∀ a, (k0_off199 v805_r0) a + S1x1x100.size a ≤ S50000x1x100.size a)
theorem k0_off199_inb : ∀ (v805_r0 : BitVec 32) (k0_hw94 : k0_chk94 v805_r0), ∀ a, (k0_off199 v805_r0) a + S1x1x100.size a ≤ S50000x1x100.size a := fun v805_r0 k0_hw94 => k0_hw94

def k0_off200 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_372_r0 : BitVec 32 := 88#32
  let v809_r0 : BitVec 32 := Scalar.addi v0 c88_i32_372_r0
  let c6_i32_373_r0 : BitVec 32 := 6#32
  let v810_r0 : BitVec 32 := Scalar.addi v809_r0 c6_i32_373_r0
  let v811_r0 : Index := Scalar.indexCast v810_r0
  let c0_i32_0_r0 : BitVec 32 := 0#32
  let c1_i32_r0 : BitVec 32 := 1#32
  let arg25_r0 : BitVec 32 := Scf.iv c0_i32_0_r0 c1_i32_r0 k0_t1
  let v812_r0 : Index := Scalar.indexCast arg25_r0
  ![v811_r0.toNat, v812_r0.toNat]
def k0_off201 (v813_r0 : BitVec 32) : Fin 3 → Nat :=
  let v814_r0 : Index := Scalar.indexCast v813_r0
  let c0_374_r0 : Index := 0#32
  let c0_375_r0 : Index := 0#32
  ![v814_r0.toNat, 0, 0]

def k0_chk95 (v813_r0 : BitVec 32) : Prop :=
  (∀ a, (k0_off201 v813_r0) a + S1x1x100.size a ≤ S50000x1x100.size a)
theorem k0_off201_inb : ∀ (v813_r0 : BitVec 32) (k0_hw95 : k0_chk95 v813_r0), ∀ a, (k0_off201 v813_r0) a + S1x1x100.size a ≤ S50000x1x100.size a := fun v813_r0 k0_hw95 => k0_hw95

def k0_off202 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c88_i32_376_r0 : BitVec 32 := 88#32
  let v817_r0 : BitVec 32 := Scalar.addi v0 c88_i32_376_r0
  let c7_i32_377_r0 : BitVec 32 := 7#32
  let v818_r0 : BitVec 32 := Scalar.addi v817_r0 c7_i32_377_r0
  let v819_r0 : Index := Scalar.indexCast v818_r0
  let c0_i32_0_r0 : BitVec 32 := 0#32
  let c1_i32_r0 : BitVec 32 := 1#32
  let arg25_r0 : BitVec 32 := Scf.iv c0_i32_0_r0 c1_i32_r0 k0_t1
  let v820_r0 : Index := Scalar.indexCast arg25_r0
  ![v819_r0.toNat, v820_r0.toNat]
def k0_off203 (v821_r0 : BitVec 32) : Fin 3 → Nat :=
  let v822_r0 : Index := Scalar.indexCast v821_r0
  let c0_378_r0 : Index := 0#32
  let c0_379_r0 : Index := 0#32
  ![v822_r0.toNat, 0, 0]

def k0_chk96 (v821_r0 : BitVec 32) : Prop :=
  (∀ a, (k0_off203 v821_r0) a + S1x1x100.size a ≤ S50000x1x100.size a)
theorem k0_off203_inb : ∀ (v821_r0 : BitVec 32) (k0_hw96 : k0_chk96 v821_r0), ∀ a, (k0_off203 v821_r0) a + S1x1x100.size a ≤ S50000x1x100.size a := fun v821_r0 k0_hw96 => k0_hw96

def k0_off204 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v826_r0 : Index := Scalar.indexCast arg25_r0
  let c88_r0 : Index := 88#32
  let c0_380_r0 : Index := 0#32
  ![v826_r0.toNat, 88, 0]
def k0_off205 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_r0 : BitVec 32 := 96#32
  let v830_r0 : BitVec 32 := Scalar.addi v0 c96_i32_r0
  let c0_i32_381_r0 : BitVec 32 := 0#32
  let v831_r0 : BitVec 32 := Scalar.addi v830_r0 c0_i32_381_r0
  let v832_r0 : Index := Scalar.indexCast v831_r0
  let c0_i32_0_r0 : BitVec 32 := 0#32
  let c1_i32_r0 : BitVec 32 := 1#32
  let arg25_r0 : BitVec 32 := Scf.iv c0_i32_0_r0 c1_i32_r0 k0_t1
  let v833_r0 : Index := Scalar.indexCast arg25_r0
  ![v832_r0.toNat, v833_r0.toNat]
def k0_off206 (v834_r0 : BitVec 32) : Fin 3 → Nat :=
  let v835_r0 : Index := Scalar.indexCast v834_r0
  let c0_382_r0 : Index := 0#32
  let c0_383_r0 : Index := 0#32
  ![v835_r0.toNat, 0, 0]

def k0_chk97 (v834_r0 : BitVec 32) : Prop :=
  (∀ a, (k0_off206 v834_r0) a + S1x1x100.size a ≤ S50000x1x100.size a)
theorem k0_off206_inb : ∀ (v834_r0 : BitVec 32) (k0_hw97 : k0_chk97 v834_r0), ∀ a, (k0_off206 v834_r0) a + S1x1x100.size a ≤ S50000x1x100.size a := fun v834_r0 k0_hw97 => k0_hw97

def k0_off207 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_384_r0 : BitVec 32 := 96#32
  let v838_r0 : BitVec 32 := Scalar.addi v0 c96_i32_384_r0
  let c1_i32_385_r0 : BitVec 32 := 1#32
  let v839_r0 : BitVec 32 := Scalar.addi v838_r0 c1_i32_385_r0
  let v840_r0 : Index := Scalar.indexCast v839_r0
  let c0_i32_0_r0 : BitVec 32 := 0#32
  let c1_i32_r0 : BitVec 32 := 1#32
  let arg25_r0 : BitVec 32 := Scf.iv c0_i32_0_r0 c1_i32_r0 k0_t1
  let v841_r0 : Index := Scalar.indexCast arg25_r0
  ![v840_r0.toNat, v841_r0.toNat]
def k0_off208 (v842_r0 : BitVec 32) : Fin 3 → Nat :=
  let v843_r0 : Index := Scalar.indexCast v842_r0
  let c0_386_r0 : Index := 0#32
  let c0_387_r0 : Index := 0#32
  ![v843_r0.toNat, 0, 0]

def k0_chk98 (v842_r0 : BitVec 32) : Prop :=
  (∀ a, (k0_off208 v842_r0) a + S1x1x100.size a ≤ S50000x1x100.size a)
theorem k0_off208_inb : ∀ (v842_r0 : BitVec 32) (k0_hw98 : k0_chk98 v842_r0), ∀ a, (k0_off208 v842_r0) a + S1x1x100.size a ≤ S50000x1x100.size a := fun v842_r0 k0_hw98 => k0_hw98

def k0_off209 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_388_r0 : BitVec 32 := 96#32
  let v846_r0 : BitVec 32 := Scalar.addi v0 c96_i32_388_r0
  let c2_i32_389_r0 : BitVec 32 := 2#32
  let v847_r0 : BitVec 32 := Scalar.addi v846_r0 c2_i32_389_r0
  let v848_r0 : Index := Scalar.indexCast v847_r0
  let c0_i32_0_r0 : BitVec 32 := 0#32
  let c1_i32_r0 : BitVec 32 := 1#32
  let arg25_r0 : BitVec 32 := Scf.iv c0_i32_0_r0 c1_i32_r0 k0_t1
  let v849_r0 : Index := Scalar.indexCast arg25_r0
  ![v848_r0.toNat, v849_r0.toNat]
def k0_off210 (v850_r0 : BitVec 32) : Fin 3 → Nat :=
  let v851_r0 : Index := Scalar.indexCast v850_r0
  let c0_390_r0 : Index := 0#32
  let c0_391_r0 : Index := 0#32
  ![v851_r0.toNat, 0, 0]

def k0_chk99 (v850_r0 : BitVec 32) : Prop :=
  (∀ a, (k0_off210 v850_r0) a + S1x1x100.size a ≤ S50000x1x100.size a)
theorem k0_off210_inb : ∀ (v850_r0 : BitVec 32) (k0_hw99 : k0_chk99 v850_r0), ∀ a, (k0_off210 v850_r0) a + S1x1x100.size a ≤ S50000x1x100.size a := fun v850_r0 k0_hw99 => k0_hw99

def k0_off211 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_392_r0 : BitVec 32 := 96#32
  let v854_r0 : BitVec 32 := Scalar.addi v0 c96_i32_392_r0
  let c3_i32_393_r0 : BitVec 32 := 3#32
  let v855_r0 : BitVec 32 := Scalar.addi v854_r0 c3_i32_393_r0
  let v856_r0 : Index := Scalar.indexCast v855_r0
  let c0_i32_0_r0 : BitVec 32 := 0#32
  let c1_i32_r0 : BitVec 32 := 1#32
  let arg25_r0 : BitVec 32 := Scf.iv c0_i32_0_r0 c1_i32_r0 k0_t1
  let v857_r0 : Index := Scalar.indexCast arg25_r0
  ![v856_r0.toNat, v857_r0.toNat]
def k0_off212 (v858_r0 : BitVec 32) : Fin 3 → Nat :=
  let v859_r0 : Index := Scalar.indexCast v858_r0
  let c0_394_r0 : Index := 0#32
  let c0_395_r0 : Index := 0#32
  ![v859_r0.toNat, 0, 0]

def k0_chk100 (v858_r0 : BitVec 32) : Prop :=
  (∀ a, (k0_off212 v858_r0) a + S1x1x100.size a ≤ S50000x1x100.size a)
theorem k0_off212_inb : ∀ (v858_r0 : BitVec 32) (k0_hw100 : k0_chk100 v858_r0), ∀ a, (k0_off212 v858_r0) a + S1x1x100.size a ≤ S50000x1x100.size a := fun v858_r0 k0_hw100 => k0_hw100

def k0_off213 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_396_r0 : BitVec 32 := 96#32
  let v862_r0 : BitVec 32 := Scalar.addi v0 c96_i32_396_r0
  let c4_i32_397_r0 : BitVec 32 := 4#32
  let v863_r0 : BitVec 32 := Scalar.addi v862_r0 c4_i32_397_r0
  let v864_r0 : Index := Scalar.indexCast v863_r0
  let c0_i32_0_r0 : BitVec 32 := 0#32
  let c1_i32_r0 : BitVec 32 := 1#32
  let arg25_r0 : BitVec 32 := Scf.iv c0_i32_0_r0 c1_i32_r0 k0_t1
  let v865_r0 : Index := Scalar.indexCast arg25_r0
  ![v864_r0.toNat, v865_r0.toNat]
def k0_off214 (v866_r0 : BitVec 32) : Fin 3 → Nat :=
  let v867_r0 : Index := Scalar.indexCast v866_r0
  let c0_398_r0 : Index := 0#32
  let c0_399_r0 : Index := 0#32
  ![v867_r0.toNat, 0, 0]

def k0_chk101 (v866_r0 : BitVec 32) : Prop :=
  (∀ a, (k0_off214 v866_r0) a + S1x1x100.size a ≤ S50000x1x100.size a)
theorem k0_off214_inb : ∀ (v866_r0 : BitVec 32) (k0_hw101 : k0_chk101 v866_r0), ∀ a, (k0_off214 v866_r0) a + S1x1x100.size a ≤ S50000x1x100.size a := fun v866_r0 k0_hw101 => k0_hw101

def k0_off215 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_400_r0 : BitVec 32 := 96#32
  let v870_r0 : BitVec 32 := Scalar.addi v0 c96_i32_400_r0
  let c5_i32_401_r0 : BitVec 32 := 5#32
  let v871_r0 : BitVec 32 := Scalar.addi v870_r0 c5_i32_401_r0
  let v872_r0 : Index := Scalar.indexCast v871_r0
  let c0_i32_0_r0 : BitVec 32 := 0#32
  let c1_i32_r0 : BitVec 32 := 1#32
  let arg25_r0 : BitVec 32 := Scf.iv c0_i32_0_r0 c1_i32_r0 k0_t1
  let v873_r0 : Index := Scalar.indexCast arg25_r0
  ![v872_r0.toNat, v873_r0.toNat]
def k0_off216 (v874_r0 : BitVec 32) : Fin 3 → Nat :=
  let v875_r0 : Index := Scalar.indexCast v874_r0
  let c0_402_r0 : Index := 0#32
  let c0_403_r0 : Index := 0#32
  ![v875_r0.toNat, 0, 0]

def k0_chk102 (v874_r0 : BitVec 32) : Prop :=
  (∀ a, (k0_off216 v874_r0) a + S1x1x100.size a ≤ S50000x1x100.size a)
theorem k0_off216_inb : ∀ (v874_r0 : BitVec 32) (k0_hw102 : k0_chk102 v874_r0), ∀ a, (k0_off216 v874_r0) a + S1x1x100.size a ≤ S50000x1x100.size a := fun v874_r0 k0_hw102 => k0_hw102

def k0_off217 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_404_r0 : BitVec 32 := 96#32
  let v878_r0 : BitVec 32 := Scalar.addi v0 c96_i32_404_r0
  let c6_i32_405_r0 : BitVec 32 := 6#32
  let v879_r0 : BitVec 32 := Scalar.addi v878_r0 c6_i32_405_r0
  let v880_r0 : Index := Scalar.indexCast v879_r0
  let c0_i32_0_r0 : BitVec 32 := 0#32
  let c1_i32_r0 : BitVec 32 := 1#32
  let arg25_r0 : BitVec 32 := Scf.iv c0_i32_0_r0 c1_i32_r0 k0_t1
  let v881_r0 : Index := Scalar.indexCast arg25_r0
  ![v880_r0.toNat, v881_r0.toNat]
def k0_off218 (v882_r0 : BitVec 32) : Fin 3 → Nat :=
  let v883_r0 : Index := Scalar.indexCast v882_r0
  let c0_406_r0 : Index := 0#32
  let c0_407_r0 : Index := 0#32
  ![v883_r0.toNat, 0, 0]

def k0_chk103 (v882_r0 : BitVec 32) : Prop :=
  (∀ a, (k0_off218 v882_r0) a + S1x1x100.size a ≤ S50000x1x100.size a)
theorem k0_off218_inb : ∀ (v882_r0 : BitVec 32) (k0_hw103 : k0_chk103 v882_r0), ∀ a, (k0_off218 v882_r0) a + S1x1x100.size a ≤ S50000x1x100.size a := fun v882_r0 k0_hw103 => k0_hw103

def k0_off219 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c96_i32_408_r0 : BitVec 32 := 96#32
  let v886_r0 : BitVec 32 := Scalar.addi v0 c96_i32_408_r0
  let c7_i32_409_r0 : BitVec 32 := 7#32
  let v887_r0 : BitVec 32 := Scalar.addi v886_r0 c7_i32_409_r0
  let v888_r0 : Index := Scalar.indexCast v887_r0
  let c0_i32_0_r0 : BitVec 32 := 0#32
  let c1_i32_r0 : BitVec 32 := 1#32
  let arg25_r0 : BitVec 32 := Scf.iv c0_i32_0_r0 c1_i32_r0 k0_t1
  let v889_r0 : Index := Scalar.indexCast arg25_r0
  ![v888_r0.toNat, v889_r0.toNat]
def k0_off220 (v890_r0 : BitVec 32) : Fin 3 → Nat :=
  let v891_r0 : Index := Scalar.indexCast v890_r0
  let c0_410_r0 : Index := 0#32
  let c0_411_r0 : Index := 0#32
  ![v891_r0.toNat, 0, 0]

def k0_chk104 (v890_r0 : BitVec 32) : Prop :=
  (∀ a, (k0_off220 v890_r0) a + S1x1x100.size a ≤ S50000x1x100.size a)
theorem k0_off220_inb : ∀ (v890_r0 : BitVec 32) (k0_hw104 : k0_chk104 v890_r0), ∀ a, (k0_off220 v890_r0) a + S1x1x100.size a ≤ S50000x1x100.size a := fun v890_r0 k0_hw104 => k0_hw104

def k0_off221 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v895_r0 : Index := Scalar.indexCast arg25_r0
  let c96_r0 : Index := 96#32
  let c0_412_r0 : Index := 0#32
  ![v895_r0.toNat, 96, 0]
def k0_off222 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_r0 : BitVec 32 := 104#32
  let v899_r0 : BitVec 32 := Scalar.addi v0 c104_i32_r0
  let c0_i32_413_r0 : BitVec 32 := 0#32
  let v900_r0 : BitVec 32 := Scalar.addi v899_r0 c0_i32_413_r0
  let v901_r0 : Index := Scalar.indexCast v900_r0
  let c0_i32_0_r0 : BitVec 32 := 0#32
  let c1_i32_r0 : BitVec 32 := 1#32
  let arg25_r0 : BitVec 32 := Scf.iv c0_i32_0_r0 c1_i32_r0 k0_t1
  let v902_r0 : Index := Scalar.indexCast arg25_r0
  ![v901_r0.toNat, v902_r0.toNat]
def k0_off223 (v903_r0 : BitVec 32) : Fin 3 → Nat :=
  let v904_r0 : Index := Scalar.indexCast v903_r0
  let c0_414_r0 : Index := 0#32
  let c0_415_r0 : Index := 0#32
  ![v904_r0.toNat, 0, 0]

def k0_chk105 (v903_r0 : BitVec 32) : Prop :=
  (∀ a, (k0_off223 v903_r0) a + S1x1x100.size a ≤ S50000x1x100.size a)
theorem k0_off223_inb : ∀ (v903_r0 : BitVec 32) (k0_hw105 : k0_chk105 v903_r0), ∀ a, (k0_off223 v903_r0) a + S1x1x100.size a ≤ S50000x1x100.size a := fun v903_r0 k0_hw105 => k0_hw105

def k0_off224 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_416_r0 : BitVec 32 := 104#32
  let v907_r0 : BitVec 32 := Scalar.addi v0 c104_i32_416_r0
  let c1_i32_417_r0 : BitVec 32 := 1#32
  let v908_r0 : BitVec 32 := Scalar.addi v907_r0 c1_i32_417_r0
  let v909_r0 : Index := Scalar.indexCast v908_r0
  let c0_i32_0_r0 : BitVec 32 := 0#32
  let c1_i32_r0 : BitVec 32 := 1#32
  let arg25_r0 : BitVec 32 := Scf.iv c0_i32_0_r0 c1_i32_r0 k0_t1
  let v910_r0 : Index := Scalar.indexCast arg25_r0
  ![v909_r0.toNat, v910_r0.toNat]
def k0_off225 (v911_r0 : BitVec 32) : Fin 3 → Nat :=
  let v912_r0 : Index := Scalar.indexCast v911_r0
  let c0_418_r0 : Index := 0#32
  let c0_419_r0 : Index := 0#32
  ![v912_r0.toNat, 0, 0]

def k0_chk106 (v911_r0 : BitVec 32) : Prop :=
  (∀ a, (k0_off225 v911_r0) a + S1x1x100.size a ≤ S50000x1x100.size a)
theorem k0_off225_inb : ∀ (v911_r0 : BitVec 32) (k0_hw106 : k0_chk106 v911_r0), ∀ a, (k0_off225 v911_r0) a + S1x1x100.size a ≤ S50000x1x100.size a := fun v911_r0 k0_hw106 => k0_hw106

def k0_off226 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_420_r0 : BitVec 32 := 104#32
  let v915_r0 : BitVec 32 := Scalar.addi v0 c104_i32_420_r0
  let c2_i32_421_r0 : BitVec 32 := 2#32
  let v916_r0 : BitVec 32 := Scalar.addi v915_r0 c2_i32_421_r0
  let v917_r0 : Index := Scalar.indexCast v916_r0
  let c0_i32_0_r0 : BitVec 32 := 0#32
  let c1_i32_r0 : BitVec 32 := 1#32
  let arg25_r0 : BitVec 32 := Scf.iv c0_i32_0_r0 c1_i32_r0 k0_t1
  let v918_r0 : Index := Scalar.indexCast arg25_r0
  ![v917_r0.toNat, v918_r0.toNat]
def k0_off227 (v919_r0 : BitVec 32) : Fin 3 → Nat :=
  let v920_r0 : Index := Scalar.indexCast v919_r0
  let c0_422_r0 : Index := 0#32
  let c0_423_r0 : Index := 0#32
  ![v920_r0.toNat, 0, 0]

def k0_chk107 (v919_r0 : BitVec 32) : Prop :=
  (∀ a, (k0_off227 v919_r0) a + S1x1x100.size a ≤ S50000x1x100.size a)
theorem k0_off227_inb : ∀ (v919_r0 : BitVec 32) (k0_hw107 : k0_chk107 v919_r0), ∀ a, (k0_off227 v919_r0) a + S1x1x100.size a ≤ S50000x1x100.size a := fun v919_r0 k0_hw107 => k0_hw107

def k0_off228 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_424_r0 : BitVec 32 := 104#32
  let v923_r0 : BitVec 32 := Scalar.addi v0 c104_i32_424_r0
  let c3_i32_425_r0 : BitVec 32 := 3#32
  let v924_r0 : BitVec 32 := Scalar.addi v923_r0 c3_i32_425_r0
  let v925_r0 : Index := Scalar.indexCast v924_r0
  let c0_i32_0_r0 : BitVec 32 := 0#32
  let c1_i32_r0 : BitVec 32 := 1#32
  let arg25_r0 : BitVec 32 := Scf.iv c0_i32_0_r0 c1_i32_r0 k0_t1
  let v926_r0 : Index := Scalar.indexCast arg25_r0
  ![v925_r0.toNat, v926_r0.toNat]
def k0_off229 (v927_r0 : BitVec 32) : Fin 3 → Nat :=
  let v928_r0 : Index := Scalar.indexCast v927_r0
  let c0_426_r0 : Index := 0#32
  let c0_427_r0 : Index := 0#32
  ![v928_r0.toNat, 0, 0]

def k0_chk108 (v927_r0 : BitVec 32) : Prop :=
  (∀ a, (k0_off229 v927_r0) a + S1x1x100.size a ≤ S50000x1x100.size a)
theorem k0_off229_inb : ∀ (v927_r0 : BitVec 32) (k0_hw108 : k0_chk108 v927_r0), ∀ a, (k0_off229 v927_r0) a + S1x1x100.size a ≤ S50000x1x100.size a := fun v927_r0 k0_hw108 => k0_hw108

def k0_off230 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_428_r0 : BitVec 32 := 104#32
  let v931_r0 : BitVec 32 := Scalar.addi v0 c104_i32_428_r0
  let c4_i32_429_r0 : BitVec 32 := 4#32
  let v932_r0 : BitVec 32 := Scalar.addi v931_r0 c4_i32_429_r0
  let v933_r0 : Index := Scalar.indexCast v932_r0
  let c0_i32_0_r0 : BitVec 32 := 0#32
  let c1_i32_r0 : BitVec 32 := 1#32
  let arg25_r0 : BitVec 32 := Scf.iv c0_i32_0_r0 c1_i32_r0 k0_t1
  let v934_r0 : Index := Scalar.indexCast arg25_r0
  ![v933_r0.toNat, v934_r0.toNat]
def k0_off231 (v935_r0 : BitVec 32) : Fin 3 → Nat :=
  let v936_r0 : Index := Scalar.indexCast v935_r0
  let c0_430_r0 : Index := 0#32
  let c0_431_r0 : Index := 0#32
  ![v936_r0.toNat, 0, 0]

def k0_chk109 (v935_r0 : BitVec 32) : Prop :=
  (∀ a, (k0_off231 v935_r0) a + S1x1x100.size a ≤ S50000x1x100.size a)
theorem k0_off231_inb : ∀ (v935_r0 : BitVec 32) (k0_hw109 : k0_chk109 v935_r0), ∀ a, (k0_off231 v935_r0) a + S1x1x100.size a ≤ S50000x1x100.size a := fun v935_r0 k0_hw109 => k0_hw109

def k0_off232 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_432_r0 : BitVec 32 := 104#32
  let v939_r0 : BitVec 32 := Scalar.addi v0 c104_i32_432_r0
  let c5_i32_433_r0 : BitVec 32 := 5#32
  let v940_r0 : BitVec 32 := Scalar.addi v939_r0 c5_i32_433_r0
  let v941_r0 : Index := Scalar.indexCast v940_r0
  let c0_i32_0_r0 : BitVec 32 := 0#32
  let c1_i32_r0 : BitVec 32 := 1#32
  let arg25_r0 : BitVec 32 := Scf.iv c0_i32_0_r0 c1_i32_r0 k0_t1
  let v942_r0 : Index := Scalar.indexCast arg25_r0
  ![v941_r0.toNat, v942_r0.toNat]
def k0_off233 (v943_r0 : BitVec 32) : Fin 3 → Nat :=
  let v944_r0 : Index := Scalar.indexCast v943_r0
  let c0_434_r0 : Index := 0#32
  let c0_435_r0 : Index := 0#32
  ![v944_r0.toNat, 0, 0]

def k0_chk110 (v943_r0 : BitVec 32) : Prop :=
  (∀ a, (k0_off233 v943_r0) a + S1x1x100.size a ≤ S50000x1x100.size a)
theorem k0_off233_inb : ∀ (v943_r0 : BitVec 32) (k0_hw110 : k0_chk110 v943_r0), ∀ a, (k0_off233 v943_r0) a + S1x1x100.size a ≤ S50000x1x100.size a := fun v943_r0 k0_hw110 => k0_hw110

def k0_off234 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_436_r0 : BitVec 32 := 104#32
  let v947_r0 : BitVec 32 := Scalar.addi v0 c104_i32_436_r0
  let c6_i32_437_r0 : BitVec 32 := 6#32
  let v948_r0 : BitVec 32 := Scalar.addi v947_r0 c6_i32_437_r0
  let v949_r0 : Index := Scalar.indexCast v948_r0
  let c0_i32_0_r0 : BitVec 32 := 0#32
  let c1_i32_r0 : BitVec 32 := 1#32
  let arg25_r0 : BitVec 32 := Scf.iv c0_i32_0_r0 c1_i32_r0 k0_t1
  let v950_r0 : Index := Scalar.indexCast arg25_r0
  ![v949_r0.toNat, v950_r0.toNat]
def k0_off235 (v951_r0 : BitVec 32) : Fin 3 → Nat :=
  let v952_r0 : Index := Scalar.indexCast v951_r0
  let c0_438_r0 : Index := 0#32
  let c0_439_r0 : Index := 0#32
  ![v952_r0.toNat, 0, 0]

def k0_chk111 (v951_r0 : BitVec 32) : Prop :=
  (∀ a, (k0_off235 v951_r0) a + S1x1x100.size a ≤ S50000x1x100.size a)
theorem k0_off235_inb : ∀ (v951_r0 : BitVec 32) (k0_hw111 : k0_chk111 v951_r0), ∀ a, (k0_off235 v951_r0) a + S1x1x100.size a ≤ S50000x1x100.size a := fun v951_r0 k0_hw111 => k0_hw111

def k0_off236 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c104_i32_440_r0 : BitVec 32 := 104#32
  let v955_r0 : BitVec 32 := Scalar.addi v0 c104_i32_440_r0
  let c7_i32_441_r0 : BitVec 32 := 7#32
  let v956_r0 : BitVec 32 := Scalar.addi v955_r0 c7_i32_441_r0
  let v957_r0 : Index := Scalar.indexCast v956_r0
  let c0_i32_0_r0 : BitVec 32 := 0#32
  let c1_i32_r0 : BitVec 32 := 1#32
  let arg25_r0 : BitVec 32 := Scf.iv c0_i32_0_r0 c1_i32_r0 k0_t1
  let v958_r0 : Index := Scalar.indexCast arg25_r0
  ![v957_r0.toNat, v958_r0.toNat]
def k0_off237 (v959_r0 : BitVec 32) : Fin 3 → Nat :=
  let v960_r0 : Index := Scalar.indexCast v959_r0
  let c0_442_r0 : Index := 0#32
  let c0_443_r0 : Index := 0#32
  ![v960_r0.toNat, 0, 0]

def k0_chk112 (v959_r0 : BitVec 32) : Prop :=
  (∀ a, (k0_off237 v959_r0) a + S1x1x100.size a ≤ S50000x1x100.size a)
theorem k0_off237_inb : ∀ (v959_r0 : BitVec 32) (k0_hw112 : k0_chk112 v959_r0), ∀ a, (k0_off237 v959_r0) a + S1x1x100.size a ≤ S50000x1x100.size a := fun v959_r0 k0_hw112 => k0_hw112

def k0_off238 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v964_r0 : Index := Scalar.indexCast arg25_r0
  let c104_r0 : Index := 104#32
  let c0_444_r0 : Index := 0#32
  ![v964_r0.toNat, 104, 0]
def k0_off239 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_r0 : BitVec 32 := 112#32
  let v968_r0 : BitVec 32 := Scalar.addi v0 c112_i32_r0
  let c0_i32_445_r0 : BitVec 32 := 0#32
  let v969_r0 : BitVec 32 := Scalar.addi v968_r0 c0_i32_445_r0
  let v970_r0 : Index := Scalar.indexCast v969_r0
  let c0_i32_0_r0 : BitVec 32 := 0#32
  let c1_i32_r0 : BitVec 32 := 1#32
  let arg25_r0 : BitVec 32 := Scf.iv c0_i32_0_r0 c1_i32_r0 k0_t1
  let v971_r0 : Index := Scalar.indexCast arg25_r0
  ![v970_r0.toNat, v971_r0.toNat]
def k0_off240 (v972_r0 : BitVec 32) : Fin 3 → Nat :=
  let v973_r0 : Index := Scalar.indexCast v972_r0
  let c0_446_r0 : Index := 0#32
  let c0_447_r0 : Index := 0#32
  ![v973_r0.toNat, 0, 0]

def k0_chk113 (v972_r0 : BitVec 32) : Prop :=
  (∀ a, (k0_off240 v972_r0) a + S1x1x100.size a ≤ S50000x1x100.size a)
theorem k0_off240_inb : ∀ (v972_r0 : BitVec 32) (k0_hw113 : k0_chk113 v972_r0), ∀ a, (k0_off240 v972_r0) a + S1x1x100.size a ≤ S50000x1x100.size a := fun v972_r0 k0_hw113 => k0_hw113

def k0_off241 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_448_r0 : BitVec 32 := 112#32
  let v976_r0 : BitVec 32 := Scalar.addi v0 c112_i32_448_r0
  let c1_i32_449_r0 : BitVec 32 := 1#32
  let v977_r0 : BitVec 32 := Scalar.addi v976_r0 c1_i32_449_r0
  let v978_r0 : Index := Scalar.indexCast v977_r0
  let c0_i32_0_r0 : BitVec 32 := 0#32
  let c1_i32_r0 : BitVec 32 := 1#32
  let arg25_r0 : BitVec 32 := Scf.iv c0_i32_0_r0 c1_i32_r0 k0_t1
  let v979_r0 : Index := Scalar.indexCast arg25_r0
  ![v978_r0.toNat, v979_r0.toNat]
def k0_off242 (v980_r0 : BitVec 32) : Fin 3 → Nat :=
  let v981_r0 : Index := Scalar.indexCast v980_r0
  let c0_450_r0 : Index := 0#32
  let c0_451_r0 : Index := 0#32
  ![v981_r0.toNat, 0, 0]

def k0_chk114 (v980_r0 : BitVec 32) : Prop :=
  (∀ a, (k0_off242 v980_r0) a + S1x1x100.size a ≤ S50000x1x100.size a)
theorem k0_off242_inb : ∀ (v980_r0 : BitVec 32) (k0_hw114 : k0_chk114 v980_r0), ∀ a, (k0_off242 v980_r0) a + S1x1x100.size a ≤ S50000x1x100.size a := fun v980_r0 k0_hw114 => k0_hw114

def k0_off243 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_452_r0 : BitVec 32 := 112#32
  let v984_r0 : BitVec 32 := Scalar.addi v0 c112_i32_452_r0
  let c2_i32_453_r0 : BitVec 32 := 2#32
  let v985_r0 : BitVec 32 := Scalar.addi v984_r0 c2_i32_453_r0
  let v986_r0 : Index := Scalar.indexCast v985_r0
  let c0_i32_0_r0 : BitVec 32 := 0#32
  let c1_i32_r0 : BitVec 32 := 1#32
  let arg25_r0 : BitVec 32 := Scf.iv c0_i32_0_r0 c1_i32_r0 k0_t1
  let v987_r0 : Index := Scalar.indexCast arg25_r0
  ![v986_r0.toNat, v987_r0.toNat]
def k0_off244 (v988_r0 : BitVec 32) : Fin 3 → Nat :=
  let v989_r0 : Index := Scalar.indexCast v988_r0
  let c0_454_r0 : Index := 0#32
  let c0_455_r0 : Index := 0#32
  ![v989_r0.toNat, 0, 0]

def k0_chk115 (v988_r0 : BitVec 32) : Prop :=
  (∀ a, (k0_off244 v988_r0) a + S1x1x100.size a ≤ S50000x1x100.size a)
theorem k0_off244_inb : ∀ (v988_r0 : BitVec 32) (k0_hw115 : k0_chk115 v988_r0), ∀ a, (k0_off244 v988_r0) a + S1x1x100.size a ≤ S50000x1x100.size a := fun v988_r0 k0_hw115 => k0_hw115

def k0_off245 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_456_r0 : BitVec 32 := 112#32
  let v992_r0 : BitVec 32 := Scalar.addi v0 c112_i32_456_r0
  let c3_i32_457_r0 : BitVec 32 := 3#32
  let v993_r0 : BitVec 32 := Scalar.addi v992_r0 c3_i32_457_r0
  let v994_r0 : Index := Scalar.indexCast v993_r0
  let c0_i32_0_r0 : BitVec 32 := 0#32
  let c1_i32_r0 : BitVec 32 := 1#32
  let arg25_r0 : BitVec 32 := Scf.iv c0_i32_0_r0 c1_i32_r0 k0_t1
  let v995_r0 : Index := Scalar.indexCast arg25_r0
  ![v994_r0.toNat, v995_r0.toNat]
def k0_off246 (v996_r0 : BitVec 32) : Fin 3 → Nat :=
  let v997_r0 : Index := Scalar.indexCast v996_r0
  let c0_458_r0 : Index := 0#32
  let c0_459_r0 : Index := 0#32
  ![v997_r0.toNat, 0, 0]

def k0_chk116 (v996_r0 : BitVec 32) : Prop :=
  (∀ a, (k0_off246 v996_r0) a + S1x1x100.size a ≤ S50000x1x100.size a)
theorem k0_off246_inb : ∀ (v996_r0 : BitVec 32) (k0_hw116 : k0_chk116 v996_r0), ∀ a, (k0_off246 v996_r0) a + S1x1x100.size a ≤ S50000x1x100.size a := fun v996_r0 k0_hw116 => k0_hw116

def k0_off247 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_460_r0 : BitVec 32 := 112#32
  let v1000_r0 : BitVec 32 := Scalar.addi v0 c112_i32_460_r0
  let c4_i32_461_r0 : BitVec 32 := 4#32
  let v1001_r0 : BitVec 32 := Scalar.addi v1000_r0 c4_i32_461_r0
  let v1002_r0 : Index := Scalar.indexCast v1001_r0
  let c0_i32_0_r0 : BitVec 32 := 0#32
  let c1_i32_r0 : BitVec 32 := 1#32
  let arg25_r0 : BitVec 32 := Scf.iv c0_i32_0_r0 c1_i32_r0 k0_t1
  let v1003_r0 : Index := Scalar.indexCast arg25_r0
  ![v1002_r0.toNat, v1003_r0.toNat]
def k0_off248 (v1004_r0 : BitVec 32) : Fin 3 → Nat :=
  let v1005_r0 : Index := Scalar.indexCast v1004_r0
  let c0_462_r0 : Index := 0#32
  let c0_463_r0 : Index := 0#32
  ![v1005_r0.toNat, 0, 0]

def k0_chk117 (v1004_r0 : BitVec 32) : Prop :=
  (∀ a, (k0_off248 v1004_r0) a + S1x1x100.size a ≤ S50000x1x100.size a)
theorem k0_off248_inb : ∀ (v1004_r0 : BitVec 32) (k0_hw117 : k0_chk117 v1004_r0), ∀ a, (k0_off248 v1004_r0) a + S1x1x100.size a ≤ S50000x1x100.size a := fun v1004_r0 k0_hw117 => k0_hw117

def k0_off249 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_464_r0 : BitVec 32 := 112#32
  let v1008_r0 : BitVec 32 := Scalar.addi v0 c112_i32_464_r0
  let c5_i32_465_r0 : BitVec 32 := 5#32
  let v1009_r0 : BitVec 32 := Scalar.addi v1008_r0 c5_i32_465_r0
  let v1010_r0 : Index := Scalar.indexCast v1009_r0
  let c0_i32_0_r0 : BitVec 32 := 0#32
  let c1_i32_r0 : BitVec 32 := 1#32
  let arg25_r0 : BitVec 32 := Scf.iv c0_i32_0_r0 c1_i32_r0 k0_t1
  let v1011_r0 : Index := Scalar.indexCast arg25_r0
  ![v1010_r0.toNat, v1011_r0.toNat]
def k0_off250 (v1012_r0 : BitVec 32) : Fin 3 → Nat :=
  let v1013_r0 : Index := Scalar.indexCast v1012_r0
  let c0_466_r0 : Index := 0#32
  let c0_467_r0 : Index := 0#32
  ![v1013_r0.toNat, 0, 0]

def k0_chk118 (v1012_r0 : BitVec 32) : Prop :=
  (∀ a, (k0_off250 v1012_r0) a + S1x1x100.size a ≤ S50000x1x100.size a)
theorem k0_off250_inb : ∀ (v1012_r0 : BitVec 32) (k0_hw118 : k0_chk118 v1012_r0), ∀ a, (k0_off250 v1012_r0) a + S1x1x100.size a ≤ S50000x1x100.size a := fun v1012_r0 k0_hw118 => k0_hw118

def k0_off251 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_468_r0 : BitVec 32 := 112#32
  let v1016_r0 : BitVec 32 := Scalar.addi v0 c112_i32_468_r0
  let c6_i32_469_r0 : BitVec 32 := 6#32
  let v1017_r0 : BitVec 32 := Scalar.addi v1016_r0 c6_i32_469_r0
  let v1018_r0 : Index := Scalar.indexCast v1017_r0
  let c0_i32_0_r0 : BitVec 32 := 0#32
  let c1_i32_r0 : BitVec 32 := 1#32
  let arg25_r0 : BitVec 32 := Scf.iv c0_i32_0_r0 c1_i32_r0 k0_t1
  let v1019_r0 : Index := Scalar.indexCast arg25_r0
  ![v1018_r0.toNat, v1019_r0.toNat]
def k0_off252 (v1020_r0 : BitVec 32) : Fin 3 → Nat :=
  let v1021_r0 : Index := Scalar.indexCast v1020_r0
  let c0_470_r0 : Index := 0#32
  let c0_471_r0 : Index := 0#32
  ![v1021_r0.toNat, 0, 0]

def k0_chk119 (v1020_r0 : BitVec 32) : Prop :=
  (∀ a, (k0_off252 v1020_r0) a + S1x1x100.size a ≤ S50000x1x100.size a)
theorem k0_off252_inb : ∀ (v1020_r0 : BitVec 32) (k0_hw119 : k0_chk119 v1020_r0), ∀ a, (k0_off252 v1020_r0) a + S1x1x100.size a ≤ S50000x1x100.size a := fun v1020_r0 k0_hw119 => k0_hw119

def k0_off253 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c112_i32_472_r0 : BitVec 32 := 112#32
  let v1024_r0 : BitVec 32 := Scalar.addi v0 c112_i32_472_r0
  let c7_i32_473_r0 : BitVec 32 := 7#32
  let v1025_r0 : BitVec 32 := Scalar.addi v1024_r0 c7_i32_473_r0
  let v1026_r0 : Index := Scalar.indexCast v1025_r0
  let c0_i32_0_r0 : BitVec 32 := 0#32
  let c1_i32_r0 : BitVec 32 := 1#32
  let arg25_r0 : BitVec 32 := Scf.iv c0_i32_0_r0 c1_i32_r0 k0_t1
  let v1027_r0 : Index := Scalar.indexCast arg25_r0
  ![v1026_r0.toNat, v1027_r0.toNat]
def k0_off254 (v1028_r0 : BitVec 32) : Fin 3 → Nat :=
  let v1029_r0 : Index := Scalar.indexCast v1028_r0
  let c0_474_r0 : Index := 0#32
  let c0_475_r0 : Index := 0#32
  ![v1029_r0.toNat, 0, 0]

def k0_chk120 (v1028_r0 : BitVec 32) : Prop :=
  (∀ a, (k0_off254 v1028_r0) a + S1x1x100.size a ≤ S50000x1x100.size a)
theorem k0_off254_inb : ∀ (v1028_r0 : BitVec 32) (k0_hw120 : k0_chk120 v1028_r0), ∀ a, (k0_off254 v1028_r0) a + S1x1x100.size a ≤ S50000x1x100.size a := fun v1028_r0 k0_hw120 => k0_hw120

def k0_off255 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1033_r0 : Index := Scalar.indexCast arg25_r0
  let c112_r0 : Index := 112#32
  let c0_476_r0 : Index := 0#32
  ![v1033_r0.toNat, 112, 0]
def k0_off256 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_r0 : BitVec 32 := 120#32
  let v1037_r0 : BitVec 32 := Scalar.addi v0 c120_i32_r0
  let c0_i32_477_r0 : BitVec 32 := 0#32
  let v1038_r0 : BitVec 32 := Scalar.addi v1037_r0 c0_i32_477_r0
  let v1039_r0 : Index := Scalar.indexCast v1038_r0
  let c0_i32_0_r0 : BitVec 32 := 0#32
  let c1_i32_r0 : BitVec 32 := 1#32
  let arg25_r0 : BitVec 32 := Scf.iv c0_i32_0_r0 c1_i32_r0 k0_t1
  let v1040_r0 : Index := Scalar.indexCast arg25_r0
  ![v1039_r0.toNat, v1040_r0.toNat]
def k0_off257 (v1041_r0 : BitVec 32) : Fin 3 → Nat :=
  let v1042_r0 : Index := Scalar.indexCast v1041_r0
  let c0_478_r0 : Index := 0#32
  let c0_479_r0 : Index := 0#32
  ![v1042_r0.toNat, 0, 0]

def k0_chk121 (v1041_r0 : BitVec 32) : Prop :=
  (∀ a, (k0_off257 v1041_r0) a + S1x1x100.size a ≤ S50000x1x100.size a)
theorem k0_off257_inb : ∀ (v1041_r0 : BitVec 32) (k0_hw121 : k0_chk121 v1041_r0), ∀ a, (k0_off257 v1041_r0) a + S1x1x100.size a ≤ S50000x1x100.size a := fun v1041_r0 k0_hw121 => k0_hw121

def k0_off258 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_480_r0 : BitVec 32 := 120#32
  let v1045_r0 : BitVec 32 := Scalar.addi v0 c120_i32_480_r0
  let c1_i32_481_r0 : BitVec 32 := 1#32
  let v1046_r0 : BitVec 32 := Scalar.addi v1045_r0 c1_i32_481_r0
  let v1047_r0 : Index := Scalar.indexCast v1046_r0
  let c0_i32_0_r0 : BitVec 32 := 0#32
  let c1_i32_r0 : BitVec 32 := 1#32
  let arg25_r0 : BitVec 32 := Scf.iv c0_i32_0_r0 c1_i32_r0 k0_t1
  let v1048_r0 : Index := Scalar.indexCast arg25_r0
  ![v1047_r0.toNat, v1048_r0.toNat]
def k0_off259 (v1049_r0 : BitVec 32) : Fin 3 → Nat :=
  let v1050_r0 : Index := Scalar.indexCast v1049_r0
  let c0_482_r0 : Index := 0#32
  let c0_483_r0 : Index := 0#32
  ![v1050_r0.toNat, 0, 0]

def k0_chk122 (v1049_r0 : BitVec 32) : Prop :=
  (∀ a, (k0_off259 v1049_r0) a + S1x1x100.size a ≤ S50000x1x100.size a)
theorem k0_off259_inb : ∀ (v1049_r0 : BitVec 32) (k0_hw122 : k0_chk122 v1049_r0), ∀ a, (k0_off259 v1049_r0) a + S1x1x100.size a ≤ S50000x1x100.size a := fun v1049_r0 k0_hw122 => k0_hw122

def k0_off260 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_484_r0 : BitVec 32 := 120#32
  let v1053_r0 : BitVec 32 := Scalar.addi v0 c120_i32_484_r0
  let c2_i32_485_r0 : BitVec 32 := 2#32
  let v1054_r0 : BitVec 32 := Scalar.addi v1053_r0 c2_i32_485_r0
  let v1055_r0 : Index := Scalar.indexCast v1054_r0
  let c0_i32_0_r0 : BitVec 32 := 0#32
  let c1_i32_r0 : BitVec 32 := 1#32
  let arg25_r0 : BitVec 32 := Scf.iv c0_i32_0_r0 c1_i32_r0 k0_t1
  let v1056_r0 : Index := Scalar.indexCast arg25_r0
  ![v1055_r0.toNat, v1056_r0.toNat]
def k0_off261 (v1057_r0 : BitVec 32) : Fin 3 → Nat :=
  let v1058_r0 : Index := Scalar.indexCast v1057_r0
  let c0_486_r0 : Index := 0#32
  let c0_487_r0 : Index := 0#32
  ![v1058_r0.toNat, 0, 0]

def k0_chk123 (v1057_r0 : BitVec 32) : Prop :=
  (∀ a, (k0_off261 v1057_r0) a + S1x1x100.size a ≤ S50000x1x100.size a)
theorem k0_off261_inb : ∀ (v1057_r0 : BitVec 32) (k0_hw123 : k0_chk123 v1057_r0), ∀ a, (k0_off261 v1057_r0) a + S1x1x100.size a ≤ S50000x1x100.size a := fun v1057_r0 k0_hw123 => k0_hw123

def k0_off262 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_488_r0 : BitVec 32 := 120#32
  let v1061_r0 : BitVec 32 := Scalar.addi v0 c120_i32_488_r0
  let c3_i32_489_r0 : BitVec 32 := 3#32
  let v1062_r0 : BitVec 32 := Scalar.addi v1061_r0 c3_i32_489_r0
  let v1063_r0 : Index := Scalar.indexCast v1062_r0
  let c0_i32_0_r0 : BitVec 32 := 0#32
  let c1_i32_r0 : BitVec 32 := 1#32
  let arg25_r0 : BitVec 32 := Scf.iv c0_i32_0_r0 c1_i32_r0 k0_t1
  let v1064_r0 : Index := Scalar.indexCast arg25_r0
  ![v1063_r0.toNat, v1064_r0.toNat]
def k0_off263 (v1065_r0 : BitVec 32) : Fin 3 → Nat :=
  let v1066_r0 : Index := Scalar.indexCast v1065_r0
  let c0_490_r0 : Index := 0#32
  let c0_491_r0 : Index := 0#32
  ![v1066_r0.toNat, 0, 0]

def k0_chk124 (v1065_r0 : BitVec 32) : Prop :=
  (∀ a, (k0_off263 v1065_r0) a + S1x1x100.size a ≤ S50000x1x100.size a)
theorem k0_off263_inb : ∀ (v1065_r0 : BitVec 32) (k0_hw124 : k0_chk124 v1065_r0), ∀ a, (k0_off263 v1065_r0) a + S1x1x100.size a ≤ S50000x1x100.size a := fun v1065_r0 k0_hw124 => k0_hw124

def k0_off264 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_492_r0 : BitVec 32 := 120#32
  let v1069_r0 : BitVec 32 := Scalar.addi v0 c120_i32_492_r0
  let c4_i32_493_r0 : BitVec 32 := 4#32
  let v1070_r0 : BitVec 32 := Scalar.addi v1069_r0 c4_i32_493_r0
  let v1071_r0 : Index := Scalar.indexCast v1070_r0
  let c0_i32_0_r0 : BitVec 32 := 0#32
  let c1_i32_r0 : BitVec 32 := 1#32
  let arg25_r0 : BitVec 32 := Scf.iv c0_i32_0_r0 c1_i32_r0 k0_t1
  let v1072_r0 : Index := Scalar.indexCast arg25_r0
  ![v1071_r0.toNat, v1072_r0.toNat]
def k0_off265 (v1073_r0 : BitVec 32) : Fin 3 → Nat :=
  let v1074_r0 : Index := Scalar.indexCast v1073_r0
  let c0_494_r0 : Index := 0#32
  let c0_495_r0 : Index := 0#32
  ![v1074_r0.toNat, 0, 0]

def k0_chk125 (v1073_r0 : BitVec 32) : Prop :=
  (∀ a, (k0_off265 v1073_r0) a + S1x1x100.size a ≤ S50000x1x100.size a)
theorem k0_off265_inb : ∀ (v1073_r0 : BitVec 32) (k0_hw125 : k0_chk125 v1073_r0), ∀ a, (k0_off265 v1073_r0) a + S1x1x100.size a ≤ S50000x1x100.size a := fun v1073_r0 k0_hw125 => k0_hw125

def k0_off266 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_496_r0 : BitVec 32 := 120#32
  let v1077_r0 : BitVec 32 := Scalar.addi v0 c120_i32_496_r0
  let c5_i32_497_r0 : BitVec 32 := 5#32
  let v1078_r0 : BitVec 32 := Scalar.addi v1077_r0 c5_i32_497_r0
  let v1079_r0 : Index := Scalar.indexCast v1078_r0
  let c0_i32_0_r0 : BitVec 32 := 0#32
  let c1_i32_r0 : BitVec 32 := 1#32
  let arg25_r0 : BitVec 32 := Scf.iv c0_i32_0_r0 c1_i32_r0 k0_t1
  let v1080_r0 : Index := Scalar.indexCast arg25_r0
  ![v1079_r0.toNat, v1080_r0.toNat]
def k0_off267 (v1081_r0 : BitVec 32) : Fin 3 → Nat :=
  let v1082_r0 : Index := Scalar.indexCast v1081_r0
  let c0_498_r0 : Index := 0#32
  let c0_499_r0 : Index := 0#32
  ![v1082_r0.toNat, 0, 0]

def k0_chk126 (v1081_r0 : BitVec 32) : Prop :=
  (∀ a, (k0_off267 v1081_r0) a + S1x1x100.size a ≤ S50000x1x100.size a)
theorem k0_off267_inb : ∀ (v1081_r0 : BitVec 32) (k0_hw126 : k0_chk126 v1081_r0), ∀ a, (k0_off267 v1081_r0) a + S1x1x100.size a ≤ S50000x1x100.size a := fun v1081_r0 k0_hw126 => k0_hw126

def k0_off268 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_500_r0 : BitVec 32 := 120#32
  let v1085_r0 : BitVec 32 := Scalar.addi v0 c120_i32_500_r0
  let c6_i32_501_r0 : BitVec 32 := 6#32
  let v1086_r0 : BitVec 32 := Scalar.addi v1085_r0 c6_i32_501_r0
  let v1087_r0 : Index := Scalar.indexCast v1086_r0
  let c0_i32_0_r0 : BitVec 32 := 0#32
  let c1_i32_r0 : BitVec 32 := 1#32
  let arg25_r0 : BitVec 32 := Scf.iv c0_i32_0_r0 c1_i32_r0 k0_t1
  let v1088_r0 : Index := Scalar.indexCast arg25_r0
  ![v1087_r0.toNat, v1088_r0.toNat]
def k0_off269 (v1089_r0 : BitVec 32) : Fin 3 → Nat :=
  let v1090_r0 : Index := Scalar.indexCast v1089_r0
  let c0_502_r0 : Index := 0#32
  let c0_503_r0 : Index := 0#32
  ![v1090_r0.toNat, 0, 0]

def k0_chk127 (v1089_r0 : BitVec 32) : Prop :=
  (∀ a, (k0_off269 v1089_r0) a + S1x1x100.size a ≤ S50000x1x100.size a)
theorem k0_off269_inb : ∀ (v1089_r0 : BitVec 32) (k0_hw127 : k0_chk127 v1089_r0), ∀ a, (k0_off269 v1089_r0) a + S1x1x100.size a ≤ S50000x1x100.size a := fun v1089_r0 k0_hw127 => k0_hw127

def k0_off270 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c120_i32_504_r0 : BitVec 32 := 120#32
  let v1093_r0 : BitVec 32 := Scalar.addi v0 c120_i32_504_r0
  let c7_i32_505_r0 : BitVec 32 := 7#32
  let v1094_r0 : BitVec 32 := Scalar.addi v1093_r0 c7_i32_505_r0
  let v1095_r0 : Index := Scalar.indexCast v1094_r0
  let c0_i32_0_r0 : BitVec 32 := 0#32
  let c1_i32_r0 : BitVec 32 := 1#32
  let arg25_r0 : BitVec 32 := Scf.iv c0_i32_0_r0 c1_i32_r0 k0_t1
  let v1096_r0 : Index := Scalar.indexCast arg25_r0
  ![v1095_r0.toNat, v1096_r0.toNat]
def k0_off271 (v1097_r0 : BitVec 32) : Fin 3 → Nat :=
  let v1098_r0 : Index := Scalar.indexCast v1097_r0
  let c0_506_r0 : Index := 0#32
  let c0_507_r0 : Index := 0#32
  ![v1098_r0.toNat, 0, 0]

def k0_chk128 (v1097_r0 : BitVec 32) : Prop :=
  (∀ a, (k0_off271 v1097_r0) a + S1x1x100.size a ≤ S50000x1x100.size a)
theorem k0_off271_inb : ∀ (v1097_r0 : BitVec 32) (k0_hw128 : k0_chk128 v1097_r0), ∀ a, (k0_off271 v1097_r0) a + S1x1x100.size a ≤ S50000x1x100.size a := fun v1097_r0 k0_hw128 => k0_hw128

def k0_off272 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1102_r0 : Index := Scalar.indexCast arg25_r0
  let c120_r0 : Index := 120#32
  let c0_508_r0 : Index := 0#32
  ![v1102_r0.toNat, 120, 0]
def k0_off273 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_509_r0 : BitVec 32 := 128#32
  let v1106_r0 : BitVec 32 := Scalar.addi v0 c128_i32_509_r0
  let c0_i32_510_r0 : BitVec 32 := 0#32
  let v1107_r0 : BitVec 32 := Scalar.addi v1106_r0 c0_i32_510_r0
  let v1108_r0 : Index := Scalar.indexCast v1107_r0
  let c0_i32_0_r0 : BitVec 32 := 0#32
  let c1_i32_r0 : BitVec 32 := 1#32
  let arg25_r0 : BitVec 32 := Scf.iv c0_i32_0_r0 c1_i32_r0 k0_t1
  let v1109_r0 : Index := Scalar.indexCast arg25_r0
  ![v1108_r0.toNat, v1109_r0.toNat]
def k0_off274 (v1110_r0 : BitVec 32) : Fin 3 → Nat :=
  let v1111_r0 : Index := Scalar.indexCast v1110_r0
  let c0_511_r0 : Index := 0#32
  let c0_512_r0 : Index := 0#32
  ![v1111_r0.toNat, 0, 0]

def k0_chk129 (v1110_r0 : BitVec 32) : Prop :=
  (∀ a, (k0_off274 v1110_r0) a + S1x1x100.size a ≤ S50000x1x100.size a)
theorem k0_off274_inb : ∀ (v1110_r0 : BitVec 32) (k0_hw129 : k0_chk129 v1110_r0), ∀ a, (k0_off274 v1110_r0) a + S1x1x100.size a ≤ S50000x1x100.size a := fun v1110_r0 k0_hw129 => k0_hw129

def k0_off275 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_513_r0 : BitVec 32 := 128#32
  let v1114_r0 : BitVec 32 := Scalar.addi v0 c128_i32_513_r0
  let c1_i32_514_r0 : BitVec 32 := 1#32
  let v1115_r0 : BitVec 32 := Scalar.addi v1114_r0 c1_i32_514_r0
  let v1116_r0 : Index := Scalar.indexCast v1115_r0
  let c0_i32_0_r0 : BitVec 32 := 0#32
  let c1_i32_r0 : BitVec 32 := 1#32
  let arg25_r0 : BitVec 32 := Scf.iv c0_i32_0_r0 c1_i32_r0 k0_t1
  let v1117_r0 : Index := Scalar.indexCast arg25_r0
  ![v1116_r0.toNat, v1117_r0.toNat]
def k0_off276 (v1118_r0 : BitVec 32) : Fin 3 → Nat :=
  let v1119_r0 : Index := Scalar.indexCast v1118_r0
  let c0_515_r0 : Index := 0#32
  let c0_516_r0 : Index := 0#32
  ![v1119_r0.toNat, 0, 0]

def k0_chk130 (v1118_r0 : BitVec 32) : Prop :=
  (∀ a, (k0_off276 v1118_r0) a + S1x1x100.size a ≤ S50000x1x100.size a)
theorem k0_off276_inb : ∀ (v1118_r0 : BitVec 32) (k0_hw130 : k0_chk130 v1118_r0), ∀ a, (k0_off276 v1118_r0) a + S1x1x100.size a ≤ S50000x1x100.size a := fun v1118_r0 k0_hw130 => k0_hw130

def k0_off277 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_517_r0 : BitVec 32 := 128#32
  let v1122_r0 : BitVec 32 := Scalar.addi v0 c128_i32_517_r0
  let c2_i32_518_r0 : BitVec 32 := 2#32
  let v1123_r0 : BitVec 32 := Scalar.addi v1122_r0 c2_i32_518_r0
  let v1124_r0 : Index := Scalar.indexCast v1123_r0
  let c0_i32_0_r0 : BitVec 32 := 0#32
  let c1_i32_r0 : BitVec 32 := 1#32
  let arg25_r0 : BitVec 32 := Scf.iv c0_i32_0_r0 c1_i32_r0 k0_t1
  let v1125_r0 : Index := Scalar.indexCast arg25_r0
  ![v1124_r0.toNat, v1125_r0.toNat]
def k0_off278 (v1126_r0 : BitVec 32) : Fin 3 → Nat :=
  let v1127_r0 : Index := Scalar.indexCast v1126_r0
  let c0_519_r0 : Index := 0#32
  let c0_520_r0 : Index := 0#32
  ![v1127_r0.toNat, 0, 0]

def k0_chk131 (v1126_r0 : BitVec 32) : Prop :=
  (∀ a, (k0_off278 v1126_r0) a + S1x1x100.size a ≤ S50000x1x100.size a)
theorem k0_off278_inb : ∀ (v1126_r0 : BitVec 32) (k0_hw131 : k0_chk131 v1126_r0), ∀ a, (k0_off278 v1126_r0) a + S1x1x100.size a ≤ S50000x1x100.size a := fun v1126_r0 k0_hw131 => k0_hw131

def k0_off279 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_521_r0 : BitVec 32 := 128#32
  let v1130_r0 : BitVec 32 := Scalar.addi v0 c128_i32_521_r0
  let c3_i32_522_r0 : BitVec 32 := 3#32
  let v1131_r0 : BitVec 32 := Scalar.addi v1130_r0 c3_i32_522_r0
  let v1132_r0 : Index := Scalar.indexCast v1131_r0
  let c0_i32_0_r0 : BitVec 32 := 0#32
  let c1_i32_r0 : BitVec 32 := 1#32
  let arg25_r0 : BitVec 32 := Scf.iv c0_i32_0_r0 c1_i32_r0 k0_t1
  let v1133_r0 : Index := Scalar.indexCast arg25_r0
  ![v1132_r0.toNat, v1133_r0.toNat]
def k0_off280 (v1134_r0 : BitVec 32) : Fin 3 → Nat :=
  let v1135_r0 : Index := Scalar.indexCast v1134_r0
  let c0_523_r0 : Index := 0#32
  let c0_524_r0 : Index := 0#32
  ![v1135_r0.toNat, 0, 0]

def k0_chk132 (v1134_r0 : BitVec 32) : Prop :=
  (∀ a, (k0_off280 v1134_r0) a + S1x1x100.size a ≤ S50000x1x100.size a)
theorem k0_off280_inb : ∀ (v1134_r0 : BitVec 32) (k0_hw132 : k0_chk132 v1134_r0), ∀ a, (k0_off280 v1134_r0) a + S1x1x100.size a ≤ S50000x1x100.size a := fun v1134_r0 k0_hw132 => k0_hw132

def k0_off281 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_525_r0 : BitVec 32 := 128#32
  let v1138_r0 : BitVec 32 := Scalar.addi v0 c128_i32_525_r0
  let c4_i32_526_r0 : BitVec 32 := 4#32
  let v1139_r0 : BitVec 32 := Scalar.addi v1138_r0 c4_i32_526_r0
  let v1140_r0 : Index := Scalar.indexCast v1139_r0
  let c0_i32_0_r0 : BitVec 32 := 0#32
  let c1_i32_r0 : BitVec 32 := 1#32
  let arg25_r0 : BitVec 32 := Scf.iv c0_i32_0_r0 c1_i32_r0 k0_t1
  let v1141_r0 : Index := Scalar.indexCast arg25_r0
  ![v1140_r0.toNat, v1141_r0.toNat]
def k0_off282 (v1142_r0 : BitVec 32) : Fin 3 → Nat :=
  let v1143_r0 : Index := Scalar.indexCast v1142_r0
  let c0_527_r0 : Index := 0#32
  let c0_528_r0 : Index := 0#32
  ![v1143_r0.toNat, 0, 0]

def k0_chk133 (v1142_r0 : BitVec 32) : Prop :=
  (∀ a, (k0_off282 v1142_r0) a + S1x1x100.size a ≤ S50000x1x100.size a)
theorem k0_off282_inb : ∀ (v1142_r0 : BitVec 32) (k0_hw133 : k0_chk133 v1142_r0), ∀ a, (k0_off282 v1142_r0) a + S1x1x100.size a ≤ S50000x1x100.size a := fun v1142_r0 k0_hw133 => k0_hw133

def k0_off283 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_529_r0 : BitVec 32 := 128#32
  let v1146_r0 : BitVec 32 := Scalar.addi v0 c128_i32_529_r0
  let c5_i32_530_r0 : BitVec 32 := 5#32
  let v1147_r0 : BitVec 32 := Scalar.addi v1146_r0 c5_i32_530_r0
  let v1148_r0 : Index := Scalar.indexCast v1147_r0
  let c0_i32_0_r0 : BitVec 32 := 0#32
  let c1_i32_r0 : BitVec 32 := 1#32
  let arg25_r0 : BitVec 32 := Scf.iv c0_i32_0_r0 c1_i32_r0 k0_t1
  let v1149_r0 : Index := Scalar.indexCast arg25_r0
  ![v1148_r0.toNat, v1149_r0.toNat]
def k0_off284 (v1150_r0 : BitVec 32) : Fin 3 → Nat :=
  let v1151_r0 : Index := Scalar.indexCast v1150_r0
  let c0_531_r0 : Index := 0#32
  let c0_532_r0 : Index := 0#32
  ![v1151_r0.toNat, 0, 0]

def k0_chk134 (v1150_r0 : BitVec 32) : Prop :=
  (∀ a, (k0_off284 v1150_r0) a + S1x1x100.size a ≤ S50000x1x100.size a)
theorem k0_off284_inb : ∀ (v1150_r0 : BitVec 32) (k0_hw134 : k0_chk134 v1150_r0), ∀ a, (k0_off284 v1150_r0) a + S1x1x100.size a ≤ S50000x1x100.size a := fun v1150_r0 k0_hw134 => k0_hw134

def k0_off285 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_533_r0 : BitVec 32 := 128#32
  let v1154_r0 : BitVec 32 := Scalar.addi v0 c128_i32_533_r0
  let c6_i32_534_r0 : BitVec 32 := 6#32
  let v1155_r0 : BitVec 32 := Scalar.addi v1154_r0 c6_i32_534_r0
  let v1156_r0 : Index := Scalar.indexCast v1155_r0
  let c0_i32_0_r0 : BitVec 32 := 0#32
  let c1_i32_r0 : BitVec 32 := 1#32
  let arg25_r0 : BitVec 32 := Scf.iv c0_i32_0_r0 c1_i32_r0 k0_t1
  let v1157_r0 : Index := Scalar.indexCast arg25_r0
  ![v1156_r0.toNat, v1157_r0.toNat]
def k0_off286 (v1158_r0 : BitVec 32) : Fin 3 → Nat :=
  let v1159_r0 : Index := Scalar.indexCast v1158_r0
  let c0_535_r0 : Index := 0#32
  let c0_536_r0 : Index := 0#32
  ![v1159_r0.toNat, 0, 0]

def k0_chk135 (v1158_r0 : BitVec 32) : Prop :=
  (∀ a, (k0_off286 v1158_r0) a + S1x1x100.size a ≤ S50000x1x100.size a)
theorem k0_off286_inb : ∀ (v1158_r0 : BitVec 32) (k0_hw135 : k0_chk135 v1158_r0), ∀ a, (k0_off286 v1158_r0) a + S1x1x100.size a ≤ S50000x1x100.size a := fun v1158_r0 k0_hw135 => k0_hw135

def k0_off287 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c128_i32_537_r0 : BitVec 32 := 128#32
  let v1162_r0 : BitVec 32 := Scalar.addi v0 c128_i32_537_r0
  let c7_i32_538_r0 : BitVec 32 := 7#32
  let v1163_r0 : BitVec 32 := Scalar.addi v1162_r0 c7_i32_538_r0
  let v1164_r0 : Index := Scalar.indexCast v1163_r0
  let c0_i32_0_r0 : BitVec 32 := 0#32
  let c1_i32_r0 : BitVec 32 := 1#32
  let arg25_r0 : BitVec 32 := Scf.iv c0_i32_0_r0 c1_i32_r0 k0_t1
  let v1165_r0 : Index := Scalar.indexCast arg25_r0
  ![v1164_r0.toNat, v1165_r0.toNat]
def k0_off288 (v1166_r0 : BitVec 32) : Fin 3 → Nat :=
  let v1167_r0 : Index := Scalar.indexCast v1166_r0
  let c0_539_r0 : Index := 0#32
  let c0_540_r0 : Index := 0#32
  ![v1167_r0.toNat, 0, 0]

def k0_chk136 (v1166_r0 : BitVec 32) : Prop :=
  (∀ a, (k0_off288 v1166_r0) a + S1x1x100.size a ≤ S50000x1x100.size a)
theorem k0_off288_inb : ∀ (v1166_r0 : BitVec 32) (k0_hw136 : k0_chk136 v1166_r0), ∀ a, (k0_off288 v1166_r0) a + S1x1x100.size a ≤ S50000x1x100.size a := fun v1166_r0 k0_hw136 => k0_hw136

def k0_off289 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1171_r0 : Index := Scalar.indexCast arg25_r0
  let c128_r0 : Index := 128#32
  let c0_541_r0 : Index := 0#32
  ![v1171_r0.toNat, 128, 0]
def k0_off290 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_r0 : BitVec 32 := 136#32
  let v1175_r0 : BitVec 32 := Scalar.addi v0 c136_i32_r0
  let c0_i32_542_r0 : BitVec 32 := 0#32
  let v1176_r0 : BitVec 32 := Scalar.addi v1175_r0 c0_i32_542_r0
  let v1177_r0 : Index := Scalar.indexCast v1176_r0
  let c0_i32_0_r0 : BitVec 32 := 0#32
  let c1_i32_r0 : BitVec 32 := 1#32
  let arg25_r0 : BitVec 32 := Scf.iv c0_i32_0_r0 c1_i32_r0 k0_t1
  let v1178_r0 : Index := Scalar.indexCast arg25_r0
  ![v1177_r0.toNat, v1178_r0.toNat]
def k0_off291 (v1179_r0 : BitVec 32) : Fin 3 → Nat :=
  let v1180_r0 : Index := Scalar.indexCast v1179_r0
  let c0_543_r0 : Index := 0#32
  let c0_544_r0 : Index := 0#32
  ![v1180_r0.toNat, 0, 0]

def k0_chk137 (v1179_r0 : BitVec 32) : Prop :=
  (∀ a, (k0_off291 v1179_r0) a + S1x1x100.size a ≤ S50000x1x100.size a)
theorem k0_off291_inb : ∀ (v1179_r0 : BitVec 32) (k0_hw137 : k0_chk137 v1179_r0), ∀ a, (k0_off291 v1179_r0) a + S1x1x100.size a ≤ S50000x1x100.size a := fun v1179_r0 k0_hw137 => k0_hw137

def k0_off292 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_545_r0 : BitVec 32 := 136#32
  let v1183_r0 : BitVec 32 := Scalar.addi v0 c136_i32_545_r0
  let c1_i32_546_r0 : BitVec 32 := 1#32
  let v1184_r0 : BitVec 32 := Scalar.addi v1183_r0 c1_i32_546_r0
  let v1185_r0 : Index := Scalar.indexCast v1184_r0
  let c0_i32_0_r0 : BitVec 32 := 0#32
  let c1_i32_r0 : BitVec 32 := 1#32
  let arg25_r0 : BitVec 32 := Scf.iv c0_i32_0_r0 c1_i32_r0 k0_t1
  let v1186_r0 : Index := Scalar.indexCast arg25_r0
  ![v1185_r0.toNat, v1186_r0.toNat]
def k0_off293 (v1187_r0 : BitVec 32) : Fin 3 → Nat :=
  let v1188_r0 : Index := Scalar.indexCast v1187_r0
  let c0_547_r0 : Index := 0#32
  let c0_548_r0 : Index := 0#32
  ![v1188_r0.toNat, 0, 0]

def k0_chk138 (v1187_r0 : BitVec 32) : Prop :=
  (∀ a, (k0_off293 v1187_r0) a + S1x1x100.size a ≤ S50000x1x100.size a)
theorem k0_off293_inb : ∀ (v1187_r0 : BitVec 32) (k0_hw138 : k0_chk138 v1187_r0), ∀ a, (k0_off293 v1187_r0) a + S1x1x100.size a ≤ S50000x1x100.size a := fun v1187_r0 k0_hw138 => k0_hw138

def k0_off294 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_549_r0 : BitVec 32 := 136#32
  let v1191_r0 : BitVec 32 := Scalar.addi v0 c136_i32_549_r0
  let c2_i32_550_r0 : BitVec 32 := 2#32
  let v1192_r0 : BitVec 32 := Scalar.addi v1191_r0 c2_i32_550_r0
  let v1193_r0 : Index := Scalar.indexCast v1192_r0
  let c0_i32_0_r0 : BitVec 32 := 0#32
  let c1_i32_r0 : BitVec 32 := 1#32
  let arg25_r0 : BitVec 32 := Scf.iv c0_i32_0_r0 c1_i32_r0 k0_t1
  let v1194_r0 : Index := Scalar.indexCast arg25_r0
  ![v1193_r0.toNat, v1194_r0.toNat]
def k0_off295 (v1195_r0 : BitVec 32) : Fin 3 → Nat :=
  let v1196_r0 : Index := Scalar.indexCast v1195_r0
  let c0_551_r0 : Index := 0#32
  let c0_552_r0 : Index := 0#32
  ![v1196_r0.toNat, 0, 0]

def k0_chk139 (v1195_r0 : BitVec 32) : Prop :=
  (∀ a, (k0_off295 v1195_r0) a + S1x1x100.size a ≤ S50000x1x100.size a)
theorem k0_off295_inb : ∀ (v1195_r0 : BitVec 32) (k0_hw139 : k0_chk139 v1195_r0), ∀ a, (k0_off295 v1195_r0) a + S1x1x100.size a ≤ S50000x1x100.size a := fun v1195_r0 k0_hw139 => k0_hw139

def k0_off296 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_553_r0 : BitVec 32 := 136#32
  let v1199_r0 : BitVec 32 := Scalar.addi v0 c136_i32_553_r0
  let c3_i32_554_r0 : BitVec 32 := 3#32
  let v1200_r0 : BitVec 32 := Scalar.addi v1199_r0 c3_i32_554_r0
  let v1201_r0 : Index := Scalar.indexCast v1200_r0
  let c0_i32_0_r0 : BitVec 32 := 0#32
  let c1_i32_r0 : BitVec 32 := 1#32
  let arg25_r0 : BitVec 32 := Scf.iv c0_i32_0_r0 c1_i32_r0 k0_t1
  let v1202_r0 : Index := Scalar.indexCast arg25_r0
  ![v1201_r0.toNat, v1202_r0.toNat]
def k0_off297 (v1203_r0 : BitVec 32) : Fin 3 → Nat :=
  let v1204_r0 : Index := Scalar.indexCast v1203_r0
  let c0_555_r0 : Index := 0#32
  let c0_556_r0 : Index := 0#32
  ![v1204_r0.toNat, 0, 0]

def k0_chk140 (v1203_r0 : BitVec 32) : Prop :=
  (∀ a, (k0_off297 v1203_r0) a + S1x1x100.size a ≤ S50000x1x100.size a)
theorem k0_off297_inb : ∀ (v1203_r0 : BitVec 32) (k0_hw140 : k0_chk140 v1203_r0), ∀ a, (k0_off297 v1203_r0) a + S1x1x100.size a ≤ S50000x1x100.size a := fun v1203_r0 k0_hw140 => k0_hw140

def k0_off298 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_557_r0 : BitVec 32 := 136#32
  let v1207_r0 : BitVec 32 := Scalar.addi v0 c136_i32_557_r0
  let c4_i32_558_r0 : BitVec 32 := 4#32
  let v1208_r0 : BitVec 32 := Scalar.addi v1207_r0 c4_i32_558_r0
  let v1209_r0 : Index := Scalar.indexCast v1208_r0
  let c0_i32_0_r0 : BitVec 32 := 0#32
  let c1_i32_r0 : BitVec 32 := 1#32
  let arg25_r0 : BitVec 32 := Scf.iv c0_i32_0_r0 c1_i32_r0 k0_t1
  let v1210_r0 : Index := Scalar.indexCast arg25_r0
  ![v1209_r0.toNat, v1210_r0.toNat]
def k0_off299 (v1211_r0 : BitVec 32) : Fin 3 → Nat :=
  let v1212_r0 : Index := Scalar.indexCast v1211_r0
  let c0_559_r0 : Index := 0#32
  let c0_560_r0 : Index := 0#32
  ![v1212_r0.toNat, 0, 0]

def k0_chk141 (v1211_r0 : BitVec 32) : Prop :=
  (∀ a, (k0_off299 v1211_r0) a + S1x1x100.size a ≤ S50000x1x100.size a)
theorem k0_off299_inb : ∀ (v1211_r0 : BitVec 32) (k0_hw141 : k0_chk141 v1211_r0), ∀ a, (k0_off299 v1211_r0) a + S1x1x100.size a ≤ S50000x1x100.size a := fun v1211_r0 k0_hw141 => k0_hw141

def k0_off300 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_561_r0 : BitVec 32 := 136#32
  let v1215_r0 : BitVec 32 := Scalar.addi v0 c136_i32_561_r0
  let c5_i32_562_r0 : BitVec 32 := 5#32
  let v1216_r0 : BitVec 32 := Scalar.addi v1215_r0 c5_i32_562_r0
  let v1217_r0 : Index := Scalar.indexCast v1216_r0
  let c0_i32_0_r0 : BitVec 32 := 0#32
  let c1_i32_r0 : BitVec 32 := 1#32
  let arg25_r0 : BitVec 32 := Scf.iv c0_i32_0_r0 c1_i32_r0 k0_t1
  let v1218_r0 : Index := Scalar.indexCast arg25_r0
  ![v1217_r0.toNat, v1218_r0.toNat]
def k0_off301 (v1219_r0 : BitVec 32) : Fin 3 → Nat :=
  let v1220_r0 : Index := Scalar.indexCast v1219_r0
  let c0_563_r0 : Index := 0#32
  let c0_564_r0 : Index := 0#32
  ![v1220_r0.toNat, 0, 0]

def k0_chk142 (v1219_r0 : BitVec 32) : Prop :=
  (∀ a, (k0_off301 v1219_r0) a + S1x1x100.size a ≤ S50000x1x100.size a)
theorem k0_off301_inb : ∀ (v1219_r0 : BitVec 32) (k0_hw142 : k0_chk142 v1219_r0), ∀ a, (k0_off301 v1219_r0) a + S1x1x100.size a ≤ S50000x1x100.size a := fun v1219_r0 k0_hw142 => k0_hw142

def k0_off302 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_565_r0 : BitVec 32 := 136#32
  let v1223_r0 : BitVec 32 := Scalar.addi v0 c136_i32_565_r0
  let c6_i32_566_r0 : BitVec 32 := 6#32
  let v1224_r0 : BitVec 32 := Scalar.addi v1223_r0 c6_i32_566_r0
  let v1225_r0 : Index := Scalar.indexCast v1224_r0
  let c0_i32_0_r0 : BitVec 32 := 0#32
  let c1_i32_r0 : BitVec 32 := 1#32
  let arg25_r0 : BitVec 32 := Scf.iv c0_i32_0_r0 c1_i32_r0 k0_t1
  let v1226_r0 : Index := Scalar.indexCast arg25_r0
  ![v1225_r0.toNat, v1226_r0.toNat]
def k0_off303 (v1227_r0 : BitVec 32) : Fin 3 → Nat :=
  let v1228_r0 : Index := Scalar.indexCast v1227_r0
  let c0_567_r0 : Index := 0#32
  let c0_568_r0 : Index := 0#32
  ![v1228_r0.toNat, 0, 0]

def k0_chk143 (v1227_r0 : BitVec 32) : Prop :=
  (∀ a, (k0_off303 v1227_r0) a + S1x1x100.size a ≤ S50000x1x100.size a)
theorem k0_off303_inb : ∀ (v1227_r0 : BitVec 32) (k0_hw143 : k0_chk143 v1227_r0), ∀ a, (k0_off303 v1227_r0) a + S1x1x100.size a ≤ S50000x1x100.size a := fun v1227_r0 k0_hw143 => k0_hw143

def k0_off304 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c136_i32_569_r0 : BitVec 32 := 136#32
  let v1231_r0 : BitVec 32 := Scalar.addi v0 c136_i32_569_r0
  let c7_i32_570_r0 : BitVec 32 := 7#32
  let v1232_r0 : BitVec 32 := Scalar.addi v1231_r0 c7_i32_570_r0
  let v1233_r0 : Index := Scalar.indexCast v1232_r0
  let c0_i32_0_r0 : BitVec 32 := 0#32
  let c1_i32_r0 : BitVec 32 := 1#32
  let arg25_r0 : BitVec 32 := Scf.iv c0_i32_0_r0 c1_i32_r0 k0_t1
  let v1234_r0 : Index := Scalar.indexCast arg25_r0
  ![v1233_r0.toNat, v1234_r0.toNat]
def k0_off305 (v1235_r0 : BitVec 32) : Fin 3 → Nat :=
  let v1236_r0 : Index := Scalar.indexCast v1235_r0
  let c0_571_r0 : Index := 0#32
  let c0_572_r0 : Index := 0#32
  ![v1236_r0.toNat, 0, 0]

def k0_chk144 (v1235_r0 : BitVec 32) : Prop :=
  (∀ a, (k0_off305 v1235_r0) a + S1x1x100.size a ≤ S50000x1x100.size a)
theorem k0_off305_inb : ∀ (v1235_r0 : BitVec 32) (k0_hw144 : k0_chk144 v1235_r0), ∀ a, (k0_off305 v1235_r0) a + S1x1x100.size a ≤ S50000x1x100.size a := fun v1235_r0 k0_hw144 => k0_hw144

def k0_off306 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1240_r0 : Index := Scalar.indexCast arg25_r0
  let c136_r0 : Index := 136#32
  let c0_573_r0 : Index := 0#32
  ![v1240_r0.toNat, 136, 0]
def k0_off307 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_r0 : BitVec 32 := 144#32
  let v1244_r0 : BitVec 32 := Scalar.addi v0 c144_i32_r0
  let c0_i32_574_r0 : BitVec 32 := 0#32
  let v1245_r0 : BitVec 32 := Scalar.addi v1244_r0 c0_i32_574_r0
  let v1246_r0 : Index := Scalar.indexCast v1245_r0
  let c0_i32_0_r0 : BitVec 32 := 0#32
  let c1_i32_r0 : BitVec 32 := 1#32
  let arg25_r0 : BitVec 32 := Scf.iv c0_i32_0_r0 c1_i32_r0 k0_t1
  let v1247_r0 : Index := Scalar.indexCast arg25_r0
  ![v1246_r0.toNat, v1247_r0.toNat]
def k0_off308 (v1248_r0 : BitVec 32) : Fin 3 → Nat :=
  let v1249_r0 : Index := Scalar.indexCast v1248_r0
  let c0_575_r0 : Index := 0#32
  let c0_576_r0 : Index := 0#32
  ![v1249_r0.toNat, 0, 0]

def k0_chk145 (v1248_r0 : BitVec 32) : Prop :=
  (∀ a, (k0_off308 v1248_r0) a + S1x1x100.size a ≤ S50000x1x100.size a)
theorem k0_off308_inb : ∀ (v1248_r0 : BitVec 32) (k0_hw145 : k0_chk145 v1248_r0), ∀ a, (k0_off308 v1248_r0) a + S1x1x100.size a ≤ S50000x1x100.size a := fun v1248_r0 k0_hw145 => k0_hw145

def k0_off309 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_577_r0 : BitVec 32 := 144#32
  let v1252_r0 : BitVec 32 := Scalar.addi v0 c144_i32_577_r0
  let c1_i32_578_r0 : BitVec 32 := 1#32
  let v1253_r0 : BitVec 32 := Scalar.addi v1252_r0 c1_i32_578_r0
  let v1254_r0 : Index := Scalar.indexCast v1253_r0
  let c0_i32_0_r0 : BitVec 32 := 0#32
  let c1_i32_r0 : BitVec 32 := 1#32
  let arg25_r0 : BitVec 32 := Scf.iv c0_i32_0_r0 c1_i32_r0 k0_t1
  let v1255_r0 : Index := Scalar.indexCast arg25_r0
  ![v1254_r0.toNat, v1255_r0.toNat]
def k0_off310 (v1256_r0 : BitVec 32) : Fin 3 → Nat :=
  let v1257_r0 : Index := Scalar.indexCast v1256_r0
  let c0_579_r0 : Index := 0#32
  let c0_580_r0 : Index := 0#32
  ![v1257_r0.toNat, 0, 0]

def k0_chk146 (v1256_r0 : BitVec 32) : Prop :=
  (∀ a, (k0_off310 v1256_r0) a + S1x1x100.size a ≤ S50000x1x100.size a)
theorem k0_off310_inb : ∀ (v1256_r0 : BitVec 32) (k0_hw146 : k0_chk146 v1256_r0), ∀ a, (k0_off310 v1256_r0) a + S1x1x100.size a ≤ S50000x1x100.size a := fun v1256_r0 k0_hw146 => k0_hw146

def k0_off311 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_581_r0 : BitVec 32 := 144#32
  let v1260_r0 : BitVec 32 := Scalar.addi v0 c144_i32_581_r0
  let c2_i32_582_r0 : BitVec 32 := 2#32
  let v1261_r0 : BitVec 32 := Scalar.addi v1260_r0 c2_i32_582_r0
  let v1262_r0 : Index := Scalar.indexCast v1261_r0
  let c0_i32_0_r0 : BitVec 32 := 0#32
  let c1_i32_r0 : BitVec 32 := 1#32
  let arg25_r0 : BitVec 32 := Scf.iv c0_i32_0_r0 c1_i32_r0 k0_t1
  let v1263_r0 : Index := Scalar.indexCast arg25_r0
  ![v1262_r0.toNat, v1263_r0.toNat]
def k0_off312 (v1264_r0 : BitVec 32) : Fin 3 → Nat :=
  let v1265_r0 : Index := Scalar.indexCast v1264_r0
  let c0_583_r0 : Index := 0#32
  let c0_584_r0 : Index := 0#32
  ![v1265_r0.toNat, 0, 0]

def k0_chk147 (v1264_r0 : BitVec 32) : Prop :=
  (∀ a, (k0_off312 v1264_r0) a + S1x1x100.size a ≤ S50000x1x100.size a)
theorem k0_off312_inb : ∀ (v1264_r0 : BitVec 32) (k0_hw147 : k0_chk147 v1264_r0), ∀ a, (k0_off312 v1264_r0) a + S1x1x100.size a ≤ S50000x1x100.size a := fun v1264_r0 k0_hw147 => k0_hw147

def k0_off313 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_585_r0 : BitVec 32 := 144#32
  let v1268_r0 : BitVec 32 := Scalar.addi v0 c144_i32_585_r0
  let c3_i32_586_r0 : BitVec 32 := 3#32
  let v1269_r0 : BitVec 32 := Scalar.addi v1268_r0 c3_i32_586_r0
  let v1270_r0 : Index := Scalar.indexCast v1269_r0
  let c0_i32_0_r0 : BitVec 32 := 0#32
  let c1_i32_r0 : BitVec 32 := 1#32
  let arg25_r0 : BitVec 32 := Scf.iv c0_i32_0_r0 c1_i32_r0 k0_t1
  let v1271_r0 : Index := Scalar.indexCast arg25_r0
  ![v1270_r0.toNat, v1271_r0.toNat]
def k0_off314 (v1272_r0 : BitVec 32) : Fin 3 → Nat :=
  let v1273_r0 : Index := Scalar.indexCast v1272_r0
  let c0_587_r0 : Index := 0#32
  let c0_588_r0 : Index := 0#32
  ![v1273_r0.toNat, 0, 0]

def k0_chk148 (v1272_r0 : BitVec 32) : Prop :=
  (∀ a, (k0_off314 v1272_r0) a + S1x1x100.size a ≤ S50000x1x100.size a)
theorem k0_off314_inb : ∀ (v1272_r0 : BitVec 32) (k0_hw148 : k0_chk148 v1272_r0), ∀ a, (k0_off314 v1272_r0) a + S1x1x100.size a ≤ S50000x1x100.size a := fun v1272_r0 k0_hw148 => k0_hw148

def k0_off315 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_589_r0 : BitVec 32 := 144#32
  let v1276_r0 : BitVec 32 := Scalar.addi v0 c144_i32_589_r0
  let c4_i32_590_r0 : BitVec 32 := 4#32
  let v1277_r0 : BitVec 32 := Scalar.addi v1276_r0 c4_i32_590_r0
  let v1278_r0 : Index := Scalar.indexCast v1277_r0
  let c0_i32_0_r0 : BitVec 32 := 0#32
  let c1_i32_r0 : BitVec 32 := 1#32
  let arg25_r0 : BitVec 32 := Scf.iv c0_i32_0_r0 c1_i32_r0 k0_t1
  let v1279_r0 : Index := Scalar.indexCast arg25_r0
  ![v1278_r0.toNat, v1279_r0.toNat]
def k0_off316 (v1280_r0 : BitVec 32) : Fin 3 → Nat :=
  let v1281_r0 : Index := Scalar.indexCast v1280_r0
  let c0_591_r0 : Index := 0#32
  let c0_592_r0 : Index := 0#32
  ![v1281_r0.toNat, 0, 0]

def k0_chk149 (v1280_r0 : BitVec 32) : Prop :=
  (∀ a, (k0_off316 v1280_r0) a + S1x1x100.size a ≤ S50000x1x100.size a)
theorem k0_off316_inb : ∀ (v1280_r0 : BitVec 32) (k0_hw149 : k0_chk149 v1280_r0), ∀ a, (k0_off316 v1280_r0) a + S1x1x100.size a ≤ S50000x1x100.size a := fun v1280_r0 k0_hw149 => k0_hw149

def k0_off317 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_593_r0 : BitVec 32 := 144#32
  let v1284_r0 : BitVec 32 := Scalar.addi v0 c144_i32_593_r0
  let c5_i32_594_r0 : BitVec 32 := 5#32
  let v1285_r0 : BitVec 32 := Scalar.addi v1284_r0 c5_i32_594_r0
  let v1286_r0 : Index := Scalar.indexCast v1285_r0
  let c0_i32_0_r0 : BitVec 32 := 0#32
  let c1_i32_r0 : BitVec 32 := 1#32
  let arg25_r0 : BitVec 32 := Scf.iv c0_i32_0_r0 c1_i32_r0 k0_t1
  let v1287_r0 : Index := Scalar.indexCast arg25_r0
  ![v1286_r0.toNat, v1287_r0.toNat]
def k0_off318 (v1288_r0 : BitVec 32) : Fin 3 → Nat :=
  let v1289_r0 : Index := Scalar.indexCast v1288_r0
  let c0_595_r0 : Index := 0#32
  let c0_596_r0 : Index := 0#32
  ![v1289_r0.toNat, 0, 0]

def k0_chk150 (v1288_r0 : BitVec 32) : Prop :=
  (∀ a, (k0_off318 v1288_r0) a + S1x1x100.size a ≤ S50000x1x100.size a)
theorem k0_off318_inb : ∀ (v1288_r0 : BitVec 32) (k0_hw150 : k0_chk150 v1288_r0), ∀ a, (k0_off318 v1288_r0) a + S1x1x100.size a ≤ S50000x1x100.size a := fun v1288_r0 k0_hw150 => k0_hw150

def k0_off319 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_597_r0 : BitVec 32 := 144#32
  let v1292_r0 : BitVec 32 := Scalar.addi v0 c144_i32_597_r0
  let c6_i32_598_r0 : BitVec 32 := 6#32
  let v1293_r0 : BitVec 32 := Scalar.addi v1292_r0 c6_i32_598_r0
  let v1294_r0 : Index := Scalar.indexCast v1293_r0
  let c0_i32_0_r0 : BitVec 32 := 0#32
  let c1_i32_r0 : BitVec 32 := 1#32
  let arg25_r0 : BitVec 32 := Scf.iv c0_i32_0_r0 c1_i32_r0 k0_t1
  let v1295_r0 : Index := Scalar.indexCast arg25_r0
  ![v1294_r0.toNat, v1295_r0.toNat]
def k0_off320 (v1296_r0 : BitVec 32) : Fin 3 → Nat :=
  let v1297_r0 : Index := Scalar.indexCast v1296_r0
  let c0_599_r0 : Index := 0#32
  let c0_600_r0 : Index := 0#32
  ![v1297_r0.toNat, 0, 0]

def k0_chk151 (v1296_r0 : BitVec 32) : Prop :=
  (∀ a, (k0_off320 v1296_r0) a + S1x1x100.size a ≤ S50000x1x100.size a)
theorem k0_off320_inb : ∀ (v1296_r0 : BitVec 32) (k0_hw151 : k0_chk151 v1296_r0), ∀ a, (k0_off320 v1296_r0) a + S1x1x100.size a ≤ S50000x1x100.size a := fun v1296_r0 k0_hw151 => k0_hw151

def k0_off321 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c144_i32_601_r0 : BitVec 32 := 144#32
  let v1300_r0 : BitVec 32 := Scalar.addi v0 c144_i32_601_r0
  let c7_i32_602_r0 : BitVec 32 := 7#32
  let v1301_r0 : BitVec 32 := Scalar.addi v1300_r0 c7_i32_602_r0
  let v1302_r0 : Index := Scalar.indexCast v1301_r0
  let c0_i32_0_r0 : BitVec 32 := 0#32
  let c1_i32_r0 : BitVec 32 := 1#32
  let arg25_r0 : BitVec 32 := Scf.iv c0_i32_0_r0 c1_i32_r0 k0_t1
  let v1303_r0 : Index := Scalar.indexCast arg25_r0
  ![v1302_r0.toNat, v1303_r0.toNat]
def k0_off322 (v1304_r0 : BitVec 32) : Fin 3 → Nat :=
  let v1305_r0 : Index := Scalar.indexCast v1304_r0
  let c0_603_r0 : Index := 0#32
  let c0_604_r0 : Index := 0#32
  ![v1305_r0.toNat, 0, 0]

def k0_chk152 (v1304_r0 : BitVec 32) : Prop :=
  (∀ a, (k0_off322 v1304_r0) a + S1x1x100.size a ≤ S50000x1x100.size a)
theorem k0_off322_inb : ∀ (v1304_r0 : BitVec 32) (k0_hw152 : k0_chk152 v1304_r0), ∀ a, (k0_off322 v1304_r0) a + S1x1x100.size a ≤ S50000x1x100.size a := fun v1304_r0 k0_hw152 => k0_hw152

def k0_off323 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1309_r0 : Index := Scalar.indexCast arg25_r0
  let c144_r0 : Index := 144#32
  let c0_605_r0 : Index := 0#32
  ![v1309_r0.toNat, 144, 0]
def k0_off324 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_r0 : BitVec 32 := 152#32
  let v1313_r0 : BitVec 32 := Scalar.addi v0 c152_i32_r0
  let c0_i32_606_r0 : BitVec 32 := 0#32
  let v1314_r0 : BitVec 32 := Scalar.addi v1313_r0 c0_i32_606_r0
  let v1315_r0 : Index := Scalar.indexCast v1314_r0
  let c0_i32_0_r0 : BitVec 32 := 0#32
  let c1_i32_r0 : BitVec 32 := 1#32
  let arg25_r0 : BitVec 32 := Scf.iv c0_i32_0_r0 c1_i32_r0 k0_t1
  let v1316_r0 : Index := Scalar.indexCast arg25_r0
  ![v1315_r0.toNat, v1316_r0.toNat]
def k0_off325 (v1317_r0 : BitVec 32) : Fin 3 → Nat :=
  let v1318_r0 : Index := Scalar.indexCast v1317_r0
  let c0_607_r0 : Index := 0#32
  let c0_608_r0 : Index := 0#32
  ![v1318_r0.toNat, 0, 0]

def k0_chk153 (v1317_r0 : BitVec 32) : Prop :=
  (∀ a, (k0_off325 v1317_r0) a + S1x1x100.size a ≤ S50000x1x100.size a)
theorem k0_off325_inb : ∀ (v1317_r0 : BitVec 32) (k0_hw153 : k0_chk153 v1317_r0), ∀ a, (k0_off325 v1317_r0) a + S1x1x100.size a ≤ S50000x1x100.size a := fun v1317_r0 k0_hw153 => k0_hw153

def k0_off326 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_609_r0 : BitVec 32 := 152#32
  let v1321_r0 : BitVec 32 := Scalar.addi v0 c152_i32_609_r0
  let c1_i32_610_r0 : BitVec 32 := 1#32
  let v1322_r0 : BitVec 32 := Scalar.addi v1321_r0 c1_i32_610_r0
  let v1323_r0 : Index := Scalar.indexCast v1322_r0
  let c0_i32_0_r0 : BitVec 32 := 0#32
  let c1_i32_r0 : BitVec 32 := 1#32
  let arg25_r0 : BitVec 32 := Scf.iv c0_i32_0_r0 c1_i32_r0 k0_t1
  let v1324_r0 : Index := Scalar.indexCast arg25_r0
  ![v1323_r0.toNat, v1324_r0.toNat]
def k0_off327 (v1325_r0 : BitVec 32) : Fin 3 → Nat :=
  let v1326_r0 : Index := Scalar.indexCast v1325_r0
  let c0_611_r0 : Index := 0#32
  let c0_612_r0 : Index := 0#32
  ![v1326_r0.toNat, 0, 0]

def k0_chk154 (v1325_r0 : BitVec 32) : Prop :=
  (∀ a, (k0_off327 v1325_r0) a + S1x1x100.size a ≤ S50000x1x100.size a)
theorem k0_off327_inb : ∀ (v1325_r0 : BitVec 32) (k0_hw154 : k0_chk154 v1325_r0), ∀ a, (k0_off327 v1325_r0) a + S1x1x100.size a ≤ S50000x1x100.size a := fun v1325_r0 k0_hw154 => k0_hw154

def k0_off328 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_613_r0 : BitVec 32 := 152#32
  let v1329_r0 : BitVec 32 := Scalar.addi v0 c152_i32_613_r0
  let c2_i32_614_r0 : BitVec 32 := 2#32
  let v1330_r0 : BitVec 32 := Scalar.addi v1329_r0 c2_i32_614_r0
  let v1331_r0 : Index := Scalar.indexCast v1330_r0
  let c0_i32_0_r0 : BitVec 32 := 0#32
  let c1_i32_r0 : BitVec 32 := 1#32
  let arg25_r0 : BitVec 32 := Scf.iv c0_i32_0_r0 c1_i32_r0 k0_t1
  let v1332_r0 : Index := Scalar.indexCast arg25_r0
  ![v1331_r0.toNat, v1332_r0.toNat]
def k0_off329 (v1333_r0 : BitVec 32) : Fin 3 → Nat :=
  let v1334_r0 : Index := Scalar.indexCast v1333_r0
  let c0_615_r0 : Index := 0#32
  let c0_616_r0 : Index := 0#32
  ![v1334_r0.toNat, 0, 0]

def k0_chk155 (v1333_r0 : BitVec 32) : Prop :=
  (∀ a, (k0_off329 v1333_r0) a + S1x1x100.size a ≤ S50000x1x100.size a)
theorem k0_off329_inb : ∀ (v1333_r0 : BitVec 32) (k0_hw155 : k0_chk155 v1333_r0), ∀ a, (k0_off329 v1333_r0) a + S1x1x100.size a ≤ S50000x1x100.size a := fun v1333_r0 k0_hw155 => k0_hw155

def k0_off330 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_617_r0 : BitVec 32 := 152#32
  let v1337_r0 : BitVec 32 := Scalar.addi v0 c152_i32_617_r0
  let c3_i32_618_r0 : BitVec 32 := 3#32
  let v1338_r0 : BitVec 32 := Scalar.addi v1337_r0 c3_i32_618_r0
  let v1339_r0 : Index := Scalar.indexCast v1338_r0
  let c0_i32_0_r0 : BitVec 32 := 0#32
  let c1_i32_r0 : BitVec 32 := 1#32
  let arg25_r0 : BitVec 32 := Scf.iv c0_i32_0_r0 c1_i32_r0 k0_t1
  let v1340_r0 : Index := Scalar.indexCast arg25_r0
  ![v1339_r0.toNat, v1340_r0.toNat]
def k0_off331 (v1341_r0 : BitVec 32) : Fin 3 → Nat :=
  let v1342_r0 : Index := Scalar.indexCast v1341_r0
  let c0_619_r0 : Index := 0#32
  let c0_620_r0 : Index := 0#32
  ![v1342_r0.toNat, 0, 0]

def k0_chk156 (v1341_r0 : BitVec 32) : Prop :=
  (∀ a, (k0_off331 v1341_r0) a + S1x1x100.size a ≤ S50000x1x100.size a)
theorem k0_off331_inb : ∀ (v1341_r0 : BitVec 32) (k0_hw156 : k0_chk156 v1341_r0), ∀ a, (k0_off331 v1341_r0) a + S1x1x100.size a ≤ S50000x1x100.size a := fun v1341_r0 k0_hw156 => k0_hw156

def k0_off332 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_621_r0 : BitVec 32 := 152#32
  let v1345_r0 : BitVec 32 := Scalar.addi v0 c152_i32_621_r0
  let c4_i32_622_r0 : BitVec 32 := 4#32
  let v1346_r0 : BitVec 32 := Scalar.addi v1345_r0 c4_i32_622_r0
  let v1347_r0 : Index := Scalar.indexCast v1346_r0
  let c0_i32_0_r0 : BitVec 32 := 0#32
  let c1_i32_r0 : BitVec 32 := 1#32
  let arg25_r0 : BitVec 32 := Scf.iv c0_i32_0_r0 c1_i32_r0 k0_t1
  let v1348_r0 : Index := Scalar.indexCast arg25_r0
  ![v1347_r0.toNat, v1348_r0.toNat]
def k0_off333 (v1349_r0 : BitVec 32) : Fin 3 → Nat :=
  let v1350_r0 : Index := Scalar.indexCast v1349_r0
  let c0_623_r0 : Index := 0#32
  let c0_624_r0 : Index := 0#32
  ![v1350_r0.toNat, 0, 0]

def k0_chk157 (v1349_r0 : BitVec 32) : Prop :=
  (∀ a, (k0_off333 v1349_r0) a + S1x1x100.size a ≤ S50000x1x100.size a)
theorem k0_off333_inb : ∀ (v1349_r0 : BitVec 32) (k0_hw157 : k0_chk157 v1349_r0), ∀ a, (k0_off333 v1349_r0) a + S1x1x100.size a ≤ S50000x1x100.size a := fun v1349_r0 k0_hw157 => k0_hw157

def k0_off334 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_625_r0 : BitVec 32 := 152#32
  let v1353_r0 : BitVec 32 := Scalar.addi v0 c152_i32_625_r0
  let c5_i32_626_r0 : BitVec 32 := 5#32
  let v1354_r0 : BitVec 32 := Scalar.addi v1353_r0 c5_i32_626_r0
  let v1355_r0 : Index := Scalar.indexCast v1354_r0
  let c0_i32_0_r0 : BitVec 32 := 0#32
  let c1_i32_r0 : BitVec 32 := 1#32
  let arg25_r0 : BitVec 32 := Scf.iv c0_i32_0_r0 c1_i32_r0 k0_t1
  let v1356_r0 : Index := Scalar.indexCast arg25_r0
  ![v1355_r0.toNat, v1356_r0.toNat]
def k0_off335 (v1357_r0 : BitVec 32) : Fin 3 → Nat :=
  let v1358_r0 : Index := Scalar.indexCast v1357_r0
  let c0_627_r0 : Index := 0#32
  let c0_628_r0 : Index := 0#32
  ![v1358_r0.toNat, 0, 0]

def k0_chk158 (v1357_r0 : BitVec 32) : Prop :=
  (∀ a, (k0_off335 v1357_r0) a + S1x1x100.size a ≤ S50000x1x100.size a)
theorem k0_off335_inb : ∀ (v1357_r0 : BitVec 32) (k0_hw158 : k0_chk158 v1357_r0), ∀ a, (k0_off335 v1357_r0) a + S1x1x100.size a ≤ S50000x1x100.size a := fun v1357_r0 k0_hw158 => k0_hw158

def k0_off336 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_629_r0 : BitVec 32 := 152#32
  let v1361_r0 : BitVec 32 := Scalar.addi v0 c152_i32_629_r0
  let c6_i32_630_r0 : BitVec 32 := 6#32
  let v1362_r0 : BitVec 32 := Scalar.addi v1361_r0 c6_i32_630_r0
  let v1363_r0 : Index := Scalar.indexCast v1362_r0
  let c0_i32_0_r0 : BitVec 32 := 0#32
  let c1_i32_r0 : BitVec 32 := 1#32
  let arg25_r0 : BitVec 32 := Scf.iv c0_i32_0_r0 c1_i32_r0 k0_t1
  let v1364_r0 : Index := Scalar.indexCast arg25_r0
  ![v1363_r0.toNat, v1364_r0.toNat]
def k0_off337 (v1365_r0 : BitVec 32) : Fin 3 → Nat :=
  let v1366_r0 : Index := Scalar.indexCast v1365_r0
  let c0_631_r0 : Index := 0#32
  let c0_632_r0 : Index := 0#32
  ![v1366_r0.toNat, 0, 0]

def k0_chk159 (v1365_r0 : BitVec 32) : Prop :=
  (∀ a, (k0_off337 v1365_r0) a + S1x1x100.size a ≤ S50000x1x100.size a)
theorem k0_off337_inb : ∀ (v1365_r0 : BitVec 32) (k0_hw159 : k0_chk159 v1365_r0), ∀ a, (k0_off337 v1365_r0) a + S1x1x100.size a ≤ S50000x1x100.size a := fun v1365_r0 k0_hw159 => k0_hw159

def k0_off338 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c152_i32_633_r0 : BitVec 32 := 152#32
  let v1369_r0 : BitVec 32 := Scalar.addi v0 c152_i32_633_r0
  let c7_i32_634_r0 : BitVec 32 := 7#32
  let v1370_r0 : BitVec 32 := Scalar.addi v1369_r0 c7_i32_634_r0
  let v1371_r0 : Index := Scalar.indexCast v1370_r0
  let c0_i32_0_r0 : BitVec 32 := 0#32
  let c1_i32_r0 : BitVec 32 := 1#32
  let arg25_r0 : BitVec 32 := Scf.iv c0_i32_0_r0 c1_i32_r0 k0_t1
  let v1372_r0 : Index := Scalar.indexCast arg25_r0
  ![v1371_r0.toNat, v1372_r0.toNat]
def k0_off339 (v1373_r0 : BitVec 32) : Fin 3 → Nat :=
  let v1374_r0 : Index := Scalar.indexCast v1373_r0
  let c0_635_r0 : Index := 0#32
  let c0_636_r0 : Index := 0#32
  ![v1374_r0.toNat, 0, 0]

def k0_chk160 (v1373_r0 : BitVec 32) : Prop :=
  (∀ a, (k0_off339 v1373_r0) a + S1x1x100.size a ≤ S50000x1x100.size a)
theorem k0_off339_inb : ∀ (v1373_r0 : BitVec 32) (k0_hw160 : k0_chk160 v1373_r0), ∀ a, (k0_off339 v1373_r0) a + S1x1x100.size a ≤ S50000x1x100.size a := fun v1373_r0 k0_hw160 => k0_hw160

def k0_off340 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1378_r0 : Index := Scalar.indexCast arg25_r0
  let c152_r0 : Index := 152#32
  let c0_637_r0 : Index := 0#32
  ![v1378_r0.toNat, 152, 0]
def k0_off341 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_r0 : BitVec 32 := 160#32
  let v1382_r0 : BitVec 32 := Scalar.addi v0 c160_i32_r0
  let c0_i32_638_r0 : BitVec 32 := 0#32
  let v1383_r0 : BitVec 32 := Scalar.addi v1382_r0 c0_i32_638_r0
  let v1384_r0 : Index := Scalar.indexCast v1383_r0
  let c0_i32_0_r0 : BitVec 32 := 0#32
  let c1_i32_r0 : BitVec 32 := 1#32
  let arg25_r0 : BitVec 32 := Scf.iv c0_i32_0_r0 c1_i32_r0 k0_t1
  let v1385_r0 : Index := Scalar.indexCast arg25_r0
  ![v1384_r0.toNat, v1385_r0.toNat]
def k0_off342 (v1386_r0 : BitVec 32) : Fin 3 → Nat :=
  let v1387_r0 : Index := Scalar.indexCast v1386_r0
  let c0_639_r0 : Index := 0#32
  let c0_640_r0 : Index := 0#32
  ![v1387_r0.toNat, 0, 0]

def k0_chk161 (v1386_r0 : BitVec 32) : Prop :=
  (∀ a, (k0_off342 v1386_r0) a + S1x1x100.size a ≤ S50000x1x100.size a)
theorem k0_off342_inb : ∀ (v1386_r0 : BitVec 32) (k0_hw161 : k0_chk161 v1386_r0), ∀ a, (k0_off342 v1386_r0) a + S1x1x100.size a ≤ S50000x1x100.size a := fun v1386_r0 k0_hw161 => k0_hw161

def k0_off343 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_641_r0 : BitVec 32 := 160#32
  let v1390_r0 : BitVec 32 := Scalar.addi v0 c160_i32_641_r0
  let c1_i32_642_r0 : BitVec 32 := 1#32
  let v1391_r0 : BitVec 32 := Scalar.addi v1390_r0 c1_i32_642_r0
  let v1392_r0 : Index := Scalar.indexCast v1391_r0
  let c0_i32_0_r0 : BitVec 32 := 0#32
  let c1_i32_r0 : BitVec 32 := 1#32
  let arg25_r0 : BitVec 32 := Scf.iv c0_i32_0_r0 c1_i32_r0 k0_t1
  let v1393_r0 : Index := Scalar.indexCast arg25_r0
  ![v1392_r0.toNat, v1393_r0.toNat]
def k0_off344 (v1394_r0 : BitVec 32) : Fin 3 → Nat :=
  let v1395_r0 : Index := Scalar.indexCast v1394_r0
  let c0_643_r0 : Index := 0#32
  let c0_644_r0 : Index := 0#32
  ![v1395_r0.toNat, 0, 0]

def k0_chk162 (v1394_r0 : BitVec 32) : Prop :=
  (∀ a, (k0_off344 v1394_r0) a + S1x1x100.size a ≤ S50000x1x100.size a)
theorem k0_off344_inb : ∀ (v1394_r0 : BitVec 32) (k0_hw162 : k0_chk162 v1394_r0), ∀ a, (k0_off344 v1394_r0) a + S1x1x100.size a ≤ S50000x1x100.size a := fun v1394_r0 k0_hw162 => k0_hw162

def k0_off345 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_645_r0 : BitVec 32 := 160#32
  let v1398_r0 : BitVec 32 := Scalar.addi v0 c160_i32_645_r0
  let c2_i32_646_r0 : BitVec 32 := 2#32
  let v1399_r0 : BitVec 32 := Scalar.addi v1398_r0 c2_i32_646_r0
  let v1400_r0 : Index := Scalar.indexCast v1399_r0
  let c0_i32_0_r0 : BitVec 32 := 0#32
  let c1_i32_r0 : BitVec 32 := 1#32
  let arg25_r0 : BitVec 32 := Scf.iv c0_i32_0_r0 c1_i32_r0 k0_t1
  let v1401_r0 : Index := Scalar.indexCast arg25_r0
  ![v1400_r0.toNat, v1401_r0.toNat]
def k0_off346 (v1402_r0 : BitVec 32) : Fin 3 → Nat :=
  let v1403_r0 : Index := Scalar.indexCast v1402_r0
  let c0_647_r0 : Index := 0#32
  let c0_648_r0 : Index := 0#32
  ![v1403_r0.toNat, 0, 0]

def k0_chk163 (v1402_r0 : BitVec 32) : Prop :=
  (∀ a, (k0_off346 v1402_r0) a + S1x1x100.size a ≤ S50000x1x100.size a)
theorem k0_off346_inb : ∀ (v1402_r0 : BitVec 32) (k0_hw163 : k0_chk163 v1402_r0), ∀ a, (k0_off346 v1402_r0) a + S1x1x100.size a ≤ S50000x1x100.size a := fun v1402_r0 k0_hw163 => k0_hw163

def k0_off347 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_649_r0 : BitVec 32 := 160#32
  let v1406_r0 : BitVec 32 := Scalar.addi v0 c160_i32_649_r0
  let c3_i32_650_r0 : BitVec 32 := 3#32
  let v1407_r0 : BitVec 32 := Scalar.addi v1406_r0 c3_i32_650_r0
  let v1408_r0 : Index := Scalar.indexCast v1407_r0
  let c0_i32_0_r0 : BitVec 32 := 0#32
  let c1_i32_r0 : BitVec 32 := 1#32
  let arg25_r0 : BitVec 32 := Scf.iv c0_i32_0_r0 c1_i32_r0 k0_t1
  let v1409_r0 : Index := Scalar.indexCast arg25_r0
  ![v1408_r0.toNat, v1409_r0.toNat]
def k0_off348 (v1410_r0 : BitVec 32) : Fin 3 → Nat :=
  let v1411_r0 : Index := Scalar.indexCast v1410_r0
  let c0_651_r0 : Index := 0#32
  let c0_652_r0 : Index := 0#32
  ![v1411_r0.toNat, 0, 0]

def k0_chk164 (v1410_r0 : BitVec 32) : Prop :=
  (∀ a, (k0_off348 v1410_r0) a + S1x1x100.size a ≤ S50000x1x100.size a)
theorem k0_off348_inb : ∀ (v1410_r0 : BitVec 32) (k0_hw164 : k0_chk164 v1410_r0), ∀ a, (k0_off348 v1410_r0) a + S1x1x100.size a ≤ S50000x1x100.size a := fun v1410_r0 k0_hw164 => k0_hw164

def k0_off349 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_653_r0 : BitVec 32 := 160#32
  let v1414_r0 : BitVec 32 := Scalar.addi v0 c160_i32_653_r0
  let c4_i32_654_r0 : BitVec 32 := 4#32
  let v1415_r0 : BitVec 32 := Scalar.addi v1414_r0 c4_i32_654_r0
  let v1416_r0 : Index := Scalar.indexCast v1415_r0
  let c0_i32_0_r0 : BitVec 32 := 0#32
  let c1_i32_r0 : BitVec 32 := 1#32
  let arg25_r0 : BitVec 32 := Scf.iv c0_i32_0_r0 c1_i32_r0 k0_t1
  let v1417_r0 : Index := Scalar.indexCast arg25_r0
  ![v1416_r0.toNat, v1417_r0.toNat]
def k0_off350 (v1418_r0 : BitVec 32) : Fin 3 → Nat :=
  let v1419_r0 : Index := Scalar.indexCast v1418_r0
  let c0_655_r0 : Index := 0#32
  let c0_656_r0 : Index := 0#32
  ![v1419_r0.toNat, 0, 0]

def k0_chk165 (v1418_r0 : BitVec 32) : Prop :=
  (∀ a, (k0_off350 v1418_r0) a + S1x1x100.size a ≤ S50000x1x100.size a)
theorem k0_off350_inb : ∀ (v1418_r0 : BitVec 32) (k0_hw165 : k0_chk165 v1418_r0), ∀ a, (k0_off350 v1418_r0) a + S1x1x100.size a ≤ S50000x1x100.size a := fun v1418_r0 k0_hw165 => k0_hw165

def k0_off351 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_657_r0 : BitVec 32 := 160#32
  let v1422_r0 : BitVec 32 := Scalar.addi v0 c160_i32_657_r0
  let c5_i32_658_r0 : BitVec 32 := 5#32
  let v1423_r0 : BitVec 32 := Scalar.addi v1422_r0 c5_i32_658_r0
  let v1424_r0 : Index := Scalar.indexCast v1423_r0
  let c0_i32_0_r0 : BitVec 32 := 0#32
  let c1_i32_r0 : BitVec 32 := 1#32
  let arg25_r0 : BitVec 32 := Scf.iv c0_i32_0_r0 c1_i32_r0 k0_t1
  let v1425_r0 : Index := Scalar.indexCast arg25_r0
  ![v1424_r0.toNat, v1425_r0.toNat]
def k0_off352 (v1426_r0 : BitVec 32) : Fin 3 → Nat :=
  let v1427_r0 : Index := Scalar.indexCast v1426_r0
  let c0_659_r0 : Index := 0#32
  let c0_660_r0 : Index := 0#32
  ![v1427_r0.toNat, 0, 0]

def k0_chk166 (v1426_r0 : BitVec 32) : Prop :=
  (∀ a, (k0_off352 v1426_r0) a + S1x1x100.size a ≤ S50000x1x100.size a)
theorem k0_off352_inb : ∀ (v1426_r0 : BitVec 32) (k0_hw166 : k0_chk166 v1426_r0), ∀ a, (k0_off352 v1426_r0) a + S1x1x100.size a ≤ S50000x1x100.size a := fun v1426_r0 k0_hw166 => k0_hw166

def k0_off353 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_661_r0 : BitVec 32 := 160#32
  let v1430_r0 : BitVec 32 := Scalar.addi v0 c160_i32_661_r0
  let c6_i32_662_r0 : BitVec 32 := 6#32
  let v1431_r0 : BitVec 32 := Scalar.addi v1430_r0 c6_i32_662_r0
  let v1432_r0 : Index := Scalar.indexCast v1431_r0
  let c0_i32_0_r0 : BitVec 32 := 0#32
  let c1_i32_r0 : BitVec 32 := 1#32
  let arg25_r0 : BitVec 32 := Scf.iv c0_i32_0_r0 c1_i32_r0 k0_t1
  let v1433_r0 : Index := Scalar.indexCast arg25_r0
  ![v1432_r0.toNat, v1433_r0.toNat]
def k0_off354 (v1434_r0 : BitVec 32) : Fin 3 → Nat :=
  let v1435_r0 : Index := Scalar.indexCast v1434_r0
  let c0_663_r0 : Index := 0#32
  let c0_664_r0 : Index := 0#32
  ![v1435_r0.toNat, 0, 0]

def k0_chk167 (v1434_r0 : BitVec 32) : Prop :=
  (∀ a, (k0_off354 v1434_r0) a + S1x1x100.size a ≤ S50000x1x100.size a)
theorem k0_off354_inb : ∀ (v1434_r0 : BitVec 32) (k0_hw167 : k0_chk167 v1434_r0), ∀ a, (k0_off354 v1434_r0) a + S1x1x100.size a ≤ S50000x1x100.size a := fun v1434_r0 k0_hw167 => k0_hw167

def k0_off355 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c160_i32_665_r0 : BitVec 32 := 160#32
  let v1438_r0 : BitVec 32 := Scalar.addi v0 c160_i32_665_r0
  let c7_i32_666_r0 : BitVec 32 := 7#32
  let v1439_r0 : BitVec 32 := Scalar.addi v1438_r0 c7_i32_666_r0
  let v1440_r0 : Index := Scalar.indexCast v1439_r0
  let c0_i32_0_r0 : BitVec 32 := 0#32
  let c1_i32_r0 : BitVec 32 := 1#32
  let arg25_r0 : BitVec 32 := Scf.iv c0_i32_0_r0 c1_i32_r0 k0_t1
  let v1441_r0 : Index := Scalar.indexCast arg25_r0
  ![v1440_r0.toNat, v1441_r0.toNat]
def k0_off356 (v1442_r0 : BitVec 32) : Fin 3 → Nat :=
  let v1443_r0 : Index := Scalar.indexCast v1442_r0
  let c0_667_r0 : Index := 0#32
  let c0_668_r0 : Index := 0#32
  ![v1443_r0.toNat, 0, 0]

def k0_chk168 (v1442_r0 : BitVec 32) : Prop :=
  (∀ a, (k0_off356 v1442_r0) a + S1x1x100.size a ≤ S50000x1x100.size a)
theorem k0_off356_inb : ∀ (v1442_r0 : BitVec 32) (k0_hw168 : k0_chk168 v1442_r0), ∀ a, (k0_off356 v1442_r0) a + S1x1x100.size a ≤ S50000x1x100.size a := fun v1442_r0 k0_hw168 => k0_hw168

def k0_off357 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1447_r0 : Index := Scalar.indexCast arg25_r0
  let c160_r0 : Index := 160#32
  let c0_669_r0 : Index := 0#32
  ![v1447_r0.toNat, 160, 0]
def k0_off358 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_r0 : BitVec 32 := 168#32
  let v1451_r0 : BitVec 32 := Scalar.addi v0 c168_i32_r0
  let c0_i32_670_r0 : BitVec 32 := 0#32
  let v1452_r0 : BitVec 32 := Scalar.addi v1451_r0 c0_i32_670_r0
  let v1453_r0 : Index := Scalar.indexCast v1452_r0
  let c0_i32_0_r0 : BitVec 32 := 0#32
  let c1_i32_r0 : BitVec 32 := 1#32
  let arg25_r0 : BitVec 32 := Scf.iv c0_i32_0_r0 c1_i32_r0 k0_t1
  let v1454_r0 : Index := Scalar.indexCast arg25_r0
  ![v1453_r0.toNat, v1454_r0.toNat]
def k0_off359 (v1455_r0 : BitVec 32) : Fin 3 → Nat :=
  let v1456_r0 : Index := Scalar.indexCast v1455_r0
  let c0_671_r0 : Index := 0#32
  let c0_672_r0 : Index := 0#32
  ![v1456_r0.toNat, 0, 0]

def k0_chk169 (v1455_r0 : BitVec 32) : Prop :=
  (∀ a, (k0_off359 v1455_r0) a + S1x1x100.size a ≤ S50000x1x100.size a)
theorem k0_off359_inb : ∀ (v1455_r0 : BitVec 32) (k0_hw169 : k0_chk169 v1455_r0), ∀ a, (k0_off359 v1455_r0) a + S1x1x100.size a ≤ S50000x1x100.size a := fun v1455_r0 k0_hw169 => k0_hw169

def k0_off360 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_673_r0 : BitVec 32 := 168#32
  let v1459_r0 : BitVec 32 := Scalar.addi v0 c168_i32_673_r0
  let c1_i32_674_r0 : BitVec 32 := 1#32
  let v1460_r0 : BitVec 32 := Scalar.addi v1459_r0 c1_i32_674_r0
  let v1461_r0 : Index := Scalar.indexCast v1460_r0
  let c0_i32_0_r0 : BitVec 32 := 0#32
  let c1_i32_r0 : BitVec 32 := 1#32
  let arg25_r0 : BitVec 32 := Scf.iv c0_i32_0_r0 c1_i32_r0 k0_t1
  let v1462_r0 : Index := Scalar.indexCast arg25_r0
  ![v1461_r0.toNat, v1462_r0.toNat]
def k0_off361 (v1463_r0 : BitVec 32) : Fin 3 → Nat :=
  let v1464_r0 : Index := Scalar.indexCast v1463_r0
  let c0_675_r0 : Index := 0#32
  let c0_676_r0 : Index := 0#32
  ![v1464_r0.toNat, 0, 0]

def k0_chk170 (v1463_r0 : BitVec 32) : Prop :=
  (∀ a, (k0_off361 v1463_r0) a + S1x1x100.size a ≤ S50000x1x100.size a)
theorem k0_off361_inb : ∀ (v1463_r0 : BitVec 32) (k0_hw170 : k0_chk170 v1463_r0), ∀ a, (k0_off361 v1463_r0) a + S1x1x100.size a ≤ S50000x1x100.size a := fun v1463_r0 k0_hw170 => k0_hw170

def k0_off362 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_677_r0 : BitVec 32 := 168#32
  let v1467_r0 : BitVec 32 := Scalar.addi v0 c168_i32_677_r0
  let c2_i32_678_r0 : BitVec 32 := 2#32
  let v1468_r0 : BitVec 32 := Scalar.addi v1467_r0 c2_i32_678_r0
  let v1469_r0 : Index := Scalar.indexCast v1468_r0
  let c0_i32_0_r0 : BitVec 32 := 0#32
  let c1_i32_r0 : BitVec 32 := 1#32
  let arg25_r0 : BitVec 32 := Scf.iv c0_i32_0_r0 c1_i32_r0 k0_t1
  let v1470_r0 : Index := Scalar.indexCast arg25_r0
  ![v1469_r0.toNat, v1470_r0.toNat]
def k0_off363 (v1471_r0 : BitVec 32) : Fin 3 → Nat :=
  let v1472_r0 : Index := Scalar.indexCast v1471_r0
  let c0_679_r0 : Index := 0#32
  let c0_680_r0 : Index := 0#32
  ![v1472_r0.toNat, 0, 0]

def k0_chk171 (v1471_r0 : BitVec 32) : Prop :=
  (∀ a, (k0_off363 v1471_r0) a + S1x1x100.size a ≤ S50000x1x100.size a)
theorem k0_off363_inb : ∀ (v1471_r0 : BitVec 32) (k0_hw171 : k0_chk171 v1471_r0), ∀ a, (k0_off363 v1471_r0) a + S1x1x100.size a ≤ S50000x1x100.size a := fun v1471_r0 k0_hw171 => k0_hw171

def k0_off364 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_681_r0 : BitVec 32 := 168#32
  let v1475_r0 : BitVec 32 := Scalar.addi v0 c168_i32_681_r0
  let c3_i32_682_r0 : BitVec 32 := 3#32
  let v1476_r0 : BitVec 32 := Scalar.addi v1475_r0 c3_i32_682_r0
  let v1477_r0 : Index := Scalar.indexCast v1476_r0
  let c0_i32_0_r0 : BitVec 32 := 0#32
  let c1_i32_r0 : BitVec 32 := 1#32
  let arg25_r0 : BitVec 32 := Scf.iv c0_i32_0_r0 c1_i32_r0 k0_t1
  let v1478_r0 : Index := Scalar.indexCast arg25_r0
  ![v1477_r0.toNat, v1478_r0.toNat]
def k0_off365 (v1479_r0 : BitVec 32) : Fin 3 → Nat :=
  let v1480_r0 : Index := Scalar.indexCast v1479_r0
  let c0_683_r0 : Index := 0#32
  let c0_684_r0 : Index := 0#32
  ![v1480_r0.toNat, 0, 0]

def k0_chk172 (v1479_r0 : BitVec 32) : Prop :=
  (∀ a, (k0_off365 v1479_r0) a + S1x1x100.size a ≤ S50000x1x100.size a)
theorem k0_off365_inb : ∀ (v1479_r0 : BitVec 32) (k0_hw172 : k0_chk172 v1479_r0), ∀ a, (k0_off365 v1479_r0) a + S1x1x100.size a ≤ S50000x1x100.size a := fun v1479_r0 k0_hw172 => k0_hw172

def k0_off366 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_685_r0 : BitVec 32 := 168#32
  let v1483_r0 : BitVec 32 := Scalar.addi v0 c168_i32_685_r0
  let c4_i32_686_r0 : BitVec 32 := 4#32
  let v1484_r0 : BitVec 32 := Scalar.addi v1483_r0 c4_i32_686_r0
  let v1485_r0 : Index := Scalar.indexCast v1484_r0
  let c0_i32_0_r0 : BitVec 32 := 0#32
  let c1_i32_r0 : BitVec 32 := 1#32
  let arg25_r0 : BitVec 32 := Scf.iv c0_i32_0_r0 c1_i32_r0 k0_t1
  let v1486_r0 : Index := Scalar.indexCast arg25_r0
  ![v1485_r0.toNat, v1486_r0.toNat]
def k0_off367 (v1487_r0 : BitVec 32) : Fin 3 → Nat :=
  let v1488_r0 : Index := Scalar.indexCast v1487_r0
  let c0_687_r0 : Index := 0#32
  let c0_688_r0 : Index := 0#32
  ![v1488_r0.toNat, 0, 0]

def k0_chk173 (v1487_r0 : BitVec 32) : Prop :=
  (∀ a, (k0_off367 v1487_r0) a + S1x1x100.size a ≤ S50000x1x100.size a)
theorem k0_off367_inb : ∀ (v1487_r0 : BitVec 32) (k0_hw173 : k0_chk173 v1487_r0), ∀ a, (k0_off367 v1487_r0) a + S1x1x100.size a ≤ S50000x1x100.size a := fun v1487_r0 k0_hw173 => k0_hw173

def k0_off368 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_689_r0 : BitVec 32 := 168#32
  let v1491_r0 : BitVec 32 := Scalar.addi v0 c168_i32_689_r0
  let c5_i32_690_r0 : BitVec 32 := 5#32
  let v1492_r0 : BitVec 32 := Scalar.addi v1491_r0 c5_i32_690_r0
  let v1493_r0 : Index := Scalar.indexCast v1492_r0
  let c0_i32_0_r0 : BitVec 32 := 0#32
  let c1_i32_r0 : BitVec 32 := 1#32
  let arg25_r0 : BitVec 32 := Scf.iv c0_i32_0_r0 c1_i32_r0 k0_t1
  let v1494_r0 : Index := Scalar.indexCast arg25_r0
  ![v1493_r0.toNat, v1494_r0.toNat]
def k0_off369 (v1495_r0 : BitVec 32) : Fin 3 → Nat :=
  let v1496_r0 : Index := Scalar.indexCast v1495_r0
  let c0_691_r0 : Index := 0#32
  let c0_692_r0 : Index := 0#32
  ![v1496_r0.toNat, 0, 0]

def k0_chk174 (v1495_r0 : BitVec 32) : Prop :=
  (∀ a, (k0_off369 v1495_r0) a + S1x1x100.size a ≤ S50000x1x100.size a)
theorem k0_off369_inb : ∀ (v1495_r0 : BitVec 32) (k0_hw174 : k0_chk174 v1495_r0), ∀ a, (k0_off369 v1495_r0) a + S1x1x100.size a ≤ S50000x1x100.size a := fun v1495_r0 k0_hw174 => k0_hw174

def k0_off370 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_693_r0 : BitVec 32 := 168#32
  let v1499_r0 : BitVec 32 := Scalar.addi v0 c168_i32_693_r0
  let c6_i32_694_r0 : BitVec 32 := 6#32
  let v1500_r0 : BitVec 32 := Scalar.addi v1499_r0 c6_i32_694_r0
  let v1501_r0 : Index := Scalar.indexCast v1500_r0
  let c0_i32_0_r0 : BitVec 32 := 0#32
  let c1_i32_r0 : BitVec 32 := 1#32
  let arg25_r0 : BitVec 32 := Scf.iv c0_i32_0_r0 c1_i32_r0 k0_t1
  let v1502_r0 : Index := Scalar.indexCast arg25_r0
  ![v1501_r0.toNat, v1502_r0.toNat]
def k0_off371 (v1503_r0 : BitVec 32) : Fin 3 → Nat :=
  let v1504_r0 : Index := Scalar.indexCast v1503_r0
  let c0_695_r0 : Index := 0#32
  let c0_696_r0 : Index := 0#32
  ![v1504_r0.toNat, 0, 0]

def k0_chk175 (v1503_r0 : BitVec 32) : Prop :=
  (∀ a, (k0_off371 v1503_r0) a + S1x1x100.size a ≤ S50000x1x100.size a)
theorem k0_off371_inb : ∀ (v1503_r0 : BitVec 32) (k0_hw175 : k0_chk175 v1503_r0), ∀ a, (k0_off371 v1503_r0) a + S1x1x100.size a ≤ S50000x1x100.size a := fun v1503_r0 k0_hw175 => k0_hw175

def k0_off372 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c168_i32_697_r0 : BitVec 32 := 168#32
  let v1507_r0 : BitVec 32 := Scalar.addi v0 c168_i32_697_r0
  let c7_i32_698_r0 : BitVec 32 := 7#32
  let v1508_r0 : BitVec 32 := Scalar.addi v1507_r0 c7_i32_698_r0
  let v1509_r0 : Index := Scalar.indexCast v1508_r0
  let c0_i32_0_r0 : BitVec 32 := 0#32
  let c1_i32_r0 : BitVec 32 := 1#32
  let arg25_r0 : BitVec 32 := Scf.iv c0_i32_0_r0 c1_i32_r0 k0_t1
  let v1510_r0 : Index := Scalar.indexCast arg25_r0
  ![v1509_r0.toNat, v1510_r0.toNat]
def k0_off373 (v1511_r0 : BitVec 32) : Fin 3 → Nat :=
  let v1512_r0 : Index := Scalar.indexCast v1511_r0
  let c0_699_r0 : Index := 0#32
  let c0_700_r0 : Index := 0#32
  ![v1512_r0.toNat, 0, 0]

def k0_chk176 (v1511_r0 : BitVec 32) : Prop :=
  (∀ a, (k0_off373 v1511_r0) a + S1x1x100.size a ≤ S50000x1x100.size a)
theorem k0_off373_inb : ∀ (v1511_r0 : BitVec 32) (k0_hw176 : k0_chk176 v1511_r0), ∀ a, (k0_off373 v1511_r0) a + S1x1x100.size a ≤ S50000x1x100.size a := fun v1511_r0 k0_hw176 => k0_hw176

def k0_off374 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1516_r0 : Index := Scalar.indexCast arg25_r0
  let c168_r0 : Index := 168#32
  let c0_701_r0 : Index := 0#32
  ![v1516_r0.toNat, 168, 0]
def k0_off375 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_r0 : BitVec 32 := 176#32
  let v1520_r0 : BitVec 32 := Scalar.addi v0 c176_i32_r0
  let c0_i32_702_r0 : BitVec 32 := 0#32
  let v1521_r0 : BitVec 32 := Scalar.addi v1520_r0 c0_i32_702_r0
  let v1522_r0 : Index := Scalar.indexCast v1521_r0
  let c0_i32_0_r0 : BitVec 32 := 0#32
  let c1_i32_r0 : BitVec 32 := 1#32
  let arg25_r0 : BitVec 32 := Scf.iv c0_i32_0_r0 c1_i32_r0 k0_t1
  let v1523_r0 : Index := Scalar.indexCast arg25_r0
  ![v1522_r0.toNat, v1523_r0.toNat]
def k0_off376 (v1524_r0 : BitVec 32) : Fin 3 → Nat :=
  let v1525_r0 : Index := Scalar.indexCast v1524_r0
  let c0_703_r0 : Index := 0#32
  let c0_704_r0 : Index := 0#32
  ![v1525_r0.toNat, 0, 0]

def k0_chk177 (v1524_r0 : BitVec 32) : Prop :=
  (∀ a, (k0_off376 v1524_r0) a + S1x1x100.size a ≤ S50000x1x100.size a)
theorem k0_off376_inb : ∀ (v1524_r0 : BitVec 32) (k0_hw177 : k0_chk177 v1524_r0), ∀ a, (k0_off376 v1524_r0) a + S1x1x100.size a ≤ S50000x1x100.size a := fun v1524_r0 k0_hw177 => k0_hw177

def k0_off377 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_705_r0 : BitVec 32 := 176#32
  let v1528_r0 : BitVec 32 := Scalar.addi v0 c176_i32_705_r0
  let c1_i32_706_r0 : BitVec 32 := 1#32
  let v1529_r0 : BitVec 32 := Scalar.addi v1528_r0 c1_i32_706_r0
  let v1530_r0 : Index := Scalar.indexCast v1529_r0
  let c0_i32_0_r0 : BitVec 32 := 0#32
  let c1_i32_r0 : BitVec 32 := 1#32
  let arg25_r0 : BitVec 32 := Scf.iv c0_i32_0_r0 c1_i32_r0 k0_t1
  let v1531_r0 : Index := Scalar.indexCast arg25_r0
  ![v1530_r0.toNat, v1531_r0.toNat]
def k0_off378 (v1532_r0 : BitVec 32) : Fin 3 → Nat :=
  let v1533_r0 : Index := Scalar.indexCast v1532_r0
  let c0_707_r0 : Index := 0#32
  let c0_708_r0 : Index := 0#32
  ![v1533_r0.toNat, 0, 0]

def k0_chk178 (v1532_r0 : BitVec 32) : Prop :=
  (∀ a, (k0_off378 v1532_r0) a + S1x1x100.size a ≤ S50000x1x100.size a)
theorem k0_off378_inb : ∀ (v1532_r0 : BitVec 32) (k0_hw178 : k0_chk178 v1532_r0), ∀ a, (k0_off378 v1532_r0) a + S1x1x100.size a ≤ S50000x1x100.size a := fun v1532_r0 k0_hw178 => k0_hw178

def k0_off379 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_709_r0 : BitVec 32 := 176#32
  let v1536_r0 : BitVec 32 := Scalar.addi v0 c176_i32_709_r0
  let c2_i32_710_r0 : BitVec 32 := 2#32
  let v1537_r0 : BitVec 32 := Scalar.addi v1536_r0 c2_i32_710_r0
  let v1538_r0 : Index := Scalar.indexCast v1537_r0
  let c0_i32_0_r0 : BitVec 32 := 0#32
  let c1_i32_r0 : BitVec 32 := 1#32
  let arg25_r0 : BitVec 32 := Scf.iv c0_i32_0_r0 c1_i32_r0 k0_t1
  let v1539_r0 : Index := Scalar.indexCast arg25_r0
  ![v1538_r0.toNat, v1539_r0.toNat]
def k0_off380 (v1540_r0 : BitVec 32) : Fin 3 → Nat :=
  let v1541_r0 : Index := Scalar.indexCast v1540_r0
  let c0_711_r0 : Index := 0#32
  let c0_712_r0 : Index := 0#32
  ![v1541_r0.toNat, 0, 0]

def k0_chk179 (v1540_r0 : BitVec 32) : Prop :=
  (∀ a, (k0_off380 v1540_r0) a + S1x1x100.size a ≤ S50000x1x100.size a)
theorem k0_off380_inb : ∀ (v1540_r0 : BitVec 32) (k0_hw179 : k0_chk179 v1540_r0), ∀ a, (k0_off380 v1540_r0) a + S1x1x100.size a ≤ S50000x1x100.size a := fun v1540_r0 k0_hw179 => k0_hw179

def k0_off381 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_713_r0 : BitVec 32 := 176#32
  let v1544_r0 : BitVec 32 := Scalar.addi v0 c176_i32_713_r0
  let c3_i32_714_r0 : BitVec 32 := 3#32
  let v1545_r0 : BitVec 32 := Scalar.addi v1544_r0 c3_i32_714_r0
  let v1546_r0 : Index := Scalar.indexCast v1545_r0
  let c0_i32_0_r0 : BitVec 32 := 0#32
  let c1_i32_r0 : BitVec 32 := 1#32
  let arg25_r0 : BitVec 32 := Scf.iv c0_i32_0_r0 c1_i32_r0 k0_t1
  let v1547_r0 : Index := Scalar.indexCast arg25_r0
  ![v1546_r0.toNat, v1547_r0.toNat]
def k0_off382 (v1548_r0 : BitVec 32) : Fin 3 → Nat :=
  let v1549_r0 : Index := Scalar.indexCast v1548_r0
  let c0_715_r0 : Index := 0#32
  let c0_716_r0 : Index := 0#32
  ![v1549_r0.toNat, 0, 0]

def k0_chk180 (v1548_r0 : BitVec 32) : Prop :=
  (∀ a, (k0_off382 v1548_r0) a + S1x1x100.size a ≤ S50000x1x100.size a)
theorem k0_off382_inb : ∀ (v1548_r0 : BitVec 32) (k0_hw180 : k0_chk180 v1548_r0), ∀ a, (k0_off382 v1548_r0) a + S1x1x100.size a ≤ S50000x1x100.size a := fun v1548_r0 k0_hw180 => k0_hw180

def k0_off383 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_717_r0 : BitVec 32 := 176#32
  let v1552_r0 : BitVec 32 := Scalar.addi v0 c176_i32_717_r0
  let c4_i32_718_r0 : BitVec 32 := 4#32
  let v1553_r0 : BitVec 32 := Scalar.addi v1552_r0 c4_i32_718_r0
  let v1554_r0 : Index := Scalar.indexCast v1553_r0
  let c0_i32_0_r0 : BitVec 32 := 0#32
  let c1_i32_r0 : BitVec 32 := 1#32
  let arg25_r0 : BitVec 32 := Scf.iv c0_i32_0_r0 c1_i32_r0 k0_t1
  let v1555_r0 : Index := Scalar.indexCast arg25_r0
  ![v1554_r0.toNat, v1555_r0.toNat]
def k0_off384 (v1556_r0 : BitVec 32) : Fin 3 → Nat :=
  let v1557_r0 : Index := Scalar.indexCast v1556_r0
  let c0_719_r0 : Index := 0#32
  let c0_720_r0 : Index := 0#32
  ![v1557_r0.toNat, 0, 0]

def k0_chk181 (v1556_r0 : BitVec 32) : Prop :=
  (∀ a, (k0_off384 v1556_r0) a + S1x1x100.size a ≤ S50000x1x100.size a)
theorem k0_off384_inb : ∀ (v1556_r0 : BitVec 32) (k0_hw181 : k0_chk181 v1556_r0), ∀ a, (k0_off384 v1556_r0) a + S1x1x100.size a ≤ S50000x1x100.size a := fun v1556_r0 k0_hw181 => k0_hw181

def k0_off385 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_721_r0 : BitVec 32 := 176#32
  let v1560_r0 : BitVec 32 := Scalar.addi v0 c176_i32_721_r0
  let c5_i32_722_r0 : BitVec 32 := 5#32
  let v1561_r0 : BitVec 32 := Scalar.addi v1560_r0 c5_i32_722_r0
  let v1562_r0 : Index := Scalar.indexCast v1561_r0
  let c0_i32_0_r0 : BitVec 32 := 0#32
  let c1_i32_r0 : BitVec 32 := 1#32
  let arg25_r0 : BitVec 32 := Scf.iv c0_i32_0_r0 c1_i32_r0 k0_t1
  let v1563_r0 : Index := Scalar.indexCast arg25_r0
  ![v1562_r0.toNat, v1563_r0.toNat]
def k0_off386 (v1564_r0 : BitVec 32) : Fin 3 → Nat :=
  let v1565_r0 : Index := Scalar.indexCast v1564_r0
  let c0_723_r0 : Index := 0#32
  let c0_724_r0 : Index := 0#32
  ![v1565_r0.toNat, 0, 0]

def k0_chk182 (v1564_r0 : BitVec 32) : Prop :=
  (∀ a, (k0_off386 v1564_r0) a + S1x1x100.size a ≤ S50000x1x100.size a)
theorem k0_off386_inb : ∀ (v1564_r0 : BitVec 32) (k0_hw182 : k0_chk182 v1564_r0), ∀ a, (k0_off386 v1564_r0) a + S1x1x100.size a ≤ S50000x1x100.size a := fun v1564_r0 k0_hw182 => k0_hw182

def k0_off387 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_725_r0 : BitVec 32 := 176#32
  let v1568_r0 : BitVec 32 := Scalar.addi v0 c176_i32_725_r0
  let c6_i32_726_r0 : BitVec 32 := 6#32
  let v1569_r0 : BitVec 32 := Scalar.addi v1568_r0 c6_i32_726_r0
  let v1570_r0 : Index := Scalar.indexCast v1569_r0
  let c0_i32_0_r0 : BitVec 32 := 0#32
  let c1_i32_r0 : BitVec 32 := 1#32
  let arg25_r0 : BitVec 32 := Scf.iv c0_i32_0_r0 c1_i32_r0 k0_t1
  let v1571_r0 : Index := Scalar.indexCast arg25_r0
  ![v1570_r0.toNat, v1571_r0.toNat]
def k0_off388 (v1572_r0 : BitVec 32) : Fin 3 → Nat :=
  let v1573_r0 : Index := Scalar.indexCast v1572_r0
  let c0_727_r0 : Index := 0#32
  let c0_728_r0 : Index := 0#32
  ![v1573_r0.toNat, 0, 0]

def k0_chk183 (v1572_r0 : BitVec 32) : Prop :=
  (∀ a, (k0_off388 v1572_r0) a + S1x1x100.size a ≤ S50000x1x100.size a)
theorem k0_off388_inb : ∀ (v1572_r0 : BitVec 32) (k0_hw183 : k0_chk183 v1572_r0), ∀ a, (k0_off388 v1572_r0) a + S1x1x100.size a ≤ S50000x1x100.size a := fun v1572_r0 k0_hw183 => k0_hw183

def k0_off389 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c176_i32_729_r0 : BitVec 32 := 176#32
  let v1576_r0 : BitVec 32 := Scalar.addi v0 c176_i32_729_r0
  let c7_i32_730_r0 : BitVec 32 := 7#32
  let v1577_r0 : BitVec 32 := Scalar.addi v1576_r0 c7_i32_730_r0
  let v1578_r0 : Index := Scalar.indexCast v1577_r0
  let c0_i32_0_r0 : BitVec 32 := 0#32
  let c1_i32_r0 : BitVec 32 := 1#32
  let arg25_r0 : BitVec 32 := Scf.iv c0_i32_0_r0 c1_i32_r0 k0_t1
  let v1579_r0 : Index := Scalar.indexCast arg25_r0
  ![v1578_r0.toNat, v1579_r0.toNat]
def k0_off390 (v1580_r0 : BitVec 32) : Fin 3 → Nat :=
  let v1581_r0 : Index := Scalar.indexCast v1580_r0
  let c0_731_r0 : Index := 0#32
  let c0_732_r0 : Index := 0#32
  ![v1581_r0.toNat, 0, 0]

def k0_chk184 (v1580_r0 : BitVec 32) : Prop :=
  (∀ a, (k0_off390 v1580_r0) a + S1x1x100.size a ≤ S50000x1x100.size a)
theorem k0_off390_inb : ∀ (v1580_r0 : BitVec 32) (k0_hw184 : k0_chk184 v1580_r0), ∀ a, (k0_off390 v1580_r0) a + S1x1x100.size a ≤ S50000x1x100.size a := fun v1580_r0 k0_hw184 => k0_hw184

def k0_off391 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1585_r0 : Index := Scalar.indexCast arg25_r0
  let c176_r0 : Index := 176#32
  let c0_733_r0 : Index := 0#32
  ![v1585_r0.toNat, 176, 0]
def k0_off392 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_r0 : BitVec 32 := 184#32
  let v1589_r0 : BitVec 32 := Scalar.addi v0 c184_i32_r0
  let c0_i32_734_r0 : BitVec 32 := 0#32
  let v1590_r0 : BitVec 32 := Scalar.addi v1589_r0 c0_i32_734_r0
  let v1591_r0 : Index := Scalar.indexCast v1590_r0
  let c0_i32_0_r0 : BitVec 32 := 0#32
  let c1_i32_r0 : BitVec 32 := 1#32
  let arg25_r0 : BitVec 32 := Scf.iv c0_i32_0_r0 c1_i32_r0 k0_t1
  let v1592_r0 : Index := Scalar.indexCast arg25_r0
  ![v1591_r0.toNat, v1592_r0.toNat]
def k0_off393 (v1593_r0 : BitVec 32) : Fin 3 → Nat :=
  let v1594_r0 : Index := Scalar.indexCast v1593_r0
  let c0_735_r0 : Index := 0#32
  let c0_736_r0 : Index := 0#32
  ![v1594_r0.toNat, 0, 0]

def k0_chk185 (v1593_r0 : BitVec 32) : Prop :=
  (∀ a, (k0_off393 v1593_r0) a + S1x1x100.size a ≤ S50000x1x100.size a)
theorem k0_off393_inb : ∀ (v1593_r0 : BitVec 32) (k0_hw185 : k0_chk185 v1593_r0), ∀ a, (k0_off393 v1593_r0) a + S1x1x100.size a ≤ S50000x1x100.size a := fun v1593_r0 k0_hw185 => k0_hw185

def k0_off394 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_737_r0 : BitVec 32 := 184#32
  let v1597_r0 : BitVec 32 := Scalar.addi v0 c184_i32_737_r0
  let c1_i32_738_r0 : BitVec 32 := 1#32
  let v1598_r0 : BitVec 32 := Scalar.addi v1597_r0 c1_i32_738_r0
  let v1599_r0 : Index := Scalar.indexCast v1598_r0
  let c0_i32_0_r0 : BitVec 32 := 0#32
  let c1_i32_r0 : BitVec 32 := 1#32
  let arg25_r0 : BitVec 32 := Scf.iv c0_i32_0_r0 c1_i32_r0 k0_t1
  let v1600_r0 : Index := Scalar.indexCast arg25_r0
  ![v1599_r0.toNat, v1600_r0.toNat]
def k0_off395 (v1601_r0 : BitVec 32) : Fin 3 → Nat :=
  let v1602_r0 : Index := Scalar.indexCast v1601_r0
  let c0_739_r0 : Index := 0#32
  let c0_740_r0 : Index := 0#32
  ![v1602_r0.toNat, 0, 0]

def k0_chk186 (v1601_r0 : BitVec 32) : Prop :=
  (∀ a, (k0_off395 v1601_r0) a + S1x1x100.size a ≤ S50000x1x100.size a)
theorem k0_off395_inb : ∀ (v1601_r0 : BitVec 32) (k0_hw186 : k0_chk186 v1601_r0), ∀ a, (k0_off395 v1601_r0) a + S1x1x100.size a ≤ S50000x1x100.size a := fun v1601_r0 k0_hw186 => k0_hw186

def k0_off396 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_741_r0 : BitVec 32 := 184#32
  let v1605_r0 : BitVec 32 := Scalar.addi v0 c184_i32_741_r0
  let c2_i32_742_r0 : BitVec 32 := 2#32
  let v1606_r0 : BitVec 32 := Scalar.addi v1605_r0 c2_i32_742_r0
  let v1607_r0 : Index := Scalar.indexCast v1606_r0
  let c0_i32_0_r0 : BitVec 32 := 0#32
  let c1_i32_r0 : BitVec 32 := 1#32
  let arg25_r0 : BitVec 32 := Scf.iv c0_i32_0_r0 c1_i32_r0 k0_t1
  let v1608_r0 : Index := Scalar.indexCast arg25_r0
  ![v1607_r0.toNat, v1608_r0.toNat]
def k0_off397 (v1609_r0 : BitVec 32) : Fin 3 → Nat :=
  let v1610_r0 : Index := Scalar.indexCast v1609_r0
  let c0_743_r0 : Index := 0#32
  let c0_744_r0 : Index := 0#32
  ![v1610_r0.toNat, 0, 0]

def k0_chk187 (v1609_r0 : BitVec 32) : Prop :=
  (∀ a, (k0_off397 v1609_r0) a + S1x1x100.size a ≤ S50000x1x100.size a)
theorem k0_off397_inb : ∀ (v1609_r0 : BitVec 32) (k0_hw187 : k0_chk187 v1609_r0), ∀ a, (k0_off397 v1609_r0) a + S1x1x100.size a ≤ S50000x1x100.size a := fun v1609_r0 k0_hw187 => k0_hw187

def k0_off398 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_745_r0 : BitVec 32 := 184#32
  let v1613_r0 : BitVec 32 := Scalar.addi v0 c184_i32_745_r0
  let c3_i32_746_r0 : BitVec 32 := 3#32
  let v1614_r0 : BitVec 32 := Scalar.addi v1613_r0 c3_i32_746_r0
  let v1615_r0 : Index := Scalar.indexCast v1614_r0
  let c0_i32_0_r0 : BitVec 32 := 0#32
  let c1_i32_r0 : BitVec 32 := 1#32
  let arg25_r0 : BitVec 32 := Scf.iv c0_i32_0_r0 c1_i32_r0 k0_t1
  let v1616_r0 : Index := Scalar.indexCast arg25_r0
  ![v1615_r0.toNat, v1616_r0.toNat]
def k0_off399 (v1617_r0 : BitVec 32) : Fin 3 → Nat :=
  let v1618_r0 : Index := Scalar.indexCast v1617_r0
  let c0_747_r0 : Index := 0#32
  let c0_748_r0 : Index := 0#32
  ![v1618_r0.toNat, 0, 0]

def k0_chk188 (v1617_r0 : BitVec 32) : Prop :=
  (∀ a, (k0_off399 v1617_r0) a + S1x1x100.size a ≤ S50000x1x100.size a)
theorem k0_off399_inb : ∀ (v1617_r0 : BitVec 32) (k0_hw188 : k0_chk188 v1617_r0), ∀ a, (k0_off399 v1617_r0) a + S1x1x100.size a ≤ S50000x1x100.size a := fun v1617_r0 k0_hw188 => k0_hw188

def k0_off400 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_749_r0 : BitVec 32 := 184#32
  let v1621_r0 : BitVec 32 := Scalar.addi v0 c184_i32_749_r0
  let c4_i32_750_r0 : BitVec 32 := 4#32
  let v1622_r0 : BitVec 32 := Scalar.addi v1621_r0 c4_i32_750_r0
  let v1623_r0 : Index := Scalar.indexCast v1622_r0
  let c0_i32_0_r0 : BitVec 32 := 0#32
  let c1_i32_r0 : BitVec 32 := 1#32
  let arg25_r0 : BitVec 32 := Scf.iv c0_i32_0_r0 c1_i32_r0 k0_t1
  let v1624_r0 : Index := Scalar.indexCast arg25_r0
  ![v1623_r0.toNat, v1624_r0.toNat]
def k0_off401 (v1625_r0 : BitVec 32) : Fin 3 → Nat :=
  let v1626_r0 : Index := Scalar.indexCast v1625_r0
  let c0_751_r0 : Index := 0#32
  let c0_752_r0 : Index := 0#32
  ![v1626_r0.toNat, 0, 0]

def k0_chk189 (v1625_r0 : BitVec 32) : Prop :=
  (∀ a, (k0_off401 v1625_r0) a + S1x1x100.size a ≤ S50000x1x100.size a)
theorem k0_off401_inb : ∀ (v1625_r0 : BitVec 32) (k0_hw189 : k0_chk189 v1625_r0), ∀ a, (k0_off401 v1625_r0) a + S1x1x100.size a ≤ S50000x1x100.size a := fun v1625_r0 k0_hw189 => k0_hw189

def k0_off402 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_753_r0 : BitVec 32 := 184#32
  let v1629_r0 : BitVec 32 := Scalar.addi v0 c184_i32_753_r0
  let c5_i32_754_r0 : BitVec 32 := 5#32
  let v1630_r0 : BitVec 32 := Scalar.addi v1629_r0 c5_i32_754_r0
  let v1631_r0 : Index := Scalar.indexCast v1630_r0
  let c0_i32_0_r0 : BitVec 32 := 0#32
  let c1_i32_r0 : BitVec 32 := 1#32
  let arg25_r0 : BitVec 32 := Scf.iv c0_i32_0_r0 c1_i32_r0 k0_t1
  let v1632_r0 : Index := Scalar.indexCast arg25_r0
  ![v1631_r0.toNat, v1632_r0.toNat]
def k0_off403 (v1633_r0 : BitVec 32) : Fin 3 → Nat :=
  let v1634_r0 : Index := Scalar.indexCast v1633_r0
  let c0_755_r0 : Index := 0#32
  let c0_756_r0 : Index := 0#32
  ![v1634_r0.toNat, 0, 0]

def k0_chk190 (v1633_r0 : BitVec 32) : Prop :=
  (∀ a, (k0_off403 v1633_r0) a + S1x1x100.size a ≤ S50000x1x100.size a)
theorem k0_off403_inb : ∀ (v1633_r0 : BitVec 32) (k0_hw190 : k0_chk190 v1633_r0), ∀ a, (k0_off403 v1633_r0) a + S1x1x100.size a ≤ S50000x1x100.size a := fun v1633_r0 k0_hw190 => k0_hw190

def k0_off404 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_757_r0 : BitVec 32 := 184#32
  let v1637_r0 : BitVec 32 := Scalar.addi v0 c184_i32_757_r0
  let c6_i32_758_r0 : BitVec 32 := 6#32
  let v1638_r0 : BitVec 32 := Scalar.addi v1637_r0 c6_i32_758_r0
  let v1639_r0 : Index := Scalar.indexCast v1638_r0
  let c0_i32_0_r0 : BitVec 32 := 0#32
  let c1_i32_r0 : BitVec 32 := 1#32
  let arg25_r0 : BitVec 32 := Scf.iv c0_i32_0_r0 c1_i32_r0 k0_t1
  let v1640_r0 : Index := Scalar.indexCast arg25_r0
  ![v1639_r0.toNat, v1640_r0.toNat]
def k0_off405 (v1641_r0 : BitVec 32) : Fin 3 → Nat :=
  let v1642_r0 : Index := Scalar.indexCast v1641_r0
  let c0_759_r0 : Index := 0#32
  let c0_760_r0 : Index := 0#32
  ![v1642_r0.toNat, 0, 0]

def k0_chk191 (v1641_r0 : BitVec 32) : Prop :=
  (∀ a, (k0_off405 v1641_r0) a + S1x1x100.size a ≤ S50000x1x100.size a)
theorem k0_off405_inb : ∀ (v1641_r0 : BitVec 32) (k0_hw191 : k0_chk191 v1641_r0), ∀ a, (k0_off405 v1641_r0) a + S1x1x100.size a ≤ S50000x1x100.size a := fun v1641_r0 k0_hw191 => k0_hw191

def k0_off406 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c184_i32_761_r0 : BitVec 32 := 184#32
  let v1645_r0 : BitVec 32 := Scalar.addi v0 c184_i32_761_r0
  let c7_i32_762_r0 : BitVec 32 := 7#32
  let v1646_r0 : BitVec 32 := Scalar.addi v1645_r0 c7_i32_762_r0
  let v1647_r0 : Index := Scalar.indexCast v1646_r0
  let c0_i32_0_r0 : BitVec 32 := 0#32
  let c1_i32_r0 : BitVec 32 := 1#32
  let arg25_r0 : BitVec 32 := Scf.iv c0_i32_0_r0 c1_i32_r0 k0_t1
  let v1648_r0 : Index := Scalar.indexCast arg25_r0
  ![v1647_r0.toNat, v1648_r0.toNat]
def k0_off407 (v1649_r0 : BitVec 32) : Fin 3 → Nat :=
  let v1650_r0 : Index := Scalar.indexCast v1649_r0
  let c0_763_r0 : Index := 0#32
  let c0_764_r0 : Index := 0#32
  ![v1650_r0.toNat, 0, 0]

def k0_chk192 (v1649_r0 : BitVec 32) : Prop :=
  (∀ a, (k0_off407 v1649_r0) a + S1x1x100.size a ≤ S50000x1x100.size a)
theorem k0_off407_inb : ∀ (v1649_r0 : BitVec 32) (k0_hw192 : k0_chk192 v1649_r0), ∀ a, (k0_off407 v1649_r0) a + S1x1x100.size a ≤ S50000x1x100.size a := fun v1649_r0 k0_hw192 => k0_hw192

def k0_off408 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1654_r0 : Index := Scalar.indexCast arg25_r0
  let c184_r0 : Index := 184#32
  let c0_765_r0 : Index := 0#32
  ![v1654_r0.toNat, 184, 0]
def k0_off409 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_r0 : BitVec 32 := 192#32
  let v1658_r0 : BitVec 32 := Scalar.addi v0 c192_i32_r0
  let c0_i32_766_r0 : BitVec 32 := 0#32
  let v1659_r0 : BitVec 32 := Scalar.addi v1658_r0 c0_i32_766_r0
  let v1660_r0 : Index := Scalar.indexCast v1659_r0
  let c0_i32_0_r0 : BitVec 32 := 0#32
  let c1_i32_r0 : BitVec 32 := 1#32
  let arg25_r0 : BitVec 32 := Scf.iv c0_i32_0_r0 c1_i32_r0 k0_t1
  let v1661_r0 : Index := Scalar.indexCast arg25_r0
  ![v1660_r0.toNat, v1661_r0.toNat]
def k0_off410 (v1662_r0 : BitVec 32) : Fin 3 → Nat :=
  let v1663_r0 : Index := Scalar.indexCast v1662_r0
  let c0_767_r0 : Index := 0#32
  let c0_768_r0 : Index := 0#32
  ![v1663_r0.toNat, 0, 0]

def k0_chk193 (v1662_r0 : BitVec 32) : Prop :=
  (∀ a, (k0_off410 v1662_r0) a + S1x1x100.size a ≤ S50000x1x100.size a)
theorem k0_off410_inb : ∀ (v1662_r0 : BitVec 32) (k0_hw193 : k0_chk193 v1662_r0), ∀ a, (k0_off410 v1662_r0) a + S1x1x100.size a ≤ S50000x1x100.size a := fun v1662_r0 k0_hw193 => k0_hw193

def k0_off411 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_769_r0 : BitVec 32 := 192#32
  let v1666_r0 : BitVec 32 := Scalar.addi v0 c192_i32_769_r0
  let c1_i32_770_r0 : BitVec 32 := 1#32
  let v1667_r0 : BitVec 32 := Scalar.addi v1666_r0 c1_i32_770_r0
  let v1668_r0 : Index := Scalar.indexCast v1667_r0
  let c0_i32_0_r0 : BitVec 32 := 0#32
  let c1_i32_r0 : BitVec 32 := 1#32
  let arg25_r0 : BitVec 32 := Scf.iv c0_i32_0_r0 c1_i32_r0 k0_t1
  let v1669_r0 : Index := Scalar.indexCast arg25_r0
  ![v1668_r0.toNat, v1669_r0.toNat]
def k0_off412 (v1670_r0 : BitVec 32) : Fin 3 → Nat :=
  let v1671_r0 : Index := Scalar.indexCast v1670_r0
  let c0_771_r0 : Index := 0#32
  let c0_772_r0 : Index := 0#32
  ![v1671_r0.toNat, 0, 0]

def k0_chk194 (v1670_r0 : BitVec 32) : Prop :=
  (∀ a, (k0_off412 v1670_r0) a + S1x1x100.size a ≤ S50000x1x100.size a)
theorem k0_off412_inb : ∀ (v1670_r0 : BitVec 32) (k0_hw194 : k0_chk194 v1670_r0), ∀ a, (k0_off412 v1670_r0) a + S1x1x100.size a ≤ S50000x1x100.size a := fun v1670_r0 k0_hw194 => k0_hw194

def k0_off413 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_773_r0 : BitVec 32 := 192#32
  let v1674_r0 : BitVec 32 := Scalar.addi v0 c192_i32_773_r0
  let c2_i32_774_r0 : BitVec 32 := 2#32
  let v1675_r0 : BitVec 32 := Scalar.addi v1674_r0 c2_i32_774_r0
  let v1676_r0 : Index := Scalar.indexCast v1675_r0
  let c0_i32_0_r0 : BitVec 32 := 0#32
  let c1_i32_r0 : BitVec 32 := 1#32
  let arg25_r0 : BitVec 32 := Scf.iv c0_i32_0_r0 c1_i32_r0 k0_t1
  let v1677_r0 : Index := Scalar.indexCast arg25_r0
  ![v1676_r0.toNat, v1677_r0.toNat]
def k0_off414 (v1678_r0 : BitVec 32) : Fin 3 → Nat :=
  let v1679_r0 : Index := Scalar.indexCast v1678_r0
  let c0_775_r0 : Index := 0#32
  let c0_776_r0 : Index := 0#32
  ![v1679_r0.toNat, 0, 0]

def k0_chk195 (v1678_r0 : BitVec 32) : Prop :=
  (∀ a, (k0_off414 v1678_r0) a + S1x1x100.size a ≤ S50000x1x100.size a)
theorem k0_off414_inb : ∀ (v1678_r0 : BitVec 32) (k0_hw195 : k0_chk195 v1678_r0), ∀ a, (k0_off414 v1678_r0) a + S1x1x100.size a ≤ S50000x1x100.size a := fun v1678_r0 k0_hw195 => k0_hw195

def k0_off415 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_777_r0 : BitVec 32 := 192#32
  let v1682_r0 : BitVec 32 := Scalar.addi v0 c192_i32_777_r0
  let c3_i32_778_r0 : BitVec 32 := 3#32
  let v1683_r0 : BitVec 32 := Scalar.addi v1682_r0 c3_i32_778_r0
  let v1684_r0 : Index := Scalar.indexCast v1683_r0
  let c0_i32_0_r0 : BitVec 32 := 0#32
  let c1_i32_r0 : BitVec 32 := 1#32
  let arg25_r0 : BitVec 32 := Scf.iv c0_i32_0_r0 c1_i32_r0 k0_t1
  let v1685_r0 : Index := Scalar.indexCast arg25_r0
  ![v1684_r0.toNat, v1685_r0.toNat]
def k0_off416 (v1686_r0 : BitVec 32) : Fin 3 → Nat :=
  let v1687_r0 : Index := Scalar.indexCast v1686_r0
  let c0_779_r0 : Index := 0#32
  let c0_780_r0 : Index := 0#32
  ![v1687_r0.toNat, 0, 0]

def k0_chk196 (v1686_r0 : BitVec 32) : Prop :=
  (∀ a, (k0_off416 v1686_r0) a + S1x1x100.size a ≤ S50000x1x100.size a)
theorem k0_off416_inb : ∀ (v1686_r0 : BitVec 32) (k0_hw196 : k0_chk196 v1686_r0), ∀ a, (k0_off416 v1686_r0) a + S1x1x100.size a ≤ S50000x1x100.size a := fun v1686_r0 k0_hw196 => k0_hw196

def k0_off417 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_781_r0 : BitVec 32 := 192#32
  let v1690_r0 : BitVec 32 := Scalar.addi v0 c192_i32_781_r0
  let c4_i32_782_r0 : BitVec 32 := 4#32
  let v1691_r0 : BitVec 32 := Scalar.addi v1690_r0 c4_i32_782_r0
  let v1692_r0 : Index := Scalar.indexCast v1691_r0
  let c0_i32_0_r0 : BitVec 32 := 0#32
  let c1_i32_r0 : BitVec 32 := 1#32
  let arg25_r0 : BitVec 32 := Scf.iv c0_i32_0_r0 c1_i32_r0 k0_t1
  let v1693_r0 : Index := Scalar.indexCast arg25_r0
  ![v1692_r0.toNat, v1693_r0.toNat]
def k0_off418 (v1694_r0 : BitVec 32) : Fin 3 → Nat :=
  let v1695_r0 : Index := Scalar.indexCast v1694_r0
  let c0_783_r0 : Index := 0#32
  let c0_784_r0 : Index := 0#32
  ![v1695_r0.toNat, 0, 0]

def k0_chk197 (v1694_r0 : BitVec 32) : Prop :=
  (∀ a, (k0_off418 v1694_r0) a + S1x1x100.size a ≤ S50000x1x100.size a)
theorem k0_off418_inb : ∀ (v1694_r0 : BitVec 32) (k0_hw197 : k0_chk197 v1694_r0), ∀ a, (k0_off418 v1694_r0) a + S1x1x100.size a ≤ S50000x1x100.size a := fun v1694_r0 k0_hw197 => k0_hw197

def k0_off419 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_785_r0 : BitVec 32 := 192#32
  let v1698_r0 : BitVec 32 := Scalar.addi v0 c192_i32_785_r0
  let c5_i32_786_r0 : BitVec 32 := 5#32
  let v1699_r0 : BitVec 32 := Scalar.addi v1698_r0 c5_i32_786_r0
  let v1700_r0 : Index := Scalar.indexCast v1699_r0
  let c0_i32_0_r0 : BitVec 32 := 0#32
  let c1_i32_r0 : BitVec 32 := 1#32
  let arg25_r0 : BitVec 32 := Scf.iv c0_i32_0_r0 c1_i32_r0 k0_t1
  let v1701_r0 : Index := Scalar.indexCast arg25_r0
  ![v1700_r0.toNat, v1701_r0.toNat]
def k0_off420 (v1702_r0 : BitVec 32) : Fin 3 → Nat :=
  let v1703_r0 : Index := Scalar.indexCast v1702_r0
  let c0_787_r0 : Index := 0#32
  let c0_788_r0 : Index := 0#32
  ![v1703_r0.toNat, 0, 0]

def k0_chk198 (v1702_r0 : BitVec 32) : Prop :=
  (∀ a, (k0_off420 v1702_r0) a + S1x1x100.size a ≤ S50000x1x100.size a)
theorem k0_off420_inb : ∀ (v1702_r0 : BitVec 32) (k0_hw198 : k0_chk198 v1702_r0), ∀ a, (k0_off420 v1702_r0) a + S1x1x100.size a ≤ S50000x1x100.size a := fun v1702_r0 k0_hw198 => k0_hw198

def k0_off421 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_789_r0 : BitVec 32 := 192#32
  let v1706_r0 : BitVec 32 := Scalar.addi v0 c192_i32_789_r0
  let c6_i32_790_r0 : BitVec 32 := 6#32
  let v1707_r0 : BitVec 32 := Scalar.addi v1706_r0 c6_i32_790_r0
  let v1708_r0 : Index := Scalar.indexCast v1707_r0
  let c0_i32_0_r0 : BitVec 32 := 0#32
  let c1_i32_r0 : BitVec 32 := 1#32
  let arg25_r0 : BitVec 32 := Scf.iv c0_i32_0_r0 c1_i32_r0 k0_t1
  let v1709_r0 : Index := Scalar.indexCast arg25_r0
  ![v1708_r0.toNat, v1709_r0.toNat]
def k0_off422 (v1710_r0 : BitVec 32) : Fin 3 → Nat :=
  let v1711_r0 : Index := Scalar.indexCast v1710_r0
  let c0_791_r0 : Index := 0#32
  let c0_792_r0 : Index := 0#32
  ![v1711_r0.toNat, 0, 0]

def k0_chk199 (v1710_r0 : BitVec 32) : Prop :=
  (∀ a, (k0_off422 v1710_r0) a + S1x1x100.size a ≤ S50000x1x100.size a)
theorem k0_off422_inb : ∀ (v1710_r0 : BitVec 32) (k0_hw199 : k0_chk199 v1710_r0), ∀ a, (k0_off422 v1710_r0) a + S1x1x100.size a ≤ S50000x1x100.size a := fun v1710_r0 k0_hw199 => k0_hw199

def k0_off423 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c192_i32_793_r0 : BitVec 32 := 192#32
  let v1714_r0 : BitVec 32 := Scalar.addi v0 c192_i32_793_r0
  let c7_i32_794_r0 : BitVec 32 := 7#32
  let v1715_r0 : BitVec 32 := Scalar.addi v1714_r0 c7_i32_794_r0
  let v1716_r0 : Index := Scalar.indexCast v1715_r0
  let c0_i32_0_r0 : BitVec 32 := 0#32
  let c1_i32_r0 : BitVec 32 := 1#32
  let arg25_r0 : BitVec 32 := Scf.iv c0_i32_0_r0 c1_i32_r0 k0_t1
  let v1717_r0 : Index := Scalar.indexCast arg25_r0
  ![v1716_r0.toNat, v1717_r0.toNat]
def k0_off424 (v1718_r0 : BitVec 32) : Fin 3 → Nat :=
  let v1719_r0 : Index := Scalar.indexCast v1718_r0
  let c0_795_r0 : Index := 0#32
  let c0_796_r0 : Index := 0#32
  ![v1719_r0.toNat, 0, 0]

def k0_chk200 (v1718_r0 : BitVec 32) : Prop :=
  (∀ a, (k0_off424 v1718_r0) a + S1x1x100.size a ≤ S50000x1x100.size a)
theorem k0_off424_inb : ∀ (v1718_r0 : BitVec 32) (k0_hw200 : k0_chk200 v1718_r0), ∀ a, (k0_off424 v1718_r0) a + S1x1x100.size a ≤ S50000x1x100.size a := fun v1718_r0 k0_hw200 => k0_hw200

def k0_off425 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1723_r0 : Index := Scalar.indexCast arg25_r0
  let c192_r0 : Index := 192#32
  let c0_797_r0 : Index := 0#32
  ![v1723_r0.toNat, 192, 0]
def k0_off426 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_r0 : BitVec 32 := 200#32
  let v1727_r0 : BitVec 32 := Scalar.addi v0 c200_i32_r0
  let c0_i32_798_r0 : BitVec 32 := 0#32
  let v1728_r0 : BitVec 32 := Scalar.addi v1727_r0 c0_i32_798_r0
  let v1729_r0 : Index := Scalar.indexCast v1728_r0
  let c0_i32_0_r0 : BitVec 32 := 0#32
  let c1_i32_r0 : BitVec 32 := 1#32
  let arg25_r0 : BitVec 32 := Scf.iv c0_i32_0_r0 c1_i32_r0 k0_t1
  let v1730_r0 : Index := Scalar.indexCast arg25_r0
  ![v1729_r0.toNat, v1730_r0.toNat]
def k0_off427 (v1731_r0 : BitVec 32) : Fin 3 → Nat :=
  let v1732_r0 : Index := Scalar.indexCast v1731_r0
  let c0_799_r0 : Index := 0#32
  let c0_800_r0 : Index := 0#32
  ![v1732_r0.toNat, 0, 0]

def k0_chk201 (v1731_r0 : BitVec 32) : Prop :=
  (∀ a, (k0_off427 v1731_r0) a + S1x1x100.size a ≤ S50000x1x100.size a)
theorem k0_off427_inb : ∀ (v1731_r0 : BitVec 32) (k0_hw201 : k0_chk201 v1731_r0), ∀ a, (k0_off427 v1731_r0) a + S1x1x100.size a ≤ S50000x1x100.size a := fun v1731_r0 k0_hw201 => k0_hw201

def k0_off428 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_801_r0 : BitVec 32 := 200#32
  let v1735_r0 : BitVec 32 := Scalar.addi v0 c200_i32_801_r0
  let c1_i32_802_r0 : BitVec 32 := 1#32
  let v1736_r0 : BitVec 32 := Scalar.addi v1735_r0 c1_i32_802_r0
  let v1737_r0 : Index := Scalar.indexCast v1736_r0
  let c0_i32_0_r0 : BitVec 32 := 0#32
  let c1_i32_r0 : BitVec 32 := 1#32
  let arg25_r0 : BitVec 32 := Scf.iv c0_i32_0_r0 c1_i32_r0 k0_t1
  let v1738_r0 : Index := Scalar.indexCast arg25_r0
  ![v1737_r0.toNat, v1738_r0.toNat]
def k0_off429 (v1739_r0 : BitVec 32) : Fin 3 → Nat :=
  let v1740_r0 : Index := Scalar.indexCast v1739_r0
  let c0_803_r0 : Index := 0#32
  let c0_804_r0 : Index := 0#32
  ![v1740_r0.toNat, 0, 0]

def k0_chk202 (v1739_r0 : BitVec 32) : Prop :=
  (∀ a, (k0_off429 v1739_r0) a + S1x1x100.size a ≤ S50000x1x100.size a)
theorem k0_off429_inb : ∀ (v1739_r0 : BitVec 32) (k0_hw202 : k0_chk202 v1739_r0), ∀ a, (k0_off429 v1739_r0) a + S1x1x100.size a ≤ S50000x1x100.size a := fun v1739_r0 k0_hw202 => k0_hw202

def k0_off430 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_805_r0 : BitVec 32 := 200#32
  let v1743_r0 : BitVec 32 := Scalar.addi v0 c200_i32_805_r0
  let c2_i32_806_r0 : BitVec 32 := 2#32
  let v1744_r0 : BitVec 32 := Scalar.addi v1743_r0 c2_i32_806_r0
  let v1745_r0 : Index := Scalar.indexCast v1744_r0
  let c0_i32_0_r0 : BitVec 32 := 0#32
  let c1_i32_r0 : BitVec 32 := 1#32
  let arg25_r0 : BitVec 32 := Scf.iv c0_i32_0_r0 c1_i32_r0 k0_t1
  let v1746_r0 : Index := Scalar.indexCast arg25_r0
  ![v1745_r0.toNat, v1746_r0.toNat]
def k0_off431 (v1747_r0 : BitVec 32) : Fin 3 → Nat :=
  let v1748_r0 : Index := Scalar.indexCast v1747_r0
  let c0_807_r0 : Index := 0#32
  let c0_808_r0 : Index := 0#32
  ![v1748_r0.toNat, 0, 0]

def k0_chk203 (v1747_r0 : BitVec 32) : Prop :=
  (∀ a, (k0_off431 v1747_r0) a + S1x1x100.size a ≤ S50000x1x100.size a)
theorem k0_off431_inb : ∀ (v1747_r0 : BitVec 32) (k0_hw203 : k0_chk203 v1747_r0), ∀ a, (k0_off431 v1747_r0) a + S1x1x100.size a ≤ S50000x1x100.size a := fun v1747_r0 k0_hw203 => k0_hw203

def k0_off432 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_809_r0 : BitVec 32 := 200#32
  let v1751_r0 : BitVec 32 := Scalar.addi v0 c200_i32_809_r0
  let c3_i32_810_r0 : BitVec 32 := 3#32
  let v1752_r0 : BitVec 32 := Scalar.addi v1751_r0 c3_i32_810_r0
  let v1753_r0 : Index := Scalar.indexCast v1752_r0
  let c0_i32_0_r0 : BitVec 32 := 0#32
  let c1_i32_r0 : BitVec 32 := 1#32
  let arg25_r0 : BitVec 32 := Scf.iv c0_i32_0_r0 c1_i32_r0 k0_t1
  let v1754_r0 : Index := Scalar.indexCast arg25_r0
  ![v1753_r0.toNat, v1754_r0.toNat]
def k0_off433 (v1755_r0 : BitVec 32) : Fin 3 → Nat :=
  let v1756_r0 : Index := Scalar.indexCast v1755_r0
  let c0_811_r0 : Index := 0#32
  let c0_812_r0 : Index := 0#32
  ![v1756_r0.toNat, 0, 0]

def k0_chk204 (v1755_r0 : BitVec 32) : Prop :=
  (∀ a, (k0_off433 v1755_r0) a + S1x1x100.size a ≤ S50000x1x100.size a)
theorem k0_off433_inb : ∀ (v1755_r0 : BitVec 32) (k0_hw204 : k0_chk204 v1755_r0), ∀ a, (k0_off433 v1755_r0) a + S1x1x100.size a ≤ S50000x1x100.size a := fun v1755_r0 k0_hw204 => k0_hw204

def k0_off434 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_813_r0 : BitVec 32 := 200#32
  let v1759_r0 : BitVec 32 := Scalar.addi v0 c200_i32_813_r0
  let c4_i32_814_r0 : BitVec 32 := 4#32
  let v1760_r0 : BitVec 32 := Scalar.addi v1759_r0 c4_i32_814_r0
  let v1761_r0 : Index := Scalar.indexCast v1760_r0
  let c0_i32_0_r0 : BitVec 32 := 0#32
  let c1_i32_r0 : BitVec 32 := 1#32
  let arg25_r0 : BitVec 32 := Scf.iv c0_i32_0_r0 c1_i32_r0 k0_t1
  let v1762_r0 : Index := Scalar.indexCast arg25_r0
  ![v1761_r0.toNat, v1762_r0.toNat]
def k0_off435 (v1763_r0 : BitVec 32) : Fin 3 → Nat :=
  let v1764_r0 : Index := Scalar.indexCast v1763_r0
  let c0_815_r0 : Index := 0#32
  let c0_816_r0 : Index := 0#32
  ![v1764_r0.toNat, 0, 0]

def k0_chk205 (v1763_r0 : BitVec 32) : Prop :=
  (∀ a, (k0_off435 v1763_r0) a + S1x1x100.size a ≤ S50000x1x100.size a)
theorem k0_off435_inb : ∀ (v1763_r0 : BitVec 32) (k0_hw205 : k0_chk205 v1763_r0), ∀ a, (k0_off435 v1763_r0) a + S1x1x100.size a ≤ S50000x1x100.size a := fun v1763_r0 k0_hw205 => k0_hw205

def k0_off436 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_817_r0 : BitVec 32 := 200#32
  let v1767_r0 : BitVec 32 := Scalar.addi v0 c200_i32_817_r0
  let c5_i32_818_r0 : BitVec 32 := 5#32
  let v1768_r0 : BitVec 32 := Scalar.addi v1767_r0 c5_i32_818_r0
  let v1769_r0 : Index := Scalar.indexCast v1768_r0
  let c0_i32_0_r0 : BitVec 32 := 0#32
  let c1_i32_r0 : BitVec 32 := 1#32
  let arg25_r0 : BitVec 32 := Scf.iv c0_i32_0_r0 c1_i32_r0 k0_t1
  let v1770_r0 : Index := Scalar.indexCast arg25_r0
  ![v1769_r0.toNat, v1770_r0.toNat]
def k0_off437 (v1771_r0 : BitVec 32) : Fin 3 → Nat :=
  let v1772_r0 : Index := Scalar.indexCast v1771_r0
  let c0_819_r0 : Index := 0#32
  let c0_820_r0 : Index := 0#32
  ![v1772_r0.toNat, 0, 0]

def k0_chk206 (v1771_r0 : BitVec 32) : Prop :=
  (∀ a, (k0_off437 v1771_r0) a + S1x1x100.size a ≤ S50000x1x100.size a)
theorem k0_off437_inb : ∀ (v1771_r0 : BitVec 32) (k0_hw206 : k0_chk206 v1771_r0), ∀ a, (k0_off437 v1771_r0) a + S1x1x100.size a ≤ S50000x1x100.size a := fun v1771_r0 k0_hw206 => k0_hw206

def k0_off438 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_821_r0 : BitVec 32 := 200#32
  let v1775_r0 : BitVec 32 := Scalar.addi v0 c200_i32_821_r0
  let c6_i32_822_r0 : BitVec 32 := 6#32
  let v1776_r0 : BitVec 32 := Scalar.addi v1775_r0 c6_i32_822_r0
  let v1777_r0 : Index := Scalar.indexCast v1776_r0
  let c0_i32_0_r0 : BitVec 32 := 0#32
  let c1_i32_r0 : BitVec 32 := 1#32
  let arg25_r0 : BitVec 32 := Scf.iv c0_i32_0_r0 c1_i32_r0 k0_t1
  let v1778_r0 : Index := Scalar.indexCast arg25_r0
  ![v1777_r0.toNat, v1778_r0.toNat]
def k0_off439 (v1779_r0 : BitVec 32) : Fin 3 → Nat :=
  let v1780_r0 : Index := Scalar.indexCast v1779_r0
  let c0_823_r0 : Index := 0#32
  let c0_824_r0 : Index := 0#32
  ![v1780_r0.toNat, 0, 0]

def k0_chk207 (v1779_r0 : BitVec 32) : Prop :=
  (∀ a, (k0_off439 v1779_r0) a + S1x1x100.size a ≤ S50000x1x100.size a)
theorem k0_off439_inb : ∀ (v1779_r0 : BitVec 32) (k0_hw207 : k0_chk207 v1779_r0), ∀ a, (k0_off439 v1779_r0) a + S1x1x100.size a ≤ S50000x1x100.size a := fun v1779_r0 k0_hw207 => k0_hw207

def k0_off440 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c200_i32_825_r0 : BitVec 32 := 200#32
  let v1783_r0 : BitVec 32 := Scalar.addi v0 c200_i32_825_r0
  let c7_i32_826_r0 : BitVec 32 := 7#32
  let v1784_r0 : BitVec 32 := Scalar.addi v1783_r0 c7_i32_826_r0
  let v1785_r0 : Index := Scalar.indexCast v1784_r0
  let c0_i32_0_r0 : BitVec 32 := 0#32
  let c1_i32_r0 : BitVec 32 := 1#32
  let arg25_r0 : BitVec 32 := Scf.iv c0_i32_0_r0 c1_i32_r0 k0_t1
  let v1786_r0 : Index := Scalar.indexCast arg25_r0
  ![v1785_r0.toNat, v1786_r0.toNat]
def k0_off441 (v1787_r0 : BitVec 32) : Fin 3 → Nat :=
  let v1788_r0 : Index := Scalar.indexCast v1787_r0
  let c0_827_r0 : Index := 0#32
  let c0_828_r0 : Index := 0#32
  ![v1788_r0.toNat, 0, 0]

def k0_chk208 (v1787_r0 : BitVec 32) : Prop :=
  (∀ a, (k0_off441 v1787_r0) a + S1x1x100.size a ≤ S50000x1x100.size a)
theorem k0_off441_inb : ∀ (v1787_r0 : BitVec 32) (k0_hw208 : k0_chk208 v1787_r0), ∀ a, (k0_off441 v1787_r0) a + S1x1x100.size a ≤ S50000x1x100.size a := fun v1787_r0 k0_hw208 => k0_hw208

def k0_off442 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1792_r0 : Index := Scalar.indexCast arg25_r0
  let c200_r0 : Index := 200#32
  let c0_829_r0 : Index := 0#32
  ![v1792_r0.toNat, 200, 0]
def k0_off443 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_r0 : BitVec 32 := 208#32
  let v1796_r0 : BitVec 32 := Scalar.addi v0 c208_i32_r0
  let c0_i32_830_r0 : BitVec 32 := 0#32
  let v1797_r0 : BitVec 32 := Scalar.addi v1796_r0 c0_i32_830_r0
  let v1798_r0 : Index := Scalar.indexCast v1797_r0
  let c0_i32_0_r0 : BitVec 32 := 0#32
  let c1_i32_r0 : BitVec 32 := 1#32
  let arg25_r0 : BitVec 32 := Scf.iv c0_i32_0_r0 c1_i32_r0 k0_t1
  let v1799_r0 : Index := Scalar.indexCast arg25_r0
  ![v1798_r0.toNat, v1799_r0.toNat]
def k0_off444 (v1800_r0 : BitVec 32) : Fin 3 → Nat :=
  let v1801_r0 : Index := Scalar.indexCast v1800_r0
  let c0_831_r0 : Index := 0#32
  let c0_832_r0 : Index := 0#32
  ![v1801_r0.toNat, 0, 0]

def k0_chk209 (v1800_r0 : BitVec 32) : Prop :=
  (∀ a, (k0_off444 v1800_r0) a + S1x1x100.size a ≤ S50000x1x100.size a)
theorem k0_off444_inb : ∀ (v1800_r0 : BitVec 32) (k0_hw209 : k0_chk209 v1800_r0), ∀ a, (k0_off444 v1800_r0) a + S1x1x100.size a ≤ S50000x1x100.size a := fun v1800_r0 k0_hw209 => k0_hw209

def k0_off445 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_833_r0 : BitVec 32 := 208#32
  let v1804_r0 : BitVec 32 := Scalar.addi v0 c208_i32_833_r0
  let c1_i32_834_r0 : BitVec 32 := 1#32
  let v1805_r0 : BitVec 32 := Scalar.addi v1804_r0 c1_i32_834_r0
  let v1806_r0 : Index := Scalar.indexCast v1805_r0
  let c0_i32_0_r0 : BitVec 32 := 0#32
  let c1_i32_r0 : BitVec 32 := 1#32
  let arg25_r0 : BitVec 32 := Scf.iv c0_i32_0_r0 c1_i32_r0 k0_t1
  let v1807_r0 : Index := Scalar.indexCast arg25_r0
  ![v1806_r0.toNat, v1807_r0.toNat]
def k0_off446 (v1808_r0 : BitVec 32) : Fin 3 → Nat :=
  let v1809_r0 : Index := Scalar.indexCast v1808_r0
  let c0_835_r0 : Index := 0#32
  let c0_836_r0 : Index := 0#32
  ![v1809_r0.toNat, 0, 0]

def k0_chk210 (v1808_r0 : BitVec 32) : Prop :=
  (∀ a, (k0_off446 v1808_r0) a + S1x1x100.size a ≤ S50000x1x100.size a)
theorem k0_off446_inb : ∀ (v1808_r0 : BitVec 32) (k0_hw210 : k0_chk210 v1808_r0), ∀ a, (k0_off446 v1808_r0) a + S1x1x100.size a ≤ S50000x1x100.size a := fun v1808_r0 k0_hw210 => k0_hw210

def k0_off447 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_837_r0 : BitVec 32 := 208#32
  let v1812_r0 : BitVec 32 := Scalar.addi v0 c208_i32_837_r0
  let c2_i32_838_r0 : BitVec 32 := 2#32
  let v1813_r0 : BitVec 32 := Scalar.addi v1812_r0 c2_i32_838_r0
  let v1814_r0 : Index := Scalar.indexCast v1813_r0
  let c0_i32_0_r0 : BitVec 32 := 0#32
  let c1_i32_r0 : BitVec 32 := 1#32
  let arg25_r0 : BitVec 32 := Scf.iv c0_i32_0_r0 c1_i32_r0 k0_t1
  let v1815_r0 : Index := Scalar.indexCast arg25_r0
  ![v1814_r0.toNat, v1815_r0.toNat]
def k0_off448 (v1816_r0 : BitVec 32) : Fin 3 → Nat :=
  let v1817_r0 : Index := Scalar.indexCast v1816_r0
  let c0_839_r0 : Index := 0#32
  let c0_840_r0 : Index := 0#32
  ![v1817_r0.toNat, 0, 0]

def k0_chk211 (v1816_r0 : BitVec 32) : Prop :=
  (∀ a, (k0_off448 v1816_r0) a + S1x1x100.size a ≤ S50000x1x100.size a)
theorem k0_off448_inb : ∀ (v1816_r0 : BitVec 32) (k0_hw211 : k0_chk211 v1816_r0), ∀ a, (k0_off448 v1816_r0) a + S1x1x100.size a ≤ S50000x1x100.size a := fun v1816_r0 k0_hw211 => k0_hw211

def k0_off449 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_841_r0 : BitVec 32 := 208#32
  let v1820_r0 : BitVec 32 := Scalar.addi v0 c208_i32_841_r0
  let c3_i32_842_r0 : BitVec 32 := 3#32
  let v1821_r0 : BitVec 32 := Scalar.addi v1820_r0 c3_i32_842_r0
  let v1822_r0 : Index := Scalar.indexCast v1821_r0
  let c0_i32_0_r0 : BitVec 32 := 0#32
  let c1_i32_r0 : BitVec 32 := 1#32
  let arg25_r0 : BitVec 32 := Scf.iv c0_i32_0_r0 c1_i32_r0 k0_t1
  let v1823_r0 : Index := Scalar.indexCast arg25_r0
  ![v1822_r0.toNat, v1823_r0.toNat]
def k0_off450 (v1824_r0 : BitVec 32) : Fin 3 → Nat :=
  let v1825_r0 : Index := Scalar.indexCast v1824_r0
  let c0_843_r0 : Index := 0#32
  let c0_844_r0 : Index := 0#32
  ![v1825_r0.toNat, 0, 0]

def k0_chk212 (v1824_r0 : BitVec 32) : Prop :=
  (∀ a, (k0_off450 v1824_r0) a + S1x1x100.size a ≤ S50000x1x100.size a)
theorem k0_off450_inb : ∀ (v1824_r0 : BitVec 32) (k0_hw212 : k0_chk212 v1824_r0), ∀ a, (k0_off450 v1824_r0) a + S1x1x100.size a ≤ S50000x1x100.size a := fun v1824_r0 k0_hw212 => k0_hw212

def k0_off451 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_845_r0 : BitVec 32 := 208#32
  let v1828_r0 : BitVec 32 := Scalar.addi v0 c208_i32_845_r0
  let c4_i32_846_r0 : BitVec 32 := 4#32
  let v1829_r0 : BitVec 32 := Scalar.addi v1828_r0 c4_i32_846_r0
  let v1830_r0 : Index := Scalar.indexCast v1829_r0
  let c0_i32_0_r0 : BitVec 32 := 0#32
  let c1_i32_r0 : BitVec 32 := 1#32
  let arg25_r0 : BitVec 32 := Scf.iv c0_i32_0_r0 c1_i32_r0 k0_t1
  let v1831_r0 : Index := Scalar.indexCast arg25_r0
  ![v1830_r0.toNat, v1831_r0.toNat]
def k0_off452 (v1832_r0 : BitVec 32) : Fin 3 → Nat :=
  let v1833_r0 : Index := Scalar.indexCast v1832_r0
  let c0_847_r0 : Index := 0#32
  let c0_848_r0 : Index := 0#32
  ![v1833_r0.toNat, 0, 0]

def k0_chk213 (v1832_r0 : BitVec 32) : Prop :=
  (∀ a, (k0_off452 v1832_r0) a + S1x1x100.size a ≤ S50000x1x100.size a)
theorem k0_off452_inb : ∀ (v1832_r0 : BitVec 32) (k0_hw213 : k0_chk213 v1832_r0), ∀ a, (k0_off452 v1832_r0) a + S1x1x100.size a ≤ S50000x1x100.size a := fun v1832_r0 k0_hw213 => k0_hw213

def k0_off453 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_849_r0 : BitVec 32 := 208#32
  let v1836_r0 : BitVec 32 := Scalar.addi v0 c208_i32_849_r0
  let c5_i32_850_r0 : BitVec 32 := 5#32
  let v1837_r0 : BitVec 32 := Scalar.addi v1836_r0 c5_i32_850_r0
  let v1838_r0 : Index := Scalar.indexCast v1837_r0
  let c0_i32_0_r0 : BitVec 32 := 0#32
  let c1_i32_r0 : BitVec 32 := 1#32
  let arg25_r0 : BitVec 32 := Scf.iv c0_i32_0_r0 c1_i32_r0 k0_t1
  let v1839_r0 : Index := Scalar.indexCast arg25_r0
  ![v1838_r0.toNat, v1839_r0.toNat]
def k0_off454 (v1840_r0 : BitVec 32) : Fin 3 → Nat :=
  let v1841_r0 : Index := Scalar.indexCast v1840_r0
  let c0_851_r0 : Index := 0#32
  let c0_852_r0 : Index := 0#32
  ![v1841_r0.toNat, 0, 0]

def k0_chk214 (v1840_r0 : BitVec 32) : Prop :=
  (∀ a, (k0_off454 v1840_r0) a + S1x1x100.size a ≤ S50000x1x100.size a)
theorem k0_off454_inb : ∀ (v1840_r0 : BitVec 32) (k0_hw214 : k0_chk214 v1840_r0), ∀ a, (k0_off454 v1840_r0) a + S1x1x100.size a ≤ S50000x1x100.size a := fun v1840_r0 k0_hw214 => k0_hw214

def k0_off455 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_853_r0 : BitVec 32 := 208#32
  let v1844_r0 : BitVec 32 := Scalar.addi v0 c208_i32_853_r0
  let c6_i32_854_r0 : BitVec 32 := 6#32
  let v1845_r0 : BitVec 32 := Scalar.addi v1844_r0 c6_i32_854_r0
  let v1846_r0 : Index := Scalar.indexCast v1845_r0
  let c0_i32_0_r0 : BitVec 32 := 0#32
  let c1_i32_r0 : BitVec 32 := 1#32
  let arg25_r0 : BitVec 32 := Scf.iv c0_i32_0_r0 c1_i32_r0 k0_t1
  let v1847_r0 : Index := Scalar.indexCast arg25_r0
  ![v1846_r0.toNat, v1847_r0.toNat]
def k0_off456 (v1848_r0 : BitVec 32) : Fin 3 → Nat :=
  let v1849_r0 : Index := Scalar.indexCast v1848_r0
  let c0_855_r0 : Index := 0#32
  let c0_856_r0 : Index := 0#32
  ![v1849_r0.toNat, 0, 0]

def k0_chk215 (v1848_r0 : BitVec 32) : Prop :=
  (∀ a, (k0_off456 v1848_r0) a + S1x1x100.size a ≤ S50000x1x100.size a)
theorem k0_off456_inb : ∀ (v1848_r0 : BitVec 32) (k0_hw215 : k0_chk215 v1848_r0), ∀ a, (k0_off456 v1848_r0) a + S1x1x100.size a ≤ S50000x1x100.size a := fun v1848_r0 k0_hw215 => k0_hw215

def k0_off457 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c208_i32_857_r0 : BitVec 32 := 208#32
  let v1852_r0 : BitVec 32 := Scalar.addi v0 c208_i32_857_r0
  let c7_i32_858_r0 : BitVec 32 := 7#32
  let v1853_r0 : BitVec 32 := Scalar.addi v1852_r0 c7_i32_858_r0
  let v1854_r0 : Index := Scalar.indexCast v1853_r0
  let c0_i32_0_r0 : BitVec 32 := 0#32
  let c1_i32_r0 : BitVec 32 := 1#32
  let arg25_r0 : BitVec 32 := Scf.iv c0_i32_0_r0 c1_i32_r0 k0_t1
  let v1855_r0 : Index := Scalar.indexCast arg25_r0
  ![v1854_r0.toNat, v1855_r0.toNat]
def k0_off458 (v1856_r0 : BitVec 32) : Fin 3 → Nat :=
  let v1857_r0 : Index := Scalar.indexCast v1856_r0
  let c0_859_r0 : Index := 0#32
  let c0_860_r0 : Index := 0#32
  ![v1857_r0.toNat, 0, 0]

def k0_chk216 (v1856_r0 : BitVec 32) : Prop :=
  (∀ a, (k0_off458 v1856_r0) a + S1x1x100.size a ≤ S50000x1x100.size a)
theorem k0_off458_inb : ∀ (v1856_r0 : BitVec 32) (k0_hw216 : k0_chk216 v1856_r0), ∀ a, (k0_off458 v1856_r0) a + S1x1x100.size a ≤ S50000x1x100.size a := fun v1856_r0 k0_hw216 => k0_hw216

def k0_off459 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1861_r0 : Index := Scalar.indexCast arg25_r0
  let c208_r0 : Index := 208#32
  let c0_861_r0 : Index := 0#32
  ![v1861_r0.toNat, 208, 0]
def k0_off460 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_r0 : BitVec 32 := 216#32
  let v1865_r0 : BitVec 32 := Scalar.addi v0 c216_i32_r0
  let c0_i32_862_r0 : BitVec 32 := 0#32
  let v1866_r0 : BitVec 32 := Scalar.addi v1865_r0 c0_i32_862_r0
  let v1867_r0 : Index := Scalar.indexCast v1866_r0
  let c0_i32_0_r0 : BitVec 32 := 0#32
  let c1_i32_r0 : BitVec 32 := 1#32
  let arg25_r0 : BitVec 32 := Scf.iv c0_i32_0_r0 c1_i32_r0 k0_t1
  let v1868_r0 : Index := Scalar.indexCast arg25_r0
  ![v1867_r0.toNat, v1868_r0.toNat]
def k0_off461 (v1869_r0 : BitVec 32) : Fin 3 → Nat :=
  let v1870_r0 : Index := Scalar.indexCast v1869_r0
  let c0_863_r0 : Index := 0#32
  let c0_864_r0 : Index := 0#32
  ![v1870_r0.toNat, 0, 0]

def k0_chk217 (v1869_r0 : BitVec 32) : Prop :=
  (∀ a, (k0_off461 v1869_r0) a + S1x1x100.size a ≤ S50000x1x100.size a)
theorem k0_off461_inb : ∀ (v1869_r0 : BitVec 32) (k0_hw217 : k0_chk217 v1869_r0), ∀ a, (k0_off461 v1869_r0) a + S1x1x100.size a ≤ S50000x1x100.size a := fun v1869_r0 k0_hw217 => k0_hw217

def k0_off462 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_865_r0 : BitVec 32 := 216#32
  let v1873_r0 : BitVec 32 := Scalar.addi v0 c216_i32_865_r0
  let c1_i32_866_r0 : BitVec 32 := 1#32
  let v1874_r0 : BitVec 32 := Scalar.addi v1873_r0 c1_i32_866_r0
  let v1875_r0 : Index := Scalar.indexCast v1874_r0
  let c0_i32_0_r0 : BitVec 32 := 0#32
  let c1_i32_r0 : BitVec 32 := 1#32
  let arg25_r0 : BitVec 32 := Scf.iv c0_i32_0_r0 c1_i32_r0 k0_t1
  let v1876_r0 : Index := Scalar.indexCast arg25_r0
  ![v1875_r0.toNat, v1876_r0.toNat]
def k0_off463 (v1877_r0 : BitVec 32) : Fin 3 → Nat :=
  let v1878_r0 : Index := Scalar.indexCast v1877_r0
  let c0_867_r0 : Index := 0#32
  let c0_868_r0 : Index := 0#32
  ![v1878_r0.toNat, 0, 0]

def k0_chk218 (v1877_r0 : BitVec 32) : Prop :=
  (∀ a, (k0_off463 v1877_r0) a + S1x1x100.size a ≤ S50000x1x100.size a)
theorem k0_off463_inb : ∀ (v1877_r0 : BitVec 32) (k0_hw218 : k0_chk218 v1877_r0), ∀ a, (k0_off463 v1877_r0) a + S1x1x100.size a ≤ S50000x1x100.size a := fun v1877_r0 k0_hw218 => k0_hw218

def k0_off464 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_869_r0 : BitVec 32 := 216#32
  let v1881_r0 : BitVec 32 := Scalar.addi v0 c216_i32_869_r0
  let c2_i32_870_r0 : BitVec 32 := 2#32
  let v1882_r0 : BitVec 32 := Scalar.addi v1881_r0 c2_i32_870_r0
  let v1883_r0 : Index := Scalar.indexCast v1882_r0
  let c0_i32_0_r0 : BitVec 32 := 0#32
  let c1_i32_r0 : BitVec 32 := 1#32
  let arg25_r0 : BitVec 32 := Scf.iv c0_i32_0_r0 c1_i32_r0 k0_t1
  let v1884_r0 : Index := Scalar.indexCast arg25_r0
  ![v1883_r0.toNat, v1884_r0.toNat]
def k0_off465 (v1885_r0 : BitVec 32) : Fin 3 → Nat :=
  let v1886_r0 : Index := Scalar.indexCast v1885_r0
  let c0_871_r0 : Index := 0#32
  let c0_872_r0 : Index := 0#32
  ![v1886_r0.toNat, 0, 0]

def k0_chk219 (v1885_r0 : BitVec 32) : Prop :=
  (∀ a, (k0_off465 v1885_r0) a + S1x1x100.size a ≤ S50000x1x100.size a)
theorem k0_off465_inb : ∀ (v1885_r0 : BitVec 32) (k0_hw219 : k0_chk219 v1885_r0), ∀ a, (k0_off465 v1885_r0) a + S1x1x100.size a ≤ S50000x1x100.size a := fun v1885_r0 k0_hw219 => k0_hw219

def k0_off466 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_873_r0 : BitVec 32 := 216#32
  let v1889_r0 : BitVec 32 := Scalar.addi v0 c216_i32_873_r0
  let c3_i32_874_r0 : BitVec 32 := 3#32
  let v1890_r0 : BitVec 32 := Scalar.addi v1889_r0 c3_i32_874_r0
  let v1891_r0 : Index := Scalar.indexCast v1890_r0
  let c0_i32_0_r0 : BitVec 32 := 0#32
  let c1_i32_r0 : BitVec 32 := 1#32
  let arg25_r0 : BitVec 32 := Scf.iv c0_i32_0_r0 c1_i32_r0 k0_t1
  let v1892_r0 : Index := Scalar.indexCast arg25_r0
  ![v1891_r0.toNat, v1892_r0.toNat]
def k0_off467 (v1893_r0 : BitVec 32) : Fin 3 → Nat :=
  let v1894_r0 : Index := Scalar.indexCast v1893_r0
  let c0_875_r0 : Index := 0#32
  let c0_876_r0 : Index := 0#32
  ![v1894_r0.toNat, 0, 0]

def k0_chk220 (v1893_r0 : BitVec 32) : Prop :=
  (∀ a, (k0_off467 v1893_r0) a + S1x1x100.size a ≤ S50000x1x100.size a)
theorem k0_off467_inb : ∀ (v1893_r0 : BitVec 32) (k0_hw220 : k0_chk220 v1893_r0), ∀ a, (k0_off467 v1893_r0) a + S1x1x100.size a ≤ S50000x1x100.size a := fun v1893_r0 k0_hw220 => k0_hw220

def k0_off468 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_877_r0 : BitVec 32 := 216#32
  let v1897_r0 : BitVec 32 := Scalar.addi v0 c216_i32_877_r0
  let c4_i32_878_r0 : BitVec 32 := 4#32
  let v1898_r0 : BitVec 32 := Scalar.addi v1897_r0 c4_i32_878_r0
  let v1899_r0 : Index := Scalar.indexCast v1898_r0
  let c0_i32_0_r0 : BitVec 32 := 0#32
  let c1_i32_r0 : BitVec 32 := 1#32
  let arg25_r0 : BitVec 32 := Scf.iv c0_i32_0_r0 c1_i32_r0 k0_t1
  let v1900_r0 : Index := Scalar.indexCast arg25_r0
  ![v1899_r0.toNat, v1900_r0.toNat]
def k0_off469 (v1901_r0 : BitVec 32) : Fin 3 → Nat :=
  let v1902_r0 : Index := Scalar.indexCast v1901_r0
  let c0_879_r0 : Index := 0#32
  let c0_880_r0 : Index := 0#32
  ![v1902_r0.toNat, 0, 0]

def k0_chk221 (v1901_r0 : BitVec 32) : Prop :=
  (∀ a, (k0_off469 v1901_r0) a + S1x1x100.size a ≤ S50000x1x100.size a)
theorem k0_off469_inb : ∀ (v1901_r0 : BitVec 32) (k0_hw221 : k0_chk221 v1901_r0), ∀ a, (k0_off469 v1901_r0) a + S1x1x100.size a ≤ S50000x1x100.size a := fun v1901_r0 k0_hw221 => k0_hw221

def k0_off470 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_881_r0 : BitVec 32 := 216#32
  let v1905_r0 : BitVec 32 := Scalar.addi v0 c216_i32_881_r0
  let c5_i32_882_r0 : BitVec 32 := 5#32
  let v1906_r0 : BitVec 32 := Scalar.addi v1905_r0 c5_i32_882_r0
  let v1907_r0 : Index := Scalar.indexCast v1906_r0
  let c0_i32_0_r0 : BitVec 32 := 0#32
  let c1_i32_r0 : BitVec 32 := 1#32
  let arg25_r0 : BitVec 32 := Scf.iv c0_i32_0_r0 c1_i32_r0 k0_t1
  let v1908_r0 : Index := Scalar.indexCast arg25_r0
  ![v1907_r0.toNat, v1908_r0.toNat]
def k0_off471 (v1909_r0 : BitVec 32) : Fin 3 → Nat :=
  let v1910_r0 : Index := Scalar.indexCast v1909_r0
  let c0_883_r0 : Index := 0#32
  let c0_884_r0 : Index := 0#32
  ![v1910_r0.toNat, 0, 0]

def k0_chk222 (v1909_r0 : BitVec 32) : Prop :=
  (∀ a, (k0_off471 v1909_r0) a + S1x1x100.size a ≤ S50000x1x100.size a)
theorem k0_off471_inb : ∀ (v1909_r0 : BitVec 32) (k0_hw222 : k0_chk222 v1909_r0), ∀ a, (k0_off471 v1909_r0) a + S1x1x100.size a ≤ S50000x1x100.size a := fun v1909_r0 k0_hw222 => k0_hw222

def k0_off472 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_885_r0 : BitVec 32 := 216#32
  let v1913_r0 : BitVec 32 := Scalar.addi v0 c216_i32_885_r0
  let c6_i32_886_r0 : BitVec 32 := 6#32
  let v1914_r0 : BitVec 32 := Scalar.addi v1913_r0 c6_i32_886_r0
  let v1915_r0 : Index := Scalar.indexCast v1914_r0
  let c0_i32_0_r0 : BitVec 32 := 0#32
  let c1_i32_r0 : BitVec 32 := 1#32
  let arg25_r0 : BitVec 32 := Scf.iv c0_i32_0_r0 c1_i32_r0 k0_t1
  let v1916_r0 : Index := Scalar.indexCast arg25_r0
  ![v1915_r0.toNat, v1916_r0.toNat]
def k0_off473 (v1917_r0 : BitVec 32) : Fin 3 → Nat :=
  let v1918_r0 : Index := Scalar.indexCast v1917_r0
  let c0_887_r0 : Index := 0#32
  let c0_888_r0 : Index := 0#32
  ![v1918_r0.toNat, 0, 0]

def k0_chk223 (v1917_r0 : BitVec 32) : Prop :=
  (∀ a, (k0_off473 v1917_r0) a + S1x1x100.size a ≤ S50000x1x100.size a)
theorem k0_off473_inb : ∀ (v1917_r0 : BitVec 32) (k0_hw223 : k0_chk223 v1917_r0), ∀ a, (k0_off473 v1917_r0) a + S1x1x100.size a ≤ S50000x1x100.size a := fun v1917_r0 k0_hw223 => k0_hw223

def k0_off474 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c216_i32_889_r0 : BitVec 32 := 216#32
  let v1921_r0 : BitVec 32 := Scalar.addi v0 c216_i32_889_r0
  let c7_i32_890_r0 : BitVec 32 := 7#32
  let v1922_r0 : BitVec 32 := Scalar.addi v1921_r0 c7_i32_890_r0
  let v1923_r0 : Index := Scalar.indexCast v1922_r0
  let c0_i32_0_r0 : BitVec 32 := 0#32
  let c1_i32_r0 : BitVec 32 := 1#32
  let arg25_r0 : BitVec 32 := Scf.iv c0_i32_0_r0 c1_i32_r0 k0_t1
  let v1924_r0 : Index := Scalar.indexCast arg25_r0
  ![v1923_r0.toNat, v1924_r0.toNat]
def k0_off475 (v1925_r0 : BitVec 32) : Fin 3 → Nat :=
  let v1926_r0 : Index := Scalar.indexCast v1925_r0
  let c0_891_r0 : Index := 0#32
  let c0_892_r0 : Index := 0#32
  ![v1926_r0.toNat, 0, 0]

def k0_chk224 (v1925_r0 : BitVec 32) : Prop :=
  (∀ a, (k0_off475 v1925_r0) a + S1x1x100.size a ≤ S50000x1x100.size a)
theorem k0_off475_inb : ∀ (v1925_r0 : BitVec 32) (k0_hw224 : k0_chk224 v1925_r0), ∀ a, (k0_off475 v1925_r0) a + S1x1x100.size a ≤ S50000x1x100.size a := fun v1925_r0 k0_hw224 => k0_hw224

def k0_off476 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1930_r0 : Index := Scalar.indexCast arg25_r0
  let c216_r0 : Index := 216#32
  let c0_893_r0 : Index := 0#32
  ![v1930_r0.toNat, 216, 0]
def k0_off477 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_r0 : BitVec 32 := 224#32
  let v1934_r0 : BitVec 32 := Scalar.addi v0 c224_i32_r0
  let c0_i32_894_r0 : BitVec 32 := 0#32
  let v1935_r0 : BitVec 32 := Scalar.addi v1934_r0 c0_i32_894_r0
  let v1936_r0 : Index := Scalar.indexCast v1935_r0
  let c0_i32_0_r0 : BitVec 32 := 0#32
  let c1_i32_r0 : BitVec 32 := 1#32
  let arg25_r0 : BitVec 32 := Scf.iv c0_i32_0_r0 c1_i32_r0 k0_t1
  let v1937_r0 : Index := Scalar.indexCast arg25_r0
  ![v1936_r0.toNat, v1937_r0.toNat]
def k0_off478 (v1938_r0 : BitVec 32) : Fin 3 → Nat :=
  let v1939_r0 : Index := Scalar.indexCast v1938_r0
  let c0_895_r0 : Index := 0#32
  let c0_896_r0 : Index := 0#32
  ![v1939_r0.toNat, 0, 0]

def k0_chk225 (v1938_r0 : BitVec 32) : Prop :=
  (∀ a, (k0_off478 v1938_r0) a + S1x1x100.size a ≤ S50000x1x100.size a)
theorem k0_off478_inb : ∀ (v1938_r0 : BitVec 32) (k0_hw225 : k0_chk225 v1938_r0), ∀ a, (k0_off478 v1938_r0) a + S1x1x100.size a ≤ S50000x1x100.size a := fun v1938_r0 k0_hw225 => k0_hw225

def k0_off479 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_897_r0 : BitVec 32 := 224#32
  let v1942_r0 : BitVec 32 := Scalar.addi v0 c224_i32_897_r0
  let c1_i32_898_r0 : BitVec 32 := 1#32
  let v1943_r0 : BitVec 32 := Scalar.addi v1942_r0 c1_i32_898_r0
  let v1944_r0 : Index := Scalar.indexCast v1943_r0
  let c0_i32_0_r0 : BitVec 32 := 0#32
  let c1_i32_r0 : BitVec 32 := 1#32
  let arg25_r0 : BitVec 32 := Scf.iv c0_i32_0_r0 c1_i32_r0 k0_t1
  let v1945_r0 : Index := Scalar.indexCast arg25_r0
  ![v1944_r0.toNat, v1945_r0.toNat]
def k0_off480 (v1946_r0 : BitVec 32) : Fin 3 → Nat :=
  let v1947_r0 : Index := Scalar.indexCast v1946_r0
  let c0_899_r0 : Index := 0#32
  let c0_900_r0 : Index := 0#32
  ![v1947_r0.toNat, 0, 0]

def k0_chk226 (v1946_r0 : BitVec 32) : Prop :=
  (∀ a, (k0_off480 v1946_r0) a + S1x1x100.size a ≤ S50000x1x100.size a)
theorem k0_off480_inb : ∀ (v1946_r0 : BitVec 32) (k0_hw226 : k0_chk226 v1946_r0), ∀ a, (k0_off480 v1946_r0) a + S1x1x100.size a ≤ S50000x1x100.size a := fun v1946_r0 k0_hw226 => k0_hw226

def k0_off481 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_901_r0 : BitVec 32 := 224#32
  let v1950_r0 : BitVec 32 := Scalar.addi v0 c224_i32_901_r0
  let c2_i32_902_r0 : BitVec 32 := 2#32
  let v1951_r0 : BitVec 32 := Scalar.addi v1950_r0 c2_i32_902_r0
  let v1952_r0 : Index := Scalar.indexCast v1951_r0
  let c0_i32_0_r0 : BitVec 32 := 0#32
  let c1_i32_r0 : BitVec 32 := 1#32
  let arg25_r0 : BitVec 32 := Scf.iv c0_i32_0_r0 c1_i32_r0 k0_t1
  let v1953_r0 : Index := Scalar.indexCast arg25_r0
  ![v1952_r0.toNat, v1953_r0.toNat]
def k0_off482 (v1954_r0 : BitVec 32) : Fin 3 → Nat :=
  let v1955_r0 : Index := Scalar.indexCast v1954_r0
  let c0_903_r0 : Index := 0#32
  let c0_904_r0 : Index := 0#32
  ![v1955_r0.toNat, 0, 0]

def k0_chk227 (v1954_r0 : BitVec 32) : Prop :=
  (∀ a, (k0_off482 v1954_r0) a + S1x1x100.size a ≤ S50000x1x100.size a)
theorem k0_off482_inb : ∀ (v1954_r0 : BitVec 32) (k0_hw227 : k0_chk227 v1954_r0), ∀ a, (k0_off482 v1954_r0) a + S1x1x100.size a ≤ S50000x1x100.size a := fun v1954_r0 k0_hw227 => k0_hw227

def k0_off483 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_905_r0 : BitVec 32 := 224#32
  let v1958_r0 : BitVec 32 := Scalar.addi v0 c224_i32_905_r0
  let c3_i32_906_r0 : BitVec 32 := 3#32
  let v1959_r0 : BitVec 32 := Scalar.addi v1958_r0 c3_i32_906_r0
  let v1960_r0 : Index := Scalar.indexCast v1959_r0
  let c0_i32_0_r0 : BitVec 32 := 0#32
  let c1_i32_r0 : BitVec 32 := 1#32
  let arg25_r0 : BitVec 32 := Scf.iv c0_i32_0_r0 c1_i32_r0 k0_t1
  let v1961_r0 : Index := Scalar.indexCast arg25_r0
  ![v1960_r0.toNat, v1961_r0.toNat]
def k0_off484 (v1962_r0 : BitVec 32) : Fin 3 → Nat :=
  let v1963_r0 : Index := Scalar.indexCast v1962_r0
  let c0_907_r0 : Index := 0#32
  let c0_908_r0 : Index := 0#32
  ![v1963_r0.toNat, 0, 0]

def k0_chk228 (v1962_r0 : BitVec 32) : Prop :=
  (∀ a, (k0_off484 v1962_r0) a + S1x1x100.size a ≤ S50000x1x100.size a)
theorem k0_off484_inb : ∀ (v1962_r0 : BitVec 32) (k0_hw228 : k0_chk228 v1962_r0), ∀ a, (k0_off484 v1962_r0) a + S1x1x100.size a ≤ S50000x1x100.size a := fun v1962_r0 k0_hw228 => k0_hw228

def k0_off485 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_909_r0 : BitVec 32 := 224#32
  let v1966_r0 : BitVec 32 := Scalar.addi v0 c224_i32_909_r0
  let c4_i32_910_r0 : BitVec 32 := 4#32
  let v1967_r0 : BitVec 32 := Scalar.addi v1966_r0 c4_i32_910_r0
  let v1968_r0 : Index := Scalar.indexCast v1967_r0
  let c0_i32_0_r0 : BitVec 32 := 0#32
  let c1_i32_r0 : BitVec 32 := 1#32
  let arg25_r0 : BitVec 32 := Scf.iv c0_i32_0_r0 c1_i32_r0 k0_t1
  let v1969_r0 : Index := Scalar.indexCast arg25_r0
  ![v1968_r0.toNat, v1969_r0.toNat]
def k0_off486 (v1970_r0 : BitVec 32) : Fin 3 → Nat :=
  let v1971_r0 : Index := Scalar.indexCast v1970_r0
  let c0_911_r0 : Index := 0#32
  let c0_912_r0 : Index := 0#32
  ![v1971_r0.toNat, 0, 0]

def k0_chk229 (v1970_r0 : BitVec 32) : Prop :=
  (∀ a, (k0_off486 v1970_r0) a + S1x1x100.size a ≤ S50000x1x100.size a)
theorem k0_off486_inb : ∀ (v1970_r0 : BitVec 32) (k0_hw229 : k0_chk229 v1970_r0), ∀ a, (k0_off486 v1970_r0) a + S1x1x100.size a ≤ S50000x1x100.size a := fun v1970_r0 k0_hw229 => k0_hw229

def k0_off487 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_913_r0 : BitVec 32 := 224#32
  let v1974_r0 : BitVec 32 := Scalar.addi v0 c224_i32_913_r0
  let c5_i32_914_r0 : BitVec 32 := 5#32
  let v1975_r0 : BitVec 32 := Scalar.addi v1974_r0 c5_i32_914_r0
  let v1976_r0 : Index := Scalar.indexCast v1975_r0
  let c0_i32_0_r0 : BitVec 32 := 0#32
  let c1_i32_r0 : BitVec 32 := 1#32
  let arg25_r0 : BitVec 32 := Scf.iv c0_i32_0_r0 c1_i32_r0 k0_t1
  let v1977_r0 : Index := Scalar.indexCast arg25_r0
  ![v1976_r0.toNat, v1977_r0.toNat]
def k0_off488 (v1978_r0 : BitVec 32) : Fin 3 → Nat :=
  let v1979_r0 : Index := Scalar.indexCast v1978_r0
  let c0_915_r0 : Index := 0#32
  let c0_916_r0 : Index := 0#32
  ![v1979_r0.toNat, 0, 0]

def k0_chk230 (v1978_r0 : BitVec 32) : Prop :=
  (∀ a, (k0_off488 v1978_r0) a + S1x1x100.size a ≤ S50000x1x100.size a)
theorem k0_off488_inb : ∀ (v1978_r0 : BitVec 32) (k0_hw230 : k0_chk230 v1978_r0), ∀ a, (k0_off488 v1978_r0) a + S1x1x100.size a ≤ S50000x1x100.size a := fun v1978_r0 k0_hw230 => k0_hw230

def k0_off489 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_917_r0 : BitVec 32 := 224#32
  let v1982_r0 : BitVec 32 := Scalar.addi v0 c224_i32_917_r0
  let c6_i32_918_r0 : BitVec 32 := 6#32
  let v1983_r0 : BitVec 32 := Scalar.addi v1982_r0 c6_i32_918_r0
  let v1984_r0 : Index := Scalar.indexCast v1983_r0
  let c0_i32_0_r0 : BitVec 32 := 0#32
  let c1_i32_r0 : BitVec 32 := 1#32
  let arg25_r0 : BitVec 32 := Scf.iv c0_i32_0_r0 c1_i32_r0 k0_t1
  let v1985_r0 : Index := Scalar.indexCast arg25_r0
  ![v1984_r0.toNat, v1985_r0.toNat]
def k0_off490 (v1986_r0 : BitVec 32) : Fin 3 → Nat :=
  let v1987_r0 : Index := Scalar.indexCast v1986_r0
  let c0_919_r0 : Index := 0#32
  let c0_920_r0 : Index := 0#32
  ![v1987_r0.toNat, 0, 0]

def k0_chk231 (v1986_r0 : BitVec 32) : Prop :=
  (∀ a, (k0_off490 v1986_r0) a + S1x1x100.size a ≤ S50000x1x100.size a)
theorem k0_off490_inb : ∀ (v1986_r0 : BitVec 32) (k0_hw231 : k0_chk231 v1986_r0), ∀ a, (k0_off490 v1986_r0) a + S1x1x100.size a ≤ S50000x1x100.size a := fun v1986_r0 k0_hw231 => k0_hw231

def k0_off491 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c224_i32_921_r0 : BitVec 32 := 224#32
  let v1990_r0 : BitVec 32 := Scalar.addi v0 c224_i32_921_r0
  let c7_i32_922_r0 : BitVec 32 := 7#32
  let v1991_r0 : BitVec 32 := Scalar.addi v1990_r0 c7_i32_922_r0
  let v1992_r0 : Index := Scalar.indexCast v1991_r0
  let c0_i32_0_r0 : BitVec 32 := 0#32
  let c1_i32_r0 : BitVec 32 := 1#32
  let arg25_r0 : BitVec 32 := Scf.iv c0_i32_0_r0 c1_i32_r0 k0_t1
  let v1993_r0 : Index := Scalar.indexCast arg25_r0
  ![v1992_r0.toNat, v1993_r0.toNat]
def k0_off492 (v1994_r0 : BitVec 32) : Fin 3 → Nat :=
  let v1995_r0 : Index := Scalar.indexCast v1994_r0
  let c0_923_r0 : Index := 0#32
  let c0_924_r0 : Index := 0#32
  ![v1995_r0.toNat, 0, 0]

def k0_chk232 (v1994_r0 : BitVec 32) : Prop :=
  (∀ a, (k0_off492 v1994_r0) a + S1x1x100.size a ≤ S50000x1x100.size a)
theorem k0_off492_inb : ∀ (v1994_r0 : BitVec 32) (k0_hw232 : k0_chk232 v1994_r0), ∀ a, (k0_off492 v1994_r0) a + S1x1x100.size a ≤ S50000x1x100.size a := fun v1994_r0 k0_hw232 => k0_hw232

def k0_off493 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v1999_r0 : Index := Scalar.indexCast arg25_r0
  let c224_r0 : Index := 224#32
  let c0_925_r0 : Index := 0#32
  ![v1999_r0.toNat, 224, 0]
def k0_off494 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_r0 : BitVec 32 := 232#32
  let v2003_r0 : BitVec 32 := Scalar.addi v0 c232_i32_r0
  let c0_i32_926_r0 : BitVec 32 := 0#32
  let v2004_r0 : BitVec 32 := Scalar.addi v2003_r0 c0_i32_926_r0
  let v2005_r0 : Index := Scalar.indexCast v2004_r0
  let c0_i32_0_r0 : BitVec 32 := 0#32
  let c1_i32_r0 : BitVec 32 := 1#32
  let arg25_r0 : BitVec 32 := Scf.iv c0_i32_0_r0 c1_i32_r0 k0_t1
  let v2006_r0 : Index := Scalar.indexCast arg25_r0
  ![v2005_r0.toNat, v2006_r0.toNat]
def k0_off495 (v2007_r0 : BitVec 32) : Fin 3 → Nat :=
  let v2008_r0 : Index := Scalar.indexCast v2007_r0
  let c0_927_r0 : Index := 0#32
  let c0_928_r0 : Index := 0#32
  ![v2008_r0.toNat, 0, 0]

def k0_chk233 (v2007_r0 : BitVec 32) : Prop :=
  (∀ a, (k0_off495 v2007_r0) a + S1x1x100.size a ≤ S50000x1x100.size a)
theorem k0_off495_inb : ∀ (v2007_r0 : BitVec 32) (k0_hw233 : k0_chk233 v2007_r0), ∀ a, (k0_off495 v2007_r0) a + S1x1x100.size a ≤ S50000x1x100.size a := fun v2007_r0 k0_hw233 => k0_hw233

def k0_off496 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_929_r0 : BitVec 32 := 232#32
  let v2011_r0 : BitVec 32 := Scalar.addi v0 c232_i32_929_r0
  let c1_i32_930_r0 : BitVec 32 := 1#32
  let v2012_r0 : BitVec 32 := Scalar.addi v2011_r0 c1_i32_930_r0
  let v2013_r0 : Index := Scalar.indexCast v2012_r0
  let c0_i32_0_r0 : BitVec 32 := 0#32
  let c1_i32_r0 : BitVec 32 := 1#32
  let arg25_r0 : BitVec 32 := Scf.iv c0_i32_0_r0 c1_i32_r0 k0_t1
  let v2014_r0 : Index := Scalar.indexCast arg25_r0
  ![v2013_r0.toNat, v2014_r0.toNat]
def k0_off497 (v2015_r0 : BitVec 32) : Fin 3 → Nat :=
  let v2016_r0 : Index := Scalar.indexCast v2015_r0
  let c0_931_r0 : Index := 0#32
  let c0_932_r0 : Index := 0#32
  ![v2016_r0.toNat, 0, 0]

def k0_chk234 (v2015_r0 : BitVec 32) : Prop :=
  (∀ a, (k0_off497 v2015_r0) a + S1x1x100.size a ≤ S50000x1x100.size a)
theorem k0_off497_inb : ∀ (v2015_r0 : BitVec 32) (k0_hw234 : k0_chk234 v2015_r0), ∀ a, (k0_off497 v2015_r0) a + S1x1x100.size a ≤ S50000x1x100.size a := fun v2015_r0 k0_hw234 => k0_hw234

def k0_off498 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_933_r0 : BitVec 32 := 232#32
  let v2019_r0 : BitVec 32 := Scalar.addi v0 c232_i32_933_r0
  let c2_i32_934_r0 : BitVec 32 := 2#32
  let v2020_r0 : BitVec 32 := Scalar.addi v2019_r0 c2_i32_934_r0
  let v2021_r0 : Index := Scalar.indexCast v2020_r0
  let c0_i32_0_r0 : BitVec 32 := 0#32
  let c1_i32_r0 : BitVec 32 := 1#32
  let arg25_r0 : BitVec 32 := Scf.iv c0_i32_0_r0 c1_i32_r0 k0_t1
  let v2022_r0 : Index := Scalar.indexCast arg25_r0
  ![v2021_r0.toNat, v2022_r0.toNat]
def k0_off499 (v2023_r0 : BitVec 32) : Fin 3 → Nat :=
  let v2024_r0 : Index := Scalar.indexCast v2023_r0
  let c0_935_r0 : Index := 0#32
  let c0_936_r0 : Index := 0#32
  ![v2024_r0.toNat, 0, 0]

def k0_chk235 (v2023_r0 : BitVec 32) : Prop :=
  (∀ a, (k0_off499 v2023_r0) a + S1x1x100.size a ≤ S50000x1x100.size a)
theorem k0_off499_inb : ∀ (v2023_r0 : BitVec 32) (k0_hw235 : k0_chk235 v2023_r0), ∀ a, (k0_off499 v2023_r0) a + S1x1x100.size a ≤ S50000x1x100.size a := fun v2023_r0 k0_hw235 => k0_hw235

def k0_off500 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_937_r0 : BitVec 32 := 232#32
  let v2027_r0 : BitVec 32 := Scalar.addi v0 c232_i32_937_r0
  let c3_i32_938_r0 : BitVec 32 := 3#32
  let v2028_r0 : BitVec 32 := Scalar.addi v2027_r0 c3_i32_938_r0
  let v2029_r0 : Index := Scalar.indexCast v2028_r0
  let c0_i32_0_r0 : BitVec 32 := 0#32
  let c1_i32_r0 : BitVec 32 := 1#32
  let arg25_r0 : BitVec 32 := Scf.iv c0_i32_0_r0 c1_i32_r0 k0_t1
  let v2030_r0 : Index := Scalar.indexCast arg25_r0
  ![v2029_r0.toNat, v2030_r0.toNat]
def k0_off501 (v2031_r0 : BitVec 32) : Fin 3 → Nat :=
  let v2032_r0 : Index := Scalar.indexCast v2031_r0
  let c0_939_r0 : Index := 0#32
  let c0_940_r0 : Index := 0#32
  ![v2032_r0.toNat, 0, 0]

def k0_chk236 (v2031_r0 : BitVec 32) : Prop :=
  (∀ a, (k0_off501 v2031_r0) a + S1x1x100.size a ≤ S50000x1x100.size a)
theorem k0_off501_inb : ∀ (v2031_r0 : BitVec 32) (k0_hw236 : k0_chk236 v2031_r0), ∀ a, (k0_off501 v2031_r0) a + S1x1x100.size a ≤ S50000x1x100.size a := fun v2031_r0 k0_hw236 => k0_hw236

def k0_off502 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_941_r0 : BitVec 32 := 232#32
  let v2035_r0 : BitVec 32 := Scalar.addi v0 c232_i32_941_r0
  let c4_i32_942_r0 : BitVec 32 := 4#32
  let v2036_r0 : BitVec 32 := Scalar.addi v2035_r0 c4_i32_942_r0
  let v2037_r0 : Index := Scalar.indexCast v2036_r0
  let c0_i32_0_r0 : BitVec 32 := 0#32
  let c1_i32_r0 : BitVec 32 := 1#32
  let arg25_r0 : BitVec 32 := Scf.iv c0_i32_0_r0 c1_i32_r0 k0_t1
  let v2038_r0 : Index := Scalar.indexCast arg25_r0
  ![v2037_r0.toNat, v2038_r0.toNat]
def k0_off503 (v2039_r0 : BitVec 32) : Fin 3 → Nat :=
  let v2040_r0 : Index := Scalar.indexCast v2039_r0
  let c0_943_r0 : Index := 0#32
  let c0_944_r0 : Index := 0#32
  ![v2040_r0.toNat, 0, 0]

def k0_chk237 (v2039_r0 : BitVec 32) : Prop :=
  (∀ a, (k0_off503 v2039_r0) a + S1x1x100.size a ≤ S50000x1x100.size a)
theorem k0_off503_inb : ∀ (v2039_r0 : BitVec 32) (k0_hw237 : k0_chk237 v2039_r0), ∀ a, (k0_off503 v2039_r0) a + S1x1x100.size a ≤ S50000x1x100.size a := fun v2039_r0 k0_hw237 => k0_hw237

def k0_off504 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_945_r0 : BitVec 32 := 232#32
  let v2043_r0 : BitVec 32 := Scalar.addi v0 c232_i32_945_r0
  let c5_i32_946_r0 : BitVec 32 := 5#32
  let v2044_r0 : BitVec 32 := Scalar.addi v2043_r0 c5_i32_946_r0
  let v2045_r0 : Index := Scalar.indexCast v2044_r0
  let c0_i32_0_r0 : BitVec 32 := 0#32
  let c1_i32_r0 : BitVec 32 := 1#32
  let arg25_r0 : BitVec 32 := Scf.iv c0_i32_0_r0 c1_i32_r0 k0_t1
  let v2046_r0 : Index := Scalar.indexCast arg25_r0
  ![v2045_r0.toNat, v2046_r0.toNat]
def k0_off505 (v2047_r0 : BitVec 32) : Fin 3 → Nat :=
  let v2048_r0 : Index := Scalar.indexCast v2047_r0
  let c0_947_r0 : Index := 0#32
  let c0_948_r0 : Index := 0#32
  ![v2048_r0.toNat, 0, 0]

def k0_chk238 (v2047_r0 : BitVec 32) : Prop :=
  (∀ a, (k0_off505 v2047_r0) a + S1x1x100.size a ≤ S50000x1x100.size a)
theorem k0_off505_inb : ∀ (v2047_r0 : BitVec 32) (k0_hw238 : k0_chk238 v2047_r0), ∀ a, (k0_off505 v2047_r0) a + S1x1x100.size a ≤ S50000x1x100.size a := fun v2047_r0 k0_hw238 => k0_hw238

def k0_off506 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_949_r0 : BitVec 32 := 232#32
  let v2051_r0 : BitVec 32 := Scalar.addi v0 c232_i32_949_r0
  let c6_i32_950_r0 : BitVec 32 := 6#32
  let v2052_r0 : BitVec 32 := Scalar.addi v2051_r0 c6_i32_950_r0
  let v2053_r0 : Index := Scalar.indexCast v2052_r0
  let c0_i32_0_r0 : BitVec 32 := 0#32
  let c1_i32_r0 : BitVec 32 := 1#32
  let arg25_r0 : BitVec 32 := Scf.iv c0_i32_0_r0 c1_i32_r0 k0_t1
  let v2054_r0 : Index := Scalar.indexCast arg25_r0
  ![v2053_r0.toNat, v2054_r0.toNat]
def k0_off507 (v2055_r0 : BitVec 32) : Fin 3 → Nat :=
  let v2056_r0 : Index := Scalar.indexCast v2055_r0
  let c0_951_r0 : Index := 0#32
  let c0_952_r0 : Index := 0#32
  ![v2056_r0.toNat, 0, 0]

def k0_chk239 (v2055_r0 : BitVec 32) : Prop :=
  (∀ a, (k0_off507 v2055_r0) a + S1x1x100.size a ≤ S50000x1x100.size a)
theorem k0_off507_inb : ∀ (v2055_r0 : BitVec 32) (k0_hw239 : k0_chk239 v2055_r0), ∀ a, (k0_off507 v2055_r0) a + S1x1x100.size a ≤ S50000x1x100.size a := fun v2055_r0 k0_hw239 => k0_hw239

def k0_off508 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c232_i32_953_r0 : BitVec 32 := 232#32
  let v2059_r0 : BitVec 32 := Scalar.addi v0 c232_i32_953_r0
  let c7_i32_954_r0 : BitVec 32 := 7#32
  let v2060_r0 : BitVec 32 := Scalar.addi v2059_r0 c7_i32_954_r0
  let v2061_r0 : Index := Scalar.indexCast v2060_r0
  let c0_i32_0_r0 : BitVec 32 := 0#32
  let c1_i32_r0 : BitVec 32 := 1#32
  let arg25_r0 : BitVec 32 := Scf.iv c0_i32_0_r0 c1_i32_r0 k0_t1
  let v2062_r0 : Index := Scalar.indexCast arg25_r0
  ![v2061_r0.toNat, v2062_r0.toNat]
def k0_off509 (v2063_r0 : BitVec 32) : Fin 3 → Nat :=
  let v2064_r0 : Index := Scalar.indexCast v2063_r0
  let c0_955_r0 : Index := 0#32
  let c0_956_r0 : Index := 0#32
  ![v2064_r0.toNat, 0, 0]

def k0_chk240 (v2063_r0 : BitVec 32) : Prop :=
  (∀ a, (k0_off509 v2063_r0) a + S1x1x100.size a ≤ S50000x1x100.size a)
theorem k0_off509_inb : ∀ (v2063_r0 : BitVec 32) (k0_hw240 : k0_chk240 v2063_r0), ∀ a, (k0_off509 v2063_r0) a + S1x1x100.size a ≤ S50000x1x100.size a := fun v2063_r0 k0_hw240 => k0_hw240

def k0_off510 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v2068_r0 : Index := Scalar.indexCast arg25_r0
  let c232_r0 : Index := 232#32
  let c0_957_r0 : Index := 0#32
  ![v2068_r0.toNat, 232, 0]
def k0_off511 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_r0 : BitVec 32 := 240#32
  let v2072_r0 : BitVec 32 := Scalar.addi v0 c240_i32_r0
  let c0_i32_958_r0 : BitVec 32 := 0#32
  let v2073_r0 : BitVec 32 := Scalar.addi v2072_r0 c0_i32_958_r0
  let v2074_r0 : Index := Scalar.indexCast v2073_r0
  let c0_i32_0_r0 : BitVec 32 := 0#32
  let c1_i32_r0 : BitVec 32 := 1#32
  let arg25_r0 : BitVec 32 := Scf.iv c0_i32_0_r0 c1_i32_r0 k0_t1
  let v2075_r0 : Index := Scalar.indexCast arg25_r0
  ![v2074_r0.toNat, v2075_r0.toNat]
def k0_off512 (v2076_r0 : BitVec 32) : Fin 3 → Nat :=
  let v2077_r0 : Index := Scalar.indexCast v2076_r0
  let c0_959_r0 : Index := 0#32
  let c0_960_r0 : Index := 0#32
  ![v2077_r0.toNat, 0, 0]

def k0_chk241 (v2076_r0 : BitVec 32) : Prop :=
  (∀ a, (k0_off512 v2076_r0) a + S1x1x100.size a ≤ S50000x1x100.size a)
theorem k0_off512_inb : ∀ (v2076_r0 : BitVec 32) (k0_hw241 : k0_chk241 v2076_r0), ∀ a, (k0_off512 v2076_r0) a + S1x1x100.size a ≤ S50000x1x100.size a := fun v2076_r0 k0_hw241 => k0_hw241

def k0_off513 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_961_r0 : BitVec 32 := 240#32
  let v2080_r0 : BitVec 32 := Scalar.addi v0 c240_i32_961_r0
  let c1_i32_962_r0 : BitVec 32 := 1#32
  let v2081_r0 : BitVec 32 := Scalar.addi v2080_r0 c1_i32_962_r0
  let v2082_r0 : Index := Scalar.indexCast v2081_r0
  let c0_i32_0_r0 : BitVec 32 := 0#32
  let c1_i32_r0 : BitVec 32 := 1#32
  let arg25_r0 : BitVec 32 := Scf.iv c0_i32_0_r0 c1_i32_r0 k0_t1
  let v2083_r0 : Index := Scalar.indexCast arg25_r0
  ![v2082_r0.toNat, v2083_r0.toNat]
def k0_off514 (v2084_r0 : BitVec 32) : Fin 3 → Nat :=
  let v2085_r0 : Index := Scalar.indexCast v2084_r0
  let c0_963_r0 : Index := 0#32
  let c0_964_r0 : Index := 0#32
  ![v2085_r0.toNat, 0, 0]

def k0_chk242 (v2084_r0 : BitVec 32) : Prop :=
  (∀ a, (k0_off514 v2084_r0) a + S1x1x100.size a ≤ S50000x1x100.size a)
theorem k0_off514_inb : ∀ (v2084_r0 : BitVec 32) (k0_hw242 : k0_chk242 v2084_r0), ∀ a, (k0_off514 v2084_r0) a + S1x1x100.size a ≤ S50000x1x100.size a := fun v2084_r0 k0_hw242 => k0_hw242

def k0_off515 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_965_r0 : BitVec 32 := 240#32
  let v2088_r0 : BitVec 32 := Scalar.addi v0 c240_i32_965_r0
  let c2_i32_966_r0 : BitVec 32 := 2#32
  let v2089_r0 : BitVec 32 := Scalar.addi v2088_r0 c2_i32_966_r0
  let v2090_r0 : Index := Scalar.indexCast v2089_r0
  let c0_i32_0_r0 : BitVec 32 := 0#32
  let c1_i32_r0 : BitVec 32 := 1#32
  let arg25_r0 : BitVec 32 := Scf.iv c0_i32_0_r0 c1_i32_r0 k0_t1
  let v2091_r0 : Index := Scalar.indexCast arg25_r0
  ![v2090_r0.toNat, v2091_r0.toNat]
def k0_off516 (v2092_r0 : BitVec 32) : Fin 3 → Nat :=
  let v2093_r0 : Index := Scalar.indexCast v2092_r0
  let c0_967_r0 : Index := 0#32
  let c0_968_r0 : Index := 0#32
  ![v2093_r0.toNat, 0, 0]

def k0_chk243 (v2092_r0 : BitVec 32) : Prop :=
  (∀ a, (k0_off516 v2092_r0) a + S1x1x100.size a ≤ S50000x1x100.size a)
theorem k0_off516_inb : ∀ (v2092_r0 : BitVec 32) (k0_hw243 : k0_chk243 v2092_r0), ∀ a, (k0_off516 v2092_r0) a + S1x1x100.size a ≤ S50000x1x100.size a := fun v2092_r0 k0_hw243 => k0_hw243

def k0_off517 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_969_r0 : BitVec 32 := 240#32
  let v2096_r0 : BitVec 32 := Scalar.addi v0 c240_i32_969_r0
  let c3_i32_970_r0 : BitVec 32 := 3#32
  let v2097_r0 : BitVec 32 := Scalar.addi v2096_r0 c3_i32_970_r0
  let v2098_r0 : Index := Scalar.indexCast v2097_r0
  let c0_i32_0_r0 : BitVec 32 := 0#32
  let c1_i32_r0 : BitVec 32 := 1#32
  let arg25_r0 : BitVec 32 := Scf.iv c0_i32_0_r0 c1_i32_r0 k0_t1
  let v2099_r0 : Index := Scalar.indexCast arg25_r0
  ![v2098_r0.toNat, v2099_r0.toNat]
def k0_off518 (v2100_r0 : BitVec 32) : Fin 3 → Nat :=
  let v2101_r0 : Index := Scalar.indexCast v2100_r0
  let c0_971_r0 : Index := 0#32
  let c0_972_r0 : Index := 0#32
  ![v2101_r0.toNat, 0, 0]

def k0_chk244 (v2100_r0 : BitVec 32) : Prop :=
  (∀ a, (k0_off518 v2100_r0) a + S1x1x100.size a ≤ S50000x1x100.size a)
theorem k0_off518_inb : ∀ (v2100_r0 : BitVec 32) (k0_hw244 : k0_chk244 v2100_r0), ∀ a, (k0_off518 v2100_r0) a + S1x1x100.size a ≤ S50000x1x100.size a := fun v2100_r0 k0_hw244 => k0_hw244

def k0_off519 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_973_r0 : BitVec 32 := 240#32
  let v2104_r0 : BitVec 32 := Scalar.addi v0 c240_i32_973_r0
  let c4_i32_974_r0 : BitVec 32 := 4#32
  let v2105_r0 : BitVec 32 := Scalar.addi v2104_r0 c4_i32_974_r0
  let v2106_r0 : Index := Scalar.indexCast v2105_r0
  let c0_i32_0_r0 : BitVec 32 := 0#32
  let c1_i32_r0 : BitVec 32 := 1#32
  let arg25_r0 : BitVec 32 := Scf.iv c0_i32_0_r0 c1_i32_r0 k0_t1
  let v2107_r0 : Index := Scalar.indexCast arg25_r0
  ![v2106_r0.toNat, v2107_r0.toNat]
def k0_off520 (v2108_r0 : BitVec 32) : Fin 3 → Nat :=
  let v2109_r0 : Index := Scalar.indexCast v2108_r0
  let c0_975_r0 : Index := 0#32
  let c0_976_r0 : Index := 0#32
  ![v2109_r0.toNat, 0, 0]

def k0_chk245 (v2108_r0 : BitVec 32) : Prop :=
  (∀ a, (k0_off520 v2108_r0) a + S1x1x100.size a ≤ S50000x1x100.size a)
theorem k0_off520_inb : ∀ (v2108_r0 : BitVec 32) (k0_hw245 : k0_chk245 v2108_r0), ∀ a, (k0_off520 v2108_r0) a + S1x1x100.size a ≤ S50000x1x100.size a := fun v2108_r0 k0_hw245 => k0_hw245

def k0_off521 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_977_r0 : BitVec 32 := 240#32
  let v2112_r0 : BitVec 32 := Scalar.addi v0 c240_i32_977_r0
  let c5_i32_978_r0 : BitVec 32 := 5#32
  let v2113_r0 : BitVec 32 := Scalar.addi v2112_r0 c5_i32_978_r0
  let v2114_r0 : Index := Scalar.indexCast v2113_r0
  let c0_i32_0_r0 : BitVec 32 := 0#32
  let c1_i32_r0 : BitVec 32 := 1#32
  let arg25_r0 : BitVec 32 := Scf.iv c0_i32_0_r0 c1_i32_r0 k0_t1
  let v2115_r0 : Index := Scalar.indexCast arg25_r0
  ![v2114_r0.toNat, v2115_r0.toNat]
def k0_off522 (v2116_r0 : BitVec 32) : Fin 3 → Nat :=
  let v2117_r0 : Index := Scalar.indexCast v2116_r0
  let c0_979_r0 : Index := 0#32
  let c0_980_r0 : Index := 0#32
  ![v2117_r0.toNat, 0, 0]

def k0_chk246 (v2116_r0 : BitVec 32) : Prop :=
  (∀ a, (k0_off522 v2116_r0) a + S1x1x100.size a ≤ S50000x1x100.size a)
theorem k0_off522_inb : ∀ (v2116_r0 : BitVec 32) (k0_hw246 : k0_chk246 v2116_r0), ∀ a, (k0_off522 v2116_r0) a + S1x1x100.size a ≤ S50000x1x100.size a := fun v2116_r0 k0_hw246 => k0_hw246

def k0_off523 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_981_r0 : BitVec 32 := 240#32
  let v2120_r0 : BitVec 32 := Scalar.addi v0 c240_i32_981_r0
  let c6_i32_982_r0 : BitVec 32 := 6#32
  let v2121_r0 : BitVec 32 := Scalar.addi v2120_r0 c6_i32_982_r0
  let v2122_r0 : Index := Scalar.indexCast v2121_r0
  let c0_i32_0_r0 : BitVec 32 := 0#32
  let c1_i32_r0 : BitVec 32 := 1#32
  let arg25_r0 : BitVec 32 := Scf.iv c0_i32_0_r0 c1_i32_r0 k0_t1
  let v2123_r0 : Index := Scalar.indexCast arg25_r0
  ![v2122_r0.toNat, v2123_r0.toNat]
def k0_off524 (v2124_r0 : BitVec 32) : Fin 3 → Nat :=
  let v2125_r0 : Index := Scalar.indexCast v2124_r0
  let c0_983_r0 : Index := 0#32
  let c0_984_r0 : Index := 0#32
  ![v2125_r0.toNat, 0, 0]

def k0_chk247 (v2124_r0 : BitVec 32) : Prop :=
  (∀ a, (k0_off524 v2124_r0) a + S1x1x100.size a ≤ S50000x1x100.size a)
theorem k0_off524_inb : ∀ (v2124_r0 : BitVec 32) (k0_hw247 : k0_chk247 v2124_r0), ∀ a, (k0_off524 v2124_r0) a + S1x1x100.size a ≤ S50000x1x100.size a := fun v2124_r0 k0_hw247 => k0_hw247

def k0_off525 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c240_i32_985_r0 : BitVec 32 := 240#32
  let v2128_r0 : BitVec 32 := Scalar.addi v0 c240_i32_985_r0
  let c7_i32_986_r0 : BitVec 32 := 7#32
  let v2129_r0 : BitVec 32 := Scalar.addi v2128_r0 c7_i32_986_r0
  let v2130_r0 : Index := Scalar.indexCast v2129_r0
  let c0_i32_0_r0 : BitVec 32 := 0#32
  let c1_i32_r0 : BitVec 32 := 1#32
  let arg25_r0 : BitVec 32 := Scf.iv c0_i32_0_r0 c1_i32_r0 k0_t1
  let v2131_r0 : Index := Scalar.indexCast arg25_r0
  ![v2130_r0.toNat, v2131_r0.toNat]
def k0_off526 (v2132_r0 : BitVec 32) : Fin 3 → Nat :=
  let v2133_r0 : Index := Scalar.indexCast v2132_r0
  let c0_987_r0 : Index := 0#32
  let c0_988_r0 : Index := 0#32
  ![v2133_r0.toNat, 0, 0]

def k0_chk248 (v2132_r0 : BitVec 32) : Prop :=
  (∀ a, (k0_off526 v2132_r0) a + S1x1x100.size a ≤ S50000x1x100.size a)
theorem k0_off526_inb : ∀ (v2132_r0 : BitVec 32) (k0_hw248 : k0_chk248 v2132_r0), ∀ a, (k0_off526 v2132_r0) a + S1x1x100.size a ≤ S50000x1x100.size a := fun v2132_r0 k0_hw248 => k0_hw248

def k0_off527 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v2137_r0 : Index := Scalar.indexCast arg25_r0
  let c240_r0 : Index := 240#32
  let c0_989_r0 : Index := 0#32
  ![v2137_r0.toNat, 240, 0]
def k0_off528 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_r0 : BitVec 32 := 248#32
  let v2141_r0 : BitVec 32 := Scalar.addi v0 c248_i32_r0
  let c0_i32_990_r0 : BitVec 32 := 0#32
  let v2142_r0 : BitVec 32 := Scalar.addi v2141_r0 c0_i32_990_r0
  let v2143_r0 : Index := Scalar.indexCast v2142_r0
  let c0_i32_0_r0 : BitVec 32 := 0#32
  let c1_i32_r0 : BitVec 32 := 1#32
  let arg25_r0 : BitVec 32 := Scf.iv c0_i32_0_r0 c1_i32_r0 k0_t1
  let v2144_r0 : Index := Scalar.indexCast arg25_r0
  ![v2143_r0.toNat, v2144_r0.toNat]
def k0_off529 (v2145_r0 : BitVec 32) : Fin 3 → Nat :=
  let v2146_r0 : Index := Scalar.indexCast v2145_r0
  let c0_991_r0 : Index := 0#32
  let c0_992_r0 : Index := 0#32
  ![v2146_r0.toNat, 0, 0]

def k0_chk249 (v2145_r0 : BitVec 32) : Prop :=
  (∀ a, (k0_off529 v2145_r0) a + S1x1x100.size a ≤ S50000x1x100.size a)
theorem k0_off529_inb : ∀ (v2145_r0 : BitVec 32) (k0_hw249 : k0_chk249 v2145_r0), ∀ a, (k0_off529 v2145_r0) a + S1x1x100.size a ≤ S50000x1x100.size a := fun v2145_r0 k0_hw249 => k0_hw249

def k0_off530 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_993_r0 : BitVec 32 := 248#32
  let v2149_r0 : BitVec 32 := Scalar.addi v0 c248_i32_993_r0
  let c1_i32_994_r0 : BitVec 32 := 1#32
  let v2150_r0 : BitVec 32 := Scalar.addi v2149_r0 c1_i32_994_r0
  let v2151_r0 : Index := Scalar.indexCast v2150_r0
  let c0_i32_0_r0 : BitVec 32 := 0#32
  let c1_i32_r0 : BitVec 32 := 1#32
  let arg25_r0 : BitVec 32 := Scf.iv c0_i32_0_r0 c1_i32_r0 k0_t1
  let v2152_r0 : Index := Scalar.indexCast arg25_r0
  ![v2151_r0.toNat, v2152_r0.toNat]
def k0_off531 (v2153_r0 : BitVec 32) : Fin 3 → Nat :=
  let v2154_r0 : Index := Scalar.indexCast v2153_r0
  let c0_995_r0 : Index := 0#32
  let c0_996_r0 : Index := 0#32
  ![v2154_r0.toNat, 0, 0]

def k0_chk250 (v2153_r0 : BitVec 32) : Prop :=
  (∀ a, (k0_off531 v2153_r0) a + S1x1x100.size a ≤ S50000x1x100.size a)
theorem k0_off531_inb : ∀ (v2153_r0 : BitVec 32) (k0_hw250 : k0_chk250 v2153_r0), ∀ a, (k0_off531 v2153_r0) a + S1x1x100.size a ≤ S50000x1x100.size a := fun v2153_r0 k0_hw250 => k0_hw250

def k0_off532 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_997_r0 : BitVec 32 := 248#32
  let v2157_r0 : BitVec 32 := Scalar.addi v0 c248_i32_997_r0
  let c2_i32_998_r0 : BitVec 32 := 2#32
  let v2158_r0 : BitVec 32 := Scalar.addi v2157_r0 c2_i32_998_r0
  let v2159_r0 : Index := Scalar.indexCast v2158_r0
  let c0_i32_0_r0 : BitVec 32 := 0#32
  let c1_i32_r0 : BitVec 32 := 1#32
  let arg25_r0 : BitVec 32 := Scf.iv c0_i32_0_r0 c1_i32_r0 k0_t1
  let v2160_r0 : Index := Scalar.indexCast arg25_r0
  ![v2159_r0.toNat, v2160_r0.toNat]
def k0_off533 (v2161_r0 : BitVec 32) : Fin 3 → Nat :=
  let v2162_r0 : Index := Scalar.indexCast v2161_r0
  let c0_999_r0 : Index := 0#32
  let c0_1000_r0 : Index := 0#32
  ![v2162_r0.toNat, 0, 0]

def k0_chk251 (v2161_r0 : BitVec 32) : Prop :=
  (∀ a, (k0_off533 v2161_r0) a + S1x1x100.size a ≤ S50000x1x100.size a)
theorem k0_off533_inb : ∀ (v2161_r0 : BitVec 32) (k0_hw251 : k0_chk251 v2161_r0), ∀ a, (k0_off533 v2161_r0) a + S1x1x100.size a ≤ S50000x1x100.size a := fun v2161_r0 k0_hw251 => k0_hw251

def k0_off534 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_1001_r0 : BitVec 32 := 248#32
  let v2165_r0 : BitVec 32 := Scalar.addi v0 c248_i32_1001_r0
  let c3_i32_1002_r0 : BitVec 32 := 3#32
  let v2166_r0 : BitVec 32 := Scalar.addi v2165_r0 c3_i32_1002_r0
  let v2167_r0 : Index := Scalar.indexCast v2166_r0
  let c0_i32_0_r0 : BitVec 32 := 0#32
  let c1_i32_r0 : BitVec 32 := 1#32
  let arg25_r0 : BitVec 32 := Scf.iv c0_i32_0_r0 c1_i32_r0 k0_t1
  let v2168_r0 : Index := Scalar.indexCast arg25_r0
  ![v2167_r0.toNat, v2168_r0.toNat]
def k0_off535 (v2169_r0 : BitVec 32) : Fin 3 → Nat :=
  let v2170_r0 : Index := Scalar.indexCast v2169_r0
  let c0_1003_r0 : Index := 0#32
  let c0_1004_r0 : Index := 0#32
  ![v2170_r0.toNat, 0, 0]

def k0_chk252 (v2169_r0 : BitVec 32) : Prop :=
  (∀ a, (k0_off535 v2169_r0) a + S1x1x100.size a ≤ S50000x1x100.size a)
theorem k0_off535_inb : ∀ (v2169_r0 : BitVec 32) (k0_hw252 : k0_chk252 v2169_r0), ∀ a, (k0_off535 v2169_r0) a + S1x1x100.size a ≤ S50000x1x100.size a := fun v2169_r0 k0_hw252 => k0_hw252

def k0_off536 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_1005_r0 : BitVec 32 := 248#32
  let v2173_r0 : BitVec 32 := Scalar.addi v0 c248_i32_1005_r0
  let c4_i32_1006_r0 : BitVec 32 := 4#32
  let v2174_r0 : BitVec 32 := Scalar.addi v2173_r0 c4_i32_1006_r0
  let v2175_r0 : Index := Scalar.indexCast v2174_r0
  let c0_i32_0_r0 : BitVec 32 := 0#32
  let c1_i32_r0 : BitVec 32 := 1#32
  let arg25_r0 : BitVec 32 := Scf.iv c0_i32_0_r0 c1_i32_r0 k0_t1
  let v2176_r0 : Index := Scalar.indexCast arg25_r0
  ![v2175_r0.toNat, v2176_r0.toNat]
def k0_off537 (v2177_r0 : BitVec 32) : Fin 3 → Nat :=
  let v2178_r0 : Index := Scalar.indexCast v2177_r0
  let c0_1007_r0 : Index := 0#32
  let c0_1008_r0 : Index := 0#32
  ![v2178_r0.toNat, 0, 0]

def k0_chk253 (v2177_r0 : BitVec 32) : Prop :=
  (∀ a, (k0_off537 v2177_r0) a + S1x1x100.size a ≤ S50000x1x100.size a)
theorem k0_off537_inb : ∀ (v2177_r0 : BitVec 32) (k0_hw253 : k0_chk253 v2177_r0), ∀ a, (k0_off537 v2177_r0) a + S1x1x100.size a ≤ S50000x1x100.size a := fun v2177_r0 k0_hw253 => k0_hw253

def k0_off538 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_1009_r0 : BitVec 32 := 248#32
  let v2181_r0 : BitVec 32 := Scalar.addi v0 c248_i32_1009_r0
  let c5_i32_1010_r0 : BitVec 32 := 5#32
  let v2182_r0 : BitVec 32 := Scalar.addi v2181_r0 c5_i32_1010_r0
  let v2183_r0 : Index := Scalar.indexCast v2182_r0
  let c0_i32_0_r0 : BitVec 32 := 0#32
  let c1_i32_r0 : BitVec 32 := 1#32
  let arg25_r0 : BitVec 32 := Scf.iv c0_i32_0_r0 c1_i32_r0 k0_t1
  let v2184_r0 : Index := Scalar.indexCast arg25_r0
  ![v2183_r0.toNat, v2184_r0.toNat]
def k0_off539 (v2185_r0 : BitVec 32) : Fin 3 → Nat :=
  let v2186_r0 : Index := Scalar.indexCast v2185_r0
  let c0_1011_r0 : Index := 0#32
  let c0_1012_r0 : Index := 0#32
  ![v2186_r0.toNat, 0, 0]

def k0_chk254 (v2185_r0 : BitVec 32) : Prop :=
  (∀ a, (k0_off539 v2185_r0) a + S1x1x100.size a ≤ S50000x1x100.size a)
theorem k0_off539_inb : ∀ (v2185_r0 : BitVec 32) (k0_hw254 : k0_chk254 v2185_r0), ∀ a, (k0_off539 v2185_r0) a + S1x1x100.size a ≤ S50000x1x100.size a := fun v2185_r0 k0_hw254 => k0_hw254

def k0_off540 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_1013_r0 : BitVec 32 := 248#32
  let v2189_r0 : BitVec 32 := Scalar.addi v0 c248_i32_1013_r0
  let c6_i32_1014_r0 : BitVec 32 := 6#32
  let v2190_r0 : BitVec 32 := Scalar.addi v2189_r0 c6_i32_1014_r0
  let v2191_r0 : Index := Scalar.indexCast v2190_r0
  let c0_i32_0_r0 : BitVec 32 := 0#32
  let c1_i32_r0 : BitVec 32 := 1#32
  let arg25_r0 : BitVec 32 := Scf.iv c0_i32_0_r0 c1_i32_r0 k0_t1
  let v2192_r0 : Index := Scalar.indexCast arg25_r0
  ![v2191_r0.toNat, v2192_r0.toNat]
def k0_off541 (v2193_r0 : BitVec 32) : Fin 3 → Nat :=
  let v2194_r0 : Index := Scalar.indexCast v2193_r0
  let c0_1015_r0 : Index := 0#32
  let c0_1016_r0 : Index := 0#32
  ![v2194_r0.toNat, 0, 0]

def k0_chk255 (v2193_r0 : BitVec 32) : Prop :=
  (∀ a, (k0_off541 v2193_r0) a + S1x1x100.size a ≤ S50000x1x100.size a)
theorem k0_off541_inb : ∀ (v2193_r0 : BitVec 32) (k0_hw255 : k0_chk255 v2193_r0), ∀ a, (k0_off541 v2193_r0) a + S1x1x100.size a ≤ S50000x1x100.size a := fun v2193_r0 k0_hw255 => k0_hw255

def k0_off542 (i : grid0.Coords) (k0_t1 : Fin k0_t1_loop.trips) : Fin 2 → Nat :=
  let arg0 : BitVec 32 := BitVec.ofNat 32 (i 0).val
  let c256_i32 : BitVec 32 := 256#32
  let v0 : BitVec 32 := Scalar.muli arg0 c256_i32
  let c248_i32_1017_r0 : BitVec 32 := 248#32
  let v2197_r0 : BitVec 32 := Scalar.addi v0 c248_i32_1017_r0
  let c7_i32_1018_r0 : BitVec 32 := 7#32
  let v2198_r0 : BitVec 32 := Scalar.addi v2197_r0 c7_i32_1018_r0
  let v2199_r0 : Index := Scalar.indexCast v2198_r0
  let c0_i32_0_r0 : BitVec 32 := 0#32
  let c1_i32_r0 : BitVec 32 := 1#32
  let arg25_r0 : BitVec 32 := Scf.iv c0_i32_0_r0 c1_i32_r0 k0_t1
  let v2200_r0 : Index := Scalar.indexCast arg25_r0
  ![v2199_r0.toNat, v2200_r0.toNat]
def k0_off543 (v2201_r0 : BitVec 32) : Fin 3 → Nat :=
  let v2202_r0 : Index := Scalar.indexCast v2201_r0
  let c0_1019_r0 : Index := 0#32
  let c0_1020_r0 : Index := 0#32
  ![v2202_r0.toNat, 0, 0]

def k0_chk256 (v2201_r0 : BitVec 32) : Prop :=
  (∀ a, (k0_off543 v2201_r0) a + S1x1x100.size a ≤ S50000x1x100.size a)
theorem k0_off543_inb : ∀ (v2201_r0 : BitVec 32) (k0_hw256 : k0_chk256 v2201_r0), ∀ a, (k0_off543 v2201_r0) a + S1x1x100.size a ≤ S50000x1x100.size a := fun v2201_r0 k0_hw256 => k0_hw256

def k0_off544 (k0_t1 : Fin k0_t1_loop.trips) : Fin 3 → Nat :=
  let c0_i32_0_r0 : BitVec 32 := 0#32
  let c1_i32_r0 : BitVec 32 := 1#32
  let arg25_r0 : BitVec 32 := Scf.iv c0_i32_0_r0 c1_i32_r0 k0_t1
  let v2206_r0 : Index := Scalar.indexCast arg25_r0
  let c248_r0 : Index := 248#32
  let c0_1021_r0 : Index := 0#32
  ![v2206_r0.toNat, 248, 0]
@[reducible] def k0_t2_loop : Scf.Loop 32 :=
  let c0_i32_8_r1 : BitVec 32 := 0#32
  let c128_i32_r1 : BitVec 32 := 128#32
  let v16_r1 : BitVec 32 := Scalar.addi c0_i32_8_r1 c128_i32_r1
  let c1_i32_r1 : BitVec 32 := 1#32
  ⟨c0_i32_8_r1, v16_r1, c1_i32_r1⟩
def k0_off545 (k0_t2 : Fin k0_t2_loop.trips) : Fin 3 → Nat :=
  let c0_i32_8_r1 : BitVec 32 := 0#32
  let c1_i32_r1 : BitVec 32 := 1#32
  let arg25_r1 : BitVec 32 := Scf.iv c0_i32_8_r1 c1_i32_r1 k0_t2
  let v22_r1 : Index := Scalar.indexCast arg25_r1
  let c0_16_r1 : Index := 0#32
  let c0_17_r1 : Index := 0#32
  ![v22_r1.toNat, 0, 0]
def k0_off546 (k0_t2 : Fin k0_t2_loop.trips) : Fin 3 → Nat :=
  let c0_i32_8_r1 : BitVec 32 := 0#32
  let c1_i32_r1 : BitVec 32 := 1#32
  let arg25_r1 : BitVec 32 := Scf.iv c0_i32_8_r1 c1_i32_r1 k0_t2
  let v69_r1 : Index := Scalar.indexCast arg25_r1
  let c0_43_r1 : Index := 0#32
  let c0_44_r1 : Index := 0#32
  ![v69_r1.toNat, 0, 0]
def k0_off547 (k0_t2 : Fin k0_t2_loop.trips) : Fin 3 → Nat :=
  let c127_i32_r1 : BitVec 32 := 127#32
  let c0_i32_8_r1 : BitVec 32 := 0#32
  let c1_i32_r1 : BitVec 32 := 1#32
  let arg25_r1 : BitVec 32 := Scf.iv c0_i32_8_r1 c1_i32_r1 k0_t2
  let v73_r1 : BitVec 32 := Scalar.subi c127_i32_r1 arg25_r1
  let v74_r1 : Index := Scalar.indexCast v73_r1
  let c0_45_r1 : Index := 0#32
  let c0_46_r1 : Index := 0#32
  ![v74_r1.toNat, 0, 0]
def k0_off548 (k0_t2 : Fin k0_t2_loop.trips) : Fin 3 → Nat :=
  let c127_i32_r1 : BitVec 32 := 127#32
  let c0_i32_8_r1 : BitVec 32 := 0#32
  let c1_i32_r1 : BitVec 32 := 1#32
  let arg25_r1 : BitVec 32 := Scf.iv c0_i32_8_r1 c1_i32_r1 k0_t2
  let v73_r1 : BitVec 32 := Scalar.subi c127_i32_r1 arg25_r1
  let v121_r1 : Index := Scalar.indexCast v73_r1
  let c0_72_r1 : Index := 0#32
  let c0_73_r1 : Index := 0#32
  ![v121_r1.toNat, 0, 0]
def k0_cond1 (k0_t2 : Fin k0_t2_loop.trips) : BitVec 1 :=
  let c0_i32_8_r1 : BitVec 32 := 0#32
  let c1_i32_r1 : BitVec 32 := 1#32
  let arg25_r1 : BitVec 32 := Scf.iv c0_i32_8_r1 c1_i32_r1 k0_t2
  let c64_i32_r1 : BitVec 32 := 64#32
  let v125_r1 : BitVec 1 := Scalar.cmpi .sge arg25_r1 c64_i32_r1
  let v126_r1 : BitVec 32 := Scalar.extui v125_r1
  let c0_i32_74_r1 : BitVec 32 := 0#32
  let v127_r1 : BitVec 1 := Scalar.cmpi .ne v126_r1 c0_i32_74_r1
  v127_r1

def k0_off549 (k0_t2 : Fin k0_t2_loop.trips) : Fin 3 → Nat :=
  let c0_i32_8_r1 : BitVec 32 := 0#32
  let c1_i32_r1 : BitVec 32 := 1#32
  let arg25_r1 : BitVec 32 := Scf.iv c0_i32_8_r1 c1_i32_r1 k0_t2
  let v128_r1 : Index := Scalar.indexCast arg25_r1
  let c0_75_r1 : Index := 0#32
  let c0_76_r1 : Index := 0#32
  ![v128_r1.toNat, 0, 0]
def k0_off550 (k0_t2 : Fin k0_t2_loop.trips) : Fin 3 → Nat :=
  let c127_i32_r1 : BitVec 32 := 127#32
  let c0_i32_8_r1 : BitVec 32 := 0#32
  let c1_i32_r1 : BitVec 32 := 1#32
  let arg25_r1 : BitVec 32 := Scf.iv c0_i32_8_r1 c1_i32_r1 k0_t2
  let v73_r1 : BitVec 32 := Scalar.subi c127_i32_r1 arg25_r1
  let v153_r1 : Index := Scalar.indexCast v73_r1
  let c0_85_r1 : Index := 0#32
  let c0_86_r1 : Index := 0#32
  ![v153_r1.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S512x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S100x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x20 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x20 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x20 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S512x128 : Shape := ⟨2, ![512, 128]⟩
abbrev S512 : Shape := ⟨1, ![512]⟩
abbrev S65536x1 : Shape := ⟨2, ![65536, 1]⟩
abbrev S50000x100 : Shape := ⟨2, ![50000, 100]⟩
abbrev S1024x100 : Shape := ⟨2, ![1024, 100]⟩
abbrev S1024x256 : Shape := ⟨2, ![1024, 256]⟩
abbrev S1024 : Shape := ⟨1, ![1024]⟩
abbrev S256x100 : Shape := ⟨2, ![256, 100]⟩
abbrev S100x256 : Shape := ⟨2, ![100, 256]⟩
abbrev S20x512 : Shape := ⟨2, ![20, 512]⟩
abbrev S20 : Shape := ⟨1, ![20]⟩
abbrev S_ : Shape := ⟨0, ![]⟩
abbrev S512x128x1 : Shape := ⟨3, ![512, 128, 1]⟩
abbrev S512x128x100 : Shape := ⟨3, ![512, 128, 100]⟩
abbrev S128x512x100 : Shape := ⟨3, ![128, 512, 100]⟩
abbrev S512x256 : Shape := ⟨2, ![512, 256]⟩
abbrev S128x512x256 : Shape := ⟨3, ![128, 512, 256]⟩
abbrev S1x512x100 : Shape := ⟨3, ![1, 512, 100]⟩
abbrev S512x100 : Shape := ⟨2, ![512, 100]⟩
abbrev S100x1024 : Shape := ⟨2, ![100, 1024]⟩
abbrev S512x1024 : Shape := ⟨2, ![512, 1024]⟩
abbrev S256x1024 : Shape := ⟨2, ![256, 1024]⟩
abbrev S1x1024 : Shape := ⟨2, ![1, 1024]⟩
abbrev S1x512x256 : Shape := ⟨3, ![1, 512, 256]⟩
abbrev S128x512x512 : Shape := ⟨3, ![128, 512, 512]⟩
abbrev S512x20 : Shape := ⟨2, ![512, 20]⟩
abbrev S128x512x20 : Shape := ⟨3, ![128, 512, 20]⟩
abbrev S1x1x20 : Shape := ⟨3, ![1, 1, 20]⟩
abbrev S128x512 : Shape := ⟨2, ![128, 512]⟩

abbrev nBuf : Space → Nat
  | .hbm => 240
  | .vmem => 0
  | .smem => 0
  | _ => 0

abbrev hbmTy0_0 (i : Nat) : BufTy := match i % 128 with
  | 0 => ⟨S512x128, .i32⟩
  | 1 => ⟨S512, .i32⟩
  | 2 => ⟨S65536x1, .i32⟩
  | 3 => ⟨S512x128, .i32⟩
  | 4 => ⟨S512x128, .i1⟩
  | 5 => ⟨S50000x100, .f32⟩
  | 6 => ⟨S1024x100, .f32⟩
  | 7 => ⟨S1024x256, .f32⟩
  | 8 => ⟨S1024, .f32⟩
  | 9 => ⟨S1024, .f32⟩
  | 10 => ⟨S256x100, .f32⟩
  | 11 => ⟨S100x256, .f32⟩
  | 12 => ⟨S1024x100, .f32⟩
  | 13 => ⟨S1024x256, .f32⟩
  | 14 => ⟨S1024, .f32⟩
  | 15 => ⟨S1024, .f32⟩
  | 16 => ⟨S256x100, .f32⟩
  | 17 => ⟨S100x256, .f32⟩
  | 18 => ⟨S20x512, .f32⟩
  | 19 => ⟨S20, .f32⟩
  | 20 => ⟨S_, .i32⟩
  | 21 => ⟨S512x128, .i32⟩
  | 22 => ⟨S512x128, .i1⟩
  | 23 => ⟨S_, .i32⟩
  | 24 => ⟨S512x128, .i32⟩
  | 25 => ⟨S512x128, .i32⟩
  | 26 => ⟨S512x128, .i32⟩
  | 27 => ⟨S512x128x1, .i32⟩
  | 28 => ⟨S512x128x100, .f32⟩
  | 29 => ⟨S128x512x100, .f32⟩
  | 30 => ⟨S_, .f32⟩
  | 31 => ⟨S512x256, .f32⟩
  | 32 => ⟨S_, .f32⟩
  | 33 => ⟨S128x512x256, .f32⟩
  | 34 => ⟨S_, .i32⟩
  | 35 => ⟨S128x512x100, .f32⟩
  | 36 => ⟨S256x100, .f32⟩
  | 37 => ⟨S100x256, .f32⟩
  | 38 => ⟨S1024x100, .f32⟩
  | 39 => ⟨S1024x256, .f32⟩
  | 40 => ⟨S1024, .f32⟩
  | 41 => ⟨S1024, .f32⟩
  | 42 => ⟨S_, .i32⟩
  | 43 => ⟨S512x256, .f32⟩
  | 44 => ⟨S512x256, .f32⟩
  | 45 => ⟨S128x512x256, .f32⟩
  | 46 => ⟨S_, .i32⟩
  | 47 => ⟨S_, .i1⟩
  | 48 => ⟨S_, .i32⟩
  | 49 => ⟨S_, .i32⟩
  | 50 => ⟨S1x512x100, .f32⟩
  | 51 => ⟨S512x100, .f32⟩
  | 52 => ⟨S512x100, .f32⟩
  | 53 => ⟨S512x100, .f32⟩
  | 54 => ⟨S512x100, .f32⟩
  | 55 => ⟨S_, .f32⟩
  | 56 => ⟨S512x100, .f32⟩
  | 57 => ⟨S512x100, .f32⟩
  | 58 => ⟨S_, .f32⟩
  | 59 => ⟨S512x100, .f32⟩
  | 60 => ⟨S512x100, .f32⟩
  | 61 => ⟨S_, .f32⟩
  | 62 => ⟨S512x100, .f32⟩
  | 63 => ⟨S512x100, .f32⟩
  | 64 => ⟨S512x100, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S_, .f32⟩
  | 72 => ⟨S512x256, .f32⟩
  | 73 => ⟨S512x256, .f32⟩
  | 74 => ⟨S_, .f32⟩
  | 75 => ⟨S512x256, .f32⟩
  | 76 => ⟨S512x256, .f32⟩
  | 77 => ⟨S512x256, .f32⟩
  | 78 => ⟨S100x1024, .f32⟩
  | 79 => ⟨S512x1024, .f32⟩
  | 80 => ⟨S256x1024, .f32⟩
  | 81 => ⟨S512x1024, .f32⟩
  | 82 => ⟨S512x1024, .f32⟩
  | 83 => ⟨S1024, .f32⟩
  | 84 => ⟨S1x1024, .f32⟩
  | 85 => ⟨S512x1024, .f32⟩
  | 86 => ⟨S512x1024, .f32⟩
  | 87 => ⟨S512x256, .f32⟩
  | 88 => ⟨S512x256, .f32⟩
  | 89 => ⟨S512x256, .f32⟩
  | 90 => ⟨S512x256, .f32⟩
  | 91 => ⟨S512x256, .f32⟩
  | 92 => ⟨S512x256, .f32⟩
  | 93 => ⟨S_, .f32⟩
  | 94 => ⟨S512x256, .f32⟩
  | 95 => ⟨S512x256, .f32⟩
  | 96 => ⟨S_, .f32⟩
  | 97 => ⟨S512x256, .f32⟩
  | 98 => ⟨S512x256, .f32⟩
  | 99 => ⟨S512x256, .f32⟩
  | 100 => ⟨S512x256, .f32⟩
  | 101 => ⟨S512x256, .f32⟩
  | 102 => ⟨S_, .f32⟩
  | 103 => ⟨S512x256, .f32⟩
  | 104 => ⟨S512x256, .f32⟩
  | 105 => ⟨S_, .f32⟩
  | 106 => ⟨S512x256, .f32⟩
  | 107 => ⟨S512x256, .f32⟩
  | 108 => ⟨S512x256, .f32⟩
  | 109 => ⟨S512x256, .f32⟩
  | 110 => ⟨S512x256, .f32⟩
  | 111 => ⟨S512x256, .f32⟩
  | 112 => ⟨S512x256, .f32⟩
  | 113 => ⟨S_, .f32⟩
  | 114 => ⟨S512x256, .f32⟩
  | 115 => ⟨S512x256, .f32⟩
  | 116 => ⟨S_, .f32⟩
  | 117 => ⟨S512x256, .f32⟩
  | 118 => ⟨S512x256, .f32⟩
  | 119 => ⟨S512x256, .f32⟩
  | 120 => ⟨S512x256, .f32⟩
  | 121 => ⟨S1x512x256, .f32⟩
  | 122 => ⟨S_, .i32⟩
  | 123 => ⟨S_, .i32⟩
  | 124 => ⟨S128x512x256, .f32⟩
  | 125 => ⟨S_, .i32⟩
  | 126 => ⟨S_, .i32⟩
  | 127 => ⟨S128x512x100, .f32⟩
  | _ => ⟨S512x128, .i32⟩

abbrev hbmTy0_1 (i : Nat) : BufTy := match i % 128 with
  | 0 => ⟨S_, .f32⟩
  | 1 => ⟨S512x256, .f32⟩
  | 2 => ⟨S_, .f32⟩
  | 3 => ⟨S128x512x256, .f32⟩
  | 4 => ⟨S_, .i32⟩
  | 5 => ⟨S128x512x100, .f32⟩
  | 6 => ⟨S256x100, .f32⟩
  | 7 => ⟨S100x256, .f32⟩
  | 8 => ⟨S1024x100, .f32⟩
  | 9 => ⟨S1024x256, .f32⟩
  | 10 => ⟨S1024, .f32⟩
  | 11 => ⟨S1024, .f32⟩
  | 12 => ⟨S_, .i32⟩
  | 13 => ⟨S512x256, .f32⟩
  | 14 => ⟨S512x256, .f32⟩
  | 15 => ⟨S128x512x256, .f32⟩
  | 16 => ⟨S_, .i32⟩
  | 17 => ⟨S_, .i1⟩
  | 18 => ⟨S_, .i32⟩
  | 19 => ⟨S_, .i32⟩
  | 20 => ⟨S1x512x100, .f32⟩
  | 21 => ⟨S512x100, .f32⟩
  | 22 => ⟨S512x100, .f32⟩
  | 23 => ⟨S512x100, .f32⟩
  | 24 => ⟨S512x100, .f32⟩
  | 25 => ⟨S_, .f32⟩
  | 26 => ⟨S512x100, .f32⟩
  | 27 => ⟨S512x100, .f32⟩
  | 28 => ⟨S_, .f32⟩
  | 29 => ⟨S512x100, .f32⟩
  | 30 => ⟨S512x100, .f32⟩
  | 31 => ⟨S_, .f32⟩
  | 32 => ⟨S512x100, .f32⟩
  | 33 => ⟨S512x100, .f32⟩
  | 34 => ⟨S512x100, .f32⟩
  | 35 => ⟨S512x256, .f32⟩
  | 36 => ⟨S512x256, .f32⟩
  | 37 => ⟨S512x256, .f32⟩
  | 38 => ⟨S_, .f32⟩
  | 39 => ⟨S512x256, .f32⟩
  | 40 => ⟨S512x256, .f32⟩
  | 41 => ⟨S_, .f32⟩
  | 42 => ⟨S512x256, .f32⟩
  | 43 => ⟨S512x256, .f32⟩
  | 44 => ⟨S_, .f32⟩
  | 45 => ⟨S512x256, .f32⟩
  | 46 => ⟨S512x256, .f32⟩
  | 47 => ⟨S512x256, .f32⟩
  | 48 => ⟨S100x1024, .f32⟩
  | 49 => ⟨S512x1024, .f32⟩
  | 50 => ⟨S256x1024, .f32⟩
  | 51 => ⟨S512x1024, .f32⟩
  | 52 => ⟨S512x1024, .f32⟩
  | 53 => ⟨S1024, .f32⟩
  | 54 => ⟨S1x1024, .f32⟩
  | 55 => ⟨S512x1024, .f32⟩
  | 56 => ⟨S512x1024, .f32⟩
  | 57 => ⟨S512x256, .f32⟩
  | 58 => ⟨S512x256, .f32⟩
  | 59 => ⟨S512x256, .f32⟩
  | 60 => ⟨S512x256, .f32⟩
  | 61 => ⟨S512x256, .f32⟩
  | 62 => ⟨S512x256, .f32⟩
  | 63 => ⟨S_, .f32⟩
  | 64 => ⟨S512x256, .f32⟩
  | 65 => ⟨S512x256, .f32⟩
  | 66 => ⟨S_, .f32⟩
  | 67 => ⟨S512x256, .f32⟩
  | 68 => ⟨S512x256, .f32⟩
  | 69 => ⟨S512x256, .f32⟩
  | 70 => ⟨S512x256, .f32⟩
  | 71 => ⟨S512x256, .f32⟩
  | 72 => ⟨S_, .f32⟩
  | 73 => ⟨S512x256, .f32⟩
  | 74 => ⟨S512x256, .f32⟩
  | 75 => ⟨S_, .f32⟩
  | 76 => ⟨S512x256, .f32⟩
  | 77 => ⟨S512x256, .f32⟩
  | 78 => ⟨S512x256, .f32⟩
  | 79 => ⟨S512x256, .f32⟩
  | 80 => ⟨S512x256, .f32⟩
  | 81 => ⟨S512x256, .f32⟩
  | 82 => ⟨S512x256, .f32⟩
  | 83 => ⟨S_, .f32⟩
  | 84 => ⟨S512x256, .f32⟩
  | 85 => ⟨S512x256, .f32⟩
  | 86 => ⟨S_, .f32⟩
  | 87 => ⟨S512x256, .f32⟩
  | 88 => ⟨S512x256, .f32⟩
  | 89 => ⟨S512x256, .f32⟩
  | 90 => ⟨S512x256, .f32⟩
  | 91 => ⟨S1x512x256, .f32⟩
  | 92 => ⟨S_, .i32⟩
  | 93 => ⟨S_, .i32⟩
  | 94 => ⟨S128x512x256, .f32⟩
  | 95 => ⟨S_, .i32⟩
  | 96 => ⟨S_, .i32⟩
  | 97 => ⟨S128x512x256, .f32⟩
  | 98 => ⟨S128x512x512, .f32⟩
  | 99 => ⟨S512x20, .f32⟩
  | 100 => ⟨S128x512x20, .f32⟩
  | 101 => ⟨S1x1x20, .f32⟩
  | 102 => ⟨S128x512x20, .f32⟩
  | 103 => ⟨S128x512x20, .f32⟩
  | 104 => ⟨S128x512x20, .i32⟩
  | 105 => ⟨S_, .f32⟩
  | 106 => ⟨S_, .i32⟩
  | 107 => ⟨S128x512, .f32⟩
  | 108 => ⟨S128x512, .i32⟩
  | 109 => ⟨S512x128, .i32⟩
  | 110 => ⟨S512x128, .i32⟩
  | 111 => ⟨S512x128, .i32⟩
  | _ => ⟨S512x128, .i32⟩

abbrev hbmTy (i : Nat) : BufTy := match i / 128 with
  | 0 => hbmTy0_0 i
  | 1 => hbmTy0_1 i
  | _ => ⟨S512x128, .i32⟩

abbrev bufTy : (tb : Table) → Fin (tcTables nBuf tb) → BufTy
  | .hbm, ⟨i, _⟩ => hbmTy i
  | _, _ => ⟨S512x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_c_2 : Ref sig .tc := ⟨.hbm, 34, rfl⟩
abbrev main_v10_0 : Ref sig .tc := ⟨.hbm, 35, rfl⟩
abbrev main_v10_1 : Ref sig .tc := ⟨.hbm, 36, rfl⟩
abbrev main_v10_2 : Ref sig .tc := ⟨.hbm, 37, rfl⟩
abbrev main_v10_3 : Ref sig .tc := ⟨.hbm, 38, rfl⟩
abbrev main_v10_4 : Ref sig .tc := ⟨.hbm, 39, rfl⟩
abbrev main_v10_5 : Ref sig .tc := ⟨.hbm, 40, rfl⟩
abbrev main_v10_6 : Ref sig .tc := ⟨.hbm, 41, rfl⟩
abbrev main_v10_7 : Ref sig .tc := ⟨.hbm, 42, rfl⟩
abbrev main_v10_8 : Ref sig .tc := ⟨.hbm, 43, rfl⟩
abbrev main_v10_9 : Ref sig .tc := ⟨.hbm, 44, rfl⟩
abbrev main_v10_10 : Ref sig .tc := ⟨.hbm, 45, rfl⟩
abbrev main_while0c_c_16 : Ref sig .tc := ⟨.hbm, 46, rfl⟩
abbrev main_while0c_v26 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_v0 : Ref sig .tc := ⟨.hbm, 50, rfl⟩
abbrev main_while0b_v26 : Ref sig .tc := ⟨.hbm, 51, rfl⟩
abbrev main_while0b_v27 : Ref sig .tc := ⟨.hbm, 52, rfl⟩
abbrev main_while0b_v28 : Ref sig .tc := ⟨.hbm, 53, rfl⟩
abbrev main_while0b_v29 : Ref sig .tc := ⟨.hbm, 54, rfl⟩
abbrev main_while0b_cst_16 : Ref sig .tc := ⟨.hbm, 55, rfl⟩
abbrev main_while0b_v30 : Ref sig .tc := ⟨.hbm, 56, rfl⟩
abbrev main_while0b_v31 : Ref sig .tc := ⟨.hbm, 57, rfl⟩
abbrev main_while0b_cst_17 : Ref sig .tc := ⟨.hbm, 58, rfl⟩
abbrev main_while0b_v32 : Ref sig .tc := ⟨.hbm, 59, rfl⟩
abbrev main_while0b_v33 : Ref sig .tc := ⟨.hbm, 60, rfl⟩
abbrev main_while0b_cst_18 : Ref sig .tc := ⟨.hbm, 61, rfl⟩
abbrev main_while0b_v34 : Ref sig .tc := ⟨.hbm, 62, rfl⟩
abbrev main_while0b_v35 : Ref sig .tc := ⟨.hbm, 63, rfl⟩
abbrev main_while0b_v36 : Ref sig .tc := ⟨.hbm, 64, rfl⟩
abbrev main_while0b_v37 : Ref sig .tc := ⟨.hbm, 65, rfl⟩
abbrev main_while0b_v38 : Ref sig .tc := ⟨.hbm, 66, rfl⟩
abbrev main_while0b_v39 : Ref sig .tc := ⟨.hbm, 67, rfl⟩
abbrev main_while0b_cst_19 : Ref sig .tc := ⟨.hbm, 68, rfl⟩
abbrev main_while0b_v40 : Ref sig .tc := ⟨.hbm, 69, rfl⟩
abbrev main_while0b_v41 : Ref sig .tc := ⟨.hbm, 70, rfl⟩
abbrev main_while0b_cst_20 : Ref sig .tc := ⟨.hbm, 71, rfl⟩
abbrev main_while0b_v42 : Ref sig .tc := ⟨.hbm, 72, rfl⟩
abbrev main_while0b_v43 : Ref sig .tc := ⟨.hbm, 73, rfl⟩
abbrev main_while0b_cst_21 : Ref sig .tc := ⟨.hbm, 74, rfl⟩
abbrev main_while0b_v44 : Ref sig .tc := ⟨.hbm, 75, rfl⟩
abbrev main_while0b_v45 : Ref sig .tc := ⟨.hbm, 76, rfl⟩
abbrev main_while0b_v46 : Ref sig .tc := ⟨.hbm, 77, rfl⟩
abbrev main_while0b_v47 : Ref sig .tc := ⟨.hbm, 78, rfl⟩
abbrev main_while0b_v48 : Ref sig .tc := ⟨.hbm, 79, rfl⟩
abbrev main_while0b_v49 : Ref sig .tc := ⟨.hbm, 80, rfl⟩
abbrev main_while0b_v50 : Ref sig .tc := ⟨.hbm, 81, rfl⟩
abbrev main_while0b_v51 : Ref sig .tc := ⟨.hbm, 82, rfl⟩
abbrev main_while0b_v52 : Ref sig .tc := ⟨.hbm, 83, rfl⟩
abbrev main_while0b_v53 : Ref sig .tc := ⟨.hbm, 84, rfl⟩
abbrev main_while0b_v54 : Ref sig .tc := ⟨.hbm, 85, rfl⟩
abbrev main_while0b_v55 : Ref sig .tc := ⟨.hbm, 86, rfl⟩
abbrev main_while0b_v56 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_v60 : Ref sig .tc := ⟨.hbm, 91, rfl⟩
abbrev main_while0b_v61 : Ref sig .tc := ⟨.hbm, 92, rfl⟩
abbrev main_while0b_cst_22 : Ref sig .tc := ⟨.hbm, 93, rfl⟩
abbrev main_while0b_v62 : Ref sig .tc := ⟨.hbm, 94, rfl⟩
abbrev main_while0b_v63 : Ref sig .tc := ⟨.hbm, 95, rfl⟩
abbrev main_while0b_cst_23 : Ref sig .tc := ⟨.hbm, 96, rfl⟩
abbrev main_while0b_v64 : Ref sig .tc := ⟨.hbm, 97, rfl⟩
abbrev main_while0b_v65 : Ref sig .tc := ⟨.hbm, 98, rfl⟩
abbrev main_while0b_v66 : Ref sig .tc := ⟨.hbm, 99, rfl⟩
abbrev main_while0b_v67 : Ref sig .tc := ⟨.hbm, 100, rfl⟩
abbrev main_while0b_v68 : Ref sig .tc := ⟨.hbm, 101, rfl⟩
abbrev main_while0b_cst_24 : Ref sig .tc := ⟨.hbm, 102, rfl⟩
abbrev main_while0b_v69 : Ref sig .tc := ⟨.hbm, 103, rfl⟩
abbrev main_while0b_v70 : Ref sig .tc := ⟨.hbm, 104, rfl⟩
abbrev main_while0b_cst_25 : Ref sig .tc := ⟨.hbm, 105, rfl⟩
abbrev main_while0b_v71 : Ref sig .tc := ⟨.hbm, 106, rfl⟩
abbrev main_while0b_v72 : Ref sig .tc := ⟨.hbm, 107, rfl⟩
abbrev main_while0b_v73 : Ref sig .tc := ⟨.hbm, 108, rfl⟩
abbrev main_while0b_v74 : Ref sig .tc := ⟨.hbm, 109, rfl⟩
abbrev main_while0b_v75 : Ref sig .tc := ⟨.hbm, 110, rfl⟩
abbrev main_while0b_v76 : Ref sig .tc := ⟨.hbm, 111, rfl⟩
abbrev main_while0b_v77 : Ref sig .tc := ⟨.hbm, 112, rfl⟩
abbrev main_while0b_cst_26 : Ref sig .tc := ⟨.hbm, 113, rfl⟩
abbrev main_while0b_v78 : Ref sig .tc := ⟨.hbm, 114, rfl⟩
abbrev main_while0b_v79 : Ref sig .tc := ⟨.hbm, 115, rfl⟩
abbrev main_while0b_cst_27 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_call1_v0 : Ref sig .tc := ⟨.hbm, 121, rfl⟩
abbrev main_while0b_call1_c : Ref sig .tc := ⟨.hbm, 122, rfl⟩
abbrev main_while0b_call1_c_0 : Ref sig .tc := ⟨.hbm, 123, rfl⟩
abbrev main_while0b_v84 : Ref sig .tc := ⟨.hbm, 124, rfl⟩
abbrev main_while0b_c_28 : Ref sig .tc := ⟨.hbm, 125, rfl⟩
abbrev main_while0b_v85 : Ref sig .tc := ⟨.hbm, 126, rfl⟩
abbrev main_v11 : Ref sig .tc := ⟨.hbm, 127, rfl⟩
abbrev main_cst_3 : Ref sig .tc := ⟨.hbm, 128, rfl⟩
abbrev main_v12 : Ref sig .tc := ⟨.hbm, 129, rfl⟩
abbrev main_cst_4 : Ref sig .tc := ⟨.hbm, 130, rfl⟩
abbrev main_v13 : Ref sig .tc := ⟨.hbm, 131, rfl⟩
abbrev main_c_5 : Ref sig .tc := ⟨.hbm, 132, rfl⟩
abbrev main_v14_0 : Ref sig .tc := ⟨.hbm, 133, rfl⟩
abbrev main_v14_1 : Ref sig .tc := ⟨.hbm, 134, rfl⟩
abbrev main_v14_2 : Ref sig .tc := ⟨.hbm, 135, rfl⟩
abbrev main_v14_3 : Ref sig .tc := ⟨.hbm, 136, rfl⟩
abbrev main_v14_4 : Ref sig .tc := ⟨.hbm, 137, rfl⟩
abbrev main_v14_5 : Ref sig .tc := ⟨.hbm, 138, rfl⟩
abbrev main_v14_6 : Ref sig .tc := ⟨.hbm, 139, rfl⟩
abbrev main_v14_7 : Ref sig .tc := ⟨.hbm, 140, rfl⟩
abbrev main_v14_8 : Ref sig .tc := ⟨.hbm, 141, rfl⟩
abbrev main_v14_9 : Ref sig .tc := ⟨.hbm, 142, rfl⟩
abbrev main_v14_10 : Ref sig .tc := ⟨.hbm, 143, rfl⟩
abbrev main_while1c_c_16 : Ref sig .tc := ⟨.hbm, 144, rfl⟩
abbrev main_while1c_v26 : Ref sig .tc := ⟨.hbm, 145, rfl⟩
abbrev main_while1b_call2_c : Ref sig .tc := ⟨.hbm, 146, rfl⟩
abbrev main_while1b_call2_c_0 : Ref sig .tc := ⟨.hbm, 147, rfl⟩
abbrev main_while1b_call2_v0 : Ref sig .tc := ⟨.hbm, 148, rfl⟩
abbrev main_while1b_v26 : Ref sig .tc := ⟨.hbm, 149, rfl⟩
abbrev main_while1b_v27 : Ref sig .tc := ⟨.hbm, 150, rfl⟩
abbrev main_while1b_v28 : Ref sig .tc := ⟨.hbm, 151, rfl⟩
abbrev main_while1b_v29 : Ref sig .tc := ⟨.hbm, 152, rfl⟩
abbrev main_while1b_cst_16 : Ref sig .tc := ⟨.hbm, 153, rfl⟩
abbrev main_while1b_v30 : Ref sig .tc := ⟨.hbm, 154, rfl⟩
abbrev main_while1b_v31 : Ref sig .tc := ⟨.hbm, 155, rfl⟩
abbrev main_while1b_cst_17 : Ref sig .tc := ⟨.hbm, 156, rfl⟩
abbrev main_while1b_v32 : Ref sig .tc := ⟨.hbm, 157, rfl⟩
abbrev main_while1b_v33 : Ref sig .tc := ⟨.hbm, 158, rfl⟩
abbrev main_while1b_cst_18 : Ref sig .tc := ⟨.hbm, 159, rfl⟩
abbrev main_while1b_v34 : Ref sig .tc := ⟨.hbm, 160, rfl⟩
abbrev main_while1b_v35 : Ref sig .tc := ⟨.hbm, 161, rfl⟩
abbrev main_while1b_v36 : Ref sig .tc := ⟨.hbm, 162, rfl⟩
abbrev main_while1b_v37 : Ref sig .tc := ⟨.hbm, 163, rfl⟩
abbrev main_while1b_v38 : Ref sig .tc := ⟨.hbm, 164, rfl⟩
abbrev main_while1b_v39 : Ref sig .tc := ⟨.hbm, 165, rfl⟩
abbrev main_while1b_cst_19 : Ref sig .tc := ⟨.hbm, 166, rfl⟩
abbrev main_while1b_v40 : Ref sig .tc := ⟨.hbm, 167, rfl⟩
abbrev main_while1b_v41 : Ref sig .tc := ⟨.hbm, 168, rfl⟩
abbrev main_while1b_cst_20 : Ref sig .tc := ⟨.hbm, 169, rfl⟩
abbrev main_while1b_v42 : Ref sig .tc := ⟨.hbm, 170, rfl⟩
abbrev main_while1b_v43 : Ref sig .tc := ⟨.hbm, 171, rfl⟩
abbrev main_while1b_cst_21 : Ref sig .tc := ⟨.hbm, 172, rfl⟩
abbrev main_while1b_v44 : Ref sig .tc := ⟨.hbm, 173, rfl⟩
abbrev main_while1b_v45 : Ref sig .tc := ⟨.hbm, 174, rfl⟩
abbrev main_while1b_v46 : Ref sig .tc := ⟨.hbm, 175, rfl⟩
abbrev main_while1b_v47 : Ref sig .tc := ⟨.hbm, 176, rfl⟩
abbrev main_while1b_v48 : Ref sig .tc := ⟨.hbm, 177, rfl⟩
abbrev main_while1b_v49 : Ref sig .tc := ⟨.hbm, 178, rfl⟩
abbrev main_while1b_v50 : Ref sig .tc := ⟨.hbm, 179, rfl⟩
abbrev main_while1b_v51 : Ref sig .tc := ⟨.hbm, 180, rfl⟩
abbrev main_while1b_v52 : Ref sig .tc := ⟨.hbm, 181, rfl⟩
abbrev main_while1b_v53 : Ref sig .tc := ⟨.hbm, 182, rfl⟩
abbrev main_while1b_v54 : Ref sig .tc := ⟨.hbm, 183, rfl⟩
abbrev main_while1b_v55 : Ref sig .tc := ⟨.hbm, 184, rfl⟩
abbrev main_while1b_v56 : Ref sig .tc := ⟨.hbm, 185, rfl⟩
abbrev main_while1b_v57 : Ref sig .tc := ⟨.hbm, 186, rfl⟩
abbrev main_while1b_v58 : Ref sig .tc := ⟨.hbm, 187, rfl⟩
abbrev main_while1b_v59 : Ref sig .tc := ⟨.hbm, 188, rfl⟩
abbrev main_while1b_v60 : Ref sig .tc := ⟨.hbm, 189, rfl⟩
abbrev main_while1b_v61 : Ref sig .tc := ⟨.hbm, 190, rfl⟩
abbrev main_while1b_cst_22 : Ref sig .tc := ⟨.hbm, 191, rfl⟩
abbrev main_while1b_v62 : Ref sig .tc := ⟨.hbm, 192, rfl⟩
abbrev main_while1b_v63 : Ref sig .tc := ⟨.hbm, 193, rfl⟩
abbrev main_while1b_cst_23 : Ref sig .tc := ⟨.hbm, 194, rfl⟩
abbrev main_while1b_v64 : Ref sig .tc := ⟨.hbm, 195, rfl⟩
abbrev main_while1b_v65 : Ref sig .tc := ⟨.hbm, 196, rfl⟩
abbrev main_while1b_v66 : Ref sig .tc := ⟨.hbm, 197, rfl⟩
abbrev main_while1b_v67 : Ref sig .tc := ⟨.hbm, 198, rfl⟩
abbrev main_while1b_v68 : Ref sig .tc := ⟨.hbm, 199, rfl⟩
abbrev main_while1b_cst_24 : Ref sig .tc := ⟨.hbm, 200, rfl⟩
abbrev main_while1b_v69 : Ref sig .tc := ⟨.hbm, 201, rfl⟩
abbrev main_while1b_v70 : Ref sig .tc := ⟨.hbm, 202, rfl⟩
abbrev main_while1b_cst_25 : Ref sig .tc := ⟨.hbm, 203, rfl⟩
abbrev main_while1b_v71 : Ref sig .tc := ⟨.hbm, 204, rfl⟩
abbrev main_while1b_v72 : Ref sig .tc := ⟨.hbm, 205, rfl⟩
abbrev main_while1b_v73 : Ref sig .tc := ⟨.hbm, 206, rfl⟩
abbrev main_while1b_v74 : Ref sig .tc := ⟨.hbm, 207, rfl⟩
abbrev main_while1b_v75 : Ref sig .tc := ⟨.hbm, 208, rfl⟩
abbrev main_while1b_v76 : Ref sig .tc := ⟨.hbm, 209, rfl⟩
abbrev main_while1b_v77 : Ref sig .tc := ⟨.hbm, 210, rfl⟩
abbrev main_while1b_cst_26 : Ref sig .tc := ⟨.hbm, 211, rfl⟩
abbrev main_while1b_v78 : Ref sig .tc := ⟨.hbm, 212, rfl⟩
abbrev main_while1b_v79 : Ref sig .tc := ⟨.hbm, 213, rfl⟩
abbrev main_while1b_cst_27 : Ref sig .tc := ⟨.hbm, 214, rfl⟩
abbrev main_while1b_v80 : Ref sig .tc := ⟨.hbm, 215, rfl⟩
abbrev main_while1b_v81 : Ref sig .tc := ⟨.hbm, 216, rfl⟩
abbrev main_while1b_v82 : Ref sig .tc := ⟨.hbm, 217, rfl⟩
abbrev main_while1b_v83 : Ref sig .tc := ⟨.hbm, 218, rfl⟩
abbrev main_while1b_call3_v0 : Ref sig .tc := ⟨.hbm, 219, rfl⟩
abbrev main_while1b_call3_c : Ref sig .tc := ⟨.hbm, 220, rfl⟩
abbrev main_while1b_call3_c_0 : Ref sig .tc := ⟨.hbm, 221, rfl⟩
abbrev main_while1b_v84 : Ref sig .tc := ⟨.hbm, 222, rfl⟩
abbrev main_while1b_c_28 : Ref sig .tc := ⟨.hbm, 223, rfl⟩
abbrev main_while1b_v85 : Ref sig .tc := ⟨.hbm, 224, rfl⟩
abbrev main_v15 : Ref sig .tc := ⟨.hbm, 225, rfl⟩
abbrev main_v16 : Ref sig .tc := ⟨.hbm, 226, rfl⟩
abbrev main_v17 : Ref sig .tc := ⟨.hbm, 227, rfl⟩
abbrev main_v18 : Ref sig .tc := ⟨.hbm, 228, rfl⟩
abbrev main_v19 : Ref sig .tc := ⟨.hbm, 229, rfl⟩
abbrev main_v20 : Ref sig .tc := ⟨.hbm, 230, rfl⟩
abbrev main_v21 : Ref sig .tc := ⟨.hbm, 231, rfl⟩
abbrev main_call4_v0 : Ref sig .tc := ⟨.hbm, 232, rfl⟩
abbrev main_call4_cst : Ref sig .tc := ⟨.hbm, 233, rfl⟩
abbrev main_call4_c : Ref sig .tc := ⟨.hbm, 234, rfl⟩
abbrev main_call4_v1_0 : Ref sig .tc := ⟨.hbm, 235, rfl⟩
abbrev main_v22 : Ref sig .tc := ⟨.hbm, 236, rfl⟩
abbrev main_v23 : Ref sig .tc := ⟨.hbm, 237, rfl⟩
abbrev main_v24 : Ref sig .tc := ⟨.hbm, 238, rfl⟩
abbrev main_v25 : Ref sig .tc := ⟨.hbm, 239, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Proof.Rows.lean ====
/- The embedding rows the kernel gathers, as a function of the words and the table, and what one trip's thirty-two
   stores of eight rows leave in the gather buffer. -/
module

public import proofs.«01_k».proof.Proof.Gen.KernelIdeal
public import Idealize.ShloMosaic.Lib.Tactic
public import Idealize.ShloMosaic.Lib.Pipeline.FrameBody
public import Idealize.ShloMosaic.Lib.Pipeline.Value
public import Idealize.ShloMosaic.Lib.ValueLayout
public import Idealize.ShloMosaic.Lib.Writes
public import Idealize.ShloMosaic.Lib.Pointwise.Index

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The table row a word names (total: the word is reduced into the table). -/
def rowOf (v : BitVec 32) : Fin 50000 := ⟨v.toNat % 50000, Nat.mod_lt _ (by omega)⟩

/-- The embedding of word `(n, t)` of the batch, lane `e`. -/
def embed (X : S512x128.Idx → BitVec 32) (E : S50000x1x100.Idx → F .f32) (n : ℕ) (t : Fin 128) (e : Fin 100) : F .f32 :=
  E (ix3 (rowOf (X (ix2 ⟨n % 512, Nat.mod_lt _ (by omega)⟩ t))) (0 : Fin 1) e)

/-- The gathered block whose batch rows start at `b`: step, row of the block, lane. -/
def embeds (X : S512x128.Idx → BitVec 32) (E : S50000x1x100.Idx → F .f32) (b : ℕ) : S128x256x100.Idx → F .f32 :=
  fun y => embed X E (b + (y 1).val) (y 0) (y 2)

/-- A word below 50000 names a row of the table. -/
theorem row_in_table (v : BitVec 32) (h : v.toNat < 50000) :
    ∀ a, (![(Scalar.indexCast v).toNat, 0, 0] : Fin 3 → Nat) a + S1x1x100.size a ≤ S50000x1x100.size a := by
  have e : (Scalar.indexCast v).toNat = v.toNat := by simp [Scalar.indexCast]
  intro a
  fin_cases a
  · show (Scalar.indexCast v).toNat + 1 ≤ 50000
    omega
  · show 0 + 1 ≤ 1
    omega
  · show 0 + 100 ≤ 100
    omega

/-- A one-row vector holding the embedding of word `(n, t)`. -/
def IsRow (X : S512x128.Idx → BitVec 32) (E : S50000x1x100.Idx → F .f32) (n : ℕ) (t : Fin 128) (row : S1x100.Idx → F .f32) : Prop :=
  ∀ e : Fin 100, row (ix2 (0 : Fin 1) e) = embed X E n t e

/-- The row the kernel loads at the word it has just read is that word's embedding. -/
theorem isRow_load {arg1 : Memref sig .tc .smem S512x128 .i32} {tab : Memref sig .tc .vmem S50000x1x100 .f32}
    {f1 : arg1.view.ty.Contents (Elt F)} {fe : tab.view.ty.Contents (Elt F)}
    (hw : ∀ y, BitVec.toNat (arg1.view.read (Elt F) f1 y) < 50000) {n : ℕ} {t : Fin 128}
    {off : Fin 2 → ℕ} (hoff : off = ![n, t.val]) {inb} {h} {inb'} {hc} :
    IsRow (arg1.view.read (Elt F) f1) (tab.view.read (Elt F) fe) n t
      (shapeCast S1x100 (View.readAt (Elt F) tab.view
        (Rect.unit (s := S50000x1x100) ![(Scalar.indexCast (View.readAt (Elt F) arg1.view (Rect.unit (s := S512x128) off S1x1.size inb).toLoadRect f1 (Shape.Idx.first h))).toNat, 0, 0]
          S1x1x100.size inb').toLoadRect fe) hc) := by
  intro e
  subst hoff
  have hn : n < 512 := by
    have h0 : n + 1 ≤ 512 := inb 0
    omega
  have ew : View.readAt (Elt F) arg1.view (Rect.unit (s := S512x128) ![n, t.val] S1x1.size inb).toLoadRect f1 (Shape.Idx.first h)
      = arg1.view.read (Elt F) f1 (ix2 ⟨n % 512, Nat.mod_lt _ (by omega)⟩ t) := by
    show arg1.view.read (Elt F) f1 _ = _
    congr 1
    funext a
    fin_cases a
    · apply Fin.ext
      show n + 1 * 0 = n % 512
      omega
    · apply Fin.ext
      show t.val + 1 * 0 = t.val
      omega
  refine (ValueIdx.shapeCast_1ab_ab_apply _ _ _ _).trans ?_
  unfold embed
  show tab.view.read (Elt F) fe _ = _
  congr 1
  have hlt := hw (ix2 ⟨n % 512, Nat.mod_lt _ (by omega)⟩ t)
  funext a
  fin_cases a
  · apply Fin.ext
    show (Scalar.indexCast (View.readAt (Elt F) arg1.view (Rect.unit (s := S512x128) ![n, t.val] S1x1.size inb).toLoadRect f1 (Shape.Idx.first h))).toNat + 1 * 0
      = BitVec.toNat _ % 50000
    rw [ew, Nat.mod_eq_of_lt hlt]
    simp [Scalar.indexCast]
  · rfl
  · apply Fin.ext
    show 0 + 1 * e.val = e.val
    omega

/-- Eight rows stacked and stored as one group hold the gathered block on the group's rectangle. -/
theorem group_at {X : S512x128.Idx → BitVec 32} {E : S50000x1x100.Idx → F .f32} {b g : ℕ} {t : Fin 128}
    {off : Fin 3 → ℕ} (hoff : off = ![t.val, 8 * g, 0]) {inb}
    {r0 r1 r2 r3 r4 r5 r6 r7 : S1x100.Idx → F .f32} {hcat} {hc}
    (h0 : IsRow X E (b + (8 * g + 0)) t r0) (h1 : IsRow X E (b + (8 * g + 1)) t r1) (h2 : IsRow X E (b + (8 * g + 2)) t r2)
    (h3 : IsRow X E (b + (8 * g + 3)) t r3) (h4 : IsRow X E (b + (8 * g + 4)) t r4) (h5 : IsRow X E (b + (8 * g + 5)) t r5)
    (h6 : IsRow X E (b + (8 * g + 6)) t r6) (h7 : IsRow X E (b + (8 * g + 7)) t r7) :
    ∀ x : S1x8x100.Idx, shapeCast S1x8x100 (concatenate S8x100 0 [⟨S1x100, r0⟩, ⟨S1x100, r1⟩, ⟨S1x100, r2⟩, ⟨S1x100, r3⟩, ⟨S1x100, r4⟩, ⟨S1x100, r5⟩, ⟨S1x100, r6⟩, ⟨S1x100, r7⟩] hcat) hc x
      = embeds X E b ((Rect.unit (s := S128x256x100) off S1x8x100.size inb).emb x) := by
  subst hoff
  intro x
  obtain ⟨u, j, e, rfl⟩ : ∃ u j e, x = ix3 u j e := ⟨x 0, x 1, x 2, eq_ix3 x⟩
  refine (ValueIdx.shapeCast_ab_1ab_apply _ _ _ _ _).trans ?_
  have hu : u.val = 0 := by omega
  have key : ∀ jj : Fin 8, (![r0, r1, r2, r3, r4, r5, r6, r7] jj) (ix2 (0 : Fin 1) e) = embed X E (b + (8 * g + jj.val)) t e := by
    intro jj
    fin_cases jj
    · exact h0 e
    · exact h1 e
    · exact h2 e
    · exact h3 e
    · exact h4 e
    · exact h5 e
    · exact h6 e
    · exact h7 e
  refine (concatenate_ofFn_unit_apply (t := S8x100) (s₁ := S1x100) (0 : Fin 2) (N := 8) ![r0, r1, r2, r3, r4, r5, r6, r7] hcat rfl rfl (ix2 j e) j rfl (ix2 (0 : Fin 1) e) ?_).trans ((key j).trans ?_)
  · intro a ha
    fin_cases a
    · exact absurd rfl ha
    · rfl
  · unfold embeds
    congr 1
    · show b + (8 * g + j.val) = b + (8 * g + 1 * j.val)
      omega
    · apply Fin.ext
      show t.val = t.val + 1 * u.val
      omega
    · apply Fin.ext
      show e.val = 0 + 1 * e.val
      omega

/-- A list of stores, newest first, that fills groups `0 … n-1` of step `t` with the rows of `G`. -/
inductive Stored (G : S128x256x100.Idx → F .f32) (t : Fin 128) : ℕ → List (View.Piece (Elt F) S128x256x100 .f32) → Prop
  | nil : Stored G t 0 []
  | cons {g : ℕ} {off : Fin 3 → ℕ} {inb} {w : (Rect.unit (s := S128x256x100) off S1x8x100.size inb).shape.Idx → F .f32} {L}
      (hoff : off = ![t.val, 8 * g, 0]) (hw : ∀ x, w x = G ((Rect.unit (s := S128x256x100) off S1x8x100.size inb).emb x))
      (hL : Stored G t g L) : Stored G t (g + 1) (⟨Rect.unit (s := S128x256x100) off S1x8x100.size inb, w⟩ :: L)

/-- One more group of eight rows on a list that fills the groups below it. -/
theorem Stored.group {X : S512x128.Idx → BitVec 32} {E : S50000x1x100.Idx → F .f32} {b g : ℕ} {t : Fin 128}
    {off : Fin 3 → ℕ} {inb} {r0 r1 r2 r3 r4 r5 r6 r7 : S1x100.Idx → F .f32} {hcat} {hc} {L : List (View.Piece (Elt F) S128x256x100 .f32)}
    (hoff : off = ![t.val, 8 * g, 0]) (h0 : IsRow X E (b + (8 * g + 0)) t r0) (h1 : IsRow X E (b + (8 * g + 1)) t r1) (h2 : IsRow X E (b + (8 * g + 2)) t r2) (h3 : IsRow X E (b + (8 * g + 3)) t r3) (h4 : IsRow X E (b + (8 * g + 4)) t r4) (h5 : IsRow X E (b + (8 * g + 5)) t r5) (h6 : IsRow X E (b + (8 * g + 6)) t r6) (h7 : IsRow X E (b + (8 * g + 7)) t r7)
    (hL : Stored (embeds X E b) t g L) :
    Stored (embeds X E b) t (g + 1) (⟨Rect.unit (s := S128x256x100) off S1x8x100.size inb,
      shapeCast S1x8x100 (concatenate S8x100 0 [⟨S1x100, r0⟩, ⟨S1x100, r1⟩, ⟨S1x100, r2⟩, ⟨S1x100, r3⟩, ⟨S1x100, r4⟩, ⟨S1x100, r5⟩, ⟨S1x100, r6⟩, ⟨S1x100, r7⟩] hcat) hc⟩ :: L) :=
  .cons hoff (group_at hoff h0 h1 h2 h3 h4 h5 h6 h7) hL

/-- Every store of such a list holds `G` on its rectangle. -/
theorem Stored.agree {G : S128x256x100.Idx → F .f32} {t n L} (h : Stored G t n L) :
    ∀ p ∈ L, ∀ x : p.1.shape.Idx, p.2 x = G (p.1.emb x) := by
  induction h with
  | nil => intro p hp; exact absurd hp List.not_mem_nil
  | cons hoff hw _ ih =>
    intro p hp
    rcases List.mem_cons.1 hp with rfl | hp
    · exact hw
    · exact ih p hp

/-- The rows of step `t` below `8 n` are in one of the list's rectangles. -/
theorem Stored.cover {G : S128x256x100.Idx → F .f32} {t n L} (h : Stored G t n L) (y : S128x256x100.Idx) (h0 : (y 0).val = t.val)
    (h1 : (y 1).val < 8 * n) : ∃ p ∈ L, y ∈ p.1.set := by
  induction h with
  | nil => omega
  | @cons g off inb w L hoff hw _ ih =>
    by_cases hg : (y 1).val < 8 * g
    · obtain ⟨p, hp, hy⟩ := ih hg
      exact ⟨p, List.mem_cons_of_mem _ hp, hy⟩
    · refine ⟨_, List.mem_cons_self, ?_⟩
      subst hoff
      have h2 := (y 2).isLt
      refine (Rect.mem_set_unit (inb := inb)).2 fun a => ?_
      fin_cases a
      · show t.val ≤ (y 0).val ∧ (y 0).val < t.val + 1
        omega
      · show 8 * g ≤ (y 1).val ∧ (y 1).val < 8 * g + 8
        omega
      · show 0 ≤ (y 2).val ∧ (y 2).val < 0 + 100
        exact ⟨Nat.zero_le _, by simpa using h2⟩

/-- The rows of another step are in none of them. -/
theorem Stored.avoid {G : S128x256x100.Idx → F .f32} {t n L} (h : Stored G t n L) (y : S128x256x100.Idx) (h0 : (y 0).val ≠ t.val) :
    ∀ p ∈ L, y ∉ p.1.set := by
  induction h with
  | nil => intro p hp; exact absurd hp List.not_mem_nil
  | @cons g off inb w L hoff hw _ ih =>
    intro p hp
    rcases List.mem_cons.1 hp with rfl | hp
    · subst hoff
      intro hy
      have := (Rect.mem_set_unit (inb := inb)).1 hy 0
      have h' : t.val ≤ (y 0).val ∧ (y 0).val < t.val + 1 := this
      omega
    · exact ih p hp

/-- One trip's stores on a buffer that holds `G` on the steps before `t` leave `G` on the steps up to `t`. -/
theorem Stored.step {v : View sig .tc .vmem S128x256x100 .f32} {f : v.ty.Contents (Elt F)} {G : S128x256x100.Idx → F .f32} {t : Fin 128} {L}
    (h : Stored G t 32 L) (hf : ∀ y, (y 0).val < t.val → v.read (Elt F) f y = G y) :
    ∀ y, (y 0).val < t.val + 1 → v.read (Elt F) (v.writes (Elt F) f L) y = G y := by
  intro y hy
  by_cases h0 : (y 0).val = t.val
  · exact View.read_writes_apply_of_pieces v f G L h.agree y (h.cover y h0 (by have := (y 1).isLt; exact this))
  · rw [View.read_writes_apply_of_forall_not_mem v f y L (h.avoid y h0)]
    exact hf y (by omega)

end Cert.KernelIdeal.Run
-- ==== Proof.Gather.lean ====
/- The gather loop: one trip reads 256 words and copies 256 table rows into step `t` of the gather buffer; the
   invariant says the steps so far hold the gathered block. -/
module

public import proofs.«01_k».proof.Proof.Gen.KernelIdeal.Skeleton
public import proofs.«01_k».proof.Proof.Gen.KernelIdeal.Loops
public import proofs.«01_k».proof.Proof.Rows

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- An offset list with a closed form is whatever the closed form is. -/
theorem closed {n : ℕ} {off off' : Fin n → ℕ} [ClosedOff off] (h : ClosedOff.form off = off') : off = off' := ClosedOff.eq.trans h

/-- One trip of the gather loop, whatever the gather buffer holds: it is left at thirty-two stores that fill the trip's step
    with the gathered block. -/
theorem gather_trip (c : Dev nD) (i : grid0.Coords) (arg1 : Memref sig .tc .smem S512x128 .i32) (harg1 : arg1.IsWhole) (arg2 : Memref sig .tc .hbm S50000x1x100 .f32) (harg2 : arg2.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (arg24 : DmaSems sig S_) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (v0 : BitVec 32) (f1 : arg1.view.ty.Contents (Elt F)) (fe : alloca_r0.view.ty.Contents (Elt F)) (f : arg18.view.ty.Contents (Elt F))
    (hw : ∀ y, BitVec.toNat (arg1.view.read (Elt F) f1 y) < 50000) (k : Fin k0_t1_loop.trips) :
    iprop((arg1.view.loc (c : Thread nD τ) ↦[arg1.view.set]{fullShare} f1) ∗ (alloca_r0.view.loc (c : Thread nD τ) ↦[alloca_r0.view.set]{fullShare} fe) ∗ (arg18.view.loc (c : Thread nD τ) ↦[arg18.view.set]{fullShare} f))
      ⊢ (wp frame (wpE (defs₀ (F := F)) Variants.none (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 v0 k ())
          (fun _ => iprop((arg1.view.loc (c : Thread nD τ) ↦[arg1.view.set]{fullShare} f1) ∗ (alloca_r0.view.loc (c : Thread nD τ) ↦[alloca_r0.view.set]{fullShare} fe) ∗ ∃ L : List (View.Piece (Elt F) S128x256x100 .f32),
            (arg18.view.loc (c : Thread nD τ) ↦[arg18.view.set]{fullShare} (arg18.view.writes (Elt F) f L)) ∗ ⌜Stored (embeds (arg1.view.read (Elt F) f1) (alloca_r0.view.read (Elt F) fe) (256 * (i 0).val)) k 32 L⌝)) : sProp 𝕄) := by
  unfold k0_t1_body
  iintro ⟨H1, H2, H3⟩
  sl_exec_parts (disch := exact row_in_table _ (hw _))
  sl_step
  isplitl [H1]; · iexact H1
  isplitl [H2]; · iexact H2
  iexists _
  isplitl [H3]; · iexact H3
  ipureintro
  iterate 32
    refine Stored.group ?_ ?_ ?_ ?_ ?_ ?_ ?_ ?_ ?_ ?_
    · exact closed rfl
    iterate 8
      refine isRow_load hw ?_
      exact closed rfl
  exact Stored.nil

end Cert.KernelIdeal.Run
-- ==== Proof.Cell.lean ====
/- What the compute loop keeps, as functions of one block's gathered rows and the weights: the two cells' states after
   so many steps, the two halves of the logits, and the decoded tags; and one trip's effect on them. -/
module

public import proofs.«01_k».proof.Proof.Gen.KernelIdeal.Skeleton
public import Idealize.ShloMosaic.Lib.ValueLayout
public import Idealize.ShloMosaic.Lib.Pointwise.Index
public import Idealize.ShloMosaic.Lib.VecWindow
public import Idealize.ShloMosaic.Lib.Tactic

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One direction's weights, as the kernel holds them. -/
structure Weights (F : FTy → Type) where
  q : S256x100.Idx → F .f32
  r : S100x256.Idx → F .f32
  wx : S100x1024.Idx → F .f32
  wh : S256x1024.Idx → F .f32
  b : S1x1024.Idx → F .f32
  wt : S256x20.Idx → F .f32

/-- What a block of the kernel computes from: the gathered rows, both directions' weights, the tag bias. -/
structure Inputs (F : FTy → Type) where
  xs : S128x256x100.Idx → F .f32
  fwd : Weights F
  bwd : Weights F
  bt : S1x20.Idx → F .f32

/-- The rows of step `t` (total: the step is reduced into range). -/
def slab (xs : S128x256x100.Idx → F .f32) (t : ℕ) : S1x256x100.Idx → F .f32 :=
  fun y => xs (ix3 ⟨t % 128, Nat.mod_lt _ (by omega)⟩ (y 1) (y 2))

/-- The hidden state a cell leaves. -/
def cellH (W : Weights F) (x : S1x256x100.Idx → F .f32) (h c : S256x256.Idx → F .f32) : S256x256.Idx → F .f32 :=
  k0_pay220 x W.q W.r W.wx W.wh W.b h c

/-- The carry a cell leaves. -/
def cellC (W : Weights F) (x : S1x256x100.Idx → F .f32) (h c : S256x256.Idx → F .f32) : S256x256.Idx → F .f32 :=
  k0_pay219 x W.q W.r W.wx W.wh W.b h c

/-- A direction's hidden state and carry after `k` steps on the rows `x 0, x 1, …`. -/
def states (W : Weights F) (x : ℕ → S1x256x100.Idx → F .f32) : ℕ → (S256x256.Idx → F .f32) × (S256x256.Idx → F .f32)
  | 0 => (k0_pay3, k0_pay3)
  | k + 1 => (cellH W (x k) (states W x k).1 (states W x k).2, cellC W (x k) (states W x k).1 (states W x k).2)

/-- A direction's half of the logits, from its hidden state. -/
def proj (W : Weights F) (h : S256x256.Idx → F .f32) : S256x20.Idx → F .f32 := k0_pay223 h W.wt

/-- The forward half of step `t`'s logits. -/
def logF (P : Inputs F) (t : ℕ) : S256x20.Idx → F .f32 := proj P.fwd (states P.fwd (slab P.xs) (t + 1)).1

/-- The backward half of step `t`'s logits. -/
def logB (P : Inputs F) (t : ℕ) : S256x20.Idx → F .f32 := proj P.bwd (states P.bwd (fun s => slab P.xs (127 - s)) (128 - t)).1

/-- The sum of the halves and the bias. -/
def logits (p q : S256x20.Idx → F .f32) (bt : S1x20.Idx → F .f32) : FVec F S256x20 .f32 :=
  addf (addf (p : FVec F S256x20 .f32) q) (broadcastTo S256x20 (shapeCast S1x20 (bt : FVec F S1x20 .f32) shapeCasts_S1x20_S1x20) broadcasts_S1x20_S256x20)

/-- Each row's first tag of greatest logit. -/
def tagOf (l : FVec F S256x20 .f32) : IVec S256x1 32 :=
  shapeCast S256x1 (multiReductionI .minsi [1] S256
    (select (cmpf .oeq l (broadcastTo S256x20 (shapeCast S256x1 (multiReduction .maximumf [1] S256 l 0xFF800000#32 reduces_S256x20_S256 (.inl rfl) rfl) shapeCasts_S256_S256x1) broadcasts_S256x1_S256x20))
      (iota .tc S256x20 32 [1] iota_S256x20_d1_w32) (broadcast S256x20 20#32))
    2147483647#32 reduces_S256x20_S256 rfl) shapeCasts_S256_S256x1

/-- The tags of step `t`. -/
def tagAt (P : Inputs F) (t : ℕ) : IVec S256x1 32 := tagOf (logits (logF P t) (logB P t) P.bt)

/-- A column of an array of tags replaced. -/
def putCol (t : ℕ) (tag : IVec S256x1 32) (acc : S256x128.Idx → BitVec 32) : S256x128.Idx → BitVec 32 :=
  fun y => if (y 1).val = t then tag (ix2 (y 0) (0 : Fin 1)) else acc y

/-- The select by lane replaces the column of the word's number. -/
theorem pay14_eq (v : BitVec 32) (t : ℕ) (hv : v = BitVec.ofNat 32 t) (ht : t < 128) (tag : IVec S256x1 32) (acc : Vec F S256x128 .i32) :
    k0_pay14 (F := F) v tag acc = putCol t tag acc := by
  subst hv
  funext y
  obtain ⟨r, l, rfl⟩ : ∃ r l, y = ix2 r l := ⟨y 0, y 1, eq_ix2 y⟩
  unfold k0_pay14 putCol
  dsimp only
  rw [shapeCast_self, shapeCast_self]
  have hl : l.val < 128 := l.isLt
  have hb : broadcastTo S256x128 tag broadcasts_S256x1_S256x128 (ix2 r l) = tag (ix2 r (0 : Fin 1)) := by
    refine broadcastTo_apply _ _ _ _ fun ax => ?_
    match ax with
    | ⟨0, _⟩ => rfl
    | ⟨1, _⟩ => rfl
  have hi : iota .tc S256x128 32 [1] iota_S256x128_d1_w32 (ix2 r l) = BitVec.ofNat 32 l.val := by
    show BitVec.ofNat 32 (0 * 128 + l.val) = _
    rw [Nat.zero_mul, Nat.zero_add]
  show (if IntOp.cmpi .eq (iota .tc S256x128 32 [1] iota_S256x128_d1_w32 (ix2 r l)) (BitVec.ofNat 32 t) = 1 then
      broadcastTo S256x128 tag broadcasts_S256x1_S256x128 (ix2 r l) else acc (ix2 r l)) = if l.val = t then tag (ix2 r (0 : Fin 1)) else acc (ix2 r l)
  rw [hb, hi]
  by_cases h : l.val = t
  · rw [h, if_pos rfl, if_pos (by simp [IntOp.cmpi])]
  · rw [if_neg h, if_neg]
    intro h1
    simp only [IntOp.cmpi] at h1
    have h2 : BitVec.ofNat 32 l.val = BitVec.ofNat 32 t := by
      by_contra hne
      rw [beq_false_of_ne hne] at h1
      exact absurd h1 (by decide)
    have := congrArg BitVec.toNat h2
    simp only [BitVec.toNat_ofNat] at this
    omega

/-- The first decode of a trip replaces the trip's own column. -/
theorem pay216_eq (v : BitVec 32) (p : FVec F S256x20 .f32) (q : Vec F S1x256x20 .f32) (bt : Vec F S1x20 .f32) (acc : Vec F S256x128 .i32) :
    k0_pay216 (F := F) (iota .tc S256x128 32 [1] iota_S256x128_d1_w32) (iota .tc S256x20 32 [1] iota_S256x20_d1_w32) v p q bt acc
      = k0_pay14 (F := F) v (tagOf (logits p (shapeCast S256x20 q shapeCasts_S1x256x20_S256x20) bt)) acc := rfl

/-- The second decode's tags. -/
theorem pay217_eq (p : FVec F S256x20 .f32) (q : Vec F S1x256x20 .f32) (bt : Vec F S1x20 .f32) :
    k0_pay217 (F := F) (iota .tc S256x20 32 [1] iota_S256x20_d1_w32) p q bt
      = tagOf (logits (shapeCast S256x20 q shapeCasts_S1x256x20_S256x20) p bt) := rfl

theorem pay220_eq {x x' : Vec F S1x256x100 .f32} {W : Weights F} {q r wx wh b h c h' c'} (ex : x = x') (eq : q = W.q) (er : r = W.r) (ewx : wx = W.wx) (ewh : wh = W.wh) (eb : b = W.b) (eh : h = h') (ec : c = c') :
    k0_pay220 x q r wx wh b h c = cellH W x' h' c' := by subst_vars; rfl

theorem pay219_eq {x x' : Vec F S1x256x100 .f32} {W : Weights F} {q r wx wh b h c h' c'} (ex : x = x') (eq : q = W.q) (er : r = W.r) (ewx : wx = W.wx) (ewh : wh = W.wh) (eb : b = W.b) (eh : h = h') (ec : c = c') :
    k0_pay219 x q r wx wh b h c = cellC W x' h' c' := by subst_vars; rfl

/-- The backward cell's carry is the forward cell's on the backward weights. -/
theorem pay8_eq {x x' : Vec F S1x256x100 .f32} {W : Weights F} {q r wx wh b h c h' c'} (ex : x = x') (eq : q = W.q) (er : r = W.r) (ewx : wx = W.wx) (ewh : wh = W.wh) (eb : b = W.b) (eh : h = h') (ec : c = c') :
    k0_pay8 (k0_pay225 r) (k0_pay226 wx) (k0_pay227 wh) (k0_pay228 b) h c (k0_pay229 x q h) = cellC W x' h' c' := by subst_vars; rfl

/-- The backward cell's hidden state is the forward cell's on the backward weights. -/
theorem pay9_eq {x x' : Vec F S1x256x100 .f32} {W : Weights F} {q r wx wh b h c h' c'} (ex : x = x') (eq : q = W.q) (er : r = W.r) (ewx : wx = W.wx) (ewh : wh = W.wh) (eb : b = W.b) (eh : h = h') (ec : c = c') :
    k0_pay9 (k0_pay225 r) (k0_pay226 wx) (k0_pay227 wh) (k0_pay228 b) h c (k0_pay229 x q h) = cellH W x' h' c' := by subst_vars; rfl

theorem pay223_eq {h h' wt} {W : Weights F} (eh : h = h') (e : wt = W.wt) : k0_pay223 (F := F) h wt = proj W h' := by subst_vars; rfl

theorem logits_congr {p p' q q' : S256x20.Idx → F .f32} {bt bt' : S1x20.Idx → F .f32} (ep : p = p') (eq : q = q') (eb : bt = bt') : logits p q bt = logits p' q' bt' := by
  subst_vars; rfl

theorem putCol_congr {t : ℕ} {tag tag' : IVec S256x1 32} {acc acc' : S256x128.Idx → BitVec 32} (e : tag = tag') (e' : acc = acc') : putCol t tag acc = putCol t tag' acc' := by
  subst_vars; rfl

theorem pay12_eq {r wx wh b h c z wt h'} {W : Weights F} (eh : k0_pay9 r wx wh b h c z = h') (e : wt = W.wt) : k0_pay12 (F := F) r wx wh b h c z wt = proj W h' := by subst_vars; rfl

/-- What the compute loop's buffers hold before trip `k`: both directions' states after `k` steps, the forward logits of the
    steps below `k`, the backward ones of the last `k` steps, and the tags of every step whose two halves have both been seen. -/
structure Inv (P : Inputs F) (k : ℕ) (hf cf hb cb : S256x256.Idx → F .f32) (pf pb : S128x256x20.Idx → F .f32) (acc : S256x128.Idx → BitVec 32) : Prop where
  hf : hf = (states P.fwd (slab P.xs) k).1
  cf : cf = (states P.fwd (slab P.xs) k).2
  hb : hb = (states P.bwd (fun s => slab P.xs (127 - s)) k).1
  cb : cb = (states P.bwd (fun s => slab P.xs (127 - s)) k).2
  pf : ∀ y, (y 0).val < k → pf y = logF P (y 0).val (ix2 (y 1) (y 2))
  pb : ∀ y, 128 ≤ k + (y 0).val → pb y = logB P (y 0).val (ix2 (y 1) (y 2))
  acc : ∀ y, (64 ≤ (y 1).val ∧ (y 1).val < k) ∨ ((y 1).val < 64 ∧ 128 ≤ k + (y 1).val) → acc y = tagAt P (y 1).val (ix2 (y 0) (0 : Fin 1))

theorem Inv.zero (P : Inputs F) (pf pb acc) : Inv P 0 k0_pay3 k0_pay3 k0_pay3 k0_pay3 pf pb acc where
  hf := rfl
  cf := rfl
  hb := rfl
  cb := rfl
  pf := fun y h => by omega
  pb := fun y h => by have : (y 0).val < 128 := (y 0).isLt; omega
  acc := fun y h => by have : (y 1).val < 128 := (y 1).isLt; omega

/-- After the last trip every tag is there. -/
theorem Inv.last {P : Inputs F} {hf cf hb cb pf pb acc} (h : Inv P 128 hf cf hb cb pf pb acc) (y) : acc y = tagAt P (y 1).val (ix2 (y 0) (0 : Fin 1)) := by
  have : (y 1).val < 128 := (y 1).isLt
  exact h.acc y (by omega)

/-- A stored slab over an array of slabs. -/
def putSlab (t : ℕ) (p : S256x20.Idx → F .f32) (a : S128x256x20.Idx → F .f32) : S128x256x20.Idx → F .f32 :=
  fun y => if (y 0).val = t then p (ix2 (y 1) (y 2)) else a y

section
variable {P : Inputs F} {k : ℕ} {hf cf hb cb hf' cf' hb' cb' : S256x256.Idx → F .f32} {pf pb pf' pb' : S128x256x20.Idx → F .f32} {acc acc' : S256x128.Idx → BitVec 32}

/-- The step of everything but the tags. -/
theorem Inv.step (h : Inv P k hf cf hb cb pf pb acc) (hk : k < 128)
    (ehf : hf' = cellH P.fwd (slab P.xs k) hf cf) (ecf : cf' = cellC P.fwd (slab P.xs k) hf cf)
    (ehb : hb' = cellH P.bwd (slab P.xs (127 - k)) hb cb) (ecb : cb' = cellC P.bwd (slab P.xs (127 - k)) hb cb)
    (epf : pf' = putSlab k (proj P.fwd hf') pf) (epb : pb' = putSlab (127 - k) (proj P.bwd hb') pb)
    (eacc : ∀ y, (64 ≤ (y 1).val ∧ (y 1).val < k + 1) ∨ ((y 1).val < 64 ∧ 128 ≤ k + 1 + (y 1).val) → acc' y = tagAt P (y 1).val (ix2 (y 0) (0 : Fin 1))) :
    Inv P (k + 1) hf' cf' hb' cb' pf' pb' acc' where
  hf := by rw [ehf, h.hf, h.cf]; rfl
  cf := by rw [ecf, h.hf, h.cf]; rfl
  hb := by rw [ehb, h.hb, h.cb]; rfl
  cb := by rw [ecb, h.hb, h.cb]; rfl
  pf := fun y hy => by
    rw [epf]; unfold putSlab
    by_cases e : (y 0).val = k
    · rw [if_pos e, e, ehf, h.hf, h.cf]; rfl
    · rw [if_neg e]; exact h.pf y (by omega)
  pb := fun y hy => by
    rw [epb]; unfold putSlab
    by_cases e : (y 0).val = 127 - k
    · rw [if_pos e, e, ehb, h.hb, h.cb]
      show _ = proj P.bwd (states P.bwd (fun s => slab P.xs (127 - s)) (128 - (127 - k))).1 _
      rw [show 128 - (127 - k) = k + 1 by omega]; rfl
    · rw [if_neg e]; exact h.pb y (by omega)
  acc := eacc

/-- A trip of the first half leaves the tags alone. -/
theorem Inv.step_lo (h : Inv P k hf cf hb cb pf pb acc) (hk : k < 64)
    (ehf : hf' = cellH P.fwd (slab P.xs k) hf cf) (ecf : cf' = cellC P.fwd (slab P.xs k) hf cf)
    (ehb : hb' = cellH P.bwd (slab P.xs (127 - k)) hb cb) (ecb : cb' = cellC P.bwd (slab P.xs (127 - k)) hb cb)
    (epf : pf' = putSlab k (proj P.fwd hf') pf) (epb : pb' = putSlab (127 - k) (proj P.bwd hb') pb) :
    Inv P (k + 1) hf' cf' hb' cb' pf' pb' acc :=
  h.step (by omega) ehf ecf ehb ecb epf epb fun y hy => by omega

/-- A trip of the second half decodes two steps: its own, and its mirror image. -/
theorem Inv.step_hi (h : Inv P k hf cf hb cb pf pb acc) (h0 : 64 ≤ k) (hk : k < 128)
    (ehf : hf' = cellH P.fwd (slab P.xs k) hf cf) (ecf : cf' = cellC P.fwd (slab P.xs k) hf cf)
    (ehb : hb' = cellH P.bwd (slab P.xs (127 - k)) hb cb) (ecb : cb' = cellC P.bwd (slab P.xs (127 - k)) hb cb)
    (epf : pf' = putSlab k (proj P.fwd hf') pf) (epb : pb' = putSlab (127 - k) (proj P.bwd hb') pb)
    (eacc : ∃ a b : S256x20.Idx → F .f32, (∀ x, a x = pf' (ix3 ⟨127 - k, by omega⟩ (x 0) (x 1))) ∧ (∀ x, b x = pb' (ix3 ⟨k, hk⟩ (x 0) (x 1)))
      ∧ acc' = putCol (127 - k) (tagOf (logits a (proj P.bwd hb') P.bt)) (putCol k (tagOf (logits (proj P.fwd hf') b P.bt)) acc)) :
    Inv P (k + 1) hf' cf' hb' cb' pf' pb' acc' := by
  obtain ⟨a, b, ha, hbr, eacc⟩ := eacc
  have ea : a = logF P (127 - k) := by
    funext x
    rw [ha, epf]
    refine (if_neg (show ¬ 127 - k = k by omega)).trans ?_
    rw [h.pf _ (show 127 - k < k by omega)]
    exact congrArg _ (eq_ix2 x).symm
  have eb : b = logB P k := by
    funext x
    rw [hbr, epb]
    refine (if_neg (show ¬ k = 127 - k by omega)).trans ?_
    rw [h.pb _ (show 128 ≤ k + k by omega)]
    exact congrArg _ (eq_ix2 x).symm
  have e1 : proj P.fwd hf' = logF P k := by rw [ehf, h.hf, h.cf]; rfl
  have e2 : proj P.bwd hb' = logB P (127 - k) := by
    rw [ehb, h.hb, h.cb]
    show _ = proj P.bwd (states P.bwd (fun s => slab P.xs (127 - s)) (128 - (127 - k))).1
    rw [show 128 - (127 - k) = k + 1 by omega]; rfl
  refine h.step hk ehf ecf ehb ecb epf epb fun y hy => ?_
  rw [eacc, ea, eb, e1, e2]
  unfold putCol
  by_cases c1 : (y 1).val = 127 - k
  · rw [if_pos c1, c1]; rfl
  · rw [if_neg c1]
    by_cases c2 : (y 1).val = k
    · rw [if_pos c2, c2]; rfl
    · rw [if_neg c2]; exact h.acc y (by omega)

end

end Cert.KernelIdeal.Run
-- ==== Proof.Compute.lean ====
/- The compute loop: one trip from the invariant before it to the invariant after it. -/
module

public import proofs.«01_k».proof.Proof.Gen.KernelIdeal.Loops
public import proofs.«01_k».proof.Proof.Cell
public import Idealize.ShloMosaic.Lib.VecWindow
public import Idealize.ShloMosaic.Lib.Pipeline.FrameBody
public import Idealize.ShloMosaic.Lib.WordCmp

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A load of one step's rows reads that step. -/
theorem read_slab {v : View sig .tc .vmem S128x256x100 .f32} {f : v.ty.Contents (Elt F)} {off : Fin 3 → ℕ} {t : ℕ} (h : off = ![t, 0, 0]) {inb} :
    View.readAt (Elt F) v (Rect.unit (s := S128x256x100) off S1x256x100.size inb).toLoadRect f = slab (v.read (Elt F) f) t := by
  subst h
  have ht : t + 1 ≤ 128 := inb 0
  funext y
  show v.read (Elt F) f _ = v.read (Elt F) f _
  congr 1
  funext a
  have h0 : (y 0).val < 1 := (y 0).isLt
  fin_cases a
  · apply Fin.ext
    show t + 1 * (y 0).val = t % 128
    omega
  · apply Fin.ext
    show 0 + 1 * (y 1).val = (y 1).val
    omega
  · apply Fin.ext
    show 0 + 1 * (y 2).val = (y 2).val
    omega

/-- A store of one step's logits puts that slab. -/
theorem read_putSlab {v : View sig .tc .vmem S128x256x20 .f32} {f : v.ty.Contents (Elt F)} {off : Fin 3 → ℕ} {t : ℕ} (h : off = ![t, 0, 0]) {inb}
    {p : S256x20.Idx → F .f32} {hc} {p' : S256x20.Idx → F .f32} (hp : p = p') :
    v.read (Elt F) (v.writes (Elt F) f [⟨Rect.unit (s := S128x256x20) off S1x256x20.size inb, shapeCast S1x256x20 p hc⟩]) = putSlab t p' (v.read (Elt F) f) := by
  subst h hp
  funext y
  rw [View.read_writes_cons_unit v _ inb _ [] y rfl]
  unfold putSlab
  have h1 : (y 1).val < 256 := (y 1).isLt
  have h2 : (y 2).val < 20 := (y 2).isLt
  by_cases e : (y 0).val = t
  · rw [if_pos e, dif_pos]
    · obtain ⟨a, b, d, rfl⟩ : ∃ a b d, y = ix3 a b d := ⟨y 0, y 1, y 2, eq_ix3 y⟩
      have e' : a.val = t := e
      refine Eq.trans (congrArg _ ?_) (ValueIdx.shapeCast_ab_1ab_apply p hc (0 : Fin 1) b d)
      funext x
      fin_cases x
      · apply Fin.ext
        show a.val - t = 0
        omega
      · rfl
      · rfl
    · intro a
      fin_cases a
      · show t ≤ (y 0).val ∧ (y 0).val < t + 1
        omega
      · show 0 ≤ (y 1).val ∧ (y 1).val < 0 + 256
        omega
      · show 0 ≤ (y 2).val ∧ (y 2).val < 0 + 20
        omega
  · rw [if_neg e, dif_neg]
    · rfl
    · intro h
      have := h 0
      have h' : t ≤ (y 0).val ∧ (y 0).val < t + 1 := this
      omega

/-- A load of one step's logits reads that slab. -/
theorem read_row {v : View sig .tc .vmem S128x256x20 .f32} {f : v.ty.Contents (Elt F)} {off : Fin 3 → ℕ} {t : ℕ} (h : off = ![t, 0, 0]) {inb} {hc} (ht : t < 128) (x : S256x20.Idx) :
    shapeCast S256x20 (View.readAt (Elt F) v (Rect.unit (s := S128x256x20) off S1x256x20.size inb).toLoadRect f) hc x = v.read (Elt F) f (ix3 ⟨t, ht⟩ (x 0) (x 1)) := by
  subst h
  obtain ⟨a, b, rfl⟩ : ∃ a b, x = ix2 a b := ⟨x 0, x 1, eq_ix2 x⟩
  refine (ValueIdx.shapeCast_1ab_ab_apply _ _ _ _).trans ?_
  show v.read (Elt F) f _ = v.read (Elt F) f _
  congr 1
  funext i
  fin_cases i
  · rfl
  · apply Fin.ext
    show 0 + 1 * a.val = a.val
    omega
  · apply Fin.ext
    show 0 + 1 * b.val = b.val
    omega

/-- A store of a whole state leaves it. -/
theorem read_state {v : View sig .tc .vmem S256x256 .f32} {f : v.ty.Contents (Elt F)} {inb} {h : S256x256.Idx → F .f32} {hc} :
    v.read (Elt F) (v.writes (Elt F) f [⟨Rect.unit (s := S256x256) ![0, 0] S256x256.size inb, shapeCast S256x256 h hc⟩]) = h :=
  (View.read_writes_full _ _ _ _ _).trans (shapeCast_self _ _)

/-- The guard of the decoding is the trip's being in the second half. -/
theorem cond1_iff : ∀ k : Fin k0_t2_loop.trips, (k0_cond1 k = 1#1) ↔ 64 ≤ k.val := by decide +kernel

/-- The trip's word. -/
theorem word_iff : ∀ k : Fin k0_t2_loop.trips, Scf.iv 0#32 1#32 k = BitVec.ofNat 32 k.val ∧ Scalar.subi 127#32 (Scf.iv 0#32 1#32 k) = BitVec.ofNat 32 (127 - k.val) := by decide +kernel

theorem closed' {n : ℕ} {off off' : Fin n → ℕ} [ClosedOff off] (h : ClosedOff.form off = off') : off = off' := ClosedOff.eq.trans h

/-- A trip of the first half. -/
theorem trip_lo (c : Dev nD) (i : grid0.Coords) (arg1 : Memref sig .tc .smem S512x128 .i32) (harg1 : arg1.IsWhole) (arg2 : Memref sig .tc .hbm S50000x1x100 .f32) (harg2 : arg2.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (arg24 : DmaSems sig S_) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (fA : alloca_r1.view.ty.Contents (Elt F)) (fB : alloca_0_r1.view.ty.Contents (Elt F))
    (k : Fin k0_t2_loop.trips) (hk : k.val < 64) (P : Inputs F) (hP : P = (⟨(arg18.view.read (Elt F) f18), ⟨(arg4.view.read (Elt F) f4), (arg5.view.read (Elt F) f5), (arg6.view.read (Elt F) f6), (arg7.view.read (Elt F) f7), (arg8.view.read (Elt F) f8), (arg14.view.read (Elt F) f14)⟩, ⟨(arg9.view.read (Elt F) f9), (arg10.view.read (Elt F) f10), (arg11.view.read (Elt F) f11), (arg12.view.read (Elt F) f12), (arg13.view.read (Elt F) f13), (arg15.view.read (Elt F) f15)⟩, (arg16.view.read (Elt F) f16)⟩ : Inputs F))
    (hI : Inv P k.val (arg19.view.read (Elt F) f19) (arg20.view.read (Elt F) f20) (arg21.view.read (Elt F) f21) (arg22.view.read (Elt F) f22) (alloca_r1.view.read (Elt F) fA) (alloca_0_r1.view.read (Elt F) fB) (arg23.view.read (Elt F) f23)) :
    iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (alloca_r1.view.loc (c : Thread nD τ) ↦[alloca_r1.view.set]{fullShare} fA) ∗ (alloca_0_r1.view.loc (c : Thread nD τ) ↦[alloca_0_r1.view.set]{fullShare} fB))
      ⊢ (wp frame (wpE (defs₀ (F := F)) Variants.none (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 (iota .tc S256x128 32 [1] iota_S256x128_d1_w32) (iota .tc S256x20 32 [1] iota_S256x20_d1_w32) k ())
          (fun _ => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ ∃ g19 : arg19.view.ty.Contents (Elt F), ∃ g20 : arg20.view.ty.Contents (Elt F), ∃ g21 : arg21.view.ty.Contents (Elt F), ∃ g22 : arg22.view.ty.Contents (Elt F), ∃ g23 : arg23.view.ty.Contents (Elt F), ∃ gA : alloca_r1.view.ty.Contents (Elt F), ∃ gB : alloca_0_r1.view.ty.Contents (Elt F), (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (alloca_r1.view.loc (c : Thread nD τ) ↦[alloca_r1.view.set]{fullShare} gA) ∗ (alloca_0_r1.view.loc (c : Thread nD τ) ↦[alloca_0_r1.view.set]{fullShare} gB) ∗ ⌜Inv P (k.val + 1) (arg19.view.read (Elt F) g19) (arg20.view.read (Elt F) g20) (arg21.view.read (Elt F) g21) (arg22.view.read (Elt F) g22) (alloca_r1.view.read (Elt F) gA) (alloca_0_r1.view.read (Elt F) gB) (arg23.view.read (Elt F) g23)⌝)) : sProp 𝕄) := by
  have hc : ¬ k0_cond1 k = 1#1 := by rw [cond1_iff]; omega
  unfold k0_t2_body
  iintro ⟨H4, H5, H6, H7, H8, H9, H10, H11, H12, H13, H14, H15, H16, H18, H19, H20, H21, H22, H23, HA, HB⟩
  sl_exec_parts
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H18]; · iexact H18
  iexists _
  iexists _
  iexists _
  iexists _
  iexists _
  iexists _
  iexists _
  isplitl [H19]; · iexact H19
  isplitl [H20]; · iexact H20
  isplitl [H21]; · iexact H21
  isplitl [H22]; · iexact H22
  isplitl [H23]; · iexact H23
  isplitl [HA]; · iexact HA
  isplitl [HB]; · iexact HB
  ipureintro
  have hlt : k.val < 128 := k.isLt
  subst hP
  set P : Inputs F := (⟨(arg18.view.read (Elt F) f18), ⟨(arg4.view.read (Elt F) f4), (arg5.view.read (Elt F) f5), (arg6.view.read (Elt F) f6), (arg7.view.read (Elt F) f7), (arg8.view.read (Elt F) f8), (arg14.view.read (Elt F) f14)⟩, ⟨(arg9.view.read (Elt F) f9), (arg10.view.read (Elt F) f10), (arg11.view.read (Elt F) f11), (arg12.view.read (Elt F) f12), (arg13.view.read (Elt F) f13), (arg15.view.read (Elt F) f15)⟩, (arg16.view.read (Elt F) f16)⟩ : Inputs F) with hP
  refine Inv.step_lo hI hk ?_ ?_ ?_ ?_ ?_ ?_
  · exact read_state.trans (pay220_eq (W := P.fwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay219_eq (W := P.fwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay9_eq (W := P.bwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay8_eq (W := P.bwd) (read_slab (closed' rfl)) (View.readAt_full _ _ _) (View.readAt_full _ _ _) (View.readAt_full _ _ _) (View.readAt_full _ _ _) (View.readAt_full _ _ _) (View.readAt_full _ _ _) (View.readAt_full _ _ _))
  · exact read_putSlab (k0_off546_eq k) (pay223_eq read_state.symm (View.readAt_full _ _ _))
  · exact read_putSlab (k0_off548_eq k) (pay12_eq read_state.symm (View.readAt_full _ _ _))

/-- A trip of the second half. -/
theorem trip_hi (c : Dev nD) (i : grid0.Coords) (arg1 : Memref sig .tc .smem S512x128 .i32) (harg1 : arg1.IsWhole) (arg2 : Memref sig .tc .hbm S50000x1x100 .f32) (harg2 : arg2.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (arg24 : DmaSems sig S_) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f18 : arg18.view.ty.Contents (Elt F)) (f19 : arg19.view.ty.Contents (Elt F)) (f20 : arg20.view.ty.Contents (Elt F)) (f21 : arg21.view.ty.Contents (Elt F)) (f22 : arg22.view.ty.Contents (Elt F)) (f23 : arg23.view.ty.Contents (Elt F)) (fA : alloca_r1.view.ty.Contents (Elt F)) (fB : alloca_0_r1.view.ty.Contents (Elt F))
    (k : Fin k0_t2_loop.trips) (hk : 64 ≤ k.val) (P : Inputs F) (hP : P = (⟨(arg18.view.read (Elt F) f18), ⟨(arg4.view.read (Elt F) f4), (arg5.view.read (Elt F) f5), (arg6.view.read (Elt F) f6), (arg7.view.read (Elt F) f7), (arg8.view.read (Elt F) f8), (arg14.view.read (Elt F) f14)⟩, ⟨(arg9.view.read (Elt F) f9), (arg10.view.read (Elt F) f10), (arg11.view.read (Elt F) f11), (arg12.view.read (Elt F) f12), (arg13.view.read (Elt F) f13), (arg15.view.read (Elt F) f15)⟩, (arg16.view.read (Elt F) f16)⟩ : Inputs F))
    (hI : Inv P k.val (arg19.view.read (Elt F) f19) (arg20.view.read (Elt F) f20) (arg21.view.read (Elt F) f21) (arg22.view.read (Elt F) f22) (alloca_r1.view.read (Elt F) fA) (alloca_0_r1.view.read (Elt F) fB) (arg23.view.read (Elt F) f23)) :
    iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (alloca_r1.view.loc (c : Thread nD τ) ↦[alloca_r1.view.set]{fullShare} fA) ∗ (alloca_0_r1.view.loc (c : Thread nD τ) ↦[alloca_0_r1.view.set]{fullShare} fB))
      ⊢ (wp frame (wpE (defs₀ (F := F)) Variants.none (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 (iota .tc S256x128 32 [1] iota_S256x128_d1_w32) (iota .tc S256x20 32 [1] iota_S256x20_d1_w32) k ())
          (fun _ => iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ ∃ g19 : arg19.view.ty.Contents (Elt F), ∃ g20 : arg20.view.ty.Contents (Elt F), ∃ g21 : arg21.view.ty.Contents (Elt F), ∃ g22 : arg22.view.ty.Contents (Elt F), ∃ g23 : arg23.view.ty.Contents (Elt F), ∃ gA : alloca_r1.view.ty.Contents (Elt F), ∃ gB : alloca_0_r1.view.ty.Contents (Elt F), (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (alloca_r1.view.loc (c : Thread nD τ) ↦[alloca_r1.view.set]{fullShare} gA) ∗ (alloca_0_r1.view.loc (c : Thread nD τ) ↦[alloca_0_r1.view.set]{fullShare} gB) ∗ ⌜Inv P (k.val + 1) (arg19.view.read (Elt F) g19) (arg20.view.read (Elt F) g20) (arg21.view.read (Elt F) g21) (arg22.view.read (Elt F) g22) (alloca_r1.view.read (Elt F) gA) (alloca_0_r1.view.read (Elt F) gB) (arg23.view.read (Elt F) g23)⌝)) : sProp 𝕄) := by
  have hc : k0_cond1 k = 1#1 := by rw [cond1_iff]; omega
  unfold k0_t2_body
  iintro ⟨H4, H5, H6, H7, H8, H9, H10, H11, H12, H13, H14, H15, H16, H18, H19, H20, H21, H22, H23, HA, HB⟩
  sl_exec_parts
  sl_step
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H18]; · iexact H18
  iexists _
  iexists _
  iexists _
  iexists _
  iexists _
  iexists _
  iexists _
  isplitl [H19]; · iexact H19
  isplitl [H20]; · iexact H20
  isplitl [H21]; · iexact H21
  isplitl [H22]; · iexact H22
  isplitl [H23]; · iexact H23
  isplitl [HA]; · iexact HA
  isplitl [HB]; · iexact HB
  ipureintro
  have hlt : k.val < 128 := k.isLt
  subst hP
  set P : Inputs F := (⟨(arg18.view.read (Elt F) f18), ⟨(arg4.view.read (Elt F) f4), (arg5.view.read (Elt F) f5), (arg6.view.read (Elt F) f6), (arg7.view.read (Elt F) f7), (arg8.view.read (Elt F) f8), (arg14.view.read (Elt F) f14)⟩, ⟨(arg9.view.read (Elt F) f9), (arg10.view.read (Elt F) f10), (arg11.view.read (Elt F) f11), (arg12.view.read (Elt F) f12), (arg13.view.read (Elt F) f13), (arg15.view.read (Elt F) f15)⟩, (arg16.view.read (Elt F) f16)⟩ : Inputs F) with hP
  refine Inv.step_hi hI hk hlt ?_ ?_ ?_ ?_ ?_ ?_ ?_
  · exact read_state.trans (pay220_eq (W := P.fwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay219_eq (W := P.fwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay9_eq (W := P.bwd) (read_slab (closed' rfl)) (View.readAt_full _ _ _) (View.readAt_full _ _ _) (View.readAt_full _ _ _) (View.readAt_full _ _ _) (View.readAt_full _ _ _) (View.readAt_full _ _ _) (View.readAt_full _ _ _))
  · exact read_state.trans (pay8_eq (W := P.bwd) (read_slab (closed' rfl)) (View.readAt_full _ _ _) (View.readAt_full _ _ _) (View.readAt_full _ _ _) (View.readAt_full _ _ _) (View.readAt_full _ _ _) (View.readAt_full _ _ _) (View.readAt_full _ _ _))
  · exact read_putSlab (k0_off546_eq k) (pay223_eq read_state.symm (View.readAt_full _ _ _))
  · exact read_putSlab (k0_off548_eq k) (pay12_eq read_state.symm (View.readAt_full _ _ _))
  · refine ⟨_, _, fun x => read_row (k0_off550_eq k) (inb := k0_off550_inb k hc) (hc := shapeCasts_S1x256x20_S256x20) (by omega) x, fun x => read_row (k0_off549_eq k) (inb := k0_off549_inb k hc) (hc := shapeCasts_S1x256x20_S256x20) hlt x, ?_⟩
    refine (View.read_writes_full _ _ _ _ _).trans ((pay14_eq _ (127 - k.val) (word_iff k).2 (by omega) _ _).trans (putCol_congr ?_ ?_))
    · exact (pay217_eq _ _ _).trans (congrArg tagOf (logits_congr rfl (pay12_eq read_state.symm (View.readAt_full _ _ _)) (View.readAt_full _ _ _)))
    · refine (View.readAt_writes_full _ _ _ _ _ _).trans ((pay216_eq _ _ _ _ _).trans ((pay14_eq _ k.val (word_iff k).1 hlt _ _).trans (putCol_congr ?_ (View.readAt_full _ _ _))))
      exact congrArg tagOf (logits_congr (pay223_eq read_state.symm (View.readAt_full _ _ _)) rfl (View.readAt_full _ _ _))

end Cert.KernelIdeal.Run
-- ==== Proof.Invs.lean ====
/- The two loops' invariants, as the instances the run of the body finds. -/
module

public import proofs.«01_k».proof.Proof.Gather
public import proofs.«01_k».proof.Proof.Compute

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option warn.classDefReducibility false in
/-- Before trip `k` of the gather loop the buffer holds the gathered block on the steps below `k`. -/
@[sl_loop] noncomputable def loopInv_k0_t1 (c : Dev nD) (i : grid0.Coords) (arg1 : Memref sig .tc .smem S512x128 .i32) (harg1 : arg1.IsWhole) (arg2 : Memref sig .tc .hbm S50000x1x100 .f32) (harg2 : arg2.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (arg24 : DmaSems sig S_) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (v0 : BitVec 32) (f1 : arg1.view.ty.Contents (Elt F)) (fe : alloca_r0.view.ty.Contents (Elt F))
    (hw : ∀ y, BitVec.toNat (arg1.view.read (Elt F) f1 y) < 50000) :
    Gen.LoopInvTy_k0_t1 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 v0 where
  inv := fun k _ => iprop((arg1.view.loc (c : Thread nD τ) ↦[arg1.view.set]{fullShare} f1) ∗ (alloca_r0.view.loc (c : Thread nD τ) ↦[alloca_r0.view.set]{fullShare} fe) ∗ ∃ f : arg18.view.ty.Contents (Elt F), (arg18.view.loc (c : Thread nD τ) ↦[arg18.view.set]{fullShare} f) ∗ ⌜∀ y, (y 0).val < k → (arg18.view.read (Elt F) f) y = (embeds (arg1.view.read (Elt F) f1) (alloca_r0.view.read (Elt F) fe) (256 * (i 0).val)) y⌝)
  step := fun k _ => by
    iintro ⟨H1, H2, ⟨%f, H3, %h⟩⟩
    iapply (wp_wand_r Idealize.ShloMosaic.frame (wpE (defs₀ (F := F)) Variants.none (c : Thread nD τ) none) Set.univ)
    isplitl [H1 H2 H3]
    · iapply (gather_trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 v0 f1 fe f hw k)
      isplitl [H1]; · iexact H1
      isplitl [H2]; · iexact H2
      iexact H3
    · iintro %_ ⟨H1, H2, ⟨%L, H3, %hL⟩⟩
      isplitl [H1]; · iexact H1
      isplitl [H2]; · iexact H2
      iexists _
      isplitl [H3]; · iexact H3
      ipureintro
      exact hL.step h

/-- What the compute loop's buffers hold before trip `k`. -/
def computeInv (c : Dev nD) (arg4 : Memref sig .tc .vmem S256x100 .f32) (arg5 : Memref sig .tc .vmem S100x256 .f32) (arg6 : Memref sig .tc .vmem S100x1024 .f32) (arg7 : Memref sig .tc .vmem S256x1024 .f32) (arg8 : Memref sig .tc .vmem S1x1024 .f32) (arg9 : Memref sig .tc .vmem S256x100 .f32) (arg10 : Memref sig .tc .vmem S100x256 .f32) (arg11 : Memref sig .tc .vmem S100x1024 .f32) (arg12 : Memref sig .tc .vmem S256x1024 .f32) (arg13 : Memref sig .tc .vmem S1x1024 .f32) (arg14 : Memref sig .tc .vmem S256x20 .f32) (arg15 : Memref sig .tc .vmem S256x20 .f32) (arg16 : Memref sig .tc .vmem S1x20 .f32) (arg18 : Memref sig .tc .vmem S128x256x100 .f32) (arg19 : Memref sig .tc .vmem S256x256 .f32) (arg20 : Memref sig .tc .vmem S256x256 .f32) (arg21 : Memref sig .tc .vmem S256x256 .f32) (arg22 : Memref sig .tc .vmem S256x256 .f32) (arg23 : Memref sig .tc .vmem S256x128 .i32) (alloca_r1 : Memref sig .tc .vmem S128x256x20 .f32) (alloca_0_r1 : Memref sig .tc .vmem S128x256x20 .f32) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f18 : arg18.view.ty.Contents (Elt F)) (k : ℕ) : sProp 𝕄 :=
  iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg18.view.loc (c : Thread nD τ) ↦[arg18.view.set]{fullShare} f18) ∗ ∃ g19 : arg19.view.ty.Contents (Elt F), ∃ g20 : arg20.view.ty.Contents (Elt F), ∃ g21 : arg21.view.ty.Contents (Elt F), ∃ g22 : arg22.view.ty.Contents (Elt F), ∃ g23 : arg23.view.ty.Contents (Elt F), ∃ gA : alloca_r1.view.ty.Contents (Elt F), ∃ gB : alloca_0_r1.view.ty.Contents (Elt F), (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22) ∗ (arg23.view.loc (c : Thread nD τ) ↦[arg23.view.set]{fullShare} g23) ∗ (alloca_r1.view.loc (c : Thread nD τ) ↦[alloca_r1.view.set]{fullShare} gA) ∗ (alloca_0_r1.view.loc (c : Thread nD τ) ↦[alloca_0_r1.view.set]{fullShare} gB) ∗ ⌜Inv (⟨(arg18.view.read (Elt F) f18), ⟨(arg4.view.read (Elt F) f4), (arg5.view.read (Elt F) f5), (arg6.view.read (Elt F) f6), (arg7.view.read (Elt F) f7), (arg8.view.read (Elt F) f8), (arg14.view.read (Elt F) f14)⟩, ⟨(arg9.view.read (Elt F) f9), (arg10.view.read (Elt F) f10), (arg11.view.read (Elt F) f11), (arg12.view.read (Elt F) f12), (arg13.view.read (Elt F) f13), (arg15.view.read (Elt F) f15)⟩, (arg16.view.read (Elt F) f16)⟩ : Inputs F) k (arg19.view.read (Elt F) g19) (arg20.view.read (Elt F) g20) (arg21.view.read (Elt F) g21) (arg22.view.read (Elt F) g22) (alloca_r1.view.read (Elt F) gA) (alloca_0_r1.view.read (Elt F) gB) (arg23.view.read (Elt F) g23)⌝)

set_option warn.classDefReducibility false in
/-- Before trip `k` of the compute loop the buffers hold what `Inv` says of the block's inputs. -/
noncomputable def loopInv_k0_t2 (c : Dev nD) (i : grid0.Coords) (arg1 : Memref sig .tc .smem S512x128 .i32) (harg1 : arg1.IsWhole) (arg2 : Memref sig .tc .hbm S50000x1x100 .f32) (harg2 : arg2.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (arg24 : DmaSems sig S_) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f18 : arg18.view.ty.Contents (Elt F)) :
    Gen.LoopInvTy_k0_t2 (F := F) Unit ℕ (Pipeline.UD sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 (iota .tc S256x128 32 [1] iota_S256x128_d1_w32) (iota .tc S256x20 32 [1] iota_S256x20_d1_w32) where
  inv := fun k _ => computeInv c arg4 arg5 arg6 arg7 arg8 arg9 arg10 arg11 arg12 arg13 arg14 arg15 arg16 arg18 arg19 arg20 arg21 arg22 arg23 alloca_r1 alloca_0_r1 f4 f5 f6 f7 f8 f9 f10 f11 f12 f13 f14 f15 f16 f18 k
  step := fun k _ => by
    unfold computeInv
    iintro ⟨H4, H5, H6, H7, H8, H9, H10, H11, H12, H13, H14, H15, H16, H18, ⟨%f19, %f20, %f21, %f22, %f23, %fA, %fB, H19, H20, H21, H22, H23, HA, HB, %hI⟩⟩
    iapply (wp_wand_r Idealize.ShloMosaic.frame (wpE (defs₀ (F := F)) Variants.none (c : Thread nD τ) none) Set.univ)
    isplitl [H4 H5 H6 H7 H8 H9 H10 H11 H12 H13 H14 H15 H16 H18 H19 H20 H21 H22 H23 HA HB]
    · rcases Nat.lt_or_ge k.val 64 with hk | hk
      · iapply (trip_lo c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 f4 f5 f6 f7 f8 f9 f10 f11 f12 f13 f14 f15 f16 f18 f19 f20 f21 f22 f23 fA fB k hk _ rfl hI)
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H18]; · iexact H18
        isplitl [H19]; · iexact H19
        isplitl [H20]; · iexact H20
        isplitl [H21]; · iexact H21
        isplitl [H22]; · iexact H22
        isplitl [H23]; · iexact H23
        isplitl [HA]; · iexact HA
        iexact HB
      · iapply (trip_hi c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 alloca_r0 halloca_r0 alloca_r1 halloca_r1 alloca_0_r1 halloca_0_r1 f4 f5 f6 f7 f8 f9 f10 f11 f12 f13 f14 f15 f16 f18 f19 f20 f21 f22 f23 fA fB k hk _ rfl hI)
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H18]; · iexact H18
        isplitl [H19]; · iexact H19
        isplitl [H20]; · iexact H20
        isplitl [H21]; · iexact H21
        isplitl [H22]; · iexact H22
        isplitl [H23]; · iexact H23
        isplitl [HA]; · iexact HA
        iexact HB
    · iintro %_ H
      iexact H

end Cert.KernelIdeal.Run
-- ==== Proof.Body.lean ====
/- One run of the kernel's body on one block. -/
module

public import proofs.«01_k».proof.Proof.Invs

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The embedding table in HBM. -/
abbrev tableM : Memref sig .tc .hbm S50000x1x100 .f32 := Memref.whole main_v1
/-- The contents of a buffer on core `c`. -/
abbrev TableBuf (c : Dev nD) {sp : Space} {S : Shape} {e : EltTy} (M : Memref sig .tc sp S e) : Type := Buf (Elt F) (M.view.loc (c : Thread nD τ))
/-- A buffer held whole, its view left folded. -/
abbrev tablePt (c : Dev nD) {sp : Space} {S : Shape} {e : EltTy} (M : Memref sig .tc sp S e) (f : TableBuf (F := F) c M) : sProp 𝕄 :=
  M.view.loc (c : Thread nD τ) ↦{fullShare} f

/-- What a block leaves in its result: each word's tag times its mask. -/
def outBlk (P : Inputs F) (mask : S256x128.Idx → BitVec 32) : S256x128.Idx → BitVec 32 :=
  k0_pay15 (F := F) (fun y => tagAt P (y 1).val (ix2 (y 0) (0 : Fin 1))) mask

/-- Zero states start the compute loop's invariant. -/
theorem Inv.start {P : Inputs F} {hf cf hb cb pf pb acc} (h₁ : hf = k0_pay3) (h₂ : cf = k0_pay3) (h₃ : hb = k0_pay3) (h₄ : cb = k0_pay3) :
    Inv P 0 hf cf hb cb pf pb acc := by
  subst h₁ h₂ h₃ h₄
  exact Inv.zero P pf pb acc

/-- Once the compute loop is through, the store of the result writes the block's tags times the mask. -/
theorem written_block {P : Inputs F} {hf cf hb cb pf pb acc} (h : Inv P 128 hf cf hb cb pf pb acc) {v : View sig .tc .vmem S256x128 .i32} (f : v.ty.Contents (Elt F))
    {inb} {a b m : S256x128.Idx → BitVec 32} (ha : a = acc) (hb : b = m) :
    v.read (Elt F) (v.writes (Elt F) f [⟨Rect.unit (s := S256x128) ![0, 0] S256x128.size inb, k0_pay15 (F := F) a b⟩]) = outBlk P m := by
  have e : a = fun y => tagAt P (y 1).val (ix2 (y 0) (0 : Fin 1)) := ha.trans (funext h.last)
  subst e hb
  exact View.read_writes_full v f inb _ []

/-- A buffer just written whole reads what was written. -/
theorem read_whole {sp : Space} {s : Shape} {e : EltTy} (v : View sig .tc sp s e) (f : v.ty.Contents (Elt F)) (w : s.Idx → Elt F e) :
    v.read (Elt F) (v.writes (Elt F) f [⟨Rect.whole s, w⟩]) = w := by
  exact View.read_writes_full v f _ w []

set_option maxHeartbeats 4000000 in
/-- The body on whole buffers: the inputs stay, the result is the block's tags times the mask. -/
theorem body_run (c : Dev nD) (i : grid0.Coords) (arg1 : Memref sig .tc .smem S512x128 .i32) (harg1 : arg1.IsWhole) (arg3 : Memref sig .tc .vmem S256x128 .i32) (harg3 : arg3.IsWhole) (arg4 : Memref sig .tc .vmem S256x100 .f32) (harg4 : arg4.IsWhole) (arg5 : Memref sig .tc .vmem S100x256 .f32) (harg5 : arg5.IsWhole) (arg6 : Memref sig .tc .vmem S100x1024 .f32) (harg6 : arg6.IsWhole) (arg7 : Memref sig .tc .vmem S256x1024 .f32) (harg7 : arg7.IsWhole) (arg8 : Memref sig .tc .vmem S1x1024 .f32) (harg8 : arg8.IsWhole) (arg9 : Memref sig .tc .vmem S256x100 .f32) (harg9 : arg9.IsWhole) (arg10 : Memref sig .tc .vmem S100x256 .f32) (harg10 : arg10.IsWhole) (arg11 : Memref sig .tc .vmem S100x1024 .f32) (harg11 : arg11.IsWhole) (arg12 : Memref sig .tc .vmem S256x1024 .f32) (harg12 : arg12.IsWhole) (arg13 : Memref sig .tc .vmem S1x1024 .f32) (harg13 : arg13.IsWhole) (arg14 : Memref sig .tc .vmem S256x20 .f32) (harg14 : arg14.IsWhole) (arg15 : Memref sig .tc .vmem S256x20 .f32) (harg15 : arg15.IsWhole) (arg16 : Memref sig .tc .vmem S1x20 .f32) (harg16 : arg16.IsWhole) (arg17 : Memref sig .tc .vmem S256x128 .i32) (harg17 : arg17.IsWhole) (arg18 : Memref sig .tc .vmem S128x256x100 .f32) (harg18 : arg18.IsWhole) (arg19 : Memref sig .tc .vmem S256x256 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S256x128 .i32) (harg23 : arg23.IsWhole) (alloca_r0 : Memref sig .tc .vmem S50000x1x100 .f32) (halloca_r0 : alloca_r0.IsWhole) (alloca_r1 : Memref sig .tc .vmem S128x256x20 .f32) (halloca_r1 : alloca_r1.IsWhole) (alloca_0_r1 : Memref sig .tc .vmem S128x256x20 .f32) (halloca_0_r1 : alloca_0_r1.IsWhole) (x1 : Vec F S512x128 .i32) (x3 : Vec F S256x128 .i32) (x4 : Vec F S256x100 .f32) (x5 : Vec F S100x256 .f32) (x6 : Vec F S100x1024 .f32) (x7 : Vec F S256x1024 .f32) (x8 : Vec F S1x1024 .f32) (x9 : Vec F S256x100 .f32) (x10 : Vec F S100x256 .f32) (x11 : Vec F S100x1024 .f32) (x12 : Vec F S256x1024 .f32) (x13 : Vec F S1x1024 .f32) (x14 : Vec F S256x20 .f32) (x15 : Vec F S256x20 .f32) (x16 : Vec F S1x20 .f32)
    (fh : TableBuf (F := F) c tableM) (hw : ∀ y, BitVec.toNat (x1 y : BitVec 32) < 50000) (W : Waits sig Unit) (K : PUnit → sProp 𝕄) :
    iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) alloca_r0 fullShare d) ∗ (∃ d, owns (c : Thread nD τ) alloca_r1 fullShare d) ∗ (∃ d, owns (c : Thread nD τ) alloca_0_r1 fullShare d) ∗ semVal ((c : Thread nD τ), SemLoc.dma 18) 0 ∗ tablePt c tableM fh ∗ owes (c : Thread nD τ) 0 W
        ∗ (iprop(owns (c : Thread nD τ) arg1 fullShare x1 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare (outBlk (⟨embeds x1 (tableM.view.read (Elt F) fh) (256 * (i 0).val), ⟨x4, x5, x6, x7, x8, x14⟩, ⟨x9, x10, x11, x12, x13, x15⟩, x16⟩ : Inputs F) x3) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) alloca_r0 fullShare d) ∗ (∃ d, owns (c : Thread nD τ) alloca_r1 fullShare d) ∗ (∃ d, owns (c : Thread nD τ) alloca_0_r1 fullShare d) ∗ semVal ((c : Thread nD τ), SemLoc.dma 18) 0 ∗ tablePt c tableM fh ∗ (∃ W', owes (c : Thread nD τ) 0 W')) -∗ K ⟨⟩))
      ⊢ (wp frame (wpE (defs₀ (F := F)) Variants.none (c : Thread nD τ) none) Set.univ (cc0_ner_bilstm_decode i arg1 harg1 tableM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch6 alloca_r0 halloca_r0 alloca_r1 halloca_r1 alloca_0_r1 halloca_0_r1) K : sProp 𝕄) := by
  rw [cc0_ner_bilstm_decode_eq_skeleton]; unfold cc0_ner_bilstm_decode_skel
  unfold owns
  iintro ⟨⟨%f1, %hf1, H1⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%darg18, %farg18, -, HSarg18⟩, ⟨%darg19, %farg19, -, HSarg19⟩, ⟨%darg20, %farg20, -, HSarg20⟩, ⟨%darg21, %farg21, -, HSarg21⟩, ⟨%darg22, %farg22, -, HSarg22⟩, ⟨%darg23, %farg23, -, HSarg23⟩, ⟨%dalloca_r0, %falloca_r0, -, HSalloca_r0⟩, ⟨%dalloca_r1, %falloca_r1, -, HSalloca_r1⟩, ⟨%dalloca_0_r1, %falloca_0_r1, -, HSalloca_0_r1⟩, Hq, Hh, HW, Hk⟩
  obtain rfl := harg1.eq_unread hf1
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  have hw' : ∀ y, BitVec.toNat (arg1.view.read (Elt F) (harg1.unread x1) y) < 50000 := by
    intro y; rw [harg1.read_unread]; exact hw y
  sl_exec
  have hx : arg18.view.read (Elt F) fL0 = embeds x1 (tableM.view.read (Elt F) fh) (256 * (i 0).val) := by
    funext y
    have hg : ∀ y : S128x256x100.Idx, (y 0).val < 128 → arg18.view.read (Elt F) fL0 y = embeds (arg1.view.read (Elt F) (harg1.unread x1)) (alloca_r0.view.read (Elt F) (alloca_r0.view.writes (Elt F) alloca_r0.view.junk [⟨Rect.whole S50000x1x100, tableM.view.read (Elt F) fh⟩])) (256 * (i 0).val) y := by
      assumption
    rw [hg y (y 0).isLt, harg1.read_unread, read_whole]
  sl_for (fun k _ => computeInv c arg4 arg5 arg6 arg7 arg8 arg9 arg10 arg11 arg12 arg13 arg14 arg15 arg16 arg18 arg19 arg20 arg21 arg22 arg23 alloca_r1 alloca_0_r1 (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) fL0 k) $$ [H4 H5 H6 H7 H8 H9 H10 H11 H12 H13 H14 H15 H16 HSarg18 HSarg19 HSarg20 HSarg21 HSarg22 HSarg23 HSalloca_r1 HSalloca_0_r1]
  case region =>
    exact (loopInv_k0_t2 c i arg1 harg1 tableM (Memref.isWhole_whole _) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch6 alloca_r0 halloca_r0 alloca_r1 halloca_r1 alloca_0_r1 halloca_0_r1 (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) fL0).step
  · unfold computeInv
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HSarg18]; · iexact HSarg18
    iexists _
    iexists _
    iexists _
    iexists _
    iexists _
    iexists _
    iexists _
    isplitl [HSarg19]; · iexact HSarg19
    isplitl [HSarg20]; · iexact HSarg20
    isplitl [HSarg21]; · iexact HSarg21
    isplitl [HSarg22]; · iexact HSarg22
    isplitl [HSarg23]; · iexact HSarg23
    isplitl [HSalloca_r1]; · iexact HSalloca_r1
    isplitl [HSalloca_0_r1]; · iexact HSalloca_0_r1
    ipureintro
    rw [hx]
    exact Inv.start (View.read_writes_full _ _ _ _ _) (View.read_writes_full _ _ _ _ _) (View.read_writes_full _ _ _ _ _) (View.read_writes_full _ _ _ _ _)
  unfold computeInv
  iintro %_ ⟨H4, H5, H6, H7, H8, H9, H10, H11, H12, H13, H14, H15, H16, HSarg18, ⟨%garg19, %garg20, %garg21, %garg22, %garg23, %galloca_r1, %galloca_0_r1, HSarg19, HSarg20, HSarg21, HSarg22, HSarg23, HSalloca_r1, HSalloca_0_r1, %hI⟩⟩
  sl_exec
  sl_step
  iapply Hk
  isplitl [H1]
  · iexists _; isplitr; · ipureintro; exact harg1.read_unread _
    iexact H1
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro
    rw [hx] at hI
    simp only [harg4.read_unread, harg5.read_unread, harg6.read_unread, harg7.read_unread, harg8.read_unread, harg9.read_unread, harg10.read_unread, harg11.read_unread, harg12.read_unread, harg13.read_unread, harg14.read_unread, harg15.read_unread, harg16.read_unread] at hI
    exact written_block hI _ (View.readAt_full _ _ _) ((View.readAt_full _ _ _).trans (harg3.read_unread x3))
  isplitl [HSarg18]
  · iexists _, _; isplitr; swap; · iexact HSarg18
    ipureintro; rfl
  isplitl [HSarg19]
  · iexists _, _; isplitr; swap; · iexact HSarg19
    ipureintro; rfl
  isplitl [HSarg20]
  · iexists _, _; isplitr; swap; · iexact HSarg20
    ipureintro; rfl
  isplitl [HSarg21]
  · iexists _, _; isplitr; swap; · iexact HSarg21
    ipureintro; rfl
  isplitl [HSarg22]
  · iexists _, _; isplitr; swap; · iexact HSarg22
    ipureintro; rfl
  isplitl [HSarg23]
  · iexists _, _; isplitr; swap; · iexact HSarg23
    ipureintro; rfl
  isplitl [HSalloca_r0]
  · iexists _, _; isplitr; swap; · iexact HSalloca_r0
    ipureintro; rfl
  isplitl [HSalloca_r1]
  · iexists _, _; isplitr; swap; · iexact HSalloca_r1
    ipureintro; rfl
  isplitl [HSalloca_0_r1]
  · iexists _, _; isplitr; swap; · iexact HSalloca_0_r1
    ipureintro; rfl
  isplitl [Hq]; · iexact Hq
  isplitl [Hh]; · iexact Hh
  iexists _; iexact HW

end Cert.KernelIdeal.Run
-- ==== Proof.Launch.lean ====
/- The launch: the body at every block, and the run of the whole program. -/
module

public import proofs.«01_k».proof.Proof.Body
public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! The staging memrefs of the windows and the scratch memrefs. -/
abbrev ms0_0 (t : Fin cfg0.N) : Memref sig .tc .smem S512x128 .i32 := win0_0.stage (cfg0.slots t 0)
abbrev ms0_1 (t : Fin cfg0.N) : Memref sig .tc .vmem S256x128 .i32 := win0_1.stage (cfg0.slots t 1)
abbrev ms0_2 (t : Fin cfg0.N) : Memref sig .tc .vmem S256x100 .f32 := win0_2.stage (cfg0.slots t 2)
abbrev ms0_3 (t : Fin cfg0.N) : Memref sig .tc .vmem S100x256 .f32 := win0_3.stage (cfg0.slots t 3)
abbrev ms0_4 (t : Fin cfg0.N) : Memref sig .tc .vmem S100x1024 .f32 := win0_4.stage (cfg0.slots t 4)
abbrev ms0_5 (t : Fin cfg0.N) : Memref sig .tc .vmem S256x1024 .f32 := win0_5.stage (cfg0.slots t 5)
abbrev ms0_6 (t : Fin cfg0.N) : Memref sig .tc .vmem S1x1024 .f32 := win0_6.stage (cfg0.slots t 6)
abbrev ms0_7 (t : Fin cfg0.N) : Memref sig .tc .vmem S256x100 .f32 := win0_7.stage (cfg0.slots t 7)
abbrev ms0_8 (t : Fin cfg0.N) : Memref sig .tc .vmem S100x256 .f32 := win0_8.stage (cfg0.slots t 8)
abbrev ms0_9 (t : Fin cfg0.N) : Memref sig .tc .vmem S100x1024 .f32 := win0_9.stage (cfg0.slots t 9)
abbrev ms0_10 (t : Fin cfg0.N) : Memref sig .tc .vmem S256x1024 .f32 := win0_10.stage (cfg0.slots t 10)
abbrev ms0_11 (t : Fin cfg0.N) : Memref sig .tc .vmem S1x1024 .f32 := win0_11.stage (cfg0.slots t 11)
abbrev ms0_12 (t : Fin cfg0.N) : Memref sig .tc .vmem S256x20 .f32 := win0_12.stage (cfg0.slots t 12)
abbrev ms0_13 (t : Fin cfg0.N) : Memref sig .tc .vmem S256x20 .f32 := win0_13.stage (cfg0.slots t 13)
abbrev ms0_14 (t : Fin cfg0.N) : Memref sig .tc .vmem S1x20 .f32 := win0_14.stage (cfg0.slots t 14)
abbrev ms0_15 (t : Fin cfg0.N) : Memref sig .tc .vmem S256x128 .i32 := win0_15.stage (cfg0.slots t 15)
abbrev scM0_0 : Memref sig .tc .vmem S128x256x100 .f32 := Memref.whole cc0_scratch0
abbrev scM0_1 : Memref sig .tc .vmem S256x256 .f32 := Memref.whole cc0_scratch1
abbrev scM0_2 : Memref sig .tc .vmem S256x256 .f32 := Memref.whole cc0_scratch2
abbrev scM0_3 : Memref sig .tc .vmem S256x256 .f32 := Memref.whole cc0_scratch3
abbrev scM0_4 : Memref sig .tc .vmem S256x256 .f32 := Memref.whole cc0_scratch4
abbrev scM0_5 : Memref sig .tc .vmem S256x128 .i32 := Memref.whole cc0_scratch5
abbrev scM0_6 : Memref sig .tc .vmem S50000x1x100 .f32 := Memref.whole cc0_scoped0
abbrev scM0_7 : Memref sig .tc .vmem S128x256x20 .f32 := Memref.whole cc0_scoped1
abbrev scM0_8 : Memref sig .tc .vmem S128x256x20 .f32 := Memref.whole cc0_scoped2

/-- The body's DMA semaphore. -/
abbrev osem0 : Fin 1 → SemLoc sig := fun j => (![SemLoc.dma 18] : Fin 1 → SemLoc sig) j
theorem ownSemFacts0 : Pipeline.OwnSemFacts spec0 osem0 := by decide
/-- It at zero. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 18) 0) := by
  rw [Pipeline.ownSems0_eq_of_list c osem0 [0] (by decide) (by decide)]; rfl
/-- The table's buffer. -/
def H0 : Finset (Ref sig .tc) := {main_v1}
theorem H0_sub : H0 ⊆ Pipeline.restRefs sig spec0 := by decide
/-- It at its contents. -/
theorem hbmPts0_eq (c : Dev nD) :
    (bigSep H0 (fun b => ((c : Thread nD τ).loc b) ↦{fullShare} V m c b) : sProp 𝕄) = iprop(tablePt c tableM (V m c main_v1)) := by
  rw [BI.bigSep_eq_bigSepL_of_eq [main_v1] (by decide) (by decide)]; rfl
/-- What stands beside the windows between points. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r) ∗ semVal ((c : Thread nD τ), SemLoc.dma 18) 0 ∗ tablePt c tableM (V m c main_v1)) := by
  rw [Pipeline.ΦD_eq, scopedRest0_eq, ownSems00_eq, hbmPts0_eq]; simp only [scM0_0, scM0_1, scM0_2, scM0_3, scM0_4, scM0_5, scM0_6, scM0_7, scM0_8, owns_whole]; try rfl

/-- What the body reads at point `t`. -/
def inputsAt (c : Dev nD) (t : Fin cfg0.N) : Inputs F :=
  (⟨embeds (iblk m c 0 t) (tableM.view.read (Elt F) (V m c main_v1)) (256 * (grid0.coords t 0).val), ⟨iblk m c 2 t, iblk m c 3 t, iblk m c 4 t, iblk m c 5 t, iblk m c 6 t, iblk m c 12 t⟩, ⟨iblk m c 7 t, iblk m c 8 t, iblk m c 9 t, iblk m c 10 t, iblk m c 11 t, iblk m c 13 t⟩, iblk m c 14 t⟩)

/-- The run's data: each input window keeps its block, the result's window gets the block's tags times the mask. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outBlk (inputsAt m c t) (iblk m c 1 t)
    | ⟨_ + 16, h⟩ => absurd h (Nat.not_lt.2 (Nat.le_add_left _ _))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outBlk (inputsAt m c t) (iblk m c 1 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

set_option maxHeartbeats 2400000 in
/-- The body at any point, every word naming a row of the table. -/
theorem sound_body (c : Dev nD) (t : Fin cfg0.N) (hw : ∀ y, BitVec.toNat (iblk m c 0 t y : BitVec 32) < 50000) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold inputsAt
  iintro ⟨⟨⟨HS0, HS1, HS2, HS3, HS4, HS5, HS6, HS7, HS8⟩, Hg, Hq0, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (V m c main_v1) hw W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [Hq0]; · iexact Hq0
  isplitl [Hh0]; · iexact Hh0
  isplitl [HW]; · iexact HW
  iintro ⟨H0, H1, H2, H3, H4, H5, H6, H7, H8, H9, H10, H11, H12, H13, H14, H15, HS0, HS1, HS2, HS3, HS4, HS5, HS6, HS7, HS8, Hq0, Hh0, ⟨%W', HW'⟩⟩
  isplitl [HS0 HS1 HS2 HS3 HS4 HS5 HS6 HS7 HS8 Hg Hq0 Hh0]
  · isplitl [HS0 HS1 HS2 HS3 HS4 HS5 HS6 HS7 HS8]
    · skip
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iexact HS8
    isplitl [Hg]; · iexact Hg
    isplitl [Hq0]; · iexact Hq0
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg0.N) :
    defs₀ (F := F) .tc cfg0.body (cfg0.bodyArgs t (cfg0.slots t)) = bodyAt0 t := by
  unfold defs₀; rw [Defs.onTc_tc]

/-- The words of every block name rows of the table. -/
def InTable : Prop := ∀ (c : Dev nD) (t : Fin cfg0.N) (y), BitVec.toNat (iblk m c 0 t y : BitVec 32) < 50000

theorem body_obligation (hw : InTable m) (c : Dev nD) : BodyObligation (dats (F := F) m 0 c) (defs₀ (F := F)) Variants.none () Set.univ := fun t => by
  rw [bigSep_W0, bigSep_W0, defs₀_row]
  exact triple_restated (sound_body m c t (hw c t)) rfl .rfl fun _ => .rfl

set_option backward.isDefEq.respectTransparency.types false in
/-- The launch: every array ends as the data say, every counter ends at zero. -/
theorem run_main_quiescent (hw : InTable m) : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hw c).loose) (hshare := fun c => (dats m 0 c).share_full fun _ => rfl)
    (howed := fun _ _ => rfl) (V := V m) (hmain := hmain m Variants.none) (hA := A_eq m)
    (hin := fun _ => .rfl) (hout := fun _ => .rfl)

end Cert.KernelIdeal.Run
-- ==== Proof.Frames.lean ====
/- What a run of the kernel leaves: its result, its arguments as they were, the counters at zero. -/
module

public import proofs.«01_k».proof.Proof.Launch
public import proofs.«01_k».proof.Defs

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The arguments of core `c` are as they were. -/
abbrev Kept (c : Dev nD) (r : PUnit × MemSt nD τ sig (Elt F)) : Prop :=
  r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)

/-- A buffer the region does not touch and no host operation writes is as it was. -/
theorem rest {r : PUnit × MemSt nD τ sig (Elt F)} (h : Pipeline.FramePost cfgs (dats m) 0 (V m) r ∧ r.2.sem = fun _ => 0) (c : Dev nD) (b : Ref sig .tc) (h₁ : b.isScoped = false) (h₂ : ∀ w, (spec0 w).arr.view.ref ≠ b)
    {f : Buf (Elt F) ((c : Thread nD τ).loc b)} (hV : V m c b = f) : r.2.mem ((c.tc : Thread nD τ).loc b) = f :=
  ((h.1 c).2 b (Pipeline.mem_restRefs_of b h₁ h₂)).trans hV

/-- Words below the table's height name rows of it in every block. -/
theorem inTable (h : ∀ (c : Dev nD) y, BitVec.toNat (m ((c.tc : Thread nD τ).loc main_arg0) y : BitVec 32) < 50000) : InTable m := by
  intro c t y
  unfold iblk
  rw [View.read_apply, cast_eq]
  change BitVec.toNat (V m c main_arg0 _ : BitVec 32) < 50000
  rw [V_main_arg0]
  exact h c _

/-- The run: the result's array as the windows' data say, the arguments as they were, the counters at zero. -/
theorem run (hw : InTable m) : θ_run defs (onTc (τ := τ) (main (F := F))) ⟨m, fun _ => 0, ρ⟩ (fun r =>
    (∀ c : Dev nD, r.2.mem ((c.tc : Thread nD τ).loc main_v27) = (dats m 0 c).arrAt 15 cfg0.N ∧ Kept m c r) ∧ r.2.sem = fun _ => 0) :=
  (θ_run defs _ _).mono (fun _ h => ⟨fun c => ⟨(h.1 c).1 15,
      ((h.1 c).1 0).trans (((dats m 0 c).arrAt_in 0 rfl _).trans ((A_eq m c 0).trans (V_main_arg0 m c))),
      rest m h c main_arg1 (by decide) (by decide) (V_main_arg1 m c),
      rest m h c main_arg2 (by decide) (by decide) (V_main_arg2 m c),
      rest m h c main_arg3 (by decide) (by decide) (V_main_arg3 m c),
      rest m h c main_arg4 (by decide) (by decide) (V_main_arg4 m c),
      rest m h c main_arg5 (by decide) (by decide) (V_main_arg5 m c),
      rest m h c main_arg6 (by decide) (by decide) (V_main_arg6 m c),
      rest m h c main_arg7 (by decide) (by decide) (V_main_arg7 m c),
      rest m h c main_arg8 (by decide) (by decide) (V_main_arg8 m c),
      rest m h c main_arg9 (by decide) (by decide) (V_main_arg9 m c),
      ((h.1 c).1 2).trans (((dats m 0 c).arrAt_in 2 rfl _).trans ((A_eq m c 2).trans (V_main_arg10 m c))),
      rest m h c main_arg11 (by decide) (by decide) (V_main_arg11 m c),
      rest m h c main_arg12 (by decide) (by decide) (V_main_arg12 m c),
      rest m h c main_arg13 (by decide) (by decide) (V_main_arg13 m c),
      rest m h c main_arg14 (by decide) (by decide) (V_main_arg14 m c),
      rest m h c main_arg15 (by decide) (by decide) (V_main_arg15 m c),
      ((h.1 c).1 7).trans (((dats m 0 c).arrAt_in 7 rfl _).trans ((A_eq m c 7).trans (V_main_arg16 m c))),
      rest m h c main_arg17 (by decide) (by decide) (V_main_arg17 m c),
      rest m h c main_arg18 (by decide) (by decide) (V_main_arg18 m c),
      rest m h c main_arg19 (by decide) (by decide) (V_main_arg19 m c)⟩, h.2⟩) (run_main_quiescent m ρ hw)

/-- The words the precondition speaks of lie below the table's height. -/
theorem words_of_pre [Cert.Pre_in_vocabulary.Facts] (x0 : IVec Cert.Pre_in_vocabulary.S512x128 32) (x1 : IVec Cert.Pre_in_vocabulary.S512 32) (x2 : IVec Cert.Pre_in_vocabulary.S65536x1 32) (x3 : IVec Cert.Pre_in_vocabulary.S512x128 32) (x4 : IVec Cert.Pre_in_vocabulary.S512x128 1) (x5 : FVec F S50000x100 .f32) (x6 : FVec F S1024x100 .f32) (x7 : FVec F S1024x256 .f32) (x8 : FVec F S1024 .f32) (x9 : FVec F S1024 .f32) (x10 : FVec F S256x100 .f32) (x11 : FVec F S100x256 .f32) (x12 : FVec F S1024x100 .f32) (x13 : FVec F S1024x256 .f32) (x14 : FVec F S1024 .f32) (x15 : FVec F S1024 .f32) (x16 : FVec F S256x100 .f32) (x17 : FVec F S100x256 .f32) (x18 : FVec F S20x512 .f32) (x19 : FVec F S20 .f32)
    (h : Cert.Pre_in_vocabulary.fn (F := F) x0 x1 x2 x3 x4 x5 x6 x7 x8 x9 x10 x11 x12 x13 x14 x15 x16 x17 x18 x19 = fun _ => 1#1) (y) : BitVec.toNat (x0 y : BitVec 32) < 50000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h y
  simp only [Cert.Pre_in_vocabulary.fn, andi, cmpi, broadcastInDim, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

end Cert.KernelIdeal.Run
-- ==== Proof.Same.lean ====
/- The program as compiled and its copy at the exact numbers are one program, at any numbers. -/
module

public import proofs.«01_k».proof.Proof.Frames
public import proofs.«01_k».proof.Proof.Gen.Kernel

@[expose] public section

noncomputable section

namespace Cert.Same

open Idealize.ShloMosaic Idealize.ShloMosaic.TcCoe Idealize.ShloMosaic.Tactic
open Idealize.SL Idealize.SL.Sem

variable {F : FTy → Type} [FloatOps F]

/-- One body. -/
theorem body_eq : @Cert.Kernel.cc0_ner_bilstm_decode F _ _ = @Cert.KernelIdeal.cc0_ner_bilstm_decode F _ _ := by sl_kernel_rfl

/-- One program. -/
theorem main_eq : Cert.Kernel.main (F := F) = Cert.KernelIdeal.main (F := F) := by sl_kernel_rfl

/-- One table of bodies. -/
theorem defs_eq : Cert.Kernel.defs (F := F) = Cert.KernelIdeal.defs (F := F) := by sl_kernel_rfl

end Cert.Same
-- ==== Proof.Row.lean ====
/- One batch row of the tagger in extended-real arithmetic: the mogrified LSTM cell with each factor two moved into the
   weight that meets it, the states along a sequence of embedded words, and the row's logits. -/
module

public import Idealize.ShloMosaic.Lib.Pointwise

@[expose] public section

noncomputable section

namespace Cert.Row

open Idealize.ShloMosaic

/-- The constant two of both programs. -/
abbrev two : EReal := Ideal.ofBits .f32 0x40000000#32

/-- One direction's weights. -/
structure Wts where
  q : Fin 256 → Fin 100 → EReal
  r : Fin 100 → Fin 256 → EReal
  wx : Fin 1024 → Fin 100 → EReal
  wh : Fin 1024 → Fin 256 → EReal
  bx : Fin 1024 → EReal
  bh : Fin 1024 → EReal

variable (W : Wts) (x : Fin 100 → EReal) (h c : Fin 256 → EReal)

/-- Half the modulated input. -/
def xm (e : Fin 100) : EReal := Ideal.logistic (∑ k : Fin 256, h k * W.q k e) * x e

/-- Half the modulated hidden state. -/
def hm (j : Fin 256) : EReal := Ideal.logistic (∑ e : Fin 100, xm W x h e * (two * W.r e j)) * h j

/-- The gates. -/
def gate (n : Fin 1024) : EReal :=
  (∑ e : Fin 100, xm W x h e * (two * W.wx n e)) + (∑ k : Fin 256, hm W x h k * (two * W.wh n k)) + (W.bx n + W.bh n)

/-- The next carry. -/
def nextC (j : Fin 256) : EReal :=
  Ideal.logistic (gate W x h ⟨256 + j.val, by omega⟩) * c j
    + Ideal.logistic (gate W x h ⟨j.val, by omega⟩) * Ideal.tanh (gate W x h ⟨512 + j.val, by omega⟩)

/-- The next hidden state. -/
def nextH (j : Fin 256) : EReal :=
  Ideal.logistic (gate W x h ⟨768 + j.val, by omega⟩) * Ideal.tanh (nextC W x h c j)

/-- The hidden state and the carry after `k` steps on the rows `xs 0, xs 1, …`. -/
def states (xs : ℕ → Fin 100 → EReal) : ℕ → (Fin 256 → EReal) × (Fin 256 → EReal)
  | 0 => (fun _ => 0, fun _ => 0)
  | k + 1 => (nextH W (xs k) (states xs k).1 (states xs k).2, nextC W (xs k) (states xs k).1 (states xs k).2)

/-- The logits, from the two directions' hidden states. -/
def logit (wt : Fin 20 → Fin 512 → EReal) (bt : Fin 20 → EReal) (f b : Fin 256 → EReal) (n : Fin 20) : EReal :=
  (∑ k : Fin 256, f k * wt n ⟨k.val, by omega⟩) + (∑ k : Fin 256, b k * wt n ⟨256 + k.val, by omega⟩) + bt n

/-- The states depend on the steps made only. -/
theorem states_congr {W : Wts} {xs xs' : ℕ → Fin 100 → EReal} (k : ℕ) (h : ∀ s, s < k → xs s = xs' s) : states W xs k = states W xs' k := by
  induction k with
  | zero => rfl
  | succ k ih =>
    show (nextH W (xs k) (states W xs k).1 (states W xs k).2, nextC W (xs k) (states W xs k).1 (states W xs k).2) = _
    rw [ih fun s hs => h s (by omega), h k (by omega)]
    rfl

/-- The logits at step `t` of a row whose embedded words are `x`: the forward states have met the words up to `t`, the
    backward ones those from the last down to `t`. -/
def score (WF WB : Wts) (wt : Fin 20 → Fin 512 → EReal) (bt : Fin 20 → EReal) (x : Fin 128 → Fin 100 → EReal) (t : Fin 128) : Fin 20 → EReal :=
  logit wt bt (states WF (fun s => x ⟨s % 128, Nat.mod_lt _ (by omega)⟩) (t.val + 1)).1
    (states WB (fun s => x ⟨(127 - s) % 128, Nat.mod_lt _ (by omega)⟩) (128 - t.val)).1

/-- The tag `n` has the greatest logit, and is the first such. -/
structure First (l : Fin 20 → EReal) (n : Fin 20) : Prop where
  max : ∀ k, l k ≤ l n
  first : ∀ k, k < n → l k < l n

/-- There is one such tag at most. -/
theorem First.unique {l : Fin 20 → EReal} {n n' : Fin 20} (h : First l n) (h' : First l n') : n = n' := by
  rcases lt_trichotomy n n' with hl | he | hl
  · exact absurd (h.max n') (not_le.2 (h'.first n hl))
  · exact he
  · exact absurd (h'.max n) (not_le.2 (h.first n' hl))

end Cert.Row
-- ==== Proof.ArgRow.lean ====
/- The tag of a row of logits: the kernel's least index of the greatest logit, and the reference's fold that carries the
   greatest logit with its index, are both the first index of the greatest logit. -/
module

public import proofs.«01_k».proof.Proof.Row

@[expose] public section

noncomputable section

namespace Cert.Row

open Idealize.ShloMosaic

/-- Every row has a first index of its greatest logit. -/
theorem First.exists (l : Fin 20 → EReal) : ∃ n, First l n := by
  obtain ⟨m, hm⟩ := Finite.exists_max l
  have hne : ∃ n, ∀ k, l k ≤ l n := ⟨m, hm⟩
  classical
  let S : Finset (Fin 20) := Finset.univ.filter fun n => ∀ k, l k ≤ l n
  have hS : S.Nonempty := ⟨m, by simpa [S] using hm⟩
  have hmin := S.min'_mem hS
  have hmax : ∀ k, l k ≤ l (S.min' hS) := by simpa [S] using hmin
  refine ⟨S.min' hS, hmax, fun k hk => lt_of_le_of_ne (hmax k) fun he => ?_⟩
  have : k ∈ S := by
    simp only [S, Finset.mem_filter, Finset.mem_univ, true_and]
    intro k'
    rw [he]
    exact hmax k'
  exact absurd (S.min'_le k this) (not_le.2 hk)

/-- The greatest of a row's logits, from minus infinity. -/
theorem fold_max (l : Fin 20 → EReal) {n : Fin 20} (h : First l n) : (Finset.univ : Finset (Fin 20)).fold max ⊥ l = l n := by
  refine le_antisymm (Finset.fold_max_le _ |>.2 ⟨bot_le, fun k _ => h.max k⟩) ?_
  exact Finset.le_fold_max _ |>.2 (Or.inr ⟨n, Finset.mem_univ n, le_rfl⟩)

/-- A fold of the signed minimum is its start or one of the words, and no greater than any of them. -/
theorem fold_minsi {ι : Type} [DecidableEq ι] (b : BitVec 32) (v : ι → BitVec 32) (s : Finset ι) :
    (s.fold IntOp.minsi b v = b ∨ ∃ i ∈ s, s.fold IntOp.minsi b v = v i) ∧ (s.fold IntOp.minsi b v).toInt ≤ b.toInt
      ∧ ∀ i ∈ s, (s.fold IntOp.minsi b v).toInt ≤ (v i).toInt := by
  induction s using Finset.induction_on with
  | empty => simp
  | insert a s ha ih =>
    rw [Finset.fold_insert ha]
    obtain ⟨ho, hb, hi⟩ := ih
    generalize s.fold IntOp.minsi b v = w at ho hb hi
    unfold IntOp.minsi
    by_cases hlt : (v a).slt w
    · rw [if_pos hlt]
      have hlt' : (v a).toInt < w.toInt := by simpa [BitVec.slt] using hlt
      refine ⟨Or.inr ⟨a, Finset.mem_insert_self _ _, rfl⟩, by omega, fun i hi' => ?_⟩
      rcases Finset.mem_insert.1 hi' with rfl | hi'
      · exact le_rfl
      · have := hi i hi'; omega
    · rw [if_neg hlt]
      have hlt' : w.toInt ≤ (v a).toInt := by simpa [BitVec.slt] using hlt
      refine ⟨ho.imp_right fun ⟨i, hi', e⟩ => ⟨i, Finset.mem_insert_of_mem hi', e⟩, hb, fun i hi' => ?_⟩
      rcases Finset.mem_insert.1 hi' with rfl | hi'
      · exact hlt'
      · exact hi i hi'

/-- A small natural number as a word reads back. -/
theorem toInt_small (n : ℕ) (h : n < 2 ^ 31) : (BitVec.ofNat 32 n).toInt = n := by
  rw [BitVec.toInt_ofNat', Int.bmod_def]
  omega

/-- The least index at which the logit is the greatest is the first of them. -/
theorem least_index (l : Fin 20 → EReal) {n : Fin 20} (h : First l n) :
    (Finset.univ : Finset (Fin 20)).fold IntOp.minsi 2147483647#32 (fun k => if l k = l n then BitVec.ofNat 32 k.val else 20#32) = BitVec.ofNat 32 n.val := by
  obtain ⟨ho, hb, hi⟩ := fold_minsi 2147483647#32 (fun k : Fin 20 => if l k = l n then BitVec.ofNat 32 k.val else 20#32) Finset.univ
  generalize (Finset.univ : Finset (Fin 20)).fold IntOp.minsi 2147483647#32 (fun k => if l k = l n then BitVec.ofNat 32 k.val else 20#32) = w at ho hb hi
  have hn := hi n (Finset.mem_univ n)
  rw [if_pos rfl, toInt_small _ (by omega)] at hn
  have hn20 := n.isLt
  rcases ho with rfl | ⟨k, _, rfl⟩
  · exact absurd hn (by rw [show (2147483647#32 : BitVec 32).toInt = 2147483647 from by decide]; omega)
  · by_cases hk : l k = l n
    · rw [if_pos hk] at hn ⊢
      rw [toInt_small _ (by omega)] at hn
      have hle : ¬ k < n := fun hlt => absurd hk (ne_of_lt (h.first k hlt))
      have : k = n := Fin.ext (by have : ¬ k.val < n.val := hle; omega)
      rw [this]
    · rw [if_neg hk, show (20#32 : BitVec 32).toInt = 20 from by decide] at hn
      omega

/-- A pair of a logit and its index is no worse than another. -/
def NoWorse (p q : EReal × BitVec 32) : Prop := q.1 < p.1 ∨ (q.1 = p.1 ∧ p.2.toInt ≤ q.2.toInt)

/-- Nothing is worse than itself. -/
theorem NoWorse.refl (p) : NoWorse p p := Or.inr ⟨rfl, le_rfl⟩

theorem NoWorse.trans {p q r} (h : NoWorse p q) (h' : NoWorse q r) : NoWorse p r := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

/-- A fold whose step keeps one of its two pairs, no worse than either, ends at a pair no worse than any. -/
theorem foldl_best (f : EReal × BitVec 32 → EReal × BitVec 32 → EReal × BitVec 32)
    (hf : ∀ p q, (f p q = p ∨ f p q = q) ∧ NoWorse (f p q) p ∧ NoWorse (f p q) q) (L : List (EReal × BitVec 32)) :
    ∀ p, (L.foldl f p = p ∨ L.foldl f p ∈ L) ∧ NoWorse (L.foldl f p) p ∧ ∀ q ∈ L, NoWorse (L.foldl f p) q := by
  induction L with
  | nil => intro p; exact ⟨Or.inl rfl, NoWorse.refl p, fun q hq => absurd hq List.not_mem_nil⟩
  | cons a L ih =>
    intro p
    obtain ⟨ho, hp, hq⟩ := ih (f p a)
    obtain ⟨hs, h1, h2⟩ := hf p a
    rw [List.foldl_cons]
    refine ⟨?_, hp.trans h1, fun q hq' => ?_⟩
    · rcases ho with ho | ho
      · rcases hs with hs | hs
        · exact Or.inl (ho.trans hs)
        · exact Or.inr (by rw [ho, hs]; exact List.mem_cons_self)
      · exact Or.inr (List.mem_cons_of_mem _ ho)
    · rcases List.mem_cons.1 hq' with rfl | hq'
      · exact hp.trans h2
      · exact hq q hq'

/-- Such a fold over a row's logits with their indices, from minus infinity and zero, ends at the first index of the greatest
    logit. -/
theorem foldl_first (f : EReal × BitVec 32 → EReal × BitVec 32 → EReal × BitVec 32)
    (hf : ∀ p q, (f p q = p ∨ f p q = q) ∧ NoWorse (f p q) p ∧ NoWorse (f p q) q) (L : List (EReal × BitVec 32))
    (l : Fin 20 → EReal) (hL : ∀ q, q ∈ L ↔ ∃ k : Fin 20, q = (l k, BitVec.ofNat 32 k.val)) {n : Fin 20} (h : First l n) :
    (L.foldl f (⊥, 0#32)).2 = BitVec.ofNat 32 n.val := by
  obtain ⟨ho, hp, hq⟩ := foldl_best f hf L (⊥, 0#32)
  have hn := hq _ ((hL _).2 ⟨n, rfl⟩)
  have h20 := n.isLt
  rcases ho with ho | ho
  · rw [ho] at hn ⊢
    rcases hn with hn | ⟨e, hn⟩
    · exact absurd hn not_lt_bot
    · have h0 : n = 0 := by
        by_contra hne
        have := h.first 0 (Fin.pos_of_ne_zero hne)
        rw [show l n = ⊥ from e] at this
        exact absurd this not_lt_bot
      rw [h0]; rfl
  · obtain ⟨k, hk⟩ := (hL _).1 ho
    rw [hk] at hn ⊢
    have hkn : k = n := by
      rcases hn with hn | ⟨e, hn⟩
      · exact absurd hn (not_lt.2 (h.max k))
      · rw [toInt_small _ (by omega), toInt_small _ (by omega)] at hn
        have hle : ¬ k < n := fun hlt => absurd e.symm (ne_of_lt (h.first k hlt))
        exact Fin.ext (by have : ¬ k.val < n.val := hle; omega)
    rw [hkn]

end Cert.Row
-- ==== Proof.KerRow.lean ====
/- The kernel's cell and its states, a row at a time, in extended-real arithmetic. -/
module

public import proofs.«01_k».proof.Proof.Cell
public import proofs.«01_k».proof.Proof.ArgRow

@[expose] public section

noncomputable section

namespace Cert.KernelIdeal.Run

open Cert.KernelIdeal Cert.KernelIdeal.Gen
open Idealize.ShloMosaic Idealize.ShloMosaic.TcCoe

/-- The kernel holds the weights `W`: those met by a modulated operand are doubled, the biases are added. -/
structure Holds (K : Weights Ideal) (W : Row.Wts) : Prop where
  q : ∀ k e, K.q (ix2 k e) = W.q k e
  r : ∀ e j, K.r (ix2 e j) = Row.two * W.r e j
  wx : ∀ e n, K.wx (ix2 e n) = Row.two * W.wx n e
  wh : ∀ k n, K.wh (ix2 k n) = Row.two * W.wh n k
  b : ∀ n, K.b (ix2 (0 : Fin 1) n) = W.bx n + W.bh n

variable {K : Weights Ideal} {W : Row.Wts}

/-- A row of a block of states. -/
abbrev rowS (h : S256x256.Idx → Ideal .f32) (i : Fin 256) : Fin 256 → EReal := fun k => h (ix2 i k)

/-- A row of a step's embedded words. -/
abbrev rowX (x : S1x256x100.Idx → Ideal .f32) (i : Fin 256) : Fin 100 → EReal := fun e => x (ix3 (0 : Fin 1) i e)

theorem gates_row (hW : Holds K W) (x h) (i : Fin 256) (n : Fin 1024) :
    k0_pay218 (F := Ideal) x K.q K.r K.wx K.wh K.b h (ix2 i n) = Row.gate W (rowX x i) (rowS h i) n := by
  unfold k0_pay218 Row.gate Row.hm Row.xm
  pointwise [shapeCast_self, hW.q, hW.r, hW.wx, hW.wh, hW.b]

/-- A row of the next carry. -/
theorem carry_row (hW : Holds K W) (x h c) (i : Fin 256) : rowS (cellC K x h c) i = Row.nextC W (rowX x i) (rowS h i) (rowS c i) := by
  funext j
  unfold cellC k0_pay219 Row.nextC
  pointwise [gates_row hW]

/-- A row of the next hidden state. -/
theorem hid_row (hW : Holds K W) (x h c) (i : Fin 256) : rowS (cellH K x h c) i = Row.nextH W (rowX x i) (rowS h i) (rowS c i) := by
  funext j
  unfold cellH k0_pay220 Row.nextH
  pointwise [gates_row hW]
  rw [← carry_row hW]
  rfl

/-- A row of the states. -/
theorem states_row (hW : Holds K W) (xs : ℕ → S1x256x100.Idx → Ideal .f32) (i : Fin 256) (k : ℕ) :
    rowS (states K xs k).1 i = (Row.states W (fun s => rowX (xs s) i) k).1 ∧ rowS (states K xs k).2 i = (Row.states W (fun s => rowX (xs s) i) k).2 := by
  induction k with
  | zero =>
    constructor <;> funext j <;> unfold rowS states k0_pay3 k0_pay2 <;> pointwise [shapeCast_self] <;> rfl
  | succ k ih =>
    constructor
    · exact (hid_row hW _ _ _ i).trans (by rw [ih.1, ih.2]; rfl)
    · exact (carry_row hW _ _ _ i).trans (by rw [ih.1, ih.2]; rfl)

/-- A row of the logits. -/
theorem logits_row {Kf Kb : Weights Ideal} {wt : Fin 20 → Fin 512 → EReal} {b : Fin 20 → EReal} {bt : S1x20.Idx → Ideal .f32}
    (hf : ∀ k n, Kf.wt (ix2 k n) = wt n ⟨k.val, by omega⟩) (hb : ∀ k n, Kb.wt (ix2 k n) = wt n ⟨256 + k.val, by omega⟩)
    (hbt : ∀ n, bt (ix2 (0 : Fin 1) n) = b n) (p q : S256x256.Idx → Ideal .f32) (i : Fin 256) (n : Fin 20) :
    logits (proj Kf p) (proj Kb q) bt (ix2 i n) = Row.logit wt b (rowS p i) (rowS q i) n := by
  unfold logits proj k0_pay223 Row.logit
  pointwise [shapeCast_self, hf, hb, hbt]

/-- A row's tag. -/
theorem tag_row (l : FVec Ideal S256x20 .f32) (i : Fin 256) {n : Fin 20} (h : Row.First (fun k => l (ix2 i k)) n) :
    tagOf l (ix2 i (0 : Fin 1)) = BitVec.ofNat 32 n.val := by
  unfold tagOf
  pointwise
  rw [← Row.least_index _ h, ← Row.fold_max _ h]
  rfl

end Cert.KernelIdeal.Run
-- ==== Proof.KerHost.lean ====
/- What the region finds in each window's array, and each window's block at coordinates. -/
module

public import proofs.«01_k».proof.Proof.Launch
public import proofs.«01_k».proof.Proof.KerRow
public import Idealize.ShloMosaic.Lib.Pipeline.ValueKit
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.StableHlo
open Idealize.SL.Sem

variable (m : (ℓ : Loc nD τ sig) → Buf (Elt Ideal) ℓ) (c : Dev nD)

/-- What a buffer holds at launch. -/
abbrev arg (r : Ref sig .tc) : r.ty.Contents (Elt Ideal) := m ((c.tc : Thread nD τ).loc r)

/-- The one block of each weight's window starts at the array's origin. -/
theorem idx_zero : ∀ t : Fin cfg0.N, win0_0.index t = ![0, 0] ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- The mask's and the result's blocks start at the block's first row. -/
theorem idx_row : ∀ t : Fin cfg0.N, win0_1.index t = ![(grid0.coords t 0).val, 0] ∧ win0_15.index t = ![(grid0.coords t 0).val, 0] :=
  (by decide +kernel : ∀ t : Fin grid0.N, _)

set_option maxHeartbeats 1600000 in
/-- A weight's block is the whole array. -/
theorem blk_whole (t : Fin cfg0.N) :
    (∀ i j, iblk m c 0 t (ix2 i j) = V m c main_arg0 (ix2 i j))
    ∧ (∀ i j, iblk m c 2 t (ix2 i j) = V m c main_arg10 (ix2 i j)) ∧ (∀ i j, iblk m c 3 t (ix2 i j) = V m c main_v15 (ix2 i j))
    ∧ (∀ i j, iblk m c 4 t (ix2 i j) = V m c main_v4 (ix2 i j)) ∧ (∀ i j, iblk m c 5 t (ix2 i j) = V m c main_v7 (ix2 i j))
    ∧ (∀ i j, iblk m c 6 t (ix2 i j) = V m c main_v19 (ix2 i j)) ∧ (∀ i j, iblk m c 7 t (ix2 i j) = V m c main_arg16 (ix2 i j))
    ∧ (∀ i j, iblk m c 8 t (ix2 i j) = V m c main_v17 (ix2 i j)) ∧ (∀ i j, iblk m c 9 t (ix2 i j) = V m c main_v10 (ix2 i j))
    ∧ (∀ i j, iblk m c 10 t (ix2 i j) = V m c main_v13 (ix2 i j)) ∧ (∀ i j, iblk m c 11 t (ix2 i j) = V m c main_v21 (ix2 i j))
    ∧ (∀ i j, iblk m c 12 t (ix2 i j) = V m c main_v23 (ix2 i j)) ∧ (∀ i j, iblk m c 13 t (ix2 i j) = V m c main_v25 (ix2 i j))
    ∧ (∀ i j, iblk m c 14 t (ix2 i j) = V m c main_v26 (ix2 i j)) := by
  obtain ⟨e0, e2, e3, e4, e5, e6, e7, e8, e9, e10, e11, e12, e13, e14⟩ := idx_zero t
  refine ⟨?_, ?_, ?_, ?_, ?_, ?_, ?_, ?_, ?_, ?_, ?_, ?_, ?_, ?_⟩ <;>
    (intro i j
     blk_simp [iblk]
     refine congrArg _ ?_
     blk_ext [e0, e2, e3, e4, e5, e6, e7, e8, e9, e10, e11, e12, e13, e14])

/-- The mask's block at coordinates. -/
theorem blk_mask (t : Fin cfg0.N) (i : Fin 256) (j : Fin 128) (h : 256 * (grid0.coords t 0).val + i.val < 512) :
    iblk m c 1 t (ix2 i j) = V m c main_v0 (ix2 (⟨256 * (grid0.coords t 0).val + i.val, h⟩ : Fin 512) j) := by
  obtain ⟨e1, e15⟩ := idx_row t
  blk_simp [iblk]
  refine congrArg _ ?_
  blk_ext [e1]

/-! The region's arrays, each one line of host operations over the arguments. -/
set_option maxRecDepth 100000 in
/-- Twice the transposed forward input weights. -/
theorem V_wxF : (V m c main_v4 : FVec Ideal S100x1024 .f32) = mulf (F := Ideal) (φ := .f32) (broadcastInDim S100x1024 ![] bcast_S_S100x1024 (constant S_ .f32 0x40000000#32)) (transpose S100x1024 [1, 0] (arg m c main_arg6 : FVec Ideal S1024x100 .f32) transposes_S1024x100_S100x1024_1_0) := by
  unfold V
  after_reads_simp

set_option maxRecDepth 100000 in
/-- Twice the transposed forward recurrent weights. -/
theorem V_whF : (V m c main_v7 : FVec Ideal S256x1024 .f32) = mulf (F := Ideal) (φ := .f32) (broadcastInDim S256x1024 ![] bcast_S_S256x1024 (constant S_ .f32 0x40000000#32)) (transpose S256x1024 [1, 0] (arg m c main_arg7 : FVec Ideal S1024x256 .f32) transposes_S1024x256_S256x1024_1_0) := by
  unfold V
  after_reads_simp

set_option maxRecDepth 100000 in
/-- Twice the transposed backward input weights. -/
theorem V_wxB : (V m c main_v10 : FVec Ideal S100x1024 .f32) = mulf (F := Ideal) (φ := .f32) (broadcastInDim S100x1024 ![] bcast_S_S100x1024 (constant S_ .f32 0x40000000#32)) (transpose S100x1024 [1, 0] (arg m c main_arg12 : FVec Ideal S1024x100 .f32) transposes_S1024x100_S100x1024_1_0) := by
  unfold V
  after_reads_simp

set_option maxRecDepth 100000 in
/-- Twice the transposed backward recurrent weights. -/
theorem V_whB : (V m c main_v13 : FVec Ideal S256x1024 .f32) = mulf (F := Ideal) (φ := .f32) (broadcastInDim S256x1024 ![] bcast_S_S256x1024 (constant S_ .f32 0x40000000#32)) (transpose S256x1024 [1, 0] (arg m c main_arg13 : FVec Ideal S1024x256 .f32) transposes_S1024x256_S256x1024_1_0) := by
  unfold V
  after_reads_simp

set_option maxRecDepth 100000 in
/-- Twice the forward R. -/
theorem V_rF : (V m c main_v15 : FVec Ideal S100x256 .f32) = mulf (F := Ideal) (φ := .f32) (broadcastInDim S100x256 ![] bcast_S_S100x256 (constant S_ .f32 0x40000000#32)) (arg m c main_arg11 : FVec Ideal S100x256 .f32) := by
  unfold V
  after_reads_simp

set_option maxRecDepth 100000 in
/-- Twice the backward R. -/
theorem V_rB : (V m c main_v17 : FVec Ideal S100x256 .f32) = mulf (F := Ideal) (φ := .f32) (broadcastInDim S100x256 ![] bcast_S_S100x256 (constant S_ .f32 0x40000000#32)) (arg m c main_arg17 : FVec Ideal S100x256 .f32) := by
  unfold V
  after_reads_simp

set_option maxRecDepth 100000 in
/-- The sum of the forward biases. -/
theorem V_bF : (V m c main_v19 : FVec Ideal S1x1024 .f32) = shapeCast S1x1024 (addf (F := Ideal) (φ := .f32) (arg m c main_arg8 : FVec Ideal S1024 .f32) (arg m c main_arg9 : FVec Ideal S1024 .f32)) shapeCasts_S1024_S1x1024 := by
  unfold V
  after_reads_simp
  rfl

set_option maxRecDepth 100000 in
/-- The sum of the backward biases. -/
theorem V_bB : (V m c main_v21 : FVec Ideal S1x1024 .f32) = shapeCast S1x1024 (addf (F := Ideal) (φ := .f32) (arg m c main_arg14 : FVec Ideal S1024 .f32) (arg m c main_arg15 : FVec Ideal S1024 .f32)) shapeCasts_S1024_S1x1024 := by
  unfold V
  after_reads_simp
  rfl

set_option maxRecDepth 100000 in
/-- The tag weights met by the forward states. -/
theorem V_wtF : (V m c main_v23 : FVec Ideal S256x20 .f32) = transpose S256x20 [1, 0] (extractStridedSlice S20x256 ![0, 0] (arg m c main_arg18 : FVec Ideal S20x512 .f32) slices_S20x512_S20x256_0_0) transposes_S20x256_S256x20_1_0 := by
  unfold V
  after_reads_simp

set_option maxRecDepth 100000 in
/-- The tag weights met by the backward states. -/
theorem V_wtB : (V m c main_v25 : FVec Ideal S256x20 .f32) = transpose S256x20 [1, 0] (extractStridedSlice S20x256 ![0, 256] (arg m c main_arg18 : FVec Ideal S20x512 .f32) slices_S20x512_S20x256_0_256) transposes_S20x256_S256x20_1_0 := by
  unfold V
  after_reads_simp

set_option maxRecDepth 100000 in
/-- The tag bias. -/
theorem V_bt : (V m c main_v26 : FVec Ideal S1x20 .f32) = shapeCast S1x20 (arg m c main_arg19 : FVec Ideal S20 .f32) shapeCasts_S20_S1x20 := by
  unfold V
  after_reads_simp
  rfl

set_option maxRecDepth 100000 in
/-- The mask as numbers. -/
theorem V_mask : (V m c main_v0 : IVec S512x128 32) = extui 32 (arg m c main_arg4 : IVec S512x128 1) natLt_1_32 := by
  unfold V
  after_reads_simp

set_option maxRecDepth 100000 in
/-- The embedding table. -/
theorem V_table : (V m c main_v1 : FVec Ideal S50000x1x100 .f32) = shapeCast S50000x1x100 (arg m c main_arg5 : FVec Ideal S50000x100 .f32) shapeCasts_S50000x100_S50000x1x100 := by
  unfold V
  after_reads_simp
  rfl

/-- The forward weights among the arguments. -/
def argF : Row.Wts where
  q k e := (arg m c main_arg10 : FVec Ideal S256x100 .f32) (ix2 k e)
  r e j := (arg m c main_arg11 : FVec Ideal S100x256 .f32) (ix2 e j)
  wx n e := (arg m c main_arg6 : FVec Ideal S1024x100 .f32) (ix2 n e)
  wh n k := (arg m c main_arg7 : FVec Ideal S1024x256 .f32) (ix2 n k)
  bx n := (arg m c main_arg8 : FVec Ideal S1024 .f32) (ix1 n)
  bh n := (arg m c main_arg9 : FVec Ideal S1024 .f32) (ix1 n)

/-- The backward weights among the arguments. -/
def argB : Row.Wts where
  q k e := (arg m c main_arg16 : FVec Ideal S256x100 .f32) (ix2 k e)
  r e j := (arg m c main_arg17 : FVec Ideal S100x256 .f32) (ix2 e j)
  wx n e := (arg m c main_arg12 : FVec Ideal S1024x100 .f32) (ix2 n e)
  wh n k := (arg m c main_arg13 : FVec Ideal S1024x256 .f32) (ix2 n k)
  bx n := (arg m c main_arg14 : FVec Ideal S1024 .f32) (ix1 n)
  bh n := (arg m c main_arg15 : FVec Ideal S1024 .f32) (ix1 n)

/-- The tag projection's weights and bias. -/
abbrev tagW (n : Fin 20) (k : Fin 512) : EReal := (arg m c main_arg18 : FVec Ideal S20x512 .f32) (ix2 n k)

abbrev tagB (n : Fin 20) : EReal := (arg m c main_arg19 : FVec Ideal S20 .f32) (ix1 n)

set_option maxHeartbeats 1600000 in
/-- Every block holds the forward weights. -/
theorem holdsF (t : Fin cfg0.N) : Holds (inputsAt m c t).fwd (argF m c) where
  q i j := ((blk_whole m c t).2.1 i j).trans (congrFun (V_main_arg10 m c) _)
  r i j := ((blk_whole m c t).2.2.1 i j).trans ((congrFun (V_rF m c) _).trans (by unfold argF Row.two; pointwise))
  wx i j := ((blk_whole m c t).2.2.2.1 i j).trans ((congrFun (V_wxF m c) _).trans (by unfold argF Row.two; pointwise))
  wh i j := ((blk_whole m c t).2.2.2.2.1 i j).trans ((congrFun (V_whF m c) _).trans (by unfold argF Row.two; pointwise))
  b j := ((blk_whole m c t).2.2.2.2.2.1 0 j).trans ((congrFun (V_bF m c) _).trans (by unfold argF; pointwise))

set_option maxHeartbeats 1600000 in
/-- Every block holds the backward weights. -/
theorem holdsB (t : Fin cfg0.N) : Holds (inputsAt m c t).bwd (argB m c) where
  q i j := ((blk_whole m c t).2.2.2.2.2.2.1 i j).trans (congrFun (V_main_arg16 m c) _)
  r i j := ((blk_whole m c t).2.2.2.2.2.2.2.1 i j).trans ((congrFun (V_rB m c) _).trans (by unfold argB Row.two; pointwise))
  wx i j := ((blk_whole m c t).2.2.2.2.2.2.2.2.1 i j).trans ((congrFun (V_wxB m c) _).trans (by unfold argB Row.two; pointwise))
  wh i j := ((blk_whole m c t).2.2.2.2.2.2.2.2.2.1 i j).trans ((congrFun (V_whB m c) _).trans (by unfold argB Row.two; pointwise))
  b j := ((blk_whole m c t).2.2.2.2.2.2.2.2.2.2.1 0 j).trans ((congrFun (V_bB m c) _).trans (by unfold argB; pointwise))

/-- The tag projection's halves and bias. -/
theorem holds_tag (t : Fin cfg0.N) :
    (∀ k n, (inputsAt m c t).fwd.wt (ix2 k n) = tagW m c n ⟨k.val, by omega⟩) ∧ (∀ k n, (inputsAt m c t).bwd.wt (ix2 k n) = tagW m c n ⟨256 + k.val, by omega⟩)
    ∧ (∀ n, (inputsAt m c t).bt (ix2 (0 : Fin 1) n) = tagB m c n) := by
  obtain ⟨h1, h2, h3⟩ := (blk_whole m c t).2.2.2.2.2.2.2.2.2.2.2
  refine ⟨fun k n => (h1 k n).trans ((congrFun (V_wtF m c) _).trans ?_), fun k n => (h2 k n).trans ((congrFun (V_wtB m c) _).trans ?_), fun n => (h3 0 n).trans ((congrFun (V_bt m c) _).trans ?_)⟩
  · pointwise
  · pointwise
  · pointwise

end Cert.KernelIdeal.Run
-- ==== Proof.KerOut.lean ====
/- The kernel's result in extended-real arithmetic: each position's tag is the first of the greatest logit, under the
   mask. -/
module

public import proofs.«01_k».proof.Proof.KerHost

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window BodyObligation cellOf)
open Idealize.SL.Sem

variable (m : (ℓ : Loc nD τ sig) → Buf (Elt Ideal) ℓ) (c : Dev nD)

/-- A row's embedded words. -/
def embRow (i : Fin 512) (t : Fin 128) (e : Fin 100) : EReal :=
  (arg m c main_arg5 : FVec Ideal S50000x100 .f32) (ix2 ⟨((arg m c main_arg0 : IVec S512x128 32) (ix2 i t)).toNat % 50000, Nat.mod_lt _ (by omega)⟩ e)

/-- The scores of a row at a step. -/
abbrev scoreAt (i : Fin 512) (t : Fin 128) : Fin 20 → EReal := Row.score (argF m c) (argB m c) (tagW m c) (tagB m c) (embRow m c i) t

/-- A row of the table as the kernel copies it. -/
theorem table_row (v : Fin 50000) (e : Fin 100) : (tableM.view.read (Elt Ideal) (V m c main_v1) : FVec Ideal S50000x1x100 .f32) (ix3 v (0 : Fin 1) e) = (arg m c main_arg5 : FVec Ideal S50000x100 .f32) (ix2 v e) := by
  refine (congrFun (V_table m c) (ix3 v (0 : Fin 1) e)).trans ?_
  pointwise

/-- A row of the words gathered for a block. -/
theorem slab_row (t : Fin cfg0.N) (s : ℕ) (r : Fin 256) (h : 256 * (grid0.coords t 0).val + r.val < 512) :
    rowX (slab (inputsAt m c t).xs s) r = embRow m c ⟨256 * (grid0.coords t 0).val + r.val, h⟩ ⟨s % 128, Nat.mod_lt _ (by omega)⟩ := by
  funext e
  show embed (F := Ideal) (iblk m c 0 t) (tableM.view.read (Elt Ideal) (V m c main_v1)) (256 * (grid0.coords t 0).val + r.val) ⟨s % 128, Nat.mod_lt _ (by omega)⟩ e = _
  unfold embed embRow
  rw [table_row, (blk_whole m c t).1, V_main_arg0]
  have hn : (⟨(256 * (grid0.coords t 0).val + r.val) % 512, Nat.mod_lt _ (by omega)⟩ : Fin 512) = ⟨256 * (grid0.coords t 0).val + r.val, h⟩ := Fin.ext (Nat.mod_eq_of_lt h)
  rw [hn]
  rfl

/-- A block's tag at a row and a step. -/
theorem tag_at (t : Fin cfg0.N) (r : Fin 256) (h : 256 * (grid0.coords t 0).val + r.val < 512) (s : Fin 128) {n : Fin 20}
    (hn : Row.First (scoreAt m c ⟨256 * (grid0.coords t 0).val + r.val, h⟩ s) n) : tagAt (inputsAt m c t) s.val (ix2 r (0 : Fin 1)) = BitVec.ofNat 32 n.val := by
  refine tag_row _ r ?_
  have e : (fun k => logits (logF (inputsAt m c t) s.val) (logB (inputsAt m c t) s.val) (inputsAt m c t).bt (ix2 r k)) = scoreAt m c ⟨256 * (grid0.coords t 0).val + r.val, h⟩ s := by
    funext k
    obtain ⟨h1, h2, h3⟩ := holds_tag m c t
    refine (logits_row h1 h2 h3 _ _ r k).trans ?_
    rw [(states_row (holdsF m c t) _ r _).1, (states_row (holdsB m c t) _ r _).1]
    simp only [slab_row m c t _ r h]
    rfl
  rw [e]
  exact hn

/-- The result's array: the first of the greatest logit times the mask. -/
theorem out_value (i : Fin 512) (s : Fin 128) {n : Fin 20} (hn : Row.First (scoreAt m c i s) n) :
    ((dats m 0 c).arrAt 15 cfg0.N : IVec S512x128 32) (ix2 i s) = BitVec.ofNat 32 n.val * extui 32 (arg m c main_arg4 : IVec S512x128 1) natLt_1_32 (ix2 i s) := by
  refine (dats m 0 c).arrAt_forall_of_covers 15 (fun (j : S512x128.Idx) (v : BitVec 32) => ∀ n : Fin 20, Row.First (scoreAt m c (j 0) (j 1)) n → v = BitVec.ofNat 32 n.val * extui 32 (arg m c main_arg4 : IVec S512x128 1) natLt_1_32 j)
    (by decide +kernel) (fun t hf y => ?_) (ix2 i s) (Memref.isWhole_whole _) n hn
  intro n hn
  obtain ⟨r, l, rfl⟩ : ∃ (r : Fin 256) (l : Fin 128), y = ix2 r l := ⟨y 0, y 1, eq_ix2 y⟩
  have hr : 256 * (grid0.coords t 0).val + r.val < 512 := by
    have h2 : (grid0.coords t 0).val < 2 := (grid0.coords t 0).isLt
    have := r.isLt
    omega
  have ey : ((cfg0.win 15).blk t).view.emb (ix2 r l) = ix2 (⟨256 * (grid0.coords t 0).val + r.val, hr⟩ : Fin 512) l := by
    have e := (idx_row t).2
    blk_ext [e]
  rw [ey] at hn ⊢
  blk_simp
  rw [after0_15]
  unfold outBlk k0_pay15
  dsimp only
  rw [shapeCast_self]
  show tagAt (inputsAt m c t) l.val (ix2 r (0 : Fin 1)) * iblk m c 1 t (ix2 r l) = _
  rw [tag_at m c t r hr l hn, blk_mask m c t r l hr]
  exact congrArg _ (congrFun (V_mask m c) _)

end Cert.KernelIdeal.Run
-- ==== Proof.RefSegs.lean ====
/- The run of a program of the reference's kind, no kernel in it, from a list of segments: if the segments chain from the
   launch contents to some contents of every buffer, every execution ends with them. -/
module

public import proofs.«01_k».proof.Proof.Gen.ReferenceIdeal
public import Idealize.ShloMosaic.Lib.StableHlo.RunLoop

@[expose] public section

set_option maxRecDepth 8192

noncomputable section

namespace Cert.ReferenceIdeal.Run

open Cert.ReferenceIdeal Cert.ReferenceIdeal.Gen
open Idealize.ShloMosaic Idealize.ShloMosaic.TcCoe Idealize.ShloMosaic.StableHlo
open Idealize.ShloMosaic.Pipeline (CSeg Ticket ucRefs unscopedBufs_held)
open Idealize.SL Idealize.SL.RA Idealize.SL.BI
open scoped Idealize.SL.BI
open Idealize.SL.BI.BIBase Idealize.SL.BI.Laws Idealize.SL.ProofMode Idealize.SL.Sem

variable (F : FTy → Type) [FloatOps F]

/-- The resources the run is proved over. -/
abbrev Res := MT nD τ sig Unit (Elt F) ℕ (Option PUnit) ℕ

/-- No kernel: nothing admitted, -/
abbrev noAdm : (p : Fin 0) → (pcfgs (F := F) p).Adm := fun p => p.elim0

/-- and no ticket to run one. -/
abbrev noTk : Fin 0 → Ticket (Ix := Unit) (Name := ℕ) (U := Option PUnit) (Lvl := ℕ) (nD := nD) (τ := τ) (pcfgs (F := F)) (noAdm F) := fun j => j.elim0

/-- A segment of the program. -/
abbrev Seg := CSeg (pcfgs (F := F)) (noAdm F) defs₀ Variants.none (fun _ => (∅ : Finset Unit)) (fun _ _ => (0 : ℕ)) loops (noTk F)

variable {F}

/-- What rides beside the buffers: the core owes nothing. -/
abbrev Beside (c : Dev nD) : sProp (Res F) := iprop(∃ W, owes (c : Thread nD τ) (0 : CellTallies nD τ sig Unit) W)

/-- Every buffer of the core at `V`. -/
abbrev Bufs (V : Dev nD → Valuation τ sig (Elt F)) (c : Dev nD) : sProp (Res F) := held (c : Thread nD τ) (ucRefs τ sig) (V c)

/-- If the program is its segments in order, and they chain from the launch contents to `W`, then every weakly fair
    execution terminates with the buffers at `W`. -/
theorem run_segs (m : (ℓ : Loc nD τ sig) → Buf (Elt F) ℓ) (ρ : Dev nD → PrngReg) (segs : List (Seg F)) (W : Dev nD → Valuation τ sig (Elt F))
    (hmain : ∀ c, main (F := F) c = Pipeline.chain (segs.map CSeg.prog))
    (hch : CSeg.Chains (fun c => iprop(Bufs (launchContents m) c ∗ Beside c)) segs (fun c => iprop(Bufs W c ∗ Beside c))) :
    θ_run (defs (F := F)) (onTc (τ := τ) (main (F := F))) ⟨m, fun _ => 0, ρ⟩
      (fun r => ∀ (c : Dev nD) (b : Ref sig .tc), (Proc.devRef .tc b : DevRef τ sig).isScoped = false →
        r.2.mem ((c.tc : Thread nD τ).loc b) = W c (Proc.devRef .tc b)) :=
  Pipeline.θ_run_regions_loop_kit (Ix := Unit) (Name := ℕ) (U := Option PUnit) (Lvl := ℕ) (J := Fin 0) (P := Fin 0) (Val := Elt F)
    (pcfgs (F := F)) (noAdm F) (fun k => k.1.elim0) defs₀ Variants.none (fun _ => ∅) (fun _ _ => 0) loops (noTk F) m ρ main segs
    (fun c Q => by rw [hmain c]; exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (Res F)) ⊢ bigSep Finset.univ (fun _ : Dev nD => (BI.emp : sProp (Res F))) from by rw [BI.bigSep_emp_const])
        iempintro)
    (T₀ := fun c => iprop(Bufs (launchContents m) c ∗ Beside c)) (Tₙ := Bufs W) (hch := hch)
    (hinit := by
      refine Pipeline.initEach _ _ fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W c b)
    (hfin := fun c s' => by
      unfold Bufs held
      iintro ⟨Hh, HSI⟩
      ihave Hr := (pointsTo_read_all (ucRefs τ sig) (fun b => ((c : Dev nD), b)) (fun b => W c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Run
-- ==== Proof.RefRead.lean ====
/- One trip of a direction's loop as functions of the carried buffers: a mogrified LSTM cell, and the row its output fills. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.ReferenceIdeal.Run

open Cert.ReferenceIdeal Cert.ReferenceIdeal.Gen
open Idealize.ShloMosaic Idealize.ShloMosaic.TcCoe
open Idealize.ShloMosaic.StableHlo
open Idealize.SL.Sem

variable {F : FTy → Type} [FloatOps F]

/-- One direction's weights as the reference's arguments hold them. -/
structure Weights (F : FTy → Type) where
  q : FVec F S256x100 .f32
  r : FVec F S100x256 .f32
  wx : FVec F S1024x100 .f32
  wh : FVec F S1024x256 .f32
  bx : FVec F S1024 .f32
  bh : FVec F S1024 .f32

/-- The sigmoid as the reference writes it: one over one plus the exponential of minus `x`. -/
def sigm {s : Shape} (h : S_.BroadcastsInDim s ![]) (x : FVec F s .f32) : FVec F s .f32 :=
  Host.divf (broadcastInDim s ![] h (constant S_ .f32 0x3F800000#32)) (addf (broadcastInDim s ![] h (constant S_ .f32 0x3F800000#32)) (Host.exp (Host.negf x)))

/-- Twice the sigmoid. -/
def twice {s : Shape} (h : S_.BroadcastsInDim s ![]) (x : FVec F s .f32) : FVec F s .f32 :=
  mulf (broadcastInDim s ![] h (constant S_ .f32 0x40000000#32)) (sigm h x)

/-- The modulated input. -/
def modX (W : Weights F) (x : FVec F S512x100 .f32) (h : FVec F S512x256 .f32) : FVec F S512x100 .f32 :=
  mulf (twice bcast_S_S512x100 (Host.dotGeneral dot_S512x256_S256x100_S512x100_1_0_0_1_n_n none h W.q)) x

/-- The modulated hidden state, from the modulated input. -/
def modH (W : Weights F) (xm : FVec F S512x100 .f32) (h : FVec F S512x256 .f32) : FVec F S512x256 .f32 :=
  mulf (twice bcast_S_S512x256 (Host.dotGeneral dot_S512x100_S100x256_S512x256_1_0_0_1_n_n none xm W.r)) h

/-- The four gates, from the modulated input. -/
def gatesOf (W : Weights F) (xm : FVec F S512x100 .f32) (h : FVec F S512x256 .f32) : FVec F S512x1024 .f32 :=
  addf (addf (Host.dotGeneral dot_S512x100_S100x1024_S512x1024_1_0_0_1_n_n none xm (transpose S100x1024 [1, 0] W.wx transposes_S1024x100_S100x1024_1_0))
      (Host.dotGeneral dot_S512x256_S256x1024_S512x1024_1_0_0_1_n_n none (modH W xm h) (transpose S256x1024 [1, 0] W.wh transposes_S1024x256_S256x1024_1_0)))
    (broadcastInDim S512x1024 ![0, 1] bcast_S1x1024_S512x1024_0_1 (broadcastInDim S1x1024 ![1] bcast_S1024_S1x1024_1 (addf W.bx W.bh)))

/-- The next carry, from the gates. -/
def carryOf (g : FVec F S512x1024 .f32) (c : FVec F S512x256 .f32) : FVec F S512x256 .f32 :=
  addf (mulf (sigm bcast_S_S512x256 (extractStridedSlice S512x256 ![0, 256] g slices_S512x1024_S512x256_0_256)) c)
    (mulf (sigm bcast_S_S512x256 (extractStridedSlice S512x256 ![0, 0] g slices_S512x1024_S512x256_0_0))
      (Host.tanh (extractStridedSlice S512x256 ![0, 512] g slices_S512x1024_S512x256_0_512)))

/-- The next hidden state, from the gates and the next carry. -/
def hidOf (g : FVec F S512x1024 .f32) (c : FVec F S512x256 .f32) : FVec F S512x256 .f32 :=
  mulf (sigm bcast_S_S512x256 (extractStridedSlice S512x256 ![0, 768] g slices_S512x1024_S512x256_0_768)) (Host.tanh c)

/-- The next carry. -/
def nextC (W : Weights F) (x : FVec F S512x100 .f32) (h c : FVec F S512x256 .f32) : FVec F S512x256 .f32 :=
  carryOf (gatesOf W (modX W x h) h) c

/-- The next hidden state. -/
def nextH (W : Weights F) (x : FVec F S512x100 .f32) (h c : FVec F S512x256 .f32) : FVec F S512x256 .f32 :=
  hidOf (gatesOf W (modX W x h) h) (nextC W x h c)

/-- The rows the counter names. -/
def rowAt (xs : FVec F S128x512x100 .f32) (n : IVec S_ 32) : FVec F S512x100 .f32 :=
  shapeCast S512x100 (Host.dynamicSlice S1x512x100 xs (fun k => ((![n, constantI S_ 32 0#32, constantI S_ 32 0#32] : Fin 3 → (⟨S_, .i32⟩ : BufTy).Contents (Elt F)) k (Shape.Idx.first h_S_)).toInt) sliceFits_S128x512x100_S1x512x100) shapeCasts_S1x512x100_S512x100

/-- The outputs with the counter's row replaced. -/
def putRow (a : FVec F S128x512x256 .f32) (n : IVec S_ 32) (h : FVec F S512x256 .f32) : FVec F S128x512x256 .f32 :=
  Host.dynamicUpdateSlice a (broadcastInDim S1x512x256 ![1, 2] bcast_S512x256_S1x512x256_1_2 h) (fun k => ((![n, constantI S_ 32 0#32, constantI S_ 32 0#32] : Fin 3 → (⟨S_, .i32⟩ : BufTy).Contents (Elt F)) k (Shape.Idx.first h_S_)).toInt) updateFits_S128x512x256_S1x512x256

end Cert.ReferenceIdeal.Run
-- ==== Proof.RefRow.lean ====
/- The reference's cell, a row at a time, in extended-real arithmetic. -/
module

public import proofs.«01_k».proof.Proof.RefRead
public import proofs.«01_k».proof.Proof.ArgRow

@[expose] public section

noncomputable section

namespace Cert.ReferenceIdeal.Run

open Cert.ReferenceIdeal Cert.ReferenceIdeal.Gen
open Idealize.ShloMosaic Idealize.ShloMosaic.TcCoe

/-- The weights at their coordinates. -/
def rowW (W : Weights Ideal) : Row.Wts where
  q k e := W.q (ix2 k e)
  r e j := W.r (ix2 e j)
  wx n e := W.wx (ix2 n e)
  wh n k := W.wh (ix2 n k)
  bx n := W.bx (ix1 n)
  bh n := W.bh (ix1 n)

/-- A row of the batch's states. -/
abbrev rowS (h : FVec Ideal S512x256 .f32) (i : Fin 512) : Fin 256 → EReal := fun k => h (ix2 i k)

/-- A row of a step's embedded words. -/
abbrev rowX (x : FVec Ideal S512x100 .f32) (i : Fin 512) : Fin 100 → EReal := fun e => x (ix2 i e)

variable (W : Weights Ideal)

/-- The logistic function at an index. -/
theorem sigm_apply {s : Shape} (hb : S_.BroadcastsInDim s ![]) (x : FVec Ideal s .f32) (j : s.Idx) :
    sigm hb x j = Ideal.logistic (x j) := by
  unfold sigm Ideal.logistic
  pointwise

/-- Twice the logistic function at an index. -/
theorem twice_apply {s : Shape} (hb : S_.BroadcastsInDim s ![]) (x : FVec Ideal s .f32) (j : s.Idx) :
    twice hb x j = Row.two * Ideal.logistic (x j) := by
  unfold twice
  pointwise [sigm_apply]

/-- A row of the modulated input. -/
theorem modX_row (x h) (i : Fin 512) (e : Fin 100) : modX W x h (ix2 i e) = Row.two * Row.xm (rowW W) (rowX x i) (rowS h i) e := by
  unfold modX Row.xm rowW
  pointwise [twice_apply]
  rw [mul_assoc]

/-- A row of the modulated state. -/
theorem modH_row (x h) (i : Fin 512) (j : Fin 256) : modH W (modX W x h) h (ix2 i j) = Row.two * Row.hm (rowW W) (rowX x i) (rowS h i) j := by
  unfold modH Row.hm
  pointwise [twice_apply, modX_row]
  rw [mul_assoc]
  congr
  funext e
  rw [mul_comm Row.two, mul_assoc]
  rfl

/-- A row of the gates. -/
theorem gates_row (x h) (i : Fin 512) (n : Fin 1024) : gatesOf W (modX W x h) h (ix2 i n) = Row.gate (rowW W) (rowX x i) (rowS h i) n := by
  unfold gatesOf Row.gate
  pointwise [modH_row, modX_row]
  congr
  all_goals funext e
  all_goals rw [mul_comm Row.two, mul_assoc]
  all_goals rfl

/-- A row of the next carry. -/
theorem carry_row (x h c) (i : Fin 512) (j : Fin 256) : nextC W x h c (ix2 i j) = Row.nextC (rowW W) (rowX x i) (rowS h i) (rowS c i) j := by
  unfold nextC carryOf Row.nextC
  pointwise [sigm_apply, gates_row]

/-- A row of the next hidden state. -/
theorem hid_row (x h c) (i : Fin 512) (j : Fin 256) : nextH W x h c (ix2 i j) = Row.nextH (rowW W) (rowX x i) (rowS h i) (rowS c i) j := by
  unfold nextH hidOf Row.nextH
  pointwise [sigm_apply, gates_row, carry_row]

/-- The states after `k` steps on `xs 0, xs 1, …`. -/
def states (xs : ℕ → FVec Ideal S512x100 .f32) : ℕ → FVec Ideal S512x256 .f32 × FVec Ideal S512x256 .f32
  | 0 => (broadcastInDim S512x256 ![] bcast_S_S512x256 (constant S_ .f32 0x00000000#32), broadcastInDim S512x256 ![] bcast_S_S512x256 (constant S_ .f32 0x00000000#32))
  | k + 1 => (nextH W (xs k) (states xs k).1 (states xs k).2, nextC W (xs k) (states xs k).1 (states xs k).2)

/-- A row of the states. -/
theorem states_row (xs : ℕ → FVec Ideal S512x100 .f32) (i : Fin 512) (k : ℕ) :
    rowS (states W xs k).1 i = (Row.states (rowW W) (fun s => rowX (xs s) i) k).1 ∧ rowS (states W xs k).2 i = (Row.states (rowW W) (fun s => rowX (xs s) i) k).2 := by
  induction k with
  | zero =>
    constructor <;> funext j <;> unfold rowS states <;> pointwise <;> rfl
  | succ k ih =>
    constructor
    · funext j
      exact (hid_row W _ _ _ i j).trans (by rw [ih.1, ih.2]; rfl)
    · funext j
      exact (carry_row W _ _ _ i j).trans (by rw [ih.1, ih.2]; rfl)

/-- The fold's step keeps the better of its pairs. -/
theorem reducer_best (p q : EReal × BitVec 32) :
    (reducer_argmax_f32_i32 (F := Ideal) p q = p ∨ reducer_argmax_f32_i32 (F := Ideal) p q = q)
      ∧ Row.NoWorse (reducer_argmax_f32_i32 (F := Ideal) p q) p ∧ Row.NoWorse (reducer_argmax_f32_i32 (F := Ideal) p q) q := by
  obtain ⟨a, i⟩ := p
  obtain ⟨b, j⟩ := q
  have hx : ∀ x : EReal, FloatOps.cmpf (F := Ideal) (φ := .f32) .une x x = 0#1 := fun x => by simp [Ideal.cmpf_def, Ideal.cmp]
  rcases lt_trichotomy b a with hlt | he | hlt
  · have e : reducer_argmax_f32_i32 (F := Ideal) (a, i) (b, j) = (a, i) := by
      simp [reducer_argmax_f32_i32, Ideal.cmpf_def, Ideal.cmp, hlt, ne_of_gt hlt, IntOp.ori, IntOp.andi, Scalar.select]
    rw [e]
    exact ⟨Or.inl rfl, Row.NoWorse.refl _, Or.inl hlt⟩
  · subst he
    by_cases hs : i.toInt < j.toInt
    · have e : reducer_argmax_f32_i32 (F := Ideal) (b, i) (b, j) = (b, i) := by
        simp [reducer_argmax_f32_i32, Ideal.cmpf_def, Ideal.cmp, IntOp.ori, IntOp.andi, Scalar.select, IntOp.cmpi, BitVec.slt, hs]
      rw [e]
      exact ⟨Or.inl rfl, Row.NoWorse.refl _, Or.inr ⟨rfl, le_of_lt hs⟩⟩
    · have e : reducer_argmax_f32_i32 (F := Ideal) (b, i) (b, j) = (b, j) := by
        simp [reducer_argmax_f32_i32, Ideal.cmpf_def, Ideal.cmp, IntOp.ori, IntOp.andi, Scalar.select, IntOp.cmpi, BitVec.slt, hs]
      rw [e]
      exact ⟨Or.inr rfl, Or.inr ⟨rfl, not_lt.1 hs⟩, Row.NoWorse.refl _⟩
  · have e : reducer_argmax_f32_i32 (F := Ideal) (a, i) (b, j) = (b, j) := by
      simp [reducer_argmax_f32_i32, Ideal.cmpf_def, Ideal.cmp, not_lt.2 (le_of_lt hlt), ne_of_lt hlt, IntOp.ori, IntOp.andi, Scalar.select]
    rw [e]
    exact ⟨Or.inr rfl, Or.inl hlt, Row.NoWorse.refl _⟩

/-- A row's tag. -/
theorem tag_row (l : FVec Ideal S128x512x20 .f32) (t : Fin 128) (i : Fin 512) {n : Fin 20} (h : Row.First (fun k => l (ix3 t i k)) n) :
    (Host.argReduce reducer_argmax_f32_i32 l (iotaInDim S128x512x20 32 2) (constant S_ .f32 0xFF800000#32) (constantI S_ 32 0#32) reducesTo_S128x512x20_S128x512_d2 h_S_ (ix2 t i)).2 = BitVec.ofNat 32 n.val := by
  rw [Ideal.argReduce_eq_reduce2, Host.reduce2_eq_foldl_fiber]
  have hb : (constant (F := Ideal) S_ .f32 0xFF800000#32) (Shape.Idx.first h_S_) = (⊥ : EReal) := by pointwise; rfl
  rw [hb]
  refine Row.foldl_first _ reducer_best _ (fun k => l (ix3 t i k)) (fun q => ?_) h
  unfold Host.argReduceFiber
  simp only [List.mem_map, List.mem_filter, List.mem_finRange, true_and, decide_eq_true_eq]
  constructor
  · rintro ⟨a, ha, rfl⟩
    obtain ⟨k, hk⟩ := (Shape.ReducesTo.fiber_r3_a2 reducesTo_S128x512x20_S128x512_d2 (ix2 t i) _).1 ha
    exact ⟨k, by rw [← hk]; rfl⟩
  · rintro ⟨k, rfl⟩
    refine ⟨S128x512x20.rowMajor (ix3 t i k), ?_, by rw [Equiv.symm_apply_apply]; rfl⟩
    rw [Equiv.symm_apply_apply]
    exact (Shape.ReducesTo.fiber_r3_a2 reducesTo_S128x512x20_S128x512_d2 (ix2 t i) _).2 ⟨k, rfl⟩

end Cert.ReferenceIdeal.Run
-- ==== Proof.RefMove.lean ====
/- The reference's movements of data at an index: the row the loop's counter names, the outputs with that row replaced, and
   the rows the words gather. -/
module

public import proofs.«01_k».proof.Proof.RefRow
public import Idealize.ShloMosaic.Lib.WordArith.Masks
public import Idealize.ShloMosaic.Lib.ValueLayout
public import Idealize.ShloMosaic.Lib.DynamicIndex
public import Idealize.ShloMosaic.Lib.Pipeline.Value

@[expose] public section

set_option maxRecDepth 8192

noncomputable section

namespace Cert.ReferenceIdeal.Run

open Cert.ReferenceIdeal Cert.ReferenceIdeal.Gen
open Idealize.ShloMosaic Idealize.ShloMosaic.TcCoe

/-- The loop's counter before trip `k`. -/
abbrev ctr (k : ℕ) : IVec S_ 32 := fun _ => Scf.iv 0#32 1#32 k

theorem ctr_toInt (k : ℕ) (hk : k < 128) (j : S_.Idx) : (ctr k j).toInt = k := by
  have h := WordArith.toNat_iv_zero_one k (by omega)
  show (Scf.iv 0#32 1#32 k).toInt = _
  rw [BitVec.toInt_eq_toNat_of_lt (by omega), h]

/-- The offsets of the counter's row. -/
theorem starts_eq (k : ℕ) (hk : k < 128) (a : Fin 3) :
    ((![ctr k, constantI S_ 32 0#32, constantI S_ 32 0#32] : Fin 3 → (⟨S_, .i32⟩ : BufTy).Contents (Elt Ideal)) a (Shape.Idx.first h_S_)).toInt = ((![k, 0, 0] : Fin 3 → ℕ) a : Int) := by
  match a with
  | ⟨0, _⟩ => exact ctr_toInt k hk (Shape.Idx.first h_S_)
  | ⟨1, _⟩ => rfl
  | ⟨2, _⟩ => rfl

/-- A row of an array of rows, from starts that name it. -/
theorem slice_row (xs : FVec Ideal S128x512x100 .f32) (st : Fin 3 → Int) (k : ℕ) (hk : k < 128) (hst : ∀ a, st a = ((![k, 0, 0] : Fin 3 → ℕ) a : Int))
    (i : Fin 512) (e : Fin 100) :
    Host.dynamicSlice S1x512x100 xs st sliceFits_S128x512x100_S1x512x100 (ix3 (0 : Fin 1) i e) = xs (ix3 ⟨k, hk⟩ i e) := by
  have hs : S128x512x100.Slices ![k, 0, 0] S1x512x100 := ⟨rfl, fun a => by
    match a with
    | ⟨0, _⟩ => show k + 1 ≤ 128; omega
    | ⟨1, _⟩ => show 0 + 512 ≤ 512; omega
    | ⟨2, _⟩ => show 0 + 100 ≤ 100; omega⟩
  rw [Host.dynamicSlice_eq_extractStridedSlice S1x512x100 xs st ![k, 0, 0] _ hs hst]
  refine extractStridedSlice_apply _ _ _ _ _ fun a => ?_
  match a with
  | ⟨0, _⟩ => rfl
  | ⟨1, _⟩ => exact (Nat.zero_add _).symm
  | ⟨2, _⟩ => exact (Nat.zero_add _).symm

/-- The counter's row. -/
theorem rowAt_ctr (xs : FVec Ideal S128x512x100 .f32) (k : ℕ) (hk : k < 128) (i : Fin 512) (e : Fin 100) :
    rowAt xs (ctr k) (ix2 i e) = xs (ix3 ⟨k, hk⟩ i e) := by
  unfold rowAt
  exact (ValueIdx.shapeCast_1ab_ab_apply _ _ i e).trans (slice_row xs _ k hk (starts_eq k hk) i e)

/-- The rows with one replaced, from starts that name it. -/
theorem update_row (a : FVec Ideal S128x512x256 .f32) (h : FVec Ideal S1x512x256 .f32) (st : Fin 3 → Int) (k : ℕ) (hk : k < 128)
    (hst : ∀ a, st a = ((![k, 0, 0] : Fin 3 → ℕ) a : Int)) (t : Fin 128) (i : Fin 512) (j : Fin 256) :
    Host.dynamicUpdateSlice a h st updateFits_S128x512x256_S1x512x256 (ix3 t i j) = if t.val = k then h (ix3 (0 : Fin 1) i j) else a (ix3 t i j) := by
  have hcl : ∀ b : Fin 3, Host.clampedStart S128x512x256 S1x512x256 updateFits_S128x512x256_S1x512x256.1 st b = (![k, 0, 0] : Fin 3 → ℕ) b := fun b =>
    Host.clampedStart_of_le (s := S128x512x256) (t := S1x512x256) _ st b _ (hst b) (by
      match b with
      | ⟨0, _⟩ => show k + 1 ≤ 128; omega
      | ⟨1, _⟩ => show 0 + 512 ≤ 512; omega
      | ⟨2, _⟩ => show 0 + 256 ≤ 256; omega)
  rw [Host.dynamicUpdateSlice_apply]
  by_cases htk : t.val = k
  · rw [if_pos htk, dif_pos]
    · congr 1
      funext b
      match b with
      | ⟨0, _⟩ => exact Fin.ext (by show t.val - Host.clampedStart S128x512x256 S1x512x256 updateFits_S128x512x256_S1x512x256.1 st 0 = 0; rw [hcl 0]; show t.val - k = 0; omega)
      | ⟨1, _⟩ => exact Fin.ext (by show i.val - Host.clampedStart S128x512x256 S1x512x256 updateFits_S128x512x256_S1x512x256.1 st 1 = i.val; rw [hcl 1]; rfl)
      | ⟨2, _⟩ => exact Fin.ext (by show j.val - Host.clampedStart S128x512x256 S1x512x256 updateFits_S128x512x256_S1x512x256.1 st 2 = j.val; rw [hcl 2]; rfl)
    · intro b
      rw [hcl b]
      match b with
      | ⟨0, _⟩ => exact ⟨by show k ≤ t.val; omega, by show t.val < k + 1; omega⟩
      | ⟨1, _⟩ => exact ⟨Nat.zero_le _, by show i.val < 0 + 512; omega⟩
      | ⟨2, _⟩ => exact ⟨Nat.zero_le _, by show j.val < 0 + 256; omega⟩
  · rw [if_neg htk, dif_neg]
    intro hb
    have := hb 0
    rw [hcl 0] at this
    have h1 : k ≤ t.val := this.1
    have h2 : t.val < k + 1 := this.2
    omega

/-- The outputs with the counter's row replaced. -/
theorem putRow_ctr (a : FVec Ideal S128x512x256 .f32) (k : ℕ) (hk : k < 128) (h : FVec Ideal S512x256 .f32) (t : Fin 128) (i : Fin 512) (j : Fin 256) :
    putRow a (ctr k) h (ix3 t i j) = if t.val = k then h (ix2 i j) else a (ix3 t i j) := by
  unfold putRow
  rw [update_row a _ _ k hk (starts_eq k hk)]
  pointwise

/-- The gathered rows: the table's row at each word, read signed and clamped into the table. -/
theorem gather_row (E : FVec Ideal S50000x100 .f32) (w : IVec S512x128x1 32) (i : Fin 512) (t : Fin 128) (e : Fin 100) :
    Host.gather gather_S50000x100_S512x128x1_S512x128x100_2_0_n_n_0_2_1100 E w (ix3 i t e)
      = E (ix2 ⟨min (w (ix3 i t (0 : Fin 1))).toInt.toNat 49999, by omega⟩ e) := by
  unfold Host.gather
  congr 1
  funext a
  refine Fin.ext ?_
  show GatherDims.start _ _ w a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (gather_S50000x100_S512x128x1_S512x128x100_2_0_n_n_0_2_1100).startIndexMap from List.mem_singleton.mpr rfl)]
    have hsi : (gather_S50000x100_S512x128x1_S512x128x100_2_0_n_n_0_2_1100).siIdx (ix3 i t e) ⟨List.idxOf (0 : Fin 2) (gather_S50000x100_S512x128x1_S512x128x100_2_0_n_n_0_2_1100).startIndexMap,
        List.idxOf_lt_length_iff.2 (List.mem_singleton.mpr rfl)⟩ = ix3 i t (0 : Fin 1) := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (gather_S50000x100_S512x128x1_S512x128x100_2_0_n_n_0_2_1100).startIndexMap from by decide)]
    show 0 + 0 + _ = e.val
    rw [Nat.zero_add]
    rfl

/-- A word in the vocabulary is not wrapped and names its own row. -/
theorem word_wrap (w : IVec S512x128 32) (i : Fin 512) (t : Fin 128) (h0 : 0 ≤ (w (ix2 i t)).toInt) :
    broadcastInDim S512x128x1 ![0, 1] bcast_S512x128_S512x128x1_0_1
      (select (cmpi .slt w (broadcastInDim S512x128 ![] bcast_S_S512x128 (constantI S_ 32 0#32)))
        (addi w (broadcastInDim S512x128 ![] bcast_S_S512x128 (constantI S_ 32 50000#32))) w) (ix3 i t (0 : Fin 1)) = w (ix2 i t) := by
  pointwise
  have hf : (w (ix2 i t)).slt 0#32 = false := by
    rw [Bool.eq_false_iff]
    simpa [BitVec.slt] using h0
  show (if BitVec.ofBool ((w (ix2 i t)).slt 0#32) = 1#1 then _ else _) = _
  rw [hf, if_neg (by decide)]

end Cert.ReferenceIdeal.Run
-- ==== Proof.RefFwd.lean ====
/- The reference's forward loop: its operations, one trip as a function of the carried buffers, and what it leaves. -/
module

public import proofs.«01_k».proof.Proof.RefMove

@[expose] public section

set_option maxRecDepth 8192

noncomputable section

namespace Cert.ReferenceIdeal.Fwd

open Cert.ReferenceIdeal Cert.ReferenceIdeal.Gen Cert.ReferenceIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- The step's row, the one the counter names. -/
abbrev rowOps : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v10_0 : StableHlo.TRef sig ⟨S128x512x100, .f32⟩) ![(.of main_v10_7 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x512x100, .f32⟩) (fun x i => Host.dynamicSlice S1x512x100 x (fun k => (i k (Shape.Idx.first h_S_)).toInt) sliceFits_S128x512x100_S1x512x100),
    StableHlo.TRef.reshape (.of main_while0b_call0_v0 : StableHlo.TRef sig ⟨S1x512x100, .f32⟩) (.of main_while0b_v26 : StableHlo.TRef sig ⟨S512x100, .f32⟩) (rfl : (.f32 : EltTy) = .f32) shapeCasts_S1x512x100_S512x100 ]
/-- They touch the core's references only, -/
theorem rowOps_sub : (rowOps : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- allocate nothing, -/
theorem rowOps_fresh : (rowOps : List (HloOp τ sig (Elt F))).Forall fun op => op.fresh = ∅ :=
  StableHlo.forall_fresh_of_map rfl
/-- and write these, in order. -/
abbrev rowOps_W : List (Ref sig .tc) := [main_while0b_call0_c, main_while0b_call0_c_0, main_while0b_call0_v0, main_while0b_v26]
theorem rowOps_writes : (rowOps : List (HloOp τ sig (Elt F))).Forall fun op => op.writes ⊆ (rowOps_W.map (Proc.devRef (τ := τ) .tc)).toFinset :=
  StableHlo.forall_writes_sub_of_map rfl

set_option maxHeartbeats 40000000 in
/-- The cell, operation by operation. -/
abbrev cellOps : List (HloOp τ sig (Elt F)) :=
  ( StableHlo.binary main_v10_8 main_v10_1 main_while0b_v27 ((fun l r => Host.dotGeneral dot_S512x256_S256x100_S512x100_1_0_0_1_n_n none l r) : (⟨S512x256, .f32⟩ : BufTy).Contents (Elt F) → (⟨S256x100, .f32⟩ : BufTy).Contents (Elt F) → (⟨S512x100, .f32⟩ : BufTy).Contents (Elt F))
  :: StableHlo.unary main_while0b_v27 main_while0b_v28 (Host.negf : (⟨S512x100, .f32⟩ : BufTy).Contents (Elt F) → (⟨S512x100, .f32⟩ : BufTy).Contents (Elt F))
  :: StableHlo.unary main_while0b_v28 main_while0b_v29 (Host.exp : (⟨S512x100, .f32⟩ : BufTy).Contents (Elt F) → (⟨S512x100, .f32⟩ : BufTy).Contents (Elt F))
  :: StableHlo.nullary main_while0b_cst_16 (constant S_ .f32 0x3F800000#32)
  :: StableHlo.unary main_while0b_cst_16 main_while0b_v30 (broadcastInDim S512x100 ![] bcast_S_S512x100 : (⟨S_, .f32⟩ : BufTy).Contents (Elt F) → (⟨S512x100, .f32⟩ : BufTy).Contents (Elt F))
  :: StableHlo.binary main_while0b_v30 main_while0b_v29 main_while0b_v31 (addf : (⟨S512x100, .f32⟩ : BufTy).Contents (Elt F) → (⟨S512x100, .f32⟩ : BufTy).Contents (Elt F) → (⟨S512x100, .f32⟩ : BufTy).Contents (Elt F))
  :: StableHlo.nullary main_while0b_cst_17 (constant S_ .f32 0x3F800000#32)
  :: StableHlo.unary main_while0b_cst_17 main_while0b_v32 (broadcastInDim S512x100 ![] bcast_S_S512x100 : (⟨S_, .f32⟩ : BufTy).Contents (Elt F) → (⟨S512x100, .f32⟩ : BufTy).Contents (Elt F))
  :: StableHlo.binary main_while0b_v32 main_while0b_v31 main_while0b_v33 (Host.divf : (⟨S512x100, .f32⟩ : BufTy).Contents (Elt F) → (⟨S512x100, .f32⟩ : BufTy).Contents (Elt F) → (⟨S512x100, .f32⟩ : BufTy).Contents (Elt F))
  :: StableHlo.nullary main_while0b_cst_18 (constant S_ .f32 0x40000000#32)
  :: StableHlo.unary main_while0b_cst_18 main_while0b_v34 (broadcastInDim S512x100 ![] bcast_S_S512x100 : (⟨S_, .f32⟩ : BufTy).Contents (Elt F) → (⟨S512x100, .f32⟩ : BufTy).Contents (Elt F))
  :: StableHlo.binary main_while0b_v34 main_while0b_v33 main_while0b_v35 (mulf : (⟨S512x100, .f32⟩ : BufTy).Contents (Elt F) → (⟨S512x100, .f32⟩ : BufTy).Contents (Elt F) → (⟨S512x100, .f32⟩ : BufTy).Contents (Elt F))
  :: StableHlo.binary main_while0b_v35 main_while0b_v26 main_while0b_v36 (mulf : (⟨S512x100, .f32⟩ : BufTy).Contents (Elt F) → (⟨S512x100, .f32⟩ : BufTy).Contents (Elt F) → (⟨S512x100, .f32⟩ : BufTy).Contents (Elt F))
  :: StableHlo.binary main_while0b_v36 main_v10_2 main_while0b_v37 ((fun l r => Host.dotGeneral dot_S512x100_S100x256_S512x256_1_0_0_1_n_n none l r) : (⟨S512x100, .f32⟩ : BufTy).Contents (Elt F) → (⟨S100x256, .f32⟩ : BufTy).Contents (Elt F) → (⟨S512x256, .f32⟩ : BufTy).Contents (Elt F))
  :: StableHlo.unary main_while0b_v37 main_while0b_v38 (Host.negf : (⟨S512x256, .f32⟩ : BufTy).Contents (Elt F) → (⟨S512x256, .f32⟩ : BufTy).Contents (Elt F))
  :: StableHlo.unary main_while0b_v38 main_while0b_v39 (Host.exp : (⟨S512x256, .f32⟩ : BufTy).Contents (Elt F) → (⟨S512x256, .f32⟩ : BufTy).Contents (Elt F))
  :: StableHlo.nullary main_while0b_cst_19 (constant S_ .f32 0x3F800000#32)
  :: StableHlo.unary main_while0b_cst_19 main_while0b_v40 (broadcastInDim S512x256 ![] bcast_S_S512x256 : (⟨S_, .f32⟩ : BufTy).Contents (Elt F) → (⟨S512x256, .f32⟩ : BufTy).Contents (Elt F))
  :: StableHlo.binary main_while0b_v40 main_while0b_v39 main_while0b_v41 (addf : (⟨S512x256, .f32⟩ : BufTy).Contents (Elt F) → (⟨S512x256, .f32⟩ : BufTy).Contents (Elt F) → (⟨S512x256, .f32⟩ : BufTy).Contents (Elt F))
  :: StableHlo.nullary main_while0b_cst_20 (constant S_ .f32 0x3F800000#32)
  :: StableHlo.unary main_while0b_cst_20 main_while0b_v42 (broadcastInDim S512x256 ![] bcast_S_S512x256 : (⟨S_, .f32⟩ : BufTy).Contents (Elt F) → (⟨S512x256, .f32⟩ : BufTy).Contents (Elt F))
  :: StableHlo.binary main_while0b_v42 main_while0b_v41 main_while0b_v43 (Host.divf : (⟨S512x256, .f32⟩ : BufTy).Contents (Elt F) → (⟨S512x256, .f32⟩ : BufTy).Contents (Elt F) → (⟨S512x256, .f32⟩ : BufTy).Contents (Elt F))
  :: StableHlo.nullary main_while0b_cst_21 (constant S_ .f32 0x40000000#32)
  :: StableHlo.unary main_while0b_cst_21 main_while0b_v44 (broadcastInDim S512x256 ![] bcast_S_S512x256 : (⟨S_, .f32⟩ : BufTy).Contents (Elt F) → (⟨S512x256, .f32⟩ : BufTy).Contents (Elt F))
  :: StableHlo.binary main_while0b_v44 main_while0b_v43 main_while0b_v45 (mulf : (⟨S512x256, .f32⟩ : BufTy).Contents (Elt F) → (⟨S512x256, .f32⟩ : BufTy).Contents (Elt F) → (⟨S512x256, .f32⟩ : BufTy).Contents (Elt F))
  :: StableHlo.binary main_while0b_v45 main_v10_8 main_while0b_v46 (mulf : (⟨S512x256, .f32⟩ : BufTy).Contents (Elt F) → (⟨S512x256, .f32⟩ : BufTy).Contents (Elt F) → (⟨S512x256, .f32⟩ : BufTy).Contents (Elt F))
  :: StableHlo.unary main_v10_3 main_while0b_v47 ((transpose S100x1024 [1, 0] · transposes_S1024x100_S100x1024_1_0) : (⟨S1024x100, .f32⟩ : BufTy).Contents (Elt F) → (⟨S100x1024, .f32⟩ : BufTy).Contents (Elt F))
  :: StableHlo.binary main_while0b_v36 main_while0b_v47 main_while0b_v48 ((fun l r => Host.dotGeneral dot_S512x100_S100x1024_S512x1024_1_0_0_1_n_n none l r) : (⟨S512x100, .f32⟩ : BufTy).Contents (Elt F) → (⟨S100x1024, .f32⟩ : BufTy).Contents (Elt F) → (⟨S512x1024, .f32⟩ : BufTy).Contents (Elt F))
  :: StableHlo.unary main_v10_4 main_while0b_v49 ((transpose S256x1024 [1, 0] · transposes_S1024x256_S256x1024_1_0) : (⟨S1024x256, .f32⟩ : BufTy).Contents (Elt F) → (⟨S256x1024, .f32⟩ : BufTy).Contents (Elt F))
  :: StableHlo.binary main_while0b_v46 main_while0b_v49 main_while0b_v50 ((fun l r => Host.dotGeneral dot_S512x256_S256x1024_S512x1024_1_0_0_1_n_n none l r) : (⟨S512x256, .f32⟩ : BufTy).Contents (Elt F) → (⟨S256x1024, .f32⟩ : BufTy).Contents (Elt F) → (⟨S512x1024, .f32⟩ : BufTy).Contents (Elt F))
  :: StableHlo.binary main_while0b_v48 main_while0b_v50 main_while0b_v51 (addf : (⟨S512x1024, .f32⟩ : BufTy).Contents (Elt F) → (⟨S512x1024, .f32⟩ : BufTy).Contents (Elt F) → (⟨S512x1024, .f32⟩ : BufTy).Contents (Elt F))
  :: StableHlo.binary main_v10_5 main_v10_6 main_while0b_v52 (addf : (⟨S1024, .f32⟩ : BufTy).Contents (Elt F) → (⟨S1024, .f32⟩ : BufTy).Contents (Elt F) → (⟨S1024, .f32⟩ : BufTy).Contents (Elt F))
  :: StableHlo.unary main_while0b_v52 main_while0b_v53 (broadcastInDim S1x1024 ![1] bcast_S1024_S1x1024_1 : (⟨S1024, .f32⟩ : BufTy).Contents (Elt F) → (⟨S1x1024, .f32⟩ : BufTy).Contents (Elt F))
  :: StableHlo.unary main_while0b_v53 main_while0b_v54 (broadcastInDim S512x1024 ![0, 1] bcast_S1x1024_S512x1024_0_1 : (⟨S1x1024, .f32⟩ : BufTy).Contents (Elt F) → (⟨S512x1024, .f32⟩ : BufTy).Contents (Elt F))
  :: StableHlo.binary main_while0b_v51 main_while0b_v54 main_while0b_v55 (addf : (⟨S512x1024, .f32⟩ : BufTy).Contents (Elt F) → (⟨S512x1024, .f32⟩ : BufTy).Contents (Elt F) → (⟨S512x1024, .f32⟩ : BufTy).Contents (Elt F))
  :: StableHlo.unary main_while0b_v55 main_while0b_v56 ((extractStridedSlice S512x256 ![0, 0] · slices_S512x1024_S512x256_0_0) : (⟨S512x1024, .f32⟩ : BufTy).Contents (Elt F) → (⟨S512x256, .f32⟩ : BufTy).Contents (Elt F))
  :: StableHlo.unary main_while0b_v55 main_while0b_v57 ((extractStridedSlice S512x256 ![0, 256] · slices_S512x1024_S512x256_0_256) : (⟨S512x1024, .f32⟩ : BufTy).Contents (Elt F) → (⟨S512x256, .f32⟩ : BufTy).Contents (Elt F))
  :: StableHlo.unary main_while0b_v55 main_while0b_v58 ((extractStridedSlice S512x256 ![0, 512] · slices_S512x1024_S512x256_0_512) : (⟨S512x1024, .f32⟩ : BufTy).Contents (Elt F) → (⟨S512x256, .f32⟩ : BufTy).Contents (Elt F))
  :: StableHlo.unary main_while0b_v55 main_while0b_v59 ((extractStridedSlice S512x256 ![0, 768] · slices_S512x1024_S512x256_0_768) : (⟨S512x1024, .f32⟩ : BufTy).Contents (Elt F) → (⟨S512x256, .f32⟩ : BufTy).Contents (Elt F))
  :: StableHlo.unary main_while0b_v57 main_while0b_v60 (Host.negf : (⟨S512x256, .f32⟩ : BufTy).Contents (Elt F) → (⟨S512x256, .f32⟩ : BufTy).Contents (Elt F))
  :: StableHlo.unary main_while0b_v60 main_while0b_v61 (Host.exp : (⟨S512x256, .f32⟩ : BufTy).Contents (Elt F) → (⟨S512x256, .f32⟩ : BufTy).Contents (Elt F))
  :: StableHlo.nullary main_while0b_cst_22 (constant S_ .f32 0x3F800000#32)
  :: StableHlo.unary main_while0b_cst_22 main_while0b_v62 (broadcastInDim S512x256 ![] bcast_S_S512x256 : (⟨S_, .f32⟩ : BufTy).Contents (Elt F) → (⟨S512x256, .f32⟩ : BufTy).Contents (Elt F))
  :: StableHlo.binary main_while0b_v62 main_while0b_v61 main_while0b_v63 (addf : (⟨S512x256, .f32⟩ : BufTy).Contents (Elt F) → (⟨S512x256, .f32⟩ : BufTy).Contents (Elt F) → (⟨S512x256, .f32⟩ : BufTy).Contents (Elt F))
  :: StableHlo.nullary main_while0b_cst_23 (constant S_ .f32 0x3F800000#32)
  :: StableHlo.unary main_while0b_cst_23 main_while0b_v64 (broadcastInDim S512x256 ![] bcast_S_S512x256 : (⟨S_, .f32⟩ : BufTy).Contents (Elt F) → (⟨S512x256, .f32⟩ : BufTy).Contents (Elt F))
  :: StableHlo.binary main_while0b_v64 main_while0b_v63 main_while0b_v65 (Host.divf : (⟨S512x256, .f32⟩ : BufTy).Contents (Elt F) → (⟨S512x256, .f32⟩ : BufTy).Contents (Elt F) → (⟨S512x256, .f32⟩ : BufTy).Contents (Elt F))
  :: StableHlo.binary main_while0b_v65 main_v10_9 main_while0b_v66 (mulf : (⟨S512x256, .f32⟩ : BufTy).Contents (Elt F) → (⟨S512x256, .f32⟩ : BufTy).Contents (Elt F) → (⟨S512x256, .f32⟩ : BufTy).Contents (Elt F))
  :: StableHlo.unary main_while0b_v56 main_while0b_v67 (Host.negf : (⟨S512x256, .f32⟩ : BufTy).Contents (Elt F) → (⟨S512x256, .f32⟩ : BufTy).Contents (Elt F))
  :: StableHlo.unary main_while0b_v67 main_while0b_v68 (Host.exp : (⟨S512x256, .f32⟩ : BufTy).Contents (Elt F) → (⟨S512x256, .f32⟩ : BufTy).Contents (Elt F))
  :: StableHlo.nullary main_while0b_cst_24 (constant S_ .f32 0x3F800000#32)
  :: StableHlo.unary main_while0b_cst_24 main_while0b_v69 (broadcastInDim S512x256 ![] bcast_S_S512x256 : (⟨S_, .f32⟩ : BufTy).Contents (Elt F) → (⟨S512x256, .f32⟩ : BufTy).Contents (Elt F))
  :: StableHlo.binary main_while0b_v69 main_while0b_v68 main_while0b_v70 (addf : (⟨S512x256, .f32⟩ : BufTy).Contents (Elt F) → (⟨S512x256, .f32⟩ : BufTy).Contents (Elt F) → (⟨S512x256, .f32⟩ : BufTy).Contents (Elt F))
  :: StableHlo.nullary main_while0b_cst_25 (constant S_ .f32 0x3F800000#32)
  :: StableHlo.unary main_while0b_cst_25 main_while0b_v71 (broadcastInDim S512x256 ![] bcast_S_S512x256 : (⟨S_, .f32⟩ : BufTy).Contents (Elt F) → (⟨S512x256, .f32⟩ : BufTy).Contents (Elt F))
  :: StableHlo.binary main_while0b_v71 main_while0b_v70 main_while0b_v72 (Host.divf : (⟨S512x256, .f32⟩ : BufTy).Contents (Elt F) → (⟨S512x256, .f32⟩ : BufTy).Contents (Elt F) → (⟨S512x256, .f32⟩ : BufTy).Contents (Elt F))
  :: StableHlo.unary main_while0b_v58 main_while0b_v73 (Host.tanh : (⟨S512x256, .f32⟩ : BufTy).Contents (Elt F) → (⟨S512x256, .f32⟩ : BufTy).Contents (Elt F))
  :: StableHlo.binary main_while0b_v72 main_while0b_v73 main_while0b_v74 (mulf : (⟨S512x256, .f32⟩ : BufTy).Contents (Elt F) → (⟨S512x256, .f32⟩ : BufTy).Contents (Elt F) → (⟨S512x256, .f32⟩ : BufTy).Contents (Elt F))
  :: StableHlo.binary main_while0b_v66 main_while0b_v74 main_while0b_v75 (addf : (⟨S512x256, .f32⟩ : BufTy).Contents (Elt F) → (⟨S512x256, .f32⟩ : BufTy).Contents (Elt F) → (⟨S512x256, .f32⟩ : BufTy).Contents (Elt F))
  :: StableHlo.unary main_while0b_v59 main_while0b_v76 (Host.negf : (⟨S512x256, .f32⟩ : BufTy).Contents (Elt F) → (⟨S512x256, .f32⟩ : BufTy).Contents (Elt F))
  :: StableHlo.unary main_while0b_v76 main_while0b_v77 (Host.exp : (⟨S512x256, .f32⟩ : BufTy).Contents (Elt F) → (⟨S512x256, .f32⟩ : BufTy).Contents (Elt F))
  :: StableHlo.nullary main_while0b_cst_26 (constant S_ .f32 0x3F800000#32)
  :: StableHlo.unary main_while0b_cst_26 main_while0b_v78 (broadcastInDim S512x256 ![] bcast_S_S512x256 : (⟨S_, .f32⟩ : BufTy).Contents (Elt F) → (⟨S512x256, .f32⟩ : BufTy).Contents (Elt F))
  :: StableHlo.binary main_while0b_v78 main_while0b_v77 main_while0b_v79 (addf : (⟨S512x256, .f32⟩ : BufTy).Contents (Elt F) → (⟨S512x256, .f32⟩ : BufTy).Contents (Elt F) → (⟨S512x256, .f32⟩ : BufTy).Contents (Elt F))
  :: StableHlo.nullary main_while0b_cst_27 (constant S_ .f32 0x3F800000#32)
  :: StableHlo.unary main_while0b_cst_27 main_while0b_v80 (broadcastInDim S512x256 ![] bcast_S_S512x256 : (⟨S_, .f32⟩ : BufTy).Contents (Elt F) → (⟨S512x256, .f32⟩ : BufTy).Contents (Elt F))
  :: StableHlo.binary main_while0b_v80 main_while0b_v79 main_while0b_v81 (Host.divf : (⟨S512x256, .f32⟩ : BufTy).Contents (Elt F) → (⟨S512x256, .f32⟩ : BufTy).Contents (Elt F) → (⟨S512x256, .f32⟩ : BufTy).Contents (Elt F))
  :: StableHlo.unary main_while0b_v75 main_while0b_v82 (Host.tanh : (⟨S512x256, .f32⟩ : BufTy).Contents (Elt F) → (⟨S512x256, .f32⟩ : BufTy).Contents (Elt F))
  :: StableHlo.binary main_while0b_v81 main_while0b_v82 main_while0b_v83 (mulf : (⟨S512x256, .f32⟩ : BufTy).Contents (Elt F) → (⟨S512x256, .f32⟩ : BufTy).Contents (Elt F) → (⟨S512x256, .f32⟩ : BufTy).Contents (Elt F))
  :: [] )
set_option maxHeartbeats 40000000 in
/-- They touch the core's references only, -/
theorem cellOps_sub : (cellOps : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- allocate nothing, -/
theorem cellOps_fresh : (cellOps : List (HloOp τ sig (Elt F))).Forall fun op => op.fresh = ∅ :=
  StableHlo.forall_fresh_of_map rfl
/-- and write these, in order. -/
abbrev cellOps_W : List (Ref sig .tc) := [main_while0b_v27, main_while0b_v28, main_while0b_v29, main_while0b_cst_16, main_while0b_v30, main_while0b_v31, main_while0b_cst_17, main_while0b_v32, main_while0b_v33, main_while0b_cst_18, main_while0b_v34, main_while0b_v35, main_while0b_v36, main_while0b_v37, main_while0b_v38, main_while0b_v39, main_while0b_cst_19, main_while0b_v40, main_while0b_v41, main_while0b_cst_20, main_while0b_v42, main_while0b_v43, main_while0b_cst_21, main_while0b_v44, main_while0b_v45, main_while0b_v46, main_while0b_v47, main_while0b_v48, main_while0b_v49, main_while0b_v50, main_while0b_v51, main_while0b_v52, main_while0b_v53, main_while0b_v54, main_while0b_v55, main_while0b_v56, main_while0b_v57, main_while0b_v58, main_while0b_v59, main_while0b_v60, main_while0b_v61, main_while0b_cst_22, main_while0b_v62, main_while0b_v63, main_while0b_cst_23, main_while0b_v64, main_while0b_v65, main_while0b_v66, main_while0b_v67, main_while0b_v68, main_while0b_cst_24, main_while0b_v69, main_while0b_v70, main_while0b_cst_25, main_while0b_v71, main_while0b_v72, main_while0b_v73, main_while0b_v74, main_while0b_v75, main_while0b_v76, main_while0b_v77, main_while0b_cst_26, main_while0b_v78, main_while0b_v79, main_while0b_cst_27, main_while0b_v80, main_while0b_v81, main_while0b_v82, main_while0b_v83]
theorem cellOps_writes : (cellOps : List (HloOp τ sig (Elt F))).Forall fun op => op.writes ⊆ (cellOps_W.map (Proc.devRef (τ := τ) .tc)).toFinset :=
  StableHlo.forall_writes_sub_of_map rfl

/-- The new hidden state, put at the counter's row of the outputs. -/
abbrev putOps : List (HloOp τ sig (Elt F)) :=
  [ StableHlo.TRef.unary (.of main_while0b_v83 : StableHlo.TRef sig ⟨S512x256, .f32⟩) (.of main_while0b_call1_v0 : StableHlo.TRef sig ⟨S1x512x256, .f32⟩) (broadcastInDim S1x512x256 ![1, 2] bcast_S512x256_S1x512x256_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v10_10 : StableHlo.TRef sig ⟨S128x512x256, .f32⟩) (.of main_while0b_call1_v0 : StableHlo.TRef sig ⟨S1x512x256, .f32⟩) ![(.of main_v10_7 : StableHlo.TRef sig ⟨S_, .i32⟩), (.of main_while0b_call1_c : StableHlo.TRef sig ⟨S_, .i32⟩), (.of main_while0b_call1_c_0 : StableHlo.TRef sig ⟨S_, .i32⟩)] (.of main_while0b_v84 : StableHlo.TRef sig ⟨S128x512x256, .f32⟩) (fun x u i => Host.dynamicUpdateSlice x u (fun k => (i k (Shape.Idx.first h_S_)).toInt) updateFits_S128x512x256_S1x512x256) ]
/-- They touch the core's references only, -/
theorem putOps_sub : (putOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- allocate nothing, -/
theorem putOps_fresh : (putOps : List (HloOp τ sig (Elt F))).Forall fun op => op.fresh = ∅ :=
  StableHlo.forall_fresh_of_map rfl
/-- and write these, in order. -/
abbrev putOps_W : List (Ref sig .tc) := [main_while0b_call1_v0, main_while0b_call1_c, main_while0b_call1_c_0, main_while0b_v84]
theorem putOps_writes : (putOps : List (HloOp τ sig (Elt F))).Forall fun op => op.writes ⊆ (putOps_W.map (Proc.devRef (τ := τ) .tc)).toFinset :=
  StableHlo.forall_writes_sub_of_map rfl

/-- The counter one step on, and the new values carried. -/
abbrev stepOps : List (HloOp τ sig (Elt F)) :=
  [ StableHlo.nullary main_while0b_c_28 (constantI S_ 32 1#32),
    StableHlo.binary main_v10_7 main_while0b_c_28 main_while0b_v85 (addi : (⟨S_, .i32⟩ : BufTy).Contents (Elt F) → (⟨S_, .i32⟩ : BufTy).Contents (Elt F) → (⟨S_, .i32⟩ : BufTy).Contents (Elt F)),
    StableHlo.unary main_while0b_v85 main_v10_7 id,
    StableHlo.unary main_while0b_v83 main_v10_8 id,
    StableHlo.unary main_while0b_v75 main_v10_9 id,
    StableHlo.unary main_while0b_v84 main_v10_10 id ]
/-- They touch the core's references only, -/
theorem stepOps_sub : (stepOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- allocate nothing, -/
theorem stepOps_fresh : (stepOps : List (HloOp τ sig (Elt F))).Forall fun op => op.fresh = ∅ :=
  StableHlo.forall_fresh_of_map rfl
/-- and write these, in order. -/
abbrev stepOps_W : List (Ref sig .tc) := [main_while0b_c_28, main_while0b_v85, main_v10_7, main_v10_8, main_v10_9, main_v10_10]
theorem stepOps_writes : (stepOps : List (HloOp τ sig (Elt F))).Forall fun op => op.writes ⊆ (stepOps_W.map (Proc.devRef (τ := τ) .tc)).toFinset :=
  StableHlo.forall_writes_sub_of_map rfl

/-- The body's stretches. -/
abbrev bodyI : List (List (HloOp τ sig (Elt F))) := [rowOps, cellOps, putOps, stepOps]

/-- The loop's body is its stretches in order. -/
theorem body_chain : main_while0_body (F := F) = (Pipeline.chain
  [ StableHlo.seq rowOps,
    StableHlo.seq cellOps,
    StableHlo.seq putOps,
    StableHlo.seq stepOps ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- None of them allocates. -/
theorem plain : Plain (bodyI (F := F)) :=
  .cons rowOps_sub (hf := List.forall_iff_forall_mem.mp rowOps_fresh) (.cons cellOps_sub (hf := List.forall_iff_forall_mem.mp cellOps_fresh)
    (.cons putOps_sub (hf := List.forall_iff_forall_mem.mp putOps_fresh) (.cons stepOps_sub (hf := List.forall_iff_forall_mem.mp stepOps_fresh) .nil)))

/-- The condition's operations: the bound, and the counter compared with it. -/
abbrev condOps : List (HloOp τ sig (Elt F)) :=
  [ StableHlo.nullary main_while0c_c_16 (constantI S_ 32 128#32),
    StableHlo.binary main_v10_7 main_while0c_c_16 main_while0c_v26 (cmpi .slt) ]
/-- They write these. -/
abbrev condOps_W : List (Ref sig .tc) := [main_while0c_c_16, main_while0c_v26]
theorem condOps_writes : (condOps : List (HloOp τ sig (Elt F))).Forall fun op => op.writes ⊆ (condOps_W.map (Proc.devRef (τ := τ) .tc)).toFinset :=
  StableHlo.forall_writes_sub_of_map rfl

/-- What a trip writes. -/
abbrev loopW : List (Ref sig .tc) := condOps_W ++ rowOps_W ++ cellOps_W ++ putOps_W ++ stepOps_W

/-- One trip leaves alone what neither the condition nor the body writes. -/
theorem trip_keep (V : Valuation τ sig (Elt F)) (r : Ref sig .tc) (h : r ∉ loopW) :
    afterL bodyI (after condOps V) (Proc.devRef .tc r) = V (Proc.devRef .tc r) := by
  simp only [loopW, List.mem_append, not_or] at h
  obtain ⟨⟨⟨⟨hc, h0⟩, h1⟩, h2⟩, h3⟩ := h
  simp only [afterL_cons, afterL_nil]
  rw [after_of_writes_sub stepOps _ stepOps_writes h3, after_of_writes_sub putOps _ putOps_writes h2,
    after_of_writes_sub cellOps _ cellOps_writes h1, after_of_writes_sub rowOps _ rowOps_writes h0,
    after_of_writes_sub condOps _ condOps_writes hc]

/-- The condition leaves alone what it does not write. -/
theorem cond_keep (V : Valuation τ sig (Elt F)) (r : Ref sig .tc) (h : r ∉ condOps_W) : after condOps V (Proc.devRef .tc r) = V (Proc.devRef .tc r) :=
  after_of_writes_sub condOps V condOps_writes h

/-! ## The loop's trips, from any start -/

section
variable (W₀ : Dev nD → Valuation τ sig (Elt F))

/-- Every buffer's contents before the `k`-th run of the condition, counted from 0. -/
abbrev atK (k : ℕ) (c : Dev nD) : Valuation τ sig (Elt F) := atTrip condOps bodyI W₀ k c

/-- Every buffer's contents when the loop has ended. -/
abbrev left (c : Dev nD) : Valuation τ sig (Elt F) := after condOps (atK W₀ 128 c)

/-- Any number of trips leaves alone what a trip does not write. -/
theorem atK_keep (c : Dev nD) (r : Ref sig .tc) (h : r ∉ loopW) : ∀ k, atK W₀ k c (Proc.devRef .tc r) = W₀ c (Proc.devRef .tc r)
  | 0 => rfl
  | k + 1 => by
    rw [show atK W₀ (k + 1) c = afterL bodyI (after condOps (atK W₀ k c)) from rfl, trip_keep _ r h, atK_keep c r h k]

/-- So does the whole loop. -/
theorem left_keep (c : Dev nD) (r : Ref sig .tc) (h : r ∉ loopW) : left W₀ c (Proc.devRef .tc r) = W₀ c (Proc.devRef .tc r) := by
  have hc : r ∉ condOps_W := by simp only [loopW, List.mem_append, not_or] at h; exact h.1.1.1.1
  rw [show left W₀ c = after condOps (atK W₀ 128 c) from rfl, cond_keep _ r hc, atK_keep W₀ c r h]

set_option maxRecDepth 100000 in
/-- The last stretch leaves the counter one step on. -/
theorem ctr_step (X : Valuation τ sig (Elt F)) :
    after stepOps X (Proc.devRef .tc main_v10_7) = addi (X (Proc.devRef .tc main_v10_7)) (constantI S_ 32 1#32) := by
  after_results
  rfl

/-- Before the `k`-th condition the counter is at `k`. -/
theorem atK_ctr (c : Dev nD) (h0 : W₀ c (Proc.devRef .tc main_v10_7) = fun _ => (0#32 : BitVec 32)) : ∀ k, atK W₀ k c (Proc.devRef .tc main_v10_7) = fun _ => Scf.iv 0#32 1#32 k
  | 0 => by rw [show atK W₀ 0 c = W₀ c from rfl, h0, Scf.iv_zero]
  | k + 1 => by
    rw [show atK W₀ (k + 1) c = afterL bodyI (after condOps (atK W₀ k c)) from rfl]
    simp only [afterL_cons, afterL_nil]
    rw [ctr_step, after_of_writes_sub putOps _ putOps_writes (by decide +kernel), after_of_writes_sub cellOps _ cellOps_writes (by decide +kernel),
      after_of_writes_sub rowOps _ rowOps_writes (by decide +kernel), cond_keep _ main_v10_7 (by decide +kernel), atK_ctr c h0 k, Scf.iv_succ]
    rfl

-- the rules below are stated for any thread; at the core's thread they unify only when unification may unfold plain
-- definitions in a metavariable's type
set_option backward.isDefEq.respectTransparency.types false in
/-- The condition holds exactly before the first 128 trips, whatever is carried beside the buffers. -/
theorem cond_spec (h0 : ∀ c, W₀ c (Proc.devRef .tc main_v10_7) = fun _ => (0#32 : BitVec 32)) (Rc : Dev nD → sProp (MT nD τ sig Unit (Elt F) ℕ (Option PUnit) ℕ)) :
    LoopCond (pcfgs (F := F)) defs₀ Variants.none loops Rc (main_while0_cond (F := F)) condOps bodyI W₀ 128 := by
  intro k hk c bd
  have hctr := atK_ctr W₀ c (h0 c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v10_7 HostLoop.idx0)
        (HloOp.result _ (atK W₀ k c) main_while0c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

end

/-! ## One trip's values -/

section
variable (V : Valuation τ sig (Elt F))

/-- The weights among the carried buffers. -/
def wts : Weights F :=
  ⟨V (Proc.devRef .tc main_v10_1), V (Proc.devRef .tc main_v10_2), V (Proc.devRef .tc main_v10_3), V (Proc.devRef .tc main_v10_4), V (Proc.devRef .tc main_v10_5), V (Proc.devRef .tc main_v10_6)⟩

/-- `n` of the cell's operations from the `i`-th on. -/
abbrev win (i n : ℕ) : List (HloOp τ sig (Elt F)) := (cellOps.drop i).take n

set_option maxRecDepth 100000 in
/-- They leave alone what none of them writes. -/
theorem win_keep (i n : ℕ) {r : Ref sig .tc} (h : r ∉ (cellOps_W.drop i).take n) :
    after (win i n) V (Proc.devRef .tc r) = V (Proc.devRef .tc r) := by
  refine after_unwritten ((cellOps_W.drop i).take n) ?_ h V
  have e : (cellOps : List (HloOp τ sig (Elt F))).map HloOp.writes = cellOps_W.map fun w => {Proc.devRef (τ := τ) .tc w} := rfl
  rw [List.map_take, List.map_drop, e, List.map_take, List.map_drop]

/-- The cell leaves alone what it does not write. -/
theorem win_keep_all (i n : ℕ) {r : Ref sig .tc} (h : r ∉ cellOps_W) : after (win i n) V (Proc.devRef .tc r) = V (Proc.devRef .tc r) :=
  win_keep V i n fun h' => h (List.mem_of_mem_drop (List.mem_of_mem_take h'))

set_option maxRecDepth 100000 in
/-- The cell's operations: the modulated input, the gates, the carry, the hidden state. -/
theorem cell_cut : (cellOps : List (HloOp τ sig (Elt F))) = win 0 13 ++ (win 13 22 ++ (win 35 24 ++ win 59 10)) := rfl

set_option maxRecDepth 100000 in
/-- The modulated input. -/
theorem modX_read : after (win 0 13) V (Proc.devRef .tc main_while0b_v36) = modX (wts V) (V (Proc.devRef .tc main_while0b_v26)) (V (Proc.devRef .tc main_v10_8)) := by
  after_reads_simp
  rfl

set_option maxRecDepth 100000 in
/-- The gates. -/
theorem gates_read : after (win 13 22) V (Proc.devRef .tc main_while0b_v55) = gatesOf (wts V) (V (Proc.devRef .tc main_while0b_v36)) (V (Proc.devRef .tc main_v10_8)) := by
  after_reads_simp
  rfl

set_option maxRecDepth 100000 in
/-- The carry. -/
theorem carry_read : after (win 35 24) V (Proc.devRef .tc main_while0b_v75) = carryOf (V (Proc.devRef .tc main_while0b_v55)) (V (Proc.devRef .tc main_v10_9)) := by
  after_reads_simp
  rfl

set_option maxRecDepth 100000 in
/-- The output gate. -/
theorem slice3_read : after (win 35 24) V (Proc.devRef .tc main_while0b_v59) = extractStridedSlice S512x256 ![0, 768] (V (Proc.devRef .tc main_while0b_v55)) slices_S512x1024_S512x256_0_768 := by
  after_reads_simp
  try rfl

set_option maxRecDepth 100000 in
/-- The hidden state. -/
theorem hid_read : after (win 59 10) V (Proc.devRef .tc main_while0b_v83)
    = mulf (sigm bcast_S_S512x256 (V (Proc.devRef .tc main_while0b_v59))) (Host.tanh (V (Proc.devRef .tc main_while0b_v75) : FVec F S512x256 .f32)) := by
  after_reads_simp
  rfl

set_option maxRecDepth 100000 in
/-- The step's row. -/
theorem row_read : after rowOps V (Proc.devRef .tc main_while0b_v26) = rowAt (V (Proc.devRef .tc main_v10_0)) (V (Proc.devRef .tc main_v10_7)) := by
  after_results_entrywise [cast_eq]

set_option maxRecDepth 100000 in
/-- The outputs with the step's row filled. -/
theorem put_read : after putOps V (Proc.devRef .tc main_while0b_v84) = putRow (V (Proc.devRef .tc main_v10_10)) (V (Proc.devRef .tc main_v10_7)) (V (Proc.devRef .tc main_while0b_v83)) := by
  after_results_entrywise [cast_eq]

set_option maxRecDepth 100000 in
/-- The last stretch copies what the trip made into the carried buffers. -/
theorem copies : after stepOps V (Proc.devRef .tc main_v10_8) = V (Proc.devRef .tc main_while0b_v83)
    ∧ after stepOps V (Proc.devRef .tc main_v10_9) = V (Proc.devRef .tc main_while0b_v75)
    ∧ after stepOps V (Proc.devRef .tc main_v10_10) = V (Proc.devRef .tc main_while0b_v84) := by
  refine ⟨?_, ?_, ?_⟩ <;> (after_results; try rfl)

/-- The weights stay through the cell, -/
theorem wts_win (i n : ℕ) : wts (after (win i n) V) = wts V := by
  unfold wts
  rw [win_keep_all V i n (by decide +kernel), win_keep_all V i n (by decide +kernel), win_keep_all V i n (by decide +kernel),
    win_keep_all V i n (by decide +kernel), win_keep_all V i n (by decide +kernel), win_keep_all V i n (by decide +kernel)]

/-- What the row's operations do not write. -/
theorem row_keep {r : Ref sig .tc} (h : r ∉ rowOps_W) : after rowOps V (Proc.devRef .tc r) = V (Proc.devRef .tc r) :=
  after_of_writes_sub rowOps V rowOps_writes h

/-- and through the row's operations. -/
theorem wts_row : wts (after rowOps V) = wts V := by
  unfold wts
  rw [row_keep V (by decide +kernel), row_keep V (by decide +kernel), row_keep V (by decide +kernel), row_keep V (by decide +kernel),
    row_keep V (by decide +kernel), row_keep V (by decide +kernel)]

/-- The carry the cell leaves. -/
theorem cell_c : after cellOps V (Proc.devRef .tc main_while0b_v75)
    = nextC (wts V) (V (Proc.devRef .tc main_while0b_v26)) (V (Proc.devRef .tc main_v10_8)) (V (Proc.devRef .tc main_v10_9)) := by
  rw [cell_cut]
  simp only [after_append]
  rw [win_keep _ 59 10 (by decide +kernel), carry_read, gates_read, modX_read, wts_win, win_keep_all _ 13 22 (r := main_v10_9) (by decide +kernel),
    win_keep_all _ 0 13 (r := main_v10_9) (by decide +kernel), win_keep_all _ 0 13 (r := main_v10_8) (by decide +kernel)]
  rfl

/-- The hidden state the cell leaves. -/
theorem cell_h : after cellOps V (Proc.devRef .tc main_while0b_v83)
    = nextH (wts V) (V (Proc.devRef .tc main_while0b_v26)) (V (Proc.devRef .tc main_v10_8)) (V (Proc.devRef .tc main_v10_9)) := by
  rw [cell_cut]
  simp only [after_append]
  rw [hid_read, slice3_read, carry_read, gates_read, modX_read, wts_win, win_keep_all _ 13 22 (r := main_v10_9) (by decide +kernel),
    win_keep_all _ 0 13 (r := main_v10_9) (by decide +kernel), win_keep_all _ 0 13 (r := main_v10_8) (by decide +kernel)]
  rfl

/-- The hidden state a trip leaves. -/
theorem trip_h : afterL bodyI V (Proc.devRef .tc main_v10_8)
    = nextH (wts V) (rowAt (V (Proc.devRef .tc main_v10_0)) (V (Proc.devRef .tc main_v10_7))) (V (Proc.devRef .tc main_v10_8)) (V (Proc.devRef .tc main_v10_9)) := by
  simp only [afterL_cons, afterL_nil]
  rw [(copies _).1, after_of_writes_sub putOps _ putOps_writes (by decide +kernel),
    cell_h, wts_row, row_read, row_keep V (r := main_v10_8) (by decide +kernel), row_keep V (r := main_v10_9) (by decide +kernel)]

/-- The carry a trip leaves. -/
theorem trip_c : afterL bodyI V (Proc.devRef .tc main_v10_9)
    = nextC (wts V) (rowAt (V (Proc.devRef .tc main_v10_0)) (V (Proc.devRef .tc main_v10_7))) (V (Proc.devRef .tc main_v10_8)) (V (Proc.devRef .tc main_v10_9)) := by
  simp only [afterL_cons, afterL_nil]
  rw [(copies _).2.1, after_of_writes_sub putOps _ putOps_writes (by decide +kernel),
    cell_c, wts_row, row_read, row_keep V (r := main_v10_8) (by decide +kernel), row_keep V (r := main_v10_9) (by decide +kernel)]

/-- The outputs a trip leaves: the counter's row is the state the trip leaves. -/
theorem trip_o : afterL bodyI V (Proc.devRef .tc main_v10_10)
    = putRow (V (Proc.devRef .tc main_v10_10)) (V (Proc.devRef .tc main_v10_7)) (afterL bodyI V (Proc.devRef .tc main_v10_8)) := by
  rw [trip_h]
  simp only [afterL_cons, afterL_nil]
  rw [(copies _).2.2, put_read, cell_h, wts_row, row_read,
    after_of_writes_sub cellOps _ cellOps_writes (by decide +kernel), after_of_writes_sub cellOps _ cellOps_writes (by decide +kernel),
    row_keep V (r := main_v10_8) (by decide +kernel), row_keep V (r := main_v10_9) (by decide +kernel),
    row_keep V (r := main_v10_10) (by decide +kernel), row_keep V (r := main_v10_7) (by decide +kernel)]

end

/-! ## What the loop leaves, in extended-real arithmetic -/

section
variable (W₀ : Dev nD → Valuation τ sig (Elt Ideal)) (c : Dev nD)

/-- The weights stay. -/
theorem wts_keep (k : ℕ) : wts (after condOps (atK W₀ k c)) = wts (W₀ c) := by
  unfold wts
  rw [cond_keep _ main_v10_1 (by decide +kernel), cond_keep _ main_v10_2 (by decide +kernel), cond_keep _ main_v10_3 (by decide +kernel),
    cond_keep _ main_v10_4 (by decide +kernel), cond_keep _ main_v10_5 (by decide +kernel), cond_keep _ main_v10_6 (by decide +kernel),
    atK_keep W₀ c main_v10_1 (by decide +kernel), atK_keep W₀ c main_v10_2 (by decide +kernel), atK_keep W₀ c main_v10_3 (by decide +kernel),
    atK_keep W₀ c main_v10_4 (by decide +kernel), atK_keep W₀ c main_v10_5 (by decide +kernel), atK_keep W₀ c main_v10_6 (by decide +kernel)]

/-- The direction's states. -/
abbrev st (k : ℕ) := states (wts (W₀ c)) (fun s => rowAt (W₀ c (Proc.devRef .tc main_v10_0)) (ctr s)) k

/-- The loop starts at counter zero with both states zero. -/
structure Start : Prop where
  ctr : W₀ c (Proc.devRef .tc main_v10_7) = fun _ => (0#32 : BitVec 32)
  h : W₀ c (Proc.devRef .tc main_v10_8) = (st W₀ c 0).1
  c : W₀ c (Proc.devRef .tc main_v10_9) = (st W₀ c 0).2

/-- One more trip. -/
theorem succ_eq (k : ℕ) (r : Ref sig .tc) : atK W₀ (k + 1) c (Proc.devRef .tc r) = afterL bodyI (after condOps (atK W₀ k c)) (Proc.devRef .tc r) := rfl

variable {W₀ c}

/-- The carried states before trip `k`. -/
theorem at_states (hs : Start W₀ c) (k : ℕ) : atK W₀ k c (Proc.devRef .tc main_v10_8) = (st W₀ c k).1 ∧ atK W₀ k c (Proc.devRef .tc main_v10_9) = (st W₀ c k).2 := by
  induction k with
  | zero => exact ⟨hs.h, hs.c⟩
  | succ k ih =>
    obtain ⟨h1, h2⟩ := ih
    have k1 := cond_keep (atK W₀ k c) main_v10_8 (by decide +kernel)
    have k2 := cond_keep (atK W₀ k c) main_v10_9 (by decide +kernel)
    have kc := (cond_keep (atK W₀ k c) main_v10_7 (by decide +kernel)).trans (atK_ctr W₀ c hs.ctr k)
    have kx := (cond_keep (atK W₀ k c) main_v10_0 (by decide +kernel)).trans (atK_keep W₀ c main_v10_0 (by decide +kernel) k)
    constructor
    · rw [succ_eq, trip_h, wts_keep, k1, k2, kc, kx]
      exact congrArg₂ (nextH _ _) h1 h2
    · rw [succ_eq, trip_c, wts_keep, k1, k2, kc, kx]
      exact congrArg₂ (nextC _ _) h1 h2

/-- The outputs of the trips before trip `k`. -/
theorem at_outs (hs : Start W₀ c) (k : ℕ) (hk : k ≤ 128) (t : Fin 128) (ht : t.val < k) (i : Fin 512) (j : Fin 256) :
    (atK W₀ k c (Proc.devRef .tc main_v10_10) : FVec Ideal S128x512x256 .f32) (ix3 t i j) = (st W₀ c (t.val + 1)).1 (ix2 i j) := by
  induction k with
  | zero => omega
  | succ k ih =>
    obtain ⟨h1, h2⟩ := at_states hs (k + 1)
    have kc := (cond_keep (atK W₀ k c) main_v10_7 (by decide +kernel)).trans (atK_ctr W₀ c hs.ctr k)
    have k1 := cond_keep (atK W₀ k c) main_v10_10 (by decide +kernel)
    rw [succ_eq] at h1
    rw [succ_eq, trip_o, kc, k1, h1]
    refine (putRow_ctr _ k (by omega) _ t i j).trans ?_
    by_cases htk : t.val = k
    · rw [if_pos htk, htk]
    · rw [if_neg htk]; exact ih (by omega) (by omega)

/-- The outputs the loop leaves: at step `t` the hidden state after `t + 1` steps. -/
theorem left_outs (hs : Start W₀ c) (t : Fin 128) (i : Fin 512) (j : Fin 256) :
    (left W₀ c (Proc.devRef .tc main_v10_10) : FVec Ideal S128x512x256 .f32) (ix3 t i j) = (st W₀ c (t.val + 1)).1 (ix2 i j) := by
  rw [show left W₀ c = after condOps (atK W₀ 128 c) from rfl, cond_keep _ main_v10_10 (by decide +kernel)]
  exact at_outs hs 128 le_rfl t t.isLt i j

end

end Cert.ReferenceIdeal.Fwd
-- ==== Proof.RefBwd.lean ====
/- The reference's backward loop: its operations, one trip as a function of the carried buffers, and what it leaves. -/
module

public import proofs.«01_k».proof.Proof.RefMove

@[expose] public section

set_option maxRecDepth 8192

noncomputable section

namespace Cert.ReferenceIdeal.Bwd

open Cert.ReferenceIdeal Cert.ReferenceIdeal.Gen Cert.ReferenceIdeal.Run
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The operations -/

/-- The step's row, the one the counter names. -/
abbrev rowOps : List (HloOp τ sig (Elt F)) :=
  [ StableHlo.TRef.nullary (.of main_while1b_call2_c : StableHlo.TRef sig ⟨S_, .i32⟩) (constantI S_ 32 0#32),
    StableHlo.TRef.nullary (.of main_while1b_call2_c_0 : StableHlo.TRef sig ⟨S_, .i32⟩) (constantI S_ 32 0#32),
    StableHlo.TRef.unaryIndexed (.of main_v14_0 : StableHlo.TRef sig ⟨S128x512x100, .f32⟩) ![(.of main_v14_7 : StableHlo.TRef sig ⟨S_, .i32⟩), (.of main_while1b_call2_c : StableHlo.TRef sig ⟨S_, .i32⟩), (.of main_while1b_call2_c_0 : StableHlo.TRef sig ⟨S_, .i32⟩)] (.of main_while1b_call2_v0 : StableHlo.TRef sig ⟨S1x512x100, .f32⟩) (fun x i => Host.dynamicSlice S1x512x100 x (fun k => (i k (Shape.Idx.first h_S_)).toInt) sliceFits_S128x512x100_S1x512x100),
    StableHlo.TRef.reshape (.of main_while1b_call2_v0 : StableHlo.TRef sig ⟨S1x512x100, .f32⟩) (.of main_while1b_v26 : StableHlo.TRef sig ⟨S512x100, .f32⟩) (rfl : (.f32 : EltTy) = .f32) shapeCasts_S1x512x100_S512x100 ]
/-- They touch the core's references only, -/
theorem rowOps_sub : (rowOps : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- allocate nothing, -/
theorem rowOps_fresh : (rowOps : List (HloOp τ sig (Elt F))).Forall fun op => op.fresh = ∅ :=
  StableHlo.forall_fresh_of_map rfl
/-- and write these, in order. -/
abbrev rowOps_W : List (Ref sig .tc) := [main_while1b_call2_c, main_while1b_call2_c_0, main_while1b_call2_v0, main_while1b_v26]
theorem rowOps_writes : (rowOps : List (HloOp τ sig (Elt F))).Forall fun op => op.writes ⊆ (rowOps_W.map (Proc.devRef (τ := τ) .tc)).toFinset :=
  StableHlo.forall_writes_sub_of_map rfl

set_option maxHeartbeats 40000000 in
/-- The cell, operation by operation. -/
abbrev cellOps : List (HloOp τ sig (Elt F)) :=
  ( StableHlo.binary main_v14_8 main_v14_1 main_while1b_v27 ((fun l r => Host.dotGeneral dot_S512x256_S256x100_S512x100_1_0_0_1_n_n none l r) : (⟨S512x256, .f32⟩ : BufTy).Contents (Elt F) → (⟨S256x100, .f32⟩ : BufTy).Contents (Elt F) → (⟨S512x100, .f32⟩ : BufTy).Contents (Elt F))
  :: StableHlo.unary main_while1b_v27 main_while1b_v28 (Host.negf : (⟨S512x100, .f32⟩ : BufTy).Contents (Elt F) → (⟨S512x100, .f32⟩ : BufTy).Contents (Elt F))
  :: StableHlo.unary main_while1b_v28 main_while1b_v29 (Host.exp : (⟨S512x100, .f32⟩ : BufTy).Contents (Elt F) → (⟨S512x100, .f32⟩ : BufTy).Contents (Elt F))
  :: StableHlo.nullary main_while1b_cst_16 (constant S_ .f32 0x3F800000#32)
  :: StableHlo.unary main_while1b_cst_16 main_while1b_v30 (broadcastInDim S512x100 ![] bcast_S_S512x100 : (⟨S_, .f32⟩ : BufTy).Contents (Elt F) → (⟨S512x100, .f32⟩ : BufTy).Contents (Elt F))
  :: StableHlo.binary main_while1b_v30 main_while1b_v29 main_while1b_v31 (addf : (⟨S512x100, .f32⟩ : BufTy).Contents (Elt F) → (⟨S512x100, .f32⟩ : BufTy).Contents (Elt F) → (⟨S512x100, .f32⟩ : BufTy).Contents (Elt F))
  :: StableHlo.nullary main_while1b_cst_17 (constant S_ .f32 0x3F800000#32)
  :: StableHlo.unary main_while1b_cst_17 main_while1b_v32 (broadcastInDim S512x100 ![] bcast_S_S512x100 : (⟨S_, .f32⟩ : BufTy).Contents (Elt F) → (⟨S512x100, .f32⟩ : BufTy).Contents (Elt F))
  :: StableHlo.binary main_while1b_v32 main_while1b_v31 main_while1b_v33 (Host.divf : (⟨S512x100, .f32⟩ : BufTy).Contents (Elt F) → (⟨S512x100, .f32⟩ : BufTy).Contents (Elt F) → (⟨S512x100, .f32⟩ : BufTy).Contents (Elt F))
  :: StableHlo.nullary main_while1b_cst_18 (constant S_ .f32 0x40000000#32)
  :: StableHlo.unary main_while1b_cst_18 main_while1b_v34 (broadcastInDim S512x100 ![] bcast_S_S512x100 : (⟨S_, .f32⟩ : BufTy).Contents (Elt F) → (⟨S512x100, .f32⟩ : BufTy).Contents (Elt F))
  :: StableHlo.binary main_while1b_v34 main_while1b_v33 main_while1b_v35 (mulf : (⟨S512x100, .f32⟩ : BufTy).Contents (Elt F) → (⟨S512x100, .f32⟩ : BufTy).Contents (Elt F) → (⟨S512x100, .f32⟩ : BufTy).Contents (Elt F))
  :: StableHlo.binary main_while1b_v35 main_while1b_v26 main_while1b_v36 (mulf : (⟨S512x100, .f32⟩ : BufTy).Contents (Elt F) → (⟨S512x100, .f32⟩ : BufTy).Contents (Elt F) → (⟨S512x100, .f32⟩ : BufTy).Contents (Elt F))
  :: StableHlo.binary main_while1b_v36 main_v14_2 main_while1b_v37 ((fun l r => Host.dotGeneral dot_S512x100_S100x256_S512x256_1_0_0_1_n_n none l r) : (⟨S512x100, .f32⟩ : BufTy).Contents (Elt F) → (⟨S100x256, .f32⟩ : BufTy).Contents (Elt F) → (⟨S512x256, .f32⟩ : BufTy).Contents (Elt F))
  :: StableHlo.unary main_while1b_v37 main_while1b_v38 (Host.negf : (⟨S512x256, .f32⟩ : BufTy).Contents (Elt F) → (⟨S512x256, .f32⟩ : BufTy).Contents (Elt F))
  :: StableHlo.unary main_while1b_v38 main_while1b_v39 (Host.exp : (⟨S512x256, .f32⟩ : BufTy).Contents (Elt F) → (⟨S512x256, .f32⟩ : BufTy).Contents (Elt F))
  :: StableHlo.nullary main_while1b_cst_19 (constant S_ .f32 0x3F800000#32)
  :: StableHlo.unary main_while1b_cst_19 main_while1b_v40 (broadcastInDim S512x256 ![] bcast_S_S512x256 : (⟨S_, .f32⟩ : BufTy).Contents (Elt F) → (⟨S512x256, .f32⟩ : BufTy).Contents (Elt F))
  :: StableHlo.binary main_while1b_v40 main_while1b_v39 main_while1b_v41 (addf : (⟨S512x256, .f32⟩ : BufTy).Contents (Elt F) → (⟨S512x256, .f32⟩ : BufTy).Contents (Elt F) → (⟨S512x256, .f32⟩ : BufTy).Contents (Elt F))
  :: StableHlo.nullary main_while1b_cst_20 (constant S_ .f32 0x3F800000#32)
  :: StableHlo.unary main_while1b_cst_20 main_while1b_v42 (broadcastInDim S512x256 ![] bcast_S_S512x256 : (⟨S_, .f32⟩ : BufTy).Contents (Elt F) → (⟨S512x256, .f32⟩ : BufTy).Contents (Elt F))
  :: StableHlo.binary main_while1b_v42 main_while1b_v41 main_while1b_v43 (Host.divf : (⟨S512x256, .f32⟩ : BufTy).Contents (Elt F) → (⟨S512x256, .f32⟩ : BufTy).Contents (Elt F) → (⟨S512x256, .f32⟩ : BufTy).Contents (Elt F))
  :: StableHlo.nullary main_while1b_cst_21 (constant S_ .f32 0x40000000#32)
  :: StableHlo.unary main_while1b_cst_21 main_while1b_v44 (broadcastInDim S512x256 ![] bcast_S_S512x256 : (⟨S_, .f32⟩ : BufTy).Contents (Elt F) → (⟨S512x256, .f32⟩ : BufTy).Contents (Elt F))
  :: StableHlo.binary main_while1b_v44 main_while1b_v43 main_while1b_v45 (mulf : (⟨S512x256, .f32⟩ : BufTy).Contents (Elt F) → (⟨S512x256, .f32⟩ : BufTy).Contents (Elt F) → (⟨S512x256, .f32⟩ : BufTy).Contents (Elt F))
  :: StableHlo.binary main_while1b_v45 main_v14_8 main_while1b_v46 (mulf : (⟨S512x256, .f32⟩ : BufTy).Contents (Elt F) → (⟨S512x256, .f32⟩ : BufTy).Contents (Elt F) → (⟨S512x256, .f32⟩ : BufTy).Contents (Elt F))
  :: StableHlo.unary main_v14_3 main_while1b_v47 ((transpose S100x1024 [1, 0] · transposes_S1024x100_S100x1024_1_0) : (⟨S1024x100, .f32⟩ : BufTy).Contents (Elt F) → (⟨S100x1024, .f32⟩ : BufTy).Contents (Elt F))
  :: StableHlo.binary main_while1b_v36 main_while1b_v47 main_while1b_v48 ((fun l r => Host.dotGeneral dot_S512x100_S100x1024_S512x1024_1_0_0_1_n_n none l r) : (⟨S512x100, .f32⟩ : BufTy).Contents (Elt F) → (⟨S100x1024, .f32⟩ : BufTy).Contents (Elt F) → (⟨S512x1024, .f32⟩ : BufTy).Contents (Elt F))
  :: StableHlo.unary main_v14_4 main_while1b_v49 ((transpose S256x1024 [1, 0] · transposes_S1024x256_S256x1024_1_0) : (⟨S1024x256, .f32⟩ : BufTy).Contents (Elt F) → (⟨S256x1024, .f32⟩ : BufTy).Contents (Elt F))
  :: StableHlo.binary main_while1b_v46 main_while1b_v49 main_while1b_v50 ((fun l r => Host.dotGeneral dot_S512x256_S256x1024_S512x1024_1_0_0_1_n_n none l r) : (⟨S512x256, .f32⟩ : BufTy).Contents (Elt F) → (⟨S256x1024, .f32⟩ : BufTy).Contents (Elt F) → (⟨S512x1024, .f32⟩ : BufTy).Contents (Elt F))
  :: StableHlo.binary main_while1b_v48 main_while1b_v50 main_while1b_v51 (addf : (⟨S512x1024, .f32⟩ : BufTy).Contents (Elt F) → (⟨S512x1024, .f32⟩ : BufTy).Contents (Elt F) → (⟨S512x1024, .f32⟩ : BufTy).Contents (Elt F))
  :: StableHlo.binary main_v14_5 main_v14_6 main_while1b_v52 (addf : (⟨S1024, .f32⟩ : BufTy).Contents (Elt F) → (⟨S1024, .f32⟩ : BufTy).Contents (Elt F) → (⟨S1024, .f32⟩ : BufTy).Contents (Elt F))
  :: StableHlo.unary main_while1b_v52 main_while1b_v53 (broadcastInDim S1x1024 ![1] bcast_S1024_S1x1024_1 : (⟨S1024, .f32⟩ : BufTy).Contents (Elt F) → (⟨S1x1024, .f32⟩ : BufTy).Contents (Elt F))
  :: StableHlo.unary main_while1b_v53 main_while1b_v54 (broadcastInDim S512x1024 ![0, 1] bcast_S1x1024_S512x1024_0_1 : (⟨S1x1024, .f32⟩ : BufTy).Contents (Elt F) → (⟨S512x1024, .f32⟩ : BufTy).Contents (Elt F))
  :: StableHlo.binary main_while1b_v51 main_while1b_v54 main_while1b_v55 (addf : (⟨S512x1024, .f32⟩ : BufTy).Contents (Elt F) → (⟨S512x1024, .f32⟩ : BufTy).Contents (Elt F) → (⟨S512x1024, .f32⟩ : BufTy).Contents (Elt F))
  :: StableHlo.unary main_while1b_v55 main_while1b_v56 ((extractStridedSlice S512x256 ![0, 0] · slices_S512x1024_S512x256_0_0) : (⟨S512x1024, .f32⟩ : BufTy).Contents (Elt F) → (⟨S512x256, .f32⟩ : BufTy).Contents (Elt F))
  :: StableHlo.unary main_while1b_v55 main_while1b_v57 ((extractStridedSlice S512x256 ![0, 256] · slices_S512x1024_S512x256_0_256) : (⟨S512x1024, .f32⟩ : BufTy).Contents (Elt F) → (⟨S512x256, .f32⟩ : BufTy).Contents (Elt F))
  :: StableHlo.unary main_while1b_v55 main_while1b_v58 ((extractStridedSlice S512x256 ![0, 512] · slices_S512x1024_S512x256_0_512) : (⟨S512x1024, .f32⟩ : BufTy).Contents (Elt F) → (⟨S512x256, .f32⟩ : BufTy).Contents (Elt F))
  :: StableHlo.unary main_while1b_v55 main_while1b_v59 ((extractStridedSlice S512x256 ![0, 768] · slices_S512x1024_S512x256_0_768) : (⟨S512x1024, .f32⟩ : BufTy).Contents (Elt F) → (⟨S512x256, .f32⟩ : BufTy).Contents (Elt F))
  :: StableHlo.unary main_while1b_v57 main_while1b_v60 (Host.negf : (⟨S512x256, .f32⟩ : BufTy).Contents (Elt F) → (⟨S512x256, .f32⟩ : BufTy).Contents (Elt F))
  :: StableHlo.unary main_while1b_v60 main_while1b_v61 (Host.exp : (⟨S512x256, .f32⟩ : BufTy).Contents (Elt F) → (⟨S512x256, .f32⟩ : BufTy).Contents (Elt F))
  :: StableHlo.nullary main_while1b_cst_22 (constant S_ .f32 0x3F800000#32)
  :: StableHlo.unary main_while1b_cst_22 main_while1b_v62 (broadcastInDim S512x256 ![] bcast_S_S512x256 : (⟨S_, .f32⟩ : BufTy).Contents (Elt F) → (⟨S512x256, .f32⟩ : BufTy).Contents (Elt F))
  :: StableHlo.binary main_while1b_v62 main_while1b_v61 main_while1b_v63 (addf : (⟨S512x256, .f32⟩ : BufTy).Contents (Elt F) → (⟨S512x256, .f32⟩ : BufTy).Contents (Elt F) → (⟨S512x256, .f32⟩ : BufTy).Contents (Elt F))
  :: StableHlo.nullary main_while1b_cst_23 (constant S_ .f32 0x3F800000#32)
  :: StableHlo.unary main_while1b_cst_23 main_while1b_v64 (broadcastInDim S512x256 ![] bcast_S_S512x256 : (⟨S_, .f32⟩ : BufTy).Contents (Elt F) → (⟨S512x256, .f32⟩ : BufTy).Contents (Elt F))
  :: StableHlo.binary main_while1b_v64 main_while1b_v63 main_while1b_v65 (Host.divf : (⟨S512x256, .f32⟩ : BufTy).Contents (Elt F) → (⟨S512x256, .f32⟩ : BufTy).Contents (Elt F) → (⟨S512x256, .f32⟩ : BufTy).Contents (Elt F))
  :: StableHlo.binary main_while1b_v65 main_v14_9 main_while1b_v66 (mulf : (⟨S512x256, .f32⟩ : BufTy).Contents (Elt F) → (⟨S512x256, .f32⟩ : BufTy).Contents (Elt F) → (⟨S512x256, .f32⟩ : BufTy).Contents (Elt F))
  :: StableHlo.unary main_while1b_v56 main_while1b_v67 (Host.negf : (⟨S512x256, .f32⟩ : BufTy).Contents (Elt F) → (⟨S512x256, .f32⟩ : BufTy).Contents (Elt F))
  :: StableHlo.unary main_while1b_v67 main_while1b_v68 (Host.exp : (⟨S512x256, .f32⟩ : BufTy).Contents (Elt F) → (⟨S512x256, .f32⟩ : BufTy).Contents (Elt F))
  :: StableHlo.nullary main_while1b_cst_24 (constant S_ .f32 0x3F800000#32)
  :: StableHlo.unary main_while1b_cst_24 main_while1b_v69 (broadcastInDim S512x256 ![] bcast_S_S512x256 : (⟨S_, .f32⟩ : BufTy).Contents (Elt F) → (⟨S512x256, .f32⟩ : BufTy).Contents (Elt F))
  :: StableHlo.binary main_while1b_v69 main_while1b_v68 main_while1b_v70 (addf : (⟨S512x256, .f32⟩ : BufTy).Contents (Elt F) → (⟨S512x256, .f32⟩ : BufTy).Contents (Elt F) → (⟨S512x256, .f32⟩ : BufTy).Contents (Elt F))
  :: StableHlo.nullary main_while1b_cst_25 (constant S_ .f32 0x3F800000#32)
  :: StableHlo.unary main_while1b_cst_25 main_while1b_v71 (broadcastInDim S512x256 ![] bcast_S_S512x256 : (⟨S_, .f32⟩ : BufTy).Contents (Elt F) → (⟨S512x256, .f32⟩ : BufTy).Contents (Elt F))
  :: StableHlo.binary main_while1b_v71 main_while1b_v70 main_while1b_v72 (Host.divf : (⟨S512x256, .f32⟩ : BufTy).Contents (Elt F) → (⟨S512x256, .f32⟩ : BufTy).Contents (Elt F) → (⟨S512x256, .f32⟩ : BufTy).Contents (Elt F))
  :: StableHlo.unary main_while1b_v58 main_while1b_v73 (Host.tanh : (⟨S512x256, .f32⟩ : BufTy).Contents (Elt F) → (⟨S512x256, .f32⟩ : BufTy).Contents (Elt F))
  :: StableHlo.binary main_while1b_v72 main_while1b_v73 main_while1b_v74 (mulf : (⟨S512x256, .f32⟩ : BufTy).Contents (Elt F) → (⟨S512x256, .f32⟩ : BufTy).Contents (Elt F) → (⟨S512x256, .f32⟩ : BufTy).Contents (Elt F))
  :: StableHlo.binary main_while1b_v66 main_while1b_v74 main_while1b_v75 (addf : (⟨S512x256, .f32⟩ : BufTy).Contents (Elt F) → (⟨S512x256, .f32⟩ : BufTy).Contents (Elt F) → (⟨S512x256, .f32⟩ : BufTy).Contents (Elt F))
  :: StableHlo.unary main_while1b_v59 main_while1b_v76 (Host.negf : (⟨S512x256, .f32⟩ : BufTy).Contents (Elt F) → (⟨S512x256, .f32⟩ : BufTy).Contents (Elt F))
  :: StableHlo.unary main_while1b_v76 main_while1b_v77 (Host.exp : (⟨S512x256, .f32⟩ : BufTy).Contents (Elt F) → (⟨S512x256, .f32⟩ : BufTy).Contents (Elt F))
  :: StableHlo.nullary main_while1b_cst_26 (constant S_ .f32 0x3F800000#32)
  :: StableHlo.unary main_while1b_cst_26 main_while1b_v78 (broadcastInDim S512x256 ![] bcast_S_S512x256 : (⟨S_, .f32⟩ : BufTy).Contents (Elt F) → (⟨S512x256, .f32⟩ : BufTy).Contents (Elt F))
  :: StableHlo.binary main_while1b_v78 main_while1b_v77 main_while1b_v79 (addf : (⟨S512x256, .f32⟩ : BufTy).Contents (Elt F) → (⟨S512x256, .f32⟩ : BufTy).Contents (Elt F) → (⟨S512x256, .f32⟩ : BufTy).Contents (Elt F))
  :: StableHlo.nullary main_while1b_cst_27 (constant S_ .f32 0x3F800000#32)
  :: StableHlo.unary main_while1b_cst_27 main_while1b_v80 (broadcastInDim S512x256 ![] bcast_S_S512x256 : (⟨S_, .f32⟩ : BufTy).Contents (Elt F) → (⟨S512x256, .f32⟩ : BufTy).Contents (Elt F))
  :: StableHlo.binary main_while1b_v80 main_while1b_v79 main_while1b_v81 (Host.divf : (⟨S512x256, .f32⟩ : BufTy).Contents (Elt F) → (⟨S512x256, .f32⟩ : BufTy).Contents (Elt F) → (⟨S512x256, .f32⟩ : BufTy).Contents (Elt F))
  :: StableHlo.unary main_while1b_v75 main_while1b_v82 (Host.tanh : (⟨S512x256, .f32⟩ : BufTy).Contents (Elt F) → (⟨S512x256, .f32⟩ : BufTy).Contents (Elt F))
  :: StableHlo.binary main_while1b_v81 main_while1b_v82 main_while1b_v83 (mulf : (⟨S512x256, .f32⟩ : BufTy).Contents (Elt F) → (⟨S512x256, .f32⟩ : BufTy).Contents (Elt F) → (⟨S512x256, .f32⟩ : BufTy).Contents (Elt F))
  :: [] )
set_option maxHeartbeats 40000000 in
/-- They touch the core's references only, -/
theorem cellOps_sub : (cellOps : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- allocate nothing, -/
theorem cellOps_fresh : (cellOps : List (HloOp τ sig (Elt F))).Forall fun op => op.fresh = ∅ :=
  StableHlo.forall_fresh_of_map rfl
/-- and write these, in order. -/
abbrev cellOps_W : List (Ref sig .tc) := [main_while1b_v27, main_while1b_v28, main_while1b_v29, main_while1b_cst_16, main_while1b_v30, main_while1b_v31, main_while1b_cst_17, main_while1b_v32, main_while1b_v33, main_while1b_cst_18, main_while1b_v34, main_while1b_v35, main_while1b_v36, main_while1b_v37, main_while1b_v38, main_while1b_v39, main_while1b_cst_19, main_while1b_v40, main_while1b_v41, main_while1b_cst_20, main_while1b_v42, main_while1b_v43, main_while1b_cst_21, main_while1b_v44, main_while1b_v45, main_while1b_v46, main_while1b_v47, main_while1b_v48, main_while1b_v49, main_while1b_v50, main_while1b_v51, main_while1b_v52, main_while1b_v53, main_while1b_v54, main_while1b_v55, main_while1b_v56, main_while1b_v57, main_while1b_v58, main_while1b_v59, main_while1b_v60, main_while1b_v61, main_while1b_cst_22, main_while1b_v62, main_while1b_v63, main_while1b_cst_23, main_while1b_v64, main_while1b_v65, main_while1b_v66, main_while1b_v67, main_while1b_v68, main_while1b_cst_24, main_while1b_v69, main_while1b_v70, main_while1b_cst_25, main_while1b_v71, main_while1b_v72, main_while1b_v73, main_while1b_v74, main_while1b_v75, main_while1b_v76, main_while1b_v77, main_while1b_cst_26, main_while1b_v78, main_while1b_v79, main_while1b_cst_27, main_while1b_v80, main_while1b_v81, main_while1b_v82, main_while1b_v83]
theorem cellOps_writes : (cellOps : List (HloOp τ sig (Elt F))).Forall fun op => op.writes ⊆ (cellOps_W.map (Proc.devRef (τ := τ) .tc)).toFinset :=
  StableHlo.forall_writes_sub_of_map rfl

/-- The new hidden state, put at the counter's row of the outputs. -/
abbrev putOps : List (HloOp τ sig (Elt F)) :=
  [ StableHlo.TRef.unary (.of main_while1b_v83 : StableHlo.TRef sig ⟨S512x256, .f32⟩) (.of main_while1b_call3_v0 : StableHlo.TRef sig ⟨S1x512x256, .f32⟩) (broadcastInDim S1x512x256 ![1, 2] bcast_S512x256_S1x512x256_1_2),
    StableHlo.TRef.nullary (.of main_while1b_call3_c : StableHlo.TRef sig ⟨S_, .i32⟩) (constantI S_ 32 0#32),
    StableHlo.TRef.nullary (.of main_while1b_call3_c_0 : StableHlo.TRef sig ⟨S_, .i32⟩) (constantI S_ 32 0#32),
    StableHlo.TRef.binaryIndexed (.of main_v14_10 : StableHlo.TRef sig ⟨S128x512x256, .f32⟩) (.of main_while1b_call3_v0 : StableHlo.TRef sig ⟨S1x512x256, .f32⟩) ![(.of main_v14_7 : StableHlo.TRef sig ⟨S_, .i32⟩), (.of main_while1b_call3_c : StableHlo.TRef sig ⟨S_, .i32⟩), (.of main_while1b_call3_c_0 : StableHlo.TRef sig ⟨S_, .i32⟩)] (.of main_while1b_v84 : StableHlo.TRef sig ⟨S128x512x256, .f32⟩) (fun x u i => Host.dynamicUpdateSlice x u (fun k => (i k (Shape.Idx.first h_S_)).toInt) updateFits_S128x512x256_S1x512x256) ]
/-- They touch the core's references only, -/
theorem putOps_sub : (putOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- allocate nothing, -/
theorem putOps_fresh : (putOps : List (HloOp τ sig (Elt F))).Forall fun op => op.fresh = ∅ :=
  StableHlo.forall_fresh_of_map rfl
/-- and write these, in order. -/
abbrev putOps_W : List (Ref sig .tc) := [main_while1b_call3_v0, main_while1b_call3_c, main_while1b_call3_c_0, main_while1b_v84]
theorem putOps_writes : (putOps : List (HloOp τ sig (Elt F))).Forall fun op => op.writes ⊆ (putOps_W.map (Proc.devRef (τ := τ) .tc)).toFinset :=
  StableHlo.forall_writes_sub_of_map rfl

/-- The counter one step on, and the new values carried. -/
abbrev stepOps : List (HloOp τ sig (Elt F)) :=
  [ StableHlo.nullary main_while1b_c_28 (constantI S_ 32 1#32),
    StableHlo.binary main_v14_7 main_while1b_c_28 main_while1b_v85 (addi : (⟨S_, .i32⟩ : BufTy).Contents (Elt F) → (⟨S_, .i32⟩ : BufTy).Contents (Elt F) → (⟨S_, .i32⟩ : BufTy).Contents (Elt F)),
    StableHlo.unary main_while1b_v85 main_v14_7 id,
    StableHlo.unary main_while1b_v83 main_v14_8 id,
    StableHlo.unary main_while1b_v75 main_v14_9 id,
    StableHlo.unary main_while1b_v84 main_v14_10 id ]
/-- They touch the core's references only, -/
theorem stepOps_sub : (stepOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- allocate nothing, -/
theorem stepOps_fresh : (stepOps : List (HloOp τ sig (Elt F))).Forall fun op => op.fresh = ∅ :=
  StableHlo.forall_fresh_of_map rfl
/-- and write these, in order. -/
abbrev stepOps_W : List (Ref sig .tc) := [main_while1b_c_28, main_while1b_v85, main_v14_7, main_v14_8, main_v14_9, main_v14_10]
theorem stepOps_writes : (stepOps : List (HloOp τ sig (Elt F))).Forall fun op => op.writes ⊆ (stepOps_W.map (Proc.devRef (τ := τ) .tc)).toFinset :=
  StableHlo.forall_writes_sub_of_map rfl

/-- The body's stretches. -/
abbrev bodyI : List (List (HloOp τ sig (Elt F))) := [rowOps, cellOps, putOps, stepOps]

/-- The loop's body is its stretches in order. -/
theorem body_chain : main_while1_body (F := F) = (Pipeline.chain
  [ StableHlo.seq rowOps,
    StableHlo.seq cellOps,
    StableHlo.seq putOps,
    StableHlo.seq stepOps ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, Pipeline.chain_cons, StableHlo.chain_seq_cons]
  chain_rfl

/-- None of them allocates. -/
theorem plain : Plain (bodyI (F := F)) :=
  .cons rowOps_sub (hf := List.forall_iff_forall_mem.mp rowOps_fresh) (.cons cellOps_sub (hf := List.forall_iff_forall_mem.mp cellOps_fresh)
    (.cons putOps_sub (hf := List.forall_iff_forall_mem.mp putOps_fresh) (.cons stepOps_sub (hf := List.forall_iff_forall_mem.mp stepOps_fresh) .nil)))

/-- The condition's operations: the bound, and the counter compared with it. -/
abbrev condOps : List (HloOp τ sig (Elt F)) :=
  [ StableHlo.nullary main_while1c_c_16 (constantI S_ 32 128#32),
    StableHlo.binary main_v14_7 main_while1c_c_16 main_while1c_v26 (cmpi .slt) ]
/-- They write these. -/
abbrev condOps_W : List (Ref sig .tc) := [main_while1c_c_16, main_while1c_v26]
theorem condOps_writes : (condOps : List (HloOp τ sig (Elt F))).Forall fun op => op.writes ⊆ (condOps_W.map (Proc.devRef (τ := τ) .tc)).toFinset :=
  StableHlo.forall_writes_sub_of_map rfl

/-- What a trip writes. -/
abbrev loopW : List (Ref sig .tc) := condOps_W ++ rowOps_W ++ cellOps_W ++ putOps_W ++ stepOps_W

/-- One trip leaves alone what neither the condition nor the body writes. -/
theorem trip_keep (V : Valuation τ sig (Elt F)) (r : Ref sig .tc) (h : r ∉ loopW) :
    afterL bodyI (after condOps V) (Proc.devRef .tc r) = V (Proc.devRef .tc r) := by
  simp only [loopW, List.mem_append, not_or] at h
  obtain ⟨⟨⟨⟨hc, h0⟩, h1⟩, h2⟩, h3⟩ := h
  simp only [afterL_cons, afterL_nil]
  rw [after_of_writes_sub stepOps _ stepOps_writes h3, after_of_writes_sub putOps _ putOps_writes h2,
    after_of_writes_sub cellOps _ cellOps_writes h1, after_of_writes_sub rowOps _ rowOps_writes h0,
    after_of_writes_sub condOps _ condOps_writes hc]

/-- The condition leaves alone what it does not write. -/
theorem cond_keep (V : Valuation τ sig (Elt F)) (r : Ref sig .tc) (h : r ∉ condOps_W) : after condOps V (Proc.devRef .tc r) = V (Proc.devRef .tc r) :=
  after_of_writes_sub condOps V condOps_writes h

/-! ## The loop's trips, from any start -/

section
variable (W₀ : Dev nD → Valuation τ sig (Elt F))

/-- Every buffer's contents before the `k`-th run of the condition, counted from 0. -/
abbrev atK (k : ℕ) (c : Dev nD) : Valuation τ sig (Elt F) := atTrip condOps bodyI W₀ k c

/-- Every buffer's contents when the loop has ended. -/
abbrev left (c : Dev nD) : Valuation τ sig (Elt F) := after condOps (atK W₀ 128 c)

/-- Any number of trips leaves alone what a trip does not write. -/
theorem atK_keep (c : Dev nD) (r : Ref sig .tc) (h : r ∉ loopW) : ∀ k, atK W₀ k c (Proc.devRef .tc r) = W₀ c (Proc.devRef .tc r)
  | 0 => rfl
  | k + 1 => by
    rw [show atK W₀ (k + 1) c = afterL bodyI (after condOps (atK W₀ k c)) from rfl, trip_keep _ r h, atK_keep c r h k]

/-- So does the whole loop. -/
theorem left_keep (c : Dev nD) (r : Ref sig .tc) (h : r ∉ loopW) : left W₀ c (Proc.devRef .tc r) = W₀ c (Proc.devRef .tc r) := by
  have hc : r ∉ condOps_W := by simp only [loopW, List.mem_append, not_or] at h; exact h.1.1.1.1
  rw [show left W₀ c = after condOps (atK W₀ 128 c) from rfl, cond_keep _ r hc, atK_keep W₀ c r h]

set_option maxRecDepth 100000 in
/-- The last stretch leaves the counter one step on. -/
theorem ctr_step (X : Valuation τ sig (Elt F)) :
    after stepOps X (Proc.devRef .tc main_v14_7) = addi (X (Proc.devRef .tc main_v14_7)) (constantI S_ 32 1#32) := by
  after_results
  rfl

/-- Before the `k`-th condition the counter is at `k`. -/
theorem atK_ctr (c : Dev nD) (h0 : W₀ c (Proc.devRef .tc main_v14_7) = fun _ => (0#32 : BitVec 32)) : ∀ k, atK W₀ k c (Proc.devRef .tc main_v14_7) = fun _ => Scf.iv 0#32 1#32 k
  | 0 => by rw [show atK W₀ 0 c = W₀ c from rfl, h0, Scf.iv_zero]
  | k + 1 => by
    rw [show atK W₀ (k + 1) c = afterL bodyI (after condOps (atK W₀ k c)) from rfl]
    simp only [afterL_cons, afterL_nil]
    rw [ctr_step, after_of_writes_sub putOps _ putOps_writes (by decide +kernel), after_of_writes_sub cellOps _ cellOps_writes (by decide +kernel),
      after_of_writes_sub rowOps _ rowOps_writes (by decide +kernel), cond_keep _ main_v14_7 (by decide +kernel), atK_ctr c h0 k, Scf.iv_succ]
    rfl

-- the rules below are stated for any thread; at the core's thread they unify only when unification may unfold plain
-- definitions in a metavariable's type
set_option backward.isDefEq.respectTransparency.types false in
/-- The condition holds exactly before the first 128 trips, whatever is carried beside the buffers. -/
theorem cond_spec (h0 : ∀ c, W₀ c (Proc.devRef .tc main_v14_7) = fun _ => (0#32 : BitVec 32)) (Rc : Dev nD → sProp (MT nD τ sig Unit (Elt F) ℕ (Option PUnit) ℕ)) :
    LoopCond (pcfgs (F := F)) defs₀ Variants.none loops Rc (main_while1_cond (F := F)) condOps bodyI W₀ 128 := by
  intro k hk c bd
  have hctr := atK_ctr W₀ c (h0 c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK W₀ k c) main_v14_7 HostLoop.idx0)
        (HloOp.result _ (atK W₀ k c) main_while1c_c_16 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  isplitl [Hh]
  · rw [after_cons, after_cons, after_nil]; iexact Hh
  iexact HR

end

/-! ## One trip's values -/

section
variable (V : Valuation τ sig (Elt F))

/-- The weights among the carried buffers. -/
def wts : Weights F :=
  ⟨V (Proc.devRef .tc main_v14_1), V (Proc.devRef .tc main_v14_2), V (Proc.devRef .tc main_v14_3), V (Proc.devRef .tc main_v14_4), V (Proc.devRef .tc main_v14_5), V (Proc.devRef .tc main_v14_6)⟩

/-- `n` of the cell's operations from the `i`-th on. -/
abbrev win (i n : ℕ) : List (HloOp τ sig (Elt F)) := (cellOps.drop i).take n

set_option maxRecDepth 100000 in
/-- They leave alone what none of them writes. -/
theorem win_keep (i n : ℕ) {r : Ref sig .tc} (h : r ∉ (cellOps_W.drop i).take n) :
    after (win i n) V (Proc.devRef .tc r) = V (Proc.devRef .tc r) := by
  refine after_unwritten ((cellOps_W.drop i).take n) ?_ h V
  have e : (cellOps : List (HloOp τ sig (Elt F))).map HloOp.writes = cellOps_W.map fun w => {Proc.devRef (τ := τ) .tc w} := rfl
  rw [List.map_take, List.map_drop, e, List.map_take, List.map_drop]

/-- The cell leaves alone what it does not write. -/
theorem win_keep_all (i n : ℕ) {r : Ref sig .tc} (h : r ∉ cellOps_W) : after (win i n) V (Proc.devRef .tc r) = V (Proc.devRef .tc r) :=
  win_keep V i n fun h' => h (List.mem_of_mem_drop (List.mem_of_mem_take h'))

set_option maxRecDepth 100000 in
/-- The cell's operations: the modulated input, the gates, the carry, the hidden state. -/
theorem cell_cut : (cellOps : List (HloOp τ sig (Elt F))) = win 0 13 ++ (win 13 22 ++ (win 35 24 ++ win 59 10)) := rfl

set_option maxRecDepth 100000 in
/-- The modulated input. -/
theorem modX_read : after (win 0 13) V (Proc.devRef .tc main_while1b_v36) = modX (wts V) (V (Proc.devRef .tc main_while1b_v26)) (V (Proc.devRef .tc main_v14_8)) := by
  after_reads_simp
  rfl

set_option maxRecDepth 100000 in
/-- The gates. -/
theorem gates_read : after (win 13 22) V (Proc.devRef .tc main_while1b_v55) = gatesOf (wts V) (V (Proc.devRef .tc main_while1b_v36)) (V (Proc.devRef .tc main_v14_8)) := by
  after_reads_simp
  rfl

set_option maxRecDepth 100000 in
/-- The carry. -/
theorem carry_read : after (win 35 24) V (Proc.devRef .tc main_while1b_v75) = carryOf (V (Proc.devRef .tc main_while1b_v55)) (V (Proc.devRef .tc main_v14_9)) := by
  after_reads_simp
  rfl

set_option maxRecDepth 100000 in
/-- The output gate. -/
theorem slice3_read : after (win 35 24) V (Proc.devRef .tc main_while1b_v59) = extractStridedSlice S512x256 ![0, 768] (V (Proc.devRef .tc main_while1b_v55)) slices_S512x1024_S512x256_0_768 := by
  after_reads_simp
  try rfl

set_option maxRecDepth 100000 in
/-- The hidden state. -/
theorem hid_read : after (win 59 10) V (Proc.devRef .tc main_while1b_v83)
    = mulf (sigm bcast_S_S512x256 (V (Proc.devRef .tc main_while1b_v59))) (Host.tanh (V (Proc.devRef .tc main_while1b_v75) : FVec F S512x256 .f32)) := by
  after_reads_simp
  rfl

set_option maxRecDepth 100000 in
/-- The step's row. -/
theorem row_read : after rowOps V (Proc.devRef .tc main_while1b_v26) = rowAt (V (Proc.devRef .tc main_v14_0)) (V (Proc.devRef .tc main_v14_7)) := by
  after_results_entrywise [cast_eq]

set_option maxRecDepth 100000 in
/-- The outputs with the step's row filled. -/
theorem put_read : after putOps V (Proc.devRef .tc main_while1b_v84) = putRow (V (Proc.devRef .tc main_v14_10)) (V (Proc.devRef .tc main_v14_7)) (V (Proc.devRef .tc main_while1b_v83)) := by
  after_results_entrywise [cast_eq]

set_option maxRecDepth 100000 in
/-- The last stretch copies what the trip made into the carried buffers. -/
theorem copies : after stepOps V (Proc.devRef .tc main_v14_8) = V (Proc.devRef .tc main_while1b_v83)
    ∧ after stepOps V (Proc.devRef .tc main_v14_9) = V (Proc.devRef .tc main_while1b_v75)
    ∧ after stepOps V (Proc.devRef .tc main_v14_10) = V (Proc.devRef .tc main_while1b_v84) := by
  refine ⟨?_, ?_, ?_⟩ <;> (after_results; try rfl)

/-- The weights stay through the cell, -/
theorem wts_win (i n : ℕ) : wts (after (win i n) V) = wts V := by
  unfold wts
  rw [win_keep_all V i n (by decide +kernel), win_keep_all V i n (by decide +kernel), win_keep_all V i n (by decide +kernel),
    win_keep_all V i n (by decide +kernel), win_keep_all V i n (by decide +kernel), win_keep_all V i n (by decide +kernel)]

/-- What the row's operations do not write. -/
theorem row_keep {r : Ref sig .tc} (h : r ∉ rowOps_W) : after rowOps V (Proc.devRef .tc r) = V (Proc.devRef .tc r) :=
  after_of_writes_sub rowOps V rowOps_writes h

/-- and through the row's operations. -/
theorem wts_row : wts (after rowOps V) = wts V := by
  unfold wts
  rw [row_keep V (by decide +kernel), row_keep V (by decide +kernel), row_keep V (by decide +kernel), row_keep V (by decide +kernel),
    row_keep V (by decide +kernel), row_keep V (by decide +kernel)]

/-- The carry the cell leaves. -/
theorem cell_c : after cellOps V (Proc.devRef .tc main_while1b_v75)
    = nextC (wts V) (V (Proc.devRef .tc main_while1b_v26)) (V (Proc.devRef .tc main_v14_8)) (V (Proc.devRef .tc main_v14_9)) := by
  rw [cell_cut]
  simp only [after_append]
  rw [win_keep _ 59 10 (by decide +kernel), carry_read, gates_read, modX_read, wts_win, win_keep_all _ 13 22 (r := main_v14_9) (by decide +kernel),
    win_keep_all _ 0 13 (r := main_v14_9) (by decide +kernel), win_keep_all _ 0 13 (r := main_v14_8) (by decide +kernel)]
  rfl

/-- The hidden state the cell leaves. -/
theorem cell_h : after cellOps V (Proc.devRef .tc main_while1b_v83)
    = nextH (wts V) (V (Proc.devRef .tc main_while1b_v26)) (V (Proc.devRef .tc main_v14_8)) (V (Proc.devRef .tc main_v14_9)) := by
  rw [cell_cut]
  simp only [after_append]
  rw [hid_read, slice3_read, carry_read, gates_read, modX_read, wts_win, win_keep_all _ 13 22 (r := main_v14_9) (by decide +kernel),
    win_keep_all _ 0 13 (r := main_v14_9) (by decide +kernel), win_keep_all _ 0 13 (r := main_v14_8) (by decide +kernel)]
  rfl

/-- The hidden state a trip leaves. -/
theorem trip_h : afterL bodyI V (Proc.devRef .tc main_v14_8)
    = nextH (wts V) (rowAt (V (Proc.devRef .tc main_v14_0)) (V (Proc.devRef .tc main_v14_7))) (V (Proc.devRef .tc main_v14_8)) (V (Proc.devRef .tc main_v14_9)) := by
  simp only [afterL_cons, afterL_nil]
  rw [(copies _).1, after_of_writes_sub putOps _ putOps_writes (by decide +kernel),
    cell_h, wts_row, row_read, row_keep V (r := main_v14_8) (by decide +kernel), row_keep V (r := main_v14_9) (by decide +kernel)]

/-- The carry a trip leaves. -/
theorem trip_c : afterL bodyI V (Proc.devRef .tc main_v14_9)
    = nextC (wts V) (rowAt (V (Proc.devRef .tc main_v14_0)) (V (Proc.devRef .tc main_v14_7))) (V (Proc.devRef .tc main_v14_8)) (V (Proc.devRef .tc main_v14_9)) := by
  simp only [afterL_cons, afterL_nil]
  rw [(copies _).2.1, after_of_writes_sub putOps _ putOps_writes (by decide +kernel),
    cell_c, wts_row, row_read, row_keep V (r := main_v14_8) (by decide +kernel), row_keep V (r := main_v14_9) (by decide +kernel)]

/-- The outputs a trip leaves: the counter's row is the state the trip leaves. -/
theorem trip_o : afterL bodyI V (Proc.devRef .tc main_v14_10)
    = putRow (V (Proc.devRef .tc main_v14_10)) (V (Proc.devRef .tc main_v14_7)) (afterL bodyI V (Proc.devRef .tc main_v14_8)) := by
  rw [trip_h]
  simp only [afterL_cons, afterL_nil]
  rw [(copies _).2.2, put_read, cell_h, wts_row, row_read,
    after_of_writes_sub cellOps _ cellOps_writes (by decide +kernel), after_of_writes_sub cellOps _ cellOps_writes (by decide +kernel),
    row_keep V (r := main_v14_8) (by decide +kernel), row_keep V (r := main_v14_9) (by decide +kernel),
    row_keep V (r := main_v14_10) (by decide +kernel), row_keep V (r := main_v14_7) (by decide +kernel)]

end

/-! ## What the loop leaves, in extended-real arithmetic -/

section
variable (W₀ : Dev nD → Valuation τ sig (Elt Ideal)) (c : Dev nD)

/-- The weights stay. -/
theorem wts_keep (k : ℕ) : wts (after condOps (atK W₀ k c)) = wts (W₀ c) := by
  unfold wts
  rw [cond_keep _ main_v14_1 (by decide +kernel), cond_keep _ main_v14_2 (by decide +kernel), cond_keep _ main_v14_3 (by decide +kernel),
    cond_keep _ main_v14_4 (by decide +kernel), cond_keep _ main_v14_5 (by decide +kernel), cond_keep _ main_v14_6 (by decide +kernel),
    atK_keep W₀ c main_v14_1 (by decide +kernel), atK_keep W₀ c main_v14_2 (by decide +kernel), atK_keep W₀ c main_v14_3 (by decide +kernel),
    atK_keep W₀ c main_v14_4 (by decide +kernel), atK_keep W₀ c main_v14_5 (by decide +kernel), atK_keep W₀ c main_v14_6 (by decide +kernel)]

/-- The direction's states. -/
abbrev st (k : ℕ) := states (wts (W₀ c)) (fun s => rowAt (W₀ c (Proc.devRef .tc main_v14_0)) (ctr s)) k

/-- The loop starts at counter zero with both states zero. -/
structure Start : Prop where
  ctr : W₀ c (Proc.devRef .tc main_v14_7) = fun _ => (0#32 : BitVec 32)
  h : W₀ c (Proc.devRef .tc main_v14_8) = (st W₀ c 0).1
  c : W₀ c (Proc.devRef .tc main_v14_9) = (st W₀ c 0).2

/-- One more trip. -/
theorem succ_eq (k : ℕ) (r : Ref sig .tc) : atK W₀ (k + 1) c (Proc.devRef .tc r) = afterL bodyI (after condOps (atK W₀ k c)) (Proc.devRef .tc r) := rfl

variable {W₀ c}

/-- The carried states before trip `k`. -/
theorem at_states (hs : Start W₀ c) (k : ℕ) : atK W₀ k c (Proc.devRef .tc main_v14_8) = (st W₀ c k).1 ∧ atK W₀ k c (Proc.devRef .tc main_v14_9) = (st W₀ c k).2 := by
  induction k with
  | zero => exact ⟨hs.h, hs.c⟩
  | succ k ih =>
    obtain ⟨h1, h2⟩ := ih
    have k1 := cond_keep (atK W₀ k c) main_v14_8 (by decide +kernel)
    have k2 := cond_keep (atK W₀ k c) main_v14_9 (by decide +kernel)
    have kc := (cond_keep (atK W₀ k c) main_v14_7 (by decide +kernel)).trans (atK_ctr W₀ c hs.ctr k)
    have kx := (cond_keep (atK W₀ k c) main_v14_0 (by decide +kernel)).trans (atK_keep W₀ c main_v14_0 (by decide +kernel) k)
    constructor
    · rw [succ_eq, trip_h, wts_keep, k1, k2, kc, kx]
      exact congrArg₂ (nextH _ _) h1 h2
    · rw [succ_eq, trip_c, wts_keep, k1, k2, kc, kx]
      exact congrArg₂ (nextC _ _) h1 h2

/-- The outputs of the trips before trip `k`. -/
theorem at_outs (hs : Start W₀ c) (k : ℕ) (hk : k ≤ 128) (t : Fin 128) (ht : t.val < k) (i : Fin 512) (j : Fin 256) :
    (atK W₀ k c (Proc.devRef .tc main_v14_10) : FVec Ideal S128x512x256 .f32) (ix3 t i j) = (st W₀ c (t.val + 1)).1 (ix2 i j) := by
  induction k with
  | zero => omega
  | succ k ih =>
    obtain ⟨h1, h2⟩ := at_states hs (k + 1)
    have kc := (cond_keep (atK W₀ k c) main_v14_7 (by decide +kernel)).trans (atK_ctr W₀ c hs.ctr k)
    have k1 := cond_keep (atK W₀ k c) main_v14_10 (by decide +kernel)
    rw [succ_eq] at h1
    rw [succ_eq, trip_o, kc, k1, h1]
    refine (putRow_ctr _ k (by omega) _ t i j).trans ?_
    by_cases htk : t.val = k
    · rw [if_pos htk, htk]
    · rw [if_neg htk]; exact ih (by omega) (by omega)

/-- The outputs the loop leaves: at step `t` the hidden state after `t + 1` steps. -/
theorem left_outs (hs : Start W₀ c) (t : Fin 128) (i : Fin 512) (j : Fin 256) :
    (left W₀ c (Proc.devRef .tc main_v14_10) : FVec Ideal S128x512x256 .f32) (ix3 t i j) = (st W₀ c (t.val + 1)).1 (ix2 i j) := by
  rw [show left W₀ c = after condOps (atK W₀ 128 c) from rfl, cond_keep _ main_v14_10 (by decide +kernel)]
  exact at_outs hs 128 le_rfl t t.isLt i j

end

end Cert.ReferenceIdeal.Bwd
-- ==== Proof.RefRun.lean ====
/- The run of the reference: stretches of operations, the forward loop, the backward loop, and stretches after them. Every
   weakly fair execution ends with every buffer at the fold of them. -/
module

public import proofs.«01_k».proof.Proof.RefSegs
public import proofs.«01_k».proof.Proof.RefFwd
public import proofs.«01_k».proof.Proof.RefBwd

@[expose] public section

set_option maxRecDepth 8192

noncomputable section

namespace Cert.ReferenceIdeal.Run

open Cert.ReferenceIdeal Cert.ReferenceIdeal.Gen
open Idealize.ShloMosaic Idealize.ShloMosaic.TcCoe Idealize.ShloMosaic.StableHlo
open Idealize.ShloMosaic.Pipeline (CSeg)
open Idealize.SL.Sem

variable {F : FTy → Type} [FloatOps F]

/-! ## The stretches -/

set_option maxHeartbeats 40000000 in
/-- The lines before the forward loop: the rows the words gather, and the carried buffers at their start. -/
abbrev hostOps0 : List (HloOp τ sig (Elt F)) :=
  ( StableHlo.nullary main_c (constantI S_ 32 0#32)
  :: StableHlo.unary main_c main_v0 (broadcastInDim S512x128 ![] bcast_S_S512x128 : (⟨S_, .i32⟩ : BufTy).Contents (Elt F) → (⟨S512x128, .i32⟩ : BufTy).Contents (Elt F))
  :: StableHlo.binary main_arg0 main_v0 main_v1 (cmpi .slt : (⟨S512x128, .i32⟩ : BufTy).Contents (Elt F) → (⟨S512x128, .i32⟩ : BufTy).Contents (Elt F) → (⟨S512x128, .i1⟩ : BufTy).Contents (Elt F))
  :: StableHlo.nullary main_c_0 (constantI S_ 32 50000#32)
  :: StableHlo.unary main_c_0 main_v2 (broadcastInDim S512x128 ![] bcast_S_S512x128 : (⟨S_, .i32⟩ : BufTy).Contents (Elt F) → (⟨S512x128, .i32⟩ : BufTy).Contents (Elt F))
  :: StableHlo.binary main_arg0 main_v2 main_v3 (addi : (⟨S512x128, .i32⟩ : BufTy).Contents (Elt F) → (⟨S512x128, .i32⟩ : BufTy).Contents (Elt F) → (⟨S512x128, .i32⟩ : BufTy).Contents (Elt F))
  :: StableHlo.ternary main_v1 main_v3 main_arg0 main_v4 (select : (⟨S512x128, .i1⟩ : BufTy).Contents (Elt F) → (⟨S512x128, .i32⟩ : BufTy).Contents (Elt F) → (⟨S512x128, .i32⟩ : BufTy).Contents (Elt F) → (⟨S512x128, .i32⟩ : BufTy).Contents (Elt F))
  :: StableHlo.unary main_v4 main_v5 (broadcastInDim S512x128x1 ![0, 1] bcast_S512x128_S512x128x1_0_1 : (⟨S512x128, .i32⟩ : BufTy).Contents (Elt F) → (⟨S512x128x1, .i32⟩ : BufTy).Contents (Elt F))
  :: StableHlo.binary main_arg5 main_v5 main_v6 ((fun x i => Host.gather gather_S50000x100_S512x128x1_S512x128x100_2_0_n_n_0_2_1100 x i) : (⟨S50000x100, .f32⟩ : BufTy).Contents (Elt F) → (⟨S512x128x1, .i32⟩ : BufTy).Contents (Elt F) → (⟨S512x128x100, .f32⟩ : BufTy).Contents (Elt F))
  :: StableHlo.unary main_v6 main_v7 ((transpose S128x512x100 [1, 0, 2] · transposes_S512x128x100_S128x512x100_1_0_2) : (⟨S512x128x100, .f32⟩ : BufTy).Contents (Elt F) → (⟨S128x512x100, .f32⟩ : BufTy).Contents (Elt F))
  :: StableHlo.nullary main_cst (constant S_ .f32 0x00000000#32)
  :: StableHlo.unary main_cst main_v8 (broadcastInDim S512x256 ![] bcast_S_S512x256 : (⟨S_, .f32⟩ : BufTy).Contents (Elt F) → (⟨S512x256, .f32⟩ : BufTy).Contents (Elt F))
  :: StableHlo.nullary main_cst_1 (constant S_ .f32 0x00000000#32)
  :: StableHlo.unary main_cst_1 main_v9 (broadcastInDim S128x512x256 ![] bcast_S_S128x512x256 : (⟨S_, .f32⟩ : BufTy).Contents (Elt F) → (⟨S128x512x256, .f32⟩ : BufTy).Contents (Elt F))
  :: StableHlo.nullary main_c_2 (constantI S_ 32 0#32)
  :: StableHlo.unary main_v7 main_v10_0 id
  :: StableHlo.unary main_arg10 main_v10_1 id
  :: StableHlo.unary main_arg11 main_v10_2 id
  :: StableHlo.unary main_arg6 main_v10_3 id
  :: StableHlo.unary main_arg7 main_v10_4 id
  :: StableHlo.unary main_arg8 main_v10_5 id
  :: StableHlo.unary main_arg9 main_v10_6 id
  :: StableHlo.unary main_c_2 main_v10_7 id
  :: StableHlo.unary main_v8 main_v10_8 id
  :: StableHlo.unary main_v8 main_v10_9 id
  :: StableHlo.unary main_v9 main_v10_10 id
  :: [] )
set_option maxHeartbeats 40000000 in
/-- They touch the core's references only, -/
theorem hostOps0_sub : (hostOps0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- allocate nothing, -/
theorem hostOps0_fresh : (hostOps0 : List (HloOp τ sig (Elt F))).Forall fun op => op.fresh = ∅ :=
  StableHlo.forall_fresh_of_map rfl
/-- and write these, in order. -/
abbrev hostOps0_W : List (Ref sig .tc) := [main_c, main_v0, main_v1, main_c_0, main_v2, main_v3, main_v4, main_v5, main_v6, main_v7, main_cst, main_v8, main_cst_1, main_v9, main_c_2, main_v10_0, main_v10_1, main_v10_2, main_v10_3, main_v10_4, main_v10_5, main_v10_6, main_v10_7, main_v10_8, main_v10_9, main_v10_10]
theorem hostOps0_writes : (hostOps0 : List (HloOp τ sig (Elt F))).Forall fun op => op.writes ⊆ (hostOps0_W.map (Proc.devRef (τ := τ) .tc)).toFinset :=
  StableHlo.forall_writes_sub_of_map rfl

/-- The lines between the loops: the rows reversed, and the backward loop's carried buffers at their start. -/
abbrev hostOps1 : List (HloOp τ sig (Elt F)) :=
  [ StableHlo.unary main_v7 main_v11 (Host.reverse [0] : (⟨S128x512x100, .f32⟩ : BufTy).Contents (Elt F) → (⟨S128x512x100, .f32⟩ : BufTy).Contents (Elt F)),
    StableHlo.nullary main_cst_3 (constant S_ .f32 0x00000000#32),
    StableHlo.unary main_cst_3 main_v12 (broadcastInDim S512x256 ![] bcast_S_S512x256 : (⟨S_, .f32⟩ : BufTy).Contents (Elt F) → (⟨S512x256, .f32⟩ : BufTy).Contents (Elt F)),
    StableHlo.nullary main_cst_4 (constant S_ .f32 0x00000000#32),
    StableHlo.unary main_cst_4 main_v13 (broadcastInDim S128x512x256 ![] bcast_S_S128x512x256 : (⟨S_, .f32⟩ : BufTy).Contents (Elt F) → (⟨S128x512x256, .f32⟩ : BufTy).Contents (Elt F)),
    StableHlo.nullary main_c_5 (constantI S_ 32 0#32),
    StableHlo.unary main_v11 main_v14_0 id,
    StableHlo.unary main_arg16 main_v14_1 id,
    StableHlo.unary main_arg17 main_v14_2 id,
    StableHlo.unary main_arg12 main_v14_3 id,
    StableHlo.unary main_arg13 main_v14_4 id,
    StableHlo.unary main_arg14 main_v14_5 id,
    StableHlo.unary main_arg15 main_v14_6 id,
    StableHlo.unary main_c_5 main_v14_7 id,
    StableHlo.unary main_v12 main_v14_8 id,
    StableHlo.unary main_v12 main_v14_9 id,
    StableHlo.unary main_v13 main_v14_10 id ]
/-- They touch the core's references only, -/
theorem hostOps1_sub : (hostOps1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- allocate nothing, -/
theorem hostOps1_fresh : (hostOps1 : List (HloOp τ sig (Elt F))).Forall fun op => op.fresh = ∅ :=
  StableHlo.forall_fresh_of_map rfl
/-- and write these, in order. -/
abbrev hostOps1_W : List (Ref sig .tc) := [main_v11, main_cst_3, main_v12, main_cst_4, main_v13, main_c_5, main_v14_0, main_v14_1, main_v14_2, main_v14_3, main_v14_4, main_v14_5, main_v14_6, main_v14_7, main_v14_8, main_v14_9, main_v14_10]
theorem hostOps1_writes : (hostOps1 : List (HloOp τ sig (Elt F))).Forall fun op => op.writes ⊆ (hostOps1_W.map (Proc.devRef (τ := τ) .tc)).toFinset :=
  StableHlo.forall_writes_sub_of_map rfl

/-- The scores of every position from the two directions' outputs. -/
abbrev scoreOps : List (HloOp τ sig (Elt F)) :=
  [ StableHlo.unary main_v14_10 main_v15 (Host.reverse [0] : (⟨S128x512x256, .f32⟩ : BufTy).Contents (Elt F) → (⟨S128x512x256, .f32⟩ : BufTy).Contents (Elt F)),
    StableHlo.binary main_v10_10 main_v15 main_v16 ((fun a b => concatenate S128x512x512 2 [⟨S128x512x256, a⟩, ⟨S128x512x256, b⟩] concatenates_S128x512x256_S128x512x256_S128x512x512_d2) : (⟨S128x512x256, .f32⟩ : BufTy).Contents (Elt F) → (⟨S128x512x256, .f32⟩ : BufTy).Contents (Elt F) → (⟨S128x512x512, .f32⟩ : BufTy).Contents (Elt F)),
    StableHlo.unary main_arg18 main_v17 ((transpose S512x20 [1, 0] · transposes_S20x512_S512x20_1_0) : (⟨S20x512, .f32⟩ : BufTy).Contents (Elt F) → (⟨S512x20, .f32⟩ : BufTy).Contents (Elt F)),
    StableHlo.binary main_v16 main_v17 main_v18 ((fun l r => Host.dotGeneral dot_S128x512x512_S512x20_S128x512x20_2_0_01_1_n_n none l r) : (⟨S128x512x512, .f32⟩ : BufTy).Contents (Elt F) → (⟨S512x20, .f32⟩ : BufTy).Contents (Elt F) → (⟨S128x512x20, .f32⟩ : BufTy).Contents (Elt F)),
    StableHlo.unary main_arg19 main_v19 (broadcastInDim S1x1x20 ![2] bcast_S20_S1x1x20_2 : (⟨S20, .f32⟩ : BufTy).Contents (Elt F) → (⟨S1x1x20, .f32⟩ : BufTy).Contents (Elt F)),
    StableHlo.unary main_v19 main_v20 (broadcastInDim S128x512x20 ![0, 1, 2] bcast_S1x1x20_S128x512x20_0_1_2 : (⟨S1x1x20, .f32⟩ : BufTy).Contents (Elt F) → (⟨S128x512x20, .f32⟩ : BufTy).Contents (Elt F)),
    StableHlo.binary main_v18 main_v20 main_v21 (addf : (⟨S128x512x20, .f32⟩ : BufTy).Contents (Elt F) → (⟨S128x512x20, .f32⟩ : BufTy).Contents (Elt F) → (⟨S128x512x20, .f32⟩ : BufTy).Contents (Elt F)) ]
/-- They touch the core's references only, -/
theorem scoreOps_sub : (scoreOps : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- allocate nothing, -/
theorem scoreOps_fresh : (scoreOps : List (HloOp τ sig (Elt F))).Forall fun op => op.fresh = ∅ :=
  StableHlo.forall_fresh_of_map rfl
/-- and write these, in order. -/
abbrev scoreOps_W : List (Ref sig .tc) := [main_v15, main_v16, main_v17, main_v18, main_v19, main_v20, main_v21]
theorem scoreOps_writes : (scoreOps : List (HloOp τ sig (Elt F))).Forall fun op => op.writes ⊆ (scoreOps_W.map (Proc.devRef (τ := τ) .tc)).toFinset :=
  StableHlo.forall_writes_sub_of_map rfl

/-- The tags: the place of the greatest score. -/
abbrev tagOps : List (HloOp τ sig (Elt F)) :=
  [ StableHlo.TRef.nullary (.of main_call4_v0 : StableHlo.TRef sig ⟨S128x512x20, .i32⟩) (iotaInDim S128x512x20 32 2),
    StableHlo.TRef.nullary (.of main_call4_cst : StableHlo.TRef sig ⟨S_, .f32⟩) (constant S_ .f32 0xFF800000#32),
    StableHlo.TRef.nullary (.of main_call4_c : StableHlo.TRef sig ⟨S_, .i32⟩) (constantI S_ 32 0#32),
    StableHlo.TRef.quaternary (.of main_v21 : StableHlo.TRef sig ⟨S128x512x20, .f32⟩) (.of main_call4_v0 : StableHlo.TRef sig ⟨S128x512x20, .i32⟩) (.of main_call4_cst : StableHlo.TRef sig ⟨S_, .f32⟩) (.of main_call4_c : StableHlo.TRef sig ⟨S_, .i32⟩) (.of main_call4_v1_0 : StableHlo.TRef sig ⟨S128x512, .f32⟩) (fun x y u v j => (Host.argReduce reducer_argmax_f32_i32 x y u v reducesTo_S128x512x20_S128x512_d2 h_S_ j).1),
    StableHlo.TRef.quaternary (.of main_v21 : StableHlo.TRef sig ⟨S128x512x20, .f32⟩) (.of main_call4_v0 : StableHlo.TRef sig ⟨S128x512x20, .i32⟩) (.of main_call4_cst : StableHlo.TRef sig ⟨S_, .f32⟩) (.of main_call4_c : StableHlo.TRef sig ⟨S_, .i32⟩) (.of main_v22 : StableHlo.TRef sig ⟨S128x512, .i32⟩) (fun x y u v j => (Host.argReduce reducer_argmax_f32_i32 x y u v reducesTo_S128x512x20_S128x512_d2 h_S_ j).2) ]
/-- They touch the core's references only, -/
theorem tagOps_sub : (tagOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- allocate nothing, -/
theorem tagOps_fresh : (tagOps : List (HloOp τ sig (Elt F))).Forall fun op => op.fresh = ∅ :=
  StableHlo.forall_fresh_of_map rfl
/-- and write these, in order. -/
abbrev tagOps_W : List (Ref sig .tc) := [main_call4_v0, main_call4_cst, main_call4_c, main_call4_v1_0, main_v22]
theorem tagOps_writes : (tagOps : List (HloOp τ sig (Elt F))).Forall fun op => op.writes ⊆ (tagOps_W.map (Proc.devRef (τ := τ) .tc)).toFinset :=
  StableHlo.forall_writes_sub_of_map rfl

/-- The tags under the mask. -/
abbrev maskOps : List (HloOp τ sig (Elt F)) :=
  [ StableHlo.unary main_v22 main_v23 ((transpose S512x128 [1, 0] · transposes_S128x512_S512x128_1_0) : (⟨S128x512, .i32⟩ : BufTy).Contents (Elt F) → (⟨S512x128, .i32⟩ : BufTy).Contents (Elt F)),
    StableHlo.unary main_arg4 main_v24 ((extui 32 · natLt_1_32) : (⟨S512x128, .i1⟩ : BufTy).Contents (Elt F) → (⟨S512x128, .i32⟩ : BufTy).Contents (Elt F)),
    StableHlo.binary main_v24 main_v23 main_v25 (muli : (⟨S512x128, .i32⟩ : BufTy).Contents (Elt F) → (⟨S512x128, .i32⟩ : BufTy).Contents (Elt F) → (⟨S512x128, .i32⟩ : BufTy).Contents (Elt F)) ]
/-- They touch the core's references only, -/
theorem maskOps_sub : (maskOps : List (HloOp τ sig (Elt F))).Forall fun op => op.bufs ⊆ StableHlo.tcRefs τ sig :=
  ⟨StableHlo.unary_bufs_sub .., StableHlo.unary_bufs_sub .., StableHlo.binary_bufs_sub ..⟩
/-- allocate nothing, -/
theorem maskOps_fresh : (maskOps : List (HloOp τ sig (Elt F))).Forall fun op => op.fresh = ∅ :=
  StableHlo.forall_fresh_of_map rfl
/-- and write these, in order. -/
abbrev maskOps_W : List (Ref sig .tc) := [main_v23, main_v24, main_v25]
theorem maskOps_writes : (maskOps : List (HloOp τ sig (Elt F))).Forall fun op => op.writes ⊆ (maskOps_W.map (Proc.devRef (τ := τ) .tc)).toFinset :=
  StableHlo.forall_writes_sub_of_map rfl

/-- The program is its stretches in order, a loop after the first and after the second. -/
theorem main_chain (c : Dev nD) : main (F := F) c = (Pipeline.chain
  [ StableHlo.seq hostOps0,
    HostLoop.enter 0,
    StableHlo.seq hostOps1,
    HostLoop.enter 1,
    StableHlo.seq scoreOps,
    StableHlo.seq tagOps,
    StableHlo.seq maskOps ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons, Pipeline.chain_cons, StableHlo.chain_seq_cons]
  chain_rfl

/-- The stretches before, between and after the loops. -/
abbrev preI : List (List (HloOp τ sig (Elt F))) := [hostOps0]
abbrev midI : List (List (HloOp τ sig (Elt F))) := [hostOps1]
abbrev postI : List (List (HloOp τ sig (Elt F))) := [scoreOps, tagOps, maskOps]

/-- None of them allocates. -/
theorem hpre : Plain (preI (F := F)) := .cons hostOps0_sub (hf := List.forall_iff_forall_mem.mp hostOps0_fresh) .nil
theorem hmid : Plain (midI (F := F)) := .cons hostOps1_sub (hf := List.forall_iff_forall_mem.mp hostOps1_fresh) .nil
theorem hpost : Plain (postI (F := F)) :=
  .cons scoreOps_sub (hf := List.forall_iff_forall_mem.mp scoreOps_fresh) (.cons tagOps_sub (hf := List.forall_iff_forall_mem.mp tagOps_fresh)
    (.cons maskOps_sub (hf := List.forall_iff_forall_mem.mp maskOps_fresh) .nil))

/-! ## The fold -/

variable (m : (ℓ : Loc nD τ sig) → Buf (Elt F) ℓ) (ρ : Dev nD → PrngReg)

/-- Every buffer's contents when the forward loop starts, -/
def startF (c : Dev nD) : Valuation τ sig (Elt F) := afterL preI (launchContents m c)

/-- when the backward loop starts, -/
def startB (c : Dev nD) : Valuation τ sig (Elt F) := afterL midI (Fwd.left (startF m) c)

/-- and when the program has ended. -/
def final (c : Dev nD) : Valuation τ sig (Elt F) := afterL postI (Bwd.left (startB m) c)

/-- The forward loop starts at counter zero. -/
theorem ctrF (c : Dev nD) : startF m c (Proc.devRef .tc main_v10_7) = fun _ => (0#32 : BitVec 32) := by
  unfold startF
  simp only [afterL_cons, afterL_nil]
  after_reads_simp
  rfl

/-- So does the backward loop. -/
theorem ctrB (c : Dev nD) : startB m c (Proc.devRef .tc main_v14_7) = fun _ => (0#32 : BitVec 32) := by
  unfold startB
  simp only [afterL_cons, afterL_nil]
  after_reads_simp
  rfl

/-- The forward loop as one segment of the run, -/
def loopF : Seg F :=
  loopSeg _ _ _ _ _ _ _ _ 0 main_while0_cond main_while0_body rfl Fwd.condOps Fwd.bodyI Fwd.plain (by rw [Fwd.body_chain]; rfl) 128 (startF m) Beside
    (Fwd.cond_spec (startF m) (ctrF m) Beside)

/-- and the backward loop. -/
def loopB : Seg F :=
  loopSeg _ _ _ _ _ _ _ _ 1 main_while1_cond main_while1_body rfl Bwd.condOps Bwd.bodyI Bwd.plain (by rw [Bwd.body_chain]; rfl) 128 (startB m) Beside
    (Bwd.cond_spec (startB m) (ctrB m) Beside)

/-- The run's segments. -/
def segs : List (Seg F) :=
  segsOf _ _ _ _ _ _ _ _ Beside preI hpre (launchContents m)
    ++ (loopF m :: (segsOf _ _ _ _ _ _ _ _ Beside midI hmid (Fwd.left (startF m))
      ++ (loopB m :: segsOf _ _ _ _ _ _ _ _ Beside postI hpost (Bwd.left (startB m)))))

set_option maxRecDepth 100000 in
/-- On every device, for any float values, from any memory with zero counters: every weakly fair execution of @main
    terminates with every unscoped buffer of the core at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  run_segs m ρ (segs m) (final m)
    (fun c => by
      rw [main_chain]
      unfold segs
      rw [List.map_append, List.map_cons, List.map_append, List.map_cons, segsOf_prog, segsOf_prog, segsOf_prog]
      rfl)
    (CSeg.Chains.append (segsOf_chains _ _ _ _ _ _ _ _ Beside preI hpre _)
      ⟨fun _ => .rfl, CSeg.Chains.append (segsOf_chains _ _ _ _ _ _ _ _ Beside midI hmid _)
        ⟨fun _ => .rfl, segsOf_chains _ _ _ _ _ _ _ _ Beside postI hpost _⟩⟩)

end Cert.ReferenceIdeal.Run
-- ==== Proof.RefFrame.lean ====
/- What the reference leaves alone: a buffer none of its operations writes. Its arguments are such. -/
module

public import proofs.«01_k».proof.Proof.RefRun
public import proofs.«01_k».proof.Defs
public import Idealize.ShloMosaic.Lib.Quiescent

@[expose] public section

set_option maxRecDepth 8192

noncomputable section

namespace Cert.ReferenceIdeal.Run

open Cert.ReferenceIdeal Cert.ReferenceIdeal.Gen
open Idealize.ShloMosaic Idealize.ShloMosaic.TcCoe
open Idealize.ShloMosaic.StableHlo
open Idealize.SL.Sem

variable {F : FTy → Type} [FloatOps F]

variable (m : (ℓ : Loc nD τ sig) → Buf (Elt F) ℓ) (ρ : Dev nD → PrngReg)

/-- Everything the run writes. -/
abbrev runW : List (Ref sig .tc) := hostOps0_W ++ Fwd.loopW ++ hostOps1_W ++ Bwd.loopW ++ scoreOps_W ++ tagOps_W ++ maskOps_W

/-- When the backward loop has ended, what the forward loop left and no later operation wrote is still there, -/
theorem left_mid (c : Dev nD) (r : Ref sig .tc) (h1 : r ∉ hostOps1_W) (h2 : r ∉ Bwd.loopW) :
    Bwd.left (startB m) c (Proc.devRef .tc r) = Fwd.left (startF m) c (Proc.devRef .tc r) := by
  rw [Bwd.left_keep _ c r h2]
  simp only [startB, afterL_cons, afterL_nil]
  rw [after_of_writes_sub hostOps1 _ hostOps1_writes h1]

/-- and so is what no operation wrote. -/
theorem left_launch (c : Dev nD) (r : Ref sig .tc) (h0 : r ∉ hostOps0_W) (hF : r ∉ Fwd.loopW) (h1 : r ∉ hostOps1_W) (hB : r ∉ Bwd.loopW) :
    Bwd.left (startB m) c (Proc.devRef .tc r) = m ((c.tc : Thread nD τ).loc r) := by
  rw [left_mid m c r h1 hB, Fwd.left_keep _ c r hF]
  simp only [startF, afterL_cons, afterL_nil]
  rw [after_of_writes_sub hostOps0 _ hostOps0_writes h0]

/-- The whole run leaves alone what no operation writes. -/
theorem final_keep (c : Dev nD) (r : Ref sig .tc) (h : r ∉ runW) : final m c (Proc.devRef .tc r) = m ((c.tc : Thread nD τ).loc r) := by
  rw [runW, List.mem_append, List.mem_append, List.mem_append, List.mem_append, List.mem_append, List.mem_append] at h
  simp only [not_or] at h
  obtain ⟨⟨⟨⟨⟨⟨h0, hF⟩, h1⟩, hB⟩, h2⟩, h3⟩, h4⟩ := h
  simp only [final, afterL_cons, afterL_nil]
  rw [after_of_writes_sub maskOps _ maskOps_writes h4, after_of_writes_sub tagOps _ tagOps_writes h3,
    after_of_writes_sub scoreOps _ scoreOps_writes h2, left_launch m c r h0 hF h1 hB]

/-- An argument's buffer holds what it held at launch. -/
theorem arg_keep (c : Dev nD) (b : Ref sig .tc) (hs : (Proc.devRef .tc b : DevRef τ sig).isScoped = false)
    (h : b ∉ runW)
    {mem : (ℓ : Loc nD τ sig) → Buf (Elt F) ℓ}
    (H : ∀ (c : Dev nD) (b : Ref sig .tc), (Proc.devRef .tc b : DevRef τ sig).isScoped = false →
      mem ((c.tc : Thread nD τ).loc b) = final m c (Proc.devRef .tc b)) :
    mem ((c.tc : Thread nD τ).loc b) = m ((c.tc : Thread nD τ).loc b) :=
  (H c b hs).trans (final_keep m c b h)

/-- `r` holds every argument as `m` does. -/
def Kept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)

/-- Where the run ends every argument is kept. -/
theorem kept {mem : (ℓ : Loc nD τ sig) → Buf (Elt F) ℓ}
    (H : ∀ (c : Dev nD) (b : Ref sig .tc), (Proc.devRef .tc b : DevRef τ sig).isScoped = false →
      mem ((c.tc : Thread nD τ).loc b) = final m c (Proc.devRef .tc b)) (c : Dev nD) : Kept m c mem := by
  refine ⟨?_, ?_, ?_, ?_, ?_, ?_, ?_, ?_, ?_, ?_, ?_, ?_, ?_, ?_, ?_, ?_, ?_, ?_, ?_, ?_⟩ <;> exact arg_keep m c _ rfl (by decide +kernel) H

/-- The reference runs to its end, keeps its arguments, and leaves no semaphore up. -/
theorem frame : Cert.quiescent_ReferenceIdeal := fun m ρ _ =>
  (θ_run Cert.ReferenceIdeal.defs _ _).mono (fun r h => ⟨fun c => kept m h c, sem_eq_zero_of_no_sems (by decide) r.2⟩) (run_fold (F := Ideal) m ρ)

/-- The same under the precondition. -/
theorem frame_pre [Cert.Pre_in_vocabulary.Facts] : Cert.quiescent_ReferenceIdeal_pre_in_vocabulary := fun m ρ _ =>
  (θ_run Cert.ReferenceIdeal.defs _ _).mono (fun r h => ⟨fun c => kept m h c, sem_eq_zero_of_no_sems (by decide) r.2⟩) (run_fold (F := Ideal) m ρ)

end Cert.ReferenceIdeal.Run
-- ==== Proof.RefVal.lean ====
/- The reference's result in extended-real arithmetic: each position's tag is the first of the greatest logit, under the
   mask. -/
module

public import proofs.«01_k».proof.Proof.RefFrame

@[expose] public section

set_option maxRecDepth 8192

noncomputable section

namespace Cert.ReferenceIdeal.Run

open Cert.ReferenceIdeal Cert.ReferenceIdeal.Gen
open Idealize.ShloMosaic Idealize.ShloMosaic.TcCoe
open Idealize.ShloMosaic.StableHlo
open Idealize.SL.Sem

variable (m : (ℓ : Loc nD τ sig) → Buf (Elt Ideal) ℓ) (c : Dev nD)

/-- What a buffer holds at launch. -/
abbrev arg (r : Ref sig .tc) : r.ty.Contents (Elt Ideal) := m ((c.tc : Thread nD τ).loc r)

/-- The forward weights among the arguments. -/
def argF : Weights Ideal := ⟨arg m c main_arg10, arg m c main_arg11, arg m c main_arg6, arg m c main_arg7, arg m c main_arg8, arg m c main_arg9⟩

/-- The backward weights among the arguments. -/
def argB : Weights Ideal := ⟨arg m c main_arg16, arg m c main_arg17, arg m c main_arg12, arg m c main_arg13, arg m c main_arg14, arg m c main_arg15⟩

/-- The gathered rows, step first. -/
def rowsOf (E : FVec Ideal S50000x100 .f32) (w : IVec S512x128 32) : FVec Ideal S128x512x100 .f32 :=
  transpose S128x512x100 [1, 0, 2] (Host.gather gather_S50000x100_S512x128x1_S512x128x100_2_0_n_n_0_2_1100 E
    (broadcastInDim S512x128x1 ![0, 1] bcast_S512x128_S512x128x1_0_1
      (select (cmpi .slt w (broadcastInDim S512x128 ![] bcast_S_S512x128 (constantI S_ 32 0#32)))
        (addi w (broadcastInDim S512x128 ![] bcast_S_S512x128 (constantI S_ 32 50000#32))) w))) transposes_S512x128x100_S128x512x100_1_0_2

set_option maxRecDepth 100000 in
/-- The forward loop starts with the forward weights among the arguments, -/
theorem start_wF : Fwd.wts (startF m c) = argF m c := by
  unfold Fwd.wts argF startF
  simp only [afterL_cons, afterL_nil]
  congr 1 <;> (after_reads_simp; try rfl)

set_option maxRecDepth 100000 in
/-- with the gathered rows, -/
theorem start_rows : startF m c (Proc.devRef .tc main_v10_0) = rowsOf (arg m c main_arg5) (arg m c main_arg0) := by
  unfold startF rowsOf
  simp only [afterL_cons, afterL_nil]
  after_reads_simp
  rfl

set_option maxRecDepth 100000 in
/-- which stay in the buffer they were made in, -/
theorem start_made : startF m c (Proc.devRef .tc main_v7) = rowsOf (arg m c main_arg5) (arg m c main_arg0) := by
  unfold startF rowsOf
  simp only [afterL_cons, afterL_nil]
  after_reads_simp
  try rfl

set_option maxRecDepth 100000 in
/-- and with both states zero. -/
theorem startsF : Fwd.Start (startF m) c := by
  refine ⟨ctrF m c, ?_, ?_⟩ <;> (unfold startF; simp only [afterL_cons, afterL_nil]; after_reads_simp; rfl)

/-- What the lines between the loops do not write is as the forward loop left it. -/
theorem mid_keep (r : Ref sig .tc) (h : r ∉ hostOps1_W) : startB m c (Proc.devRef .tc r) = Fwd.left (startF m) c (Proc.devRef .tc r) := by
  simp only [startB, afterL_cons, afterL_nil]
  rw [after_of_writes_sub hostOps1 _ hostOps1_writes h]

/-- When the backward loop starts an argument is as at launch. -/
theorem mid_arg (r : Ref sig .tc) (h0 : r ∉ hostOps0_W) (hF : r ∉ Fwd.loopW) : Fwd.left (startF m) c (Proc.devRef .tc r) = arg m c r := by
  rw [Fwd.left_keep _ c r hF]
  simp only [startF, afterL_cons, afterL_nil]
  rw [after_of_writes_sub hostOps0 _ hostOps0_writes h0]

set_option maxRecDepth 100000 in
/-- The lines between the loops carry the backward weights, -/
theorem mid_wts (V : Valuation τ sig (Elt Ideal)) : Bwd.wts (after hostOps1 V) = ⟨V (Proc.devRef .tc main_arg16), V (Proc.devRef .tc main_arg17),
    V (Proc.devRef .tc main_arg12), V (Proc.devRef .tc main_arg13), V (Proc.devRef .tc main_arg14), V (Proc.devRef .tc main_arg15)⟩ := by
  unfold Bwd.wts
  congr 1 <;> (after_reads_simp; try rfl)

set_option maxRecDepth 100000 in
/-- and the rows reversed. -/
theorem mid_rows (V : Valuation τ sig (Elt Ideal)) : after hostOps1 V (Proc.devRef .tc main_v14_0) = Host.reverse [0] (V (Proc.devRef .tc main_v7) : FVec Ideal S128x512x100 .f32) := by
  after_reads_simp
  try rfl

/-- The backward loop starts with the backward weights among the arguments, -/
theorem start_wB : Bwd.wts (startB m c) = argB m c := by
  rw [show startB m c = after hostOps1 (Fwd.left (startF m) c) from rfl, mid_wts, mid_arg m c main_arg16 (by decide +kernel) (by decide +kernel),
    mid_arg m c main_arg17 (by decide +kernel) (by decide +kernel), mid_arg m c main_arg12 (by decide +kernel) (by decide +kernel),
    mid_arg m c main_arg13 (by decide +kernel) (by decide +kernel), mid_arg m c main_arg14 (by decide +kernel) (by decide +kernel),
    mid_arg m c main_arg15 (by decide +kernel) (by decide +kernel)]
  rfl

/-- with the gathered rows reversed, -/
theorem start_rowsB : startB m c (Proc.devRef .tc main_v14_0) = Host.reverse [0] (rowsOf (arg m c main_arg5) (arg m c main_arg0)) := by
  rw [show startB m c = after hostOps1 (Fwd.left (startF m) c) from rfl, mid_rows, Fwd.left_keep _ c main_v7 (by decide +kernel), start_made]

set_option maxRecDepth 100000 in
/-- and with both states zero. -/
theorem startsB : Bwd.Start (startB m) c := by
  refine ⟨ctrB m c, ?_, ?_⟩ <;> (unfold startB; simp only [afterL_cons, afterL_nil]; after_reads_simp; rfl)

/-- A row's embedded words. -/
def embRow (E : FVec Ideal S50000x100 .f32) (w : IVec S512x128 32) (i : Fin 512) (t : Fin 128) (e : Fin 100) : EReal :=
  E (ix2 ⟨(w (ix2 i t)).toNat % 50000, Nat.mod_lt _ (by omega)⟩ e)

/-- A gathered row is the row of the table its word names. -/
theorem rowsOf_row (E : FVec Ideal S50000x100 .f32) (w : IVec S512x128 32) (hw : ∀ j, 0 ≤ (w j).toInt ∧ (w j).toInt < 50000) (t : Fin 128) (i : Fin 512) (e : Fin 100) :
    rowsOf E w (ix3 t i e) = embRow E w i t e := by
  unfold rowsOf embRow
  have hp : ∀ g : FVec Ideal S512x128x100 .f32, transpose S128x512x100 [1, 0, 2] g transposes_S512x128x100_S128x512x100_1_0_2 (ix3 t i e) = g (ix3 i t e) := fun g => by pointwise
  rw [hp, gather_row]
  have h := hw (ix2 i t)
  have hn : (w (ix2 i t)).toNat < 50000 ∧ (w (ix2 i t)).toInt.toNat = (w (ix2 i t)).toNat := by
    have h32 := (w (ix2 i t)).isLt
    have := BitVec.toInt_eq_toNat_cond (w (ix2 i t))
    split at this <;> omega
  refine congrArg (fun k => E (ix2 k e)) (Fin.ext ?_)
  show min (BitVec.toInt _).toNat 49999 = _ % 50000
  rw [word_wrap w i t (hw _).1]
  omega

/-- A reversed array at an index. -/
theorem reverse_row {n : ℕ} (a : FVec Ideal ⟨3, ![128, 512, n]⟩ .f32) (t : Fin 128) (i : Fin 512) (e : Fin n) :
    Host.reverse [0] a (ix3 t i e) = a (ix3 t.rev i e) := by
  unfold Host.reverse
  congr 1
  funext b
  match b with
  | ⟨0, _⟩ => rfl
  | ⟨1, _⟩ => rfl
  | ⟨2, _⟩ => rfl

/-- The tag projection's weights and bias. -/
abbrev tagW (w : FVec Ideal S20x512 .f32) (n : Fin 20) (k : Fin 512) : EReal := w (ix2 n k)

abbrev tagB (b : FVec Ideal S20 .f32) (n : Fin 20) : EReal := b (ix1 n)

/-- The logits of every position. -/
def scoresOf (f b : FVec Ideal S128x512x256 .f32) (w : FVec Ideal S20x512 .f32) (bt : FVec Ideal S20 .f32) : FVec Ideal S128x512x20 .f32 :=
  addf (Host.dotGeneral dot_S128x512x512_S512x20_S128x512x20_2_0_01_1_n_n none
      (concatenate S128x512x512 2 [⟨S128x512x256, f⟩, ⟨S128x512x256, Host.reverse [0] b⟩] concatenates_S128x512x256_S128x512x256_S128x512x512_d2)
      (transpose S512x20 [1, 0] w transposes_S20x512_S512x20_1_0))
    (broadcastInDim S128x512x20 ![0, 1, 2] bcast_S1x1x20_S128x512x20_0_1_2 (broadcastInDim S1x1x20 ![2] bcast_S20_S1x1x20_2 bt))

/-- A row of the logits. -/
theorem scores_row (f b w bt) (t : Fin 128) (i : Fin 512) (n : Fin 20) :
    scoresOf f b w bt (ix3 t i n) = Row.logit (tagW w) (tagB bt) (fun k => f (ix3 t i k)) (fun k => b (ix3 t.rev i k)) n := by
  unfold scoresOf Row.logit
  have hl : ∀ k : Fin 256, concatenate S128x512x512 2 [⟨S128x512x256, f⟩, ⟨S128x512x256, Host.reverse [0] b⟩] concatenates_S128x512x256_S128x512x256_S128x512x512_d2 (ix3 t i ⟨k.val, by omega⟩) = f (ix3 t i k) := fun k => by
    refine concatenate_pair_apply_left (t := S128x512x512) (s₁ := S128x512x256) (s₂ := S128x512x256) 2 f (Host.reverse [0] b) _ _ rfl (ix3 t i k) fun b => ?_
    match b with
    | ⟨0, _⟩ => rfl
    | ⟨1, _⟩ => rfl
    | ⟨2, _⟩ => rfl
  have hr : ∀ k : Fin 256, concatenate S128x512x512 2 [⟨S128x512x256, f⟩, ⟨S128x512x256, Host.reverse [0] b⟩] concatenates_S128x512x256_S128x512x256_S128x512x512_d2 (ix3 t i ⟨256 + k.val, by omega⟩) = b (ix3 t.rev i k) := fun k => by
    refine (concatenate_pair_apply_right (t := S128x512x512) (s₁ := S128x512x256) (s₂ := S128x512x256) 2 f (Host.reverse [0] b) _ _ rfl rfl (ix3 t i k) (fun b hb => ?_) ?_).trans (reverse_row b t i k)
    · match b with
      | ⟨0, _⟩ => rfl
      | ⟨1, _⟩ => rfl
      | ⟨2, _⟩ => exact absurd rfl hb
    · exact Nat.add_comm _ _
  show FloatOps.addf _ _ = _
  generalize concatenate S128x512x512 2 [⟨S128x512x256, f⟩, ⟨S128x512x256, Host.reverse [0] b⟩] concatenates_S128x512x256_S128x512x256_S128x512x512_d2 = C at hl hr
  pointwise
  rw [Fin.sum_univ_two_halves 256 256 rfl]
  simp only [hl, hr]

set_option maxRecDepth 100000 in
/-- What the lines after the loops leave: the logits, -/
theorem score_read (V : Valuation τ sig (Elt Ideal)) : after scoreOps V (Proc.devRef .tc main_v21)
    = scoresOf (V (Proc.devRef .tc main_v10_10)) (V (Proc.devRef .tc main_v14_10)) (V (Proc.devRef .tc main_arg18)) (V (Proc.devRef .tc main_arg19)) := by
  unfold scoresOf
  after_reads_simp
  rfl

/-- The tags of every position's logits. -/
def tagsOf (l : FVec Ideal S128x512x20 .f32) : IVec S128x512 32 := fun j =>
  (Host.argReduce reducer_argmax_f32_i32 l (iotaInDim S128x512x20 32 2) (constant S_ .f32 0xFF800000#32) (constantI S_ 32 0#32) reducesTo_S128x512x20_S128x512_d2 h_S_ j).2

set_option maxRecDepth 100000 in
/-- the tags, -/
theorem tag_read (V : Valuation τ sig (Elt Ideal)) : after tagOps V (Proc.devRef .tc main_v22) = tagsOf (V (Proc.devRef .tc main_v21)) := by
  after_results_entrywise [cast_eq]

set_option maxRecDepth 100000 in
/-- and the tags under the mask. -/
theorem mask_read (V : Valuation τ sig (Elt Ideal)) : after maskOps V (Proc.devRef .tc main_v25)
    = muli (extui 32 (V (Proc.devRef .tc main_arg4) : IVec S512x128 1) natLt_1_32) (transpose S512x128 [1, 0] (V (Proc.devRef .tc main_v22) : IVec S128x512 32) transposes_S128x512_S512x128_1_0) := by
  after_reads_simp

/-- The scores a run of the reference computes. -/
theorem final_scores (hw : ∀ j, 0 ≤ (arg m c main_arg0 j : BitVec 32).toInt ∧ (arg m c main_arg0 j : BitVec 32).toInt < 50000) (t : Fin 128) (i : Fin 512) (n : Fin 20) :
    (after scoreOps (Bwd.left (startB m) c) (Proc.devRef .tc main_v21) : FVec Ideal S128x512x20 .f32) (ix3 t i n)
      = Row.score (rowW (argF m c)) (rowW (argB m c)) (tagW (arg m c main_arg18)) (tagB (arg m c main_arg19)) (embRow (arg m c main_arg5) (arg m c main_arg0) i) t n := by
  rw [score_read, left_launch m c main_arg18 (by decide +kernel) (by decide +kernel) (by decide +kernel) (by decide +kernel),
    left_launch m c main_arg19 (by decide +kernel) (by decide +kernel) (by decide +kernel) (by decide +kernel),
    left_mid m c main_v10_10 (by decide +kernel) (by decide +kernel), scores_row]
  have hx : ∀ s, s < 128 → rowX (rowAt (startF m c (Proc.devRef .tc main_v10_0)) (ctr s)) i = embRow (arg m c main_arg5) (arg m c main_arg0) i ⟨s % 128, Nat.mod_lt _ (by omega)⟩ := fun s hs => by
    funext e
    show rowAt _ _ (ix2 i e) = _
    rw [rowAt_ctr _ s hs, start_rows, rowsOf_row _ _ hw]
    exact congrArg (fun q => embRow _ _ i q e) (Fin.ext (Nat.mod_eq_of_lt hs).symm)
  have hy : ∀ s, s < 128 → rowX (rowAt (startB m c (Proc.devRef .tc main_v14_0)) (ctr s)) i = embRow (arg m c main_arg5) (arg m c main_arg0) i ⟨(127 - s) % 128, Nat.mod_lt _ (by omega)⟩ := fun s hs => by
    funext e
    show rowAt _ _ (ix2 i e) = _
    rw [rowAt_ctr _ s hs, start_rowsB, reverse_row, rowsOf_row _ _ hw]
    refine congrArg (fun q => embRow _ _ i q e) (Fin.ext ?_)
    show 128 - (s + 1) = (127 - s) % 128
    omega
  refine congrArg₂ (fun f b => Row.logit (tagW (arg m c main_arg18)) (tagB (arg m c main_arg19)) f b n) ?_ ?_
  · funext k
    refine (Fwd.left_outs (startsF m c) t i k).trans ?_
    refine (congrFun (states_row _ _ i _).1 k).trans ?_
    rw [start_wF, Row.states_congr _ fun s hs => hx s (by omega)]
  · funext k
    refine (Bwd.left_outs (startsB m c) t.rev i k).trans ?_
    refine (congrFun (states_row _ _ i _).1 k).trans ?_
    have hr : t.rev.val + 1 = 128 - t.val := by rw [Fin.val_rev]; omega
    rw [start_wB, hr, Row.states_congr _ fun s hs => hy s (by omega)]

/-- The reference's result: the mask times the first of the greatest logit. -/
theorem final_value (hw : ∀ j, 0 ≤ (arg m c main_arg0 j : BitVec 32).toInt ∧ (arg m c main_arg0 j : BitVec 32).toInt < 50000) (t : Fin 128) (i : Fin 512) {n : Fin 20}
    (h : Row.First (Row.score (rowW (argF m c)) (rowW (argB m c)) (tagW (arg m c main_arg18)) (tagB (arg m c main_arg19)) (embRow (arg m c main_arg5) (arg m c main_arg0) i) t) n) :
    (final m c (Proc.devRef .tc main_v25) : IVec S512x128 32) (ix2 i t)
      = (extui 32 (arg m c main_arg4 : IVec S512x128 1) natLt_1_32 (ix2 i t)) * BitVec.ofNat 32 n.val := by
  show (afterL postI (Bwd.left (startB m) c) (Proc.devRef .tc main_v25) : IVec S512x128 32) (ix2 i t) = _
  simp only [afterL_cons, afterL_nil]
  rw [mask_read, after_of_writes_sub tagOps _ tagOps_writes (by decide +kernel : main_arg4 ∉ tagOps_W),
    after_of_writes_sub scoreOps _ scoreOps_writes (by decide +kernel : main_arg4 ∉ scoreOps_W),
    left_launch m c main_arg4 (by decide +kernel) (by decide +kernel) (by decide +kernel) (by decide +kernel), tag_read]
  have hp : ∀ g : IVec S128x512 32, transpose S512x128 [1, 0] g transposes_S128x512_S512x128_1_0 (ix2 i t) = g (ix2 t i) := fun g => by pointwise
  show _ * transpose S512x128 [1, 0] _ transposes_S128x512_S512x128_1_0 (ix2 i t) = _
  rw [hp]
  refine congrArg (_ * ·) ?_
  refine tag_row _ t i ?_
  exact (funext fun k => final_scores m c hw t i k : (fun k => (after scoreOps (Bwd.left (startB m) c) (Proc.devRef .tc main_v21) : FVec Ideal S128x512x20 .f32) (ix3 t i k)) = _) ▸ h

end Cert.ReferenceIdeal.Run
-- ==== Proof.Value.lean ====
/- The ideal kernel and the ideal reference leave the same result. -/
module

public import proofs.«01_k».proof.Defs
public import proofs.«01_k».proof.Proof.Frames
public import proofs.«01_k».proof.Proof.KerOut
public import proofs.«01_k».proof.Proof.RefVal
public import proofs.«01_k».proof.Proof.Gen.Pre_in_vocabulary

@[expose] public section

set_option maxRecDepth 16384

noncomputable section

namespace Cert.Proof

open Idealize.ShloMosaic Idealize.ShloMosaic.TcCoe Idealize.ShloMosaic.StableHlo Idealize.SL.Sem

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs are launched on the same arguments, as far as the result reads them. -/
structure SameArgs : Prop where
  h0 : Cert.ReferenceIdeal.Run.arg m' c Cert.ReferenceIdeal.main_arg0 = Cert.KernelIdeal.Run.arg m c Cert.KernelIdeal.main_arg0
  h4 : Cert.ReferenceIdeal.Run.arg m' c Cert.ReferenceIdeal.main_arg4 = Cert.KernelIdeal.Run.arg m c Cert.KernelIdeal.main_arg4
  h5 : Cert.ReferenceIdeal.Run.arg m' c Cert.ReferenceIdeal.main_arg5 = Cert.KernelIdeal.Run.arg m c Cert.KernelIdeal.main_arg5
  h6 : Cert.ReferenceIdeal.Run.arg m' c Cert.ReferenceIdeal.main_arg6 = Cert.KernelIdeal.Run.arg m c Cert.KernelIdeal.main_arg6
  h7 : Cert.ReferenceIdeal.Run.arg m' c Cert.ReferenceIdeal.main_arg7 = Cert.KernelIdeal.Run.arg m c Cert.KernelIdeal.main_arg7
  h8 : Cert.ReferenceIdeal.Run.arg m' c Cert.ReferenceIdeal.main_arg8 = Cert.KernelIdeal.Run.arg m c Cert.KernelIdeal.main_arg8
  h9 : Cert.ReferenceIdeal.Run.arg m' c Cert.ReferenceIdeal.main_arg9 = Cert.KernelIdeal.Run.arg m c Cert.KernelIdeal.main_arg9
  h10 : Cert.ReferenceIdeal.Run.arg m' c Cert.ReferenceIdeal.main_arg10 = Cert.KernelIdeal.Run.arg m c Cert.KernelIdeal.main_arg10
  h11 : Cert.ReferenceIdeal.Run.arg m' c Cert.ReferenceIdeal.main_arg11 = Cert.KernelIdeal.Run.arg m c Cert.KernelIdeal.main_arg11
  h12 : Cert.ReferenceIdeal.Run.arg m' c Cert.ReferenceIdeal.main_arg12 = Cert.KernelIdeal.Run.arg m c Cert.KernelIdeal.main_arg12
  h13 : Cert.ReferenceIdeal.Run.arg m' c Cert.ReferenceIdeal.main_arg13 = Cert.KernelIdeal.Run.arg m c Cert.KernelIdeal.main_arg13
  h14 : Cert.ReferenceIdeal.Run.arg m' c Cert.ReferenceIdeal.main_arg14 = Cert.KernelIdeal.Run.arg m c Cert.KernelIdeal.main_arg14
  h15 : Cert.ReferenceIdeal.Run.arg m' c Cert.ReferenceIdeal.main_arg15 = Cert.KernelIdeal.Run.arg m c Cert.KernelIdeal.main_arg15
  h16 : Cert.ReferenceIdeal.Run.arg m' c Cert.ReferenceIdeal.main_arg16 = Cert.KernelIdeal.Run.arg m c Cert.KernelIdeal.main_arg16
  h17 : Cert.ReferenceIdeal.Run.arg m' c Cert.ReferenceIdeal.main_arg17 = Cert.KernelIdeal.Run.arg m c Cert.KernelIdeal.main_arg17
  h18 : Cert.ReferenceIdeal.Run.arg m' c Cert.ReferenceIdeal.main_arg18 = Cert.KernelIdeal.Run.arg m c Cert.KernelIdeal.main_arg18
  h19 : Cert.ReferenceIdeal.Run.arg m' c Cert.ReferenceIdeal.main_arg19 = Cert.KernelIdeal.Run.arg m c Cert.KernelIdeal.main_arg19

variable {m m' c}

/-- Same arguments, same scores. -/
theorem SameArgs.score (h : SameArgs m m' c) (i : Fin 512) (t : Fin 128) :
    Row.score (Cert.ReferenceIdeal.Run.rowW (Cert.ReferenceIdeal.Run.argF m' c)) (Cert.ReferenceIdeal.Run.rowW (Cert.ReferenceIdeal.Run.argB m' c))
      (Cert.ReferenceIdeal.Run.tagW (Cert.ReferenceIdeal.Run.arg m' c Cert.ReferenceIdeal.main_arg18)) (Cert.ReferenceIdeal.Run.tagB (Cert.ReferenceIdeal.Run.arg m' c Cert.ReferenceIdeal.main_arg19))
      (Cert.ReferenceIdeal.Run.embRow (Cert.ReferenceIdeal.Run.arg m' c Cert.ReferenceIdeal.main_arg5) (Cert.ReferenceIdeal.Run.arg m' c Cert.ReferenceIdeal.main_arg0) i) t
      = Cert.KernelIdeal.Run.scoreAt m c i t := by
  have eF : Cert.ReferenceIdeal.Run.rowW (Cert.ReferenceIdeal.Run.argF m' c) = Cert.KernelIdeal.Run.argF m c := by
    unfold Cert.ReferenceIdeal.Run.argF
    rw [h.h10, h.h11, h.h6, h.h7, h.h8, h.h9]
    rfl
  have eB : Cert.ReferenceIdeal.Run.rowW (Cert.ReferenceIdeal.Run.argB m' c) = Cert.KernelIdeal.Run.argB m c := by
    unfold Cert.ReferenceIdeal.Run.argB
    rw [h.h16, h.h17, h.h12, h.h13, h.h14, h.h15]
    rfl
  rw [eF, eB, h.h18, h.h19, h.h5, h.h0]
  rfl

/-- Same arguments, the words in the table: same result. -/
theorem SameArgs.result (h : SameArgs m m' c) (hw : ∀ y, BitVec.toNat (Cert.KernelIdeal.Run.arg m c Cert.KernelIdeal.main_arg0 y : BitVec 32) < 50000) :
    (Cert.ReferenceIdeal.Run.final (F := Ideal) m' c (Proc.devRef .tc Cert.ReferenceIdeal.main_v25) : IVec Cert.KernelIdeal.S512x128 32)
      = (Cert.KernelIdeal.Run.dats m 0 c).arrAt 15 Cert.KernelIdeal.cfg0.N := by
  funext j
  obtain ⟨i, t, rfl⟩ : ∃ (i : Fin 512) (t : Fin 128), j = ix2 i t := ⟨j 0, j 1, eq_ix2 j⟩
  obtain ⟨n, hn⟩ := Row.First.exists (Cert.KernelIdeal.Run.scoreAt m c i t)
  have hw' : ∀ y, 0 ≤ (Cert.ReferenceIdeal.Run.arg m' c Cert.ReferenceIdeal.main_arg0 y : BitVec 32).toInt ∧ (Cert.ReferenceIdeal.Run.arg m' c Cert.ReferenceIdeal.main_arg0 y : BitVec 32).toInt < 50000 := fun y => by
    rw [h.h0]
    have := hw y
    have e := BitVec.toInt_eq_toNat_cond (Cert.KernelIdeal.Run.arg m c Cert.KernelIdeal.main_arg0 y : BitVec 32)
    split at e <;> omega
  refine (Cert.ReferenceIdeal.Run.final_value m' c hw' t i (n := n) (by rw [h.score i t]; exact hn)).trans ?_
  refine Eq.trans ?_ (Cert.KernelIdeal.Run.out_value m c i t hn).symm
  rw [h.h4]
  exact BitVec.mul_comm _ _

end

/-- The ideal kernel's result is the ideal reference's. -/
theorem algebraic : Cert.algebraic_KernelIdeal_ReferenceIdeal := by
  intro m g m' g' hpre hargs
  have hw : ∀ (c : Dev Cert.KernelIdeal.nD) y, BitVec.toNat (m ((c.tc : Thread Cert.KernelIdeal.nD Cert.KernelIdeal.τ).loc Cert.KernelIdeal.main_arg0) y : BitVec 32) < 50000 :=
    fun c y => Cert.KernelIdeal.Run.words_of_pre _ _ _ _ _ _ _ _ _ _ _ _ _ _ _ _ _ _ _ _ (hpre c) y
  refine ⟨fun c => (Cert.KernelIdeal.Run.dats m 0 c).arrAt 15 Cert.KernelIdeal.cfg0.N, ?_, ?_⟩
  · exact (θ_run _ _ _).mono (fun _ h => h.1) (Cert.KernelIdeal.Run.run m g (Cert.KernelIdeal.Run.inTable m hw))
  · refine (θ_run _ _ _).mono (fun r h c => ⟨?_, Cert.ReferenceIdeal.Run.kept m' h c⟩) (Cert.ReferenceIdeal.Run.run_fold (F := Ideal) m' g')
    obtain ⟨a0, a1, a2, a3, a4, a5, a6, a7, a8, a9, a10, a11, a12, a13, a14, a15, a16, a17, a18, a19⟩ := hargs c
    exact (h c Cert.ReferenceIdeal.main_v25 rfl).trans (SameArgs.result (m := m) (m' := m') (c := c) ⟨a0, a4, a5, a6, a7, a8, a9, a10, a11, a12, a13, a14, a15, a16, a17, a18, a19⟩ (hw c))

end Cert.Proof

end
-- ==== Proof.lean ====
module

public import proofs.«01_k».proof.Defs
public import proofs.«01_k».proof.Proof.Frames
public import proofs.«01_k».proof.Proof.Same
public import proofs.«01_k».proof.Proof.Value
public import proofs.«01_k».proof.Proof.Gen.Kernel
public import proofs.«01_k».proof.Proof.Gen.KernelIdeal
public import proofs.«01_k».proof.Proof.Gen.Pre_in_vocabulary
public import proofs.«01_k».proof.Proof.Gen.ReferenceIdeal

@[expose] public section

noncomputable section

namespace Cert.Proof

open Idealize.ShloMosaic Idealize.ShloMosaic.Tactic Idealize.SL.Sem

/-- What the frames say, at any float type. -/
def Quiescent (F : FTy → Type) [FloatOps F] [Cert.KernelIdeal.Facts] [Cert.Pre_in_vocabulary.Facts] : Prop :=
  ∀ (m : (ℓ : Loc Cert.KernelIdeal.nD Cert.KernelIdeal.τ Cert.KernelIdeal.sig) → Buf (Elt F) ℓ) (g : Dev Cert.KernelIdeal.nD → PrngReg),
    (∀ c : Dev Cert.KernelIdeal.nD, (Cert.Pre_in_vocabulary.fn (F := F) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)) →
    θ_run (Cert.KernelIdeal.defs (F := F)) (onTc (τ := Cert.KernelIdeal.τ) (Cert.KernelIdeal.main (F := F))) ⟨m, fun _ => 0, g⟩ (fun r =>
      (∀ c : Dev Cert.KernelIdeal.nD, Cert.KernelIdeal.Run.Kept m c r) ∧ r.2.sem = fun _ => 0)

/-- They hold at any float type. -/
theorem quiescent (F : FTy → Type) [FloatOps F] : Quiescent F :=
  fun m g hpre => (θ_run _ _ _).mono (fun _ h => ⟨fun c => (h.1 c).2, h.2⟩)
    (Cert.KernelIdeal.Run.run m g (Cert.KernelIdeal.Run.inTable m fun c y =>
      Cert.KernelIdeal.Run.words_of_pre _ _ _ _ _ _ _ _ _ _ _ _ _ _ _ _ _ _ _ _ (hpre c) y))

/-- The compiled program's frame is the frame at the words. -/
theorem quiescent_kernel_eq : Quiescent Bits = Cert.quiescent_Kernel := by sl_kernel_rfl

theorem claim : Cert.Claim :=
  ⟨Cert.Kernel.Gen.facts, Cert.KernelIdeal.Gen.facts, Cert.ReferenceIdeal.Gen.facts, Cert.Pre_in_vocabulary.Gen.facts,
    quiescent_kernel_eq ▸ quiescent Bits, quiescent Ideal, Cert.ReferenceIdeal.Run.frame, Cert.ReferenceIdeal.Run.frame_pre, trivial, algebraic⟩

end Cert.Proof

end
